-- ==== Defs.lean ====
def Pre_Xat (m : (ℓ : Loc Cert.Xat.nD Cert.Xat.τ Cert.Xat.sig) → Buf (Elt Bits) ℓ) : Prop :=
  True

def Pre_XatIdeal (m : (ℓ : Loc Cert.XatIdeal.nD Cert.XatIdeal.τ Cert.XatIdeal.sig) → Buf (Elt Ideal) ℓ) : Prop :=
  True

def Pre_XatIdeal_xat_finite [hPre_xat_finite : Cert.Pre_xat_finite.Facts] (m : (ℓ : Loc Cert.XatIdeal.nD Cert.XatIdeal.τ Cert.XatIdeal.sig) → Buf (Elt Ideal) ℓ) : Prop :=
  ∀ c : Dev Cert.XatIdeal.nD,
    (Cert.Pre_xat_finite.fn (F := Ideal) (m ((c.tc : Thread Cert.XatIdeal.nD Cert.XatIdeal.τ).loc Cert.XatIdeal.main_arg0)) (m ((c.tc : Thread Cert.XatIdeal.nD Cert.XatIdeal.τ).loc Cert.XatIdeal.main_arg1)) (m ((c.tc : Thread Cert.XatIdeal.nD Cert.XatIdeal.τ).loc Cert.XatIdeal.main_arg2)) (m ((c.tc : Thread Cert.XatIdeal.nD Cert.XatIdeal.τ).loc Cert.XatIdeal.main_arg3))).1 = (fun _ => 1#1)
    ∧ (Cert.Pre_xat_finite.fn (F := Ideal) (m ((c.tc : Thread Cert.XatIdeal.nD Cert.XatIdeal.τ).loc Cert.XatIdeal.main_arg0)) (m ((c.tc : Thread Cert.XatIdeal.nD Cert.XatIdeal.τ).loc Cert.XatIdeal.main_arg1)) (m ((c.tc : Thread Cert.XatIdeal.nD Cert.XatIdeal.τ).loc Cert.XatIdeal.main_arg2)) (m ((c.tc : Thread Cert.XatIdeal.nD Cert.XatIdeal.τ).loc Cert.XatIdeal.main_arg3))).2.1 = (fun _ => 1#1)
    ∧ (Cert.Pre_xat_finite.fn (F := Ideal) (m ((c.tc : Thread Cert.XatIdeal.nD Cert.XatIdeal.τ).loc Cert.XatIdeal.main_arg0)) (m ((c.tc : Thread Cert.XatIdeal.nD Cert.XatIdeal.τ).loc Cert.XatIdeal.main_arg1)) (m ((c.tc : Thread Cert.XatIdeal.nD Cert.XatIdeal.τ).loc Cert.XatIdeal.main_arg2)) (m ((c.tc : Thread Cert.XatIdeal.nD Cert.XatIdeal.τ).loc Cert.XatIdeal.main_arg3))).2.2.1 = (fun _ => 1#1)
    ∧ (Cert.Pre_xat_finite.fn (F := Ideal) (m ((c.tc : Thread Cert.XatIdeal.nD Cert.XatIdeal.τ).loc Cert.XatIdeal.main_arg0)) (m ((c.tc : Thread Cert.XatIdeal.nD Cert.XatIdeal.τ).loc Cert.XatIdeal.main_arg1)) (m ((c.tc : Thread Cert.XatIdeal.nD Cert.XatIdeal.τ).loc Cert.XatIdeal.main_arg2)) (m ((c.tc : Thread Cert.XatIdeal.nD Cert.XatIdeal.τ).loc Cert.XatIdeal.main_arg3))).2.2.2 = (fun _ => 1#1)

def Pre_XatRefIdeal (m : (ℓ : Loc Cert.XatRefIdeal.nD Cert.XatRefIdeal.τ Cert.XatRefIdeal.sig) → Buf (Elt Ideal) ℓ) : Prop :=
  True

def Pre_XatRefIdeal_xat_finite [hPre_xat_finite : Cert.Pre_xat_finite.Facts] (m : (ℓ : Loc Cert.XatRefIdeal.nD Cert.XatRefIdeal.τ Cert.XatRefIdeal.sig) → Buf (Elt Ideal) ℓ) : Prop :=
  ∀ c : Dev Cert.XatRefIdeal.nD,
    (Cert.Pre_xat_finite.fn (F := Ideal) (m ((c.tc : Thread Cert.XatRefIdeal.nD Cert.XatRefIdeal.τ).loc Cert.XatRefIdeal.main_arg0)) (m ((c.tc : Thread Cert.XatRefIdeal.nD Cert.XatRefIdeal.τ).loc Cert.XatRefIdeal.main_arg1)) (m ((c.tc : Thread Cert.XatRefIdeal.nD Cert.XatRefIdeal.τ).loc Cert.XatRefIdeal.main_arg2)) (m ((c.tc : Thread Cert.XatRefIdeal.nD Cert.XatRefIdeal.τ).loc Cert.XatRefIdeal.main_arg3))).1 = (fun _ => 1#1)
    ∧ (Cert.Pre_xat_finite.fn (F := Ideal) (m ((c.tc : Thread Cert.XatRefIdeal.nD Cert.XatRefIdeal.τ).loc Cert.XatRefIdeal.main_arg0)) (m ((c.tc : Thread Cert.XatRefIdeal.nD Cert.XatRefIdeal.τ).loc Cert.XatRefIdeal.main_arg1)) (m ((c.tc : Thread Cert.XatRefIdeal.nD Cert.XatRefIdeal.τ).loc Cert.XatRefIdeal.main_arg2)) (m ((c.tc : Thread Cert.XatRefIdeal.nD Cert.XatRefIdeal.τ).loc Cert.XatRefIdeal.main_arg3))).2.1 = (fun _ => 1#1)
    ∧ (Cert.Pre_xat_finite.fn (F := Ideal) (m ((c.tc : Thread Cert.XatRefIdeal.nD Cert.XatRefIdeal.τ).loc Cert.XatRefIdeal.main_arg0)) (m ((c.tc : Thread Cert.XatRefIdeal.nD Cert.XatRefIdeal.τ).loc Cert.XatRefIdeal.main_arg1)) (m ((c.tc : Thread Cert.XatRefIdeal.nD Cert.XatRefIdeal.τ).loc Cert.XatRefIdeal.main_arg2)) (m ((c.tc : Thread Cert.XatRefIdeal.nD Cert.XatRefIdeal.τ).loc Cert.XatRefIdeal.main_arg3))).2.2.1 = (fun _ => 1#1)
    ∧ (Cert.Pre_xat_finite.fn (F := Ideal) (m ((c.tc : Thread Cert.XatRefIdeal.nD Cert.XatRefIdeal.τ).loc Cert.XatRefIdeal.main_arg0)) (m ((c.tc : Thread Cert.XatRefIdeal.nD Cert.XatRefIdeal.τ).loc Cert.XatRefIdeal.main_arg1)) (m ((c.tc : Thread Cert.XatRefIdeal.nD Cert.XatRefIdeal.τ).loc Cert.XatRefIdeal.main_arg2)) (m ((c.tc : Thread Cert.XatRefIdeal.nD Cert.XatRefIdeal.τ).loc Cert.XatRefIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_HeadNorm (m : (ℓ : Loc Cert.HeadNorm.nD Cert.HeadNorm.τ Cert.HeadNorm.sig) → Buf (Elt Bits) ℓ) : Prop :=
  True

def Pre_HeadNormIdeal (m : (ℓ : Loc Cert.HeadNormIdeal.nD Cert.HeadNormIdeal.τ Cert.HeadNormIdeal.sig) → Buf (Elt Ideal) ℓ) : Prop :=
  True

def Pre_HeadNormRefIdeal (m : (ℓ : Loc Cert.HeadNormRefIdeal.nD Cert.HeadNormRefIdeal.τ Cert.HeadNormRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_EndNorm (m : (ℓ : Loc Cert.EndNorm.nD Cert.EndNorm.τ Cert.EndNorm.sig) → Buf (Elt Bits) ℓ) : Prop :=
  True

def Pre_EndNormIdeal (m : (ℓ : Loc Cert.EndNormIdeal.nD Cert.EndNormIdeal.τ Cert.EndNormIdeal.sig) → Buf (Elt Ideal) ℓ) : Prop :=
  True

def Pre_EndNormRefIdeal (m : (ℓ : Loc Cert.EndNormRefIdeal.nD Cert.EndNormRefIdeal.τ Cert.EndNormRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnConv (m : (ℓ : Loc Cert.FfnConv.nD Cert.FfnConv.τ Cert.FfnConv.sig) → Buf (Elt Bits) ℓ) : Prop :=
  True

def Pre_FfnConvIdeal (m : (ℓ : Loc Cert.FfnConvIdeal.nD Cert.FfnConvIdeal.τ Cert.FfnConvIdeal.sig) → Buf (Elt Ideal) ℓ) : Prop :=
  True

def Pre_FfnConvRefIdeal (m : (ℓ : Loc Cert.FfnConvRefIdeal.nD Cert.FfnConvRefIdeal.τ Cert.FfnConvRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Xat [hXat : Cert.Xat.Facts] : Prop :=
  ∀ (m : (ℓ : Loc Cert.Xat.nD Cert.Xat.τ Cert.Xat.sig) → Buf (Elt Bits) ℓ) (g : Dev Cert.Xat.nD → PrngReg), Pre_Xat m →
    θ_run (Cert.Xat.defs (F := Bits)) (onTc (τ := Cert.Xat.τ) (Cert.Xat.main (F := Bits))) ⟨m, fun _ => 0, g⟩ (fun r => (∀ c : Dev Cert.Xat.nD,
      r.2.mem ((c.tc : Thread Cert.Xat.nD Cert.Xat.τ).loc Cert.Xat.main_arg0) = m ((c.tc : Thread Cert.Xat.nD Cert.Xat.τ).loc Cert.Xat.main_arg0)
      ∧ r.2.mem ((c.tc : Thread Cert.Xat.nD Cert.Xat.τ).loc Cert.Xat.main_arg1) = m ((c.tc : Thread Cert.Xat.nD Cert.Xat.τ).loc Cert.Xat.main_arg1)
      ∧ r.2.mem ((c.tc : Thread Cert.Xat.nD Cert.Xat.τ).loc Cert.Xat.main_arg2) = m ((c.tc : Thread Cert.Xat.nD Cert.Xat.τ).loc Cert.Xat.main_arg2)
      ∧ r.2.mem ((c.tc : Thread Cert.Xat.nD Cert.Xat.τ).loc Cert.Xat.main_arg3) = m ((c.tc : Thread Cert.Xat.nD Cert.Xat.τ).loc Cert.Xat.main_arg3))
      ∧ r.2.sem = fun _ => 0)

def quiescent_XatIdeal [hXatIdeal : Cert.XatIdeal.Facts] : Prop :=
  ∀ (m : (ℓ : Loc Cert.XatIdeal.nD Cert.XatIdeal.τ Cert.XatIdeal.sig) → Buf (Elt Ideal) ℓ) (g : Dev Cert.XatIdeal.nD → PrngReg), Pre_XatIdeal m →
    θ_run (Cert.XatIdeal.defs (F := Ideal)) (onTc (τ := Cert.XatIdeal.τ) (Cert.XatIdeal.main (F := Ideal))) ⟨m, fun _ => 0, g⟩ (fun r => (∀ c : Dev Cert.XatIdeal.nD,
      r.2.mem ((c.tc : Thread Cert.XatIdeal.nD Cert.XatIdeal.τ).loc Cert.XatIdeal.main_arg0) = m ((c.tc : Thread Cert.XatIdeal.nD Cert.XatIdeal.τ).loc Cert.XatIdeal.main_arg0)
      ∧ r.2.mem ((c.tc : Thread Cert.XatIdeal.nD Cert.XatIdeal.τ).loc Cert.XatIdeal.main_arg1) = m ((c.tc : Thread Cert.XatIdeal.nD Cert.XatIdeal.τ).loc Cert.XatIdeal.main_arg1)
      ∧ r.2.mem ((c.tc : Thread Cert.XatIdeal.nD Cert.XatIdeal.τ).loc Cert.XatIdeal.main_arg2) = m ((c.tc : Thread Cert.XatIdeal.nD Cert.XatIdeal.τ).loc Cert.XatIdeal.main_arg2)
      ∧ r.2.mem ((c.tc : Thread Cert.XatIdeal.nD Cert.XatIdeal.τ).loc Cert.XatIdeal.main_arg3) = m ((c.tc : Thread Cert.XatIdeal.nD Cert.XatIdeal.τ).loc Cert.XatIdeal.main_arg3))
      ∧ r.2.sem = fun _ => 0)

def quiescent_XatIdeal_pre_xat_finite [hXatIdeal : Cert.XatIdeal.Facts] [hPre_xat_finite : Cert.Pre_xat_finite.Facts] : Prop :=
  ∀ (m : (ℓ : Loc Cert.XatIdeal.nD Cert.XatIdeal.τ Cert.XatIdeal.sig) → Buf (Elt Ideal) ℓ) (g : Dev Cert.XatIdeal.nD → PrngReg), Pre_XatIdeal_xat_finite m →
    θ_run (Cert.XatIdeal.defs (F := Ideal)) (onTc (τ := Cert.XatIdeal.τ) (Cert.XatIdeal.main (F := Ideal))) ⟨m, fun _ => 0, g⟩ (fun r => (∀ c : Dev Cert.XatIdeal.nD,
      r.2.mem ((c.tc : Thread Cert.XatIdeal.nD Cert.XatIdeal.τ).loc Cert.XatIdeal.main_arg0) = m ((c.tc : Thread Cert.XatIdeal.nD Cert.XatIdeal.τ).loc Cert.XatIdeal.main_arg0)
      ∧ r.2.mem ((c.tc : Thread Cert.XatIdeal.nD Cert.XatIdeal.τ).loc Cert.XatIdeal.main_arg1) = m ((c.tc : Thread Cert.XatIdeal.nD Cert.XatIdeal.τ).loc Cert.XatIdeal.main_arg1)
      ∧ r.2.mem ((c.tc : Thread Cert.XatIdeal.nD Cert.XatIdeal.τ).loc Cert.XatIdeal.main_arg2) = m ((c.tc : Thread Cert.XatIdeal.nD Cert.XatIdeal.τ).loc Cert.XatIdeal.main_arg2)
      ∧ r.2.mem ((c.tc : Thread Cert.XatIdeal.nD Cert.XatIdeal.τ).loc Cert.XatIdeal.main_arg3) = m ((c.tc : Thread Cert.XatIdeal.nD Cert.XatIdeal.τ).loc Cert.XatIdeal.main_arg3))
      ∧ r.2.sem = fun _ => 0)

def quiescent_XatRefIdeal [hXatRefIdeal : Cert.XatRefIdeal.Facts] : Prop :=
  ∀ (m : (ℓ : Loc Cert.XatRefIdeal.nD Cert.XatRefIdeal.τ Cert.XatRefIdeal.sig) → Buf (Elt Ideal) ℓ) (g : Dev Cert.XatRefIdeal.nD → PrngReg), Pre_XatRefIdeal m →
    θ_run (Cert.XatRefIdeal.defs (F := Ideal)) (onTc (τ := Cert.XatRefIdeal.τ) (Cert.XatRefIdeal.main (F := Ideal))) ⟨m, fun _ => 0, g⟩ (fun r => (∀ c : Dev Cert.XatRefIdeal.nD,
      r.2.mem ((c.tc : Thread Cert.XatRefIdeal.nD Cert.XatRefIdeal.τ).loc Cert.XatRefIdeal.main_arg0) = m ((c.tc : Thread Cert.XatRefIdeal.nD Cert.XatRefIdeal.τ).loc Cert.XatRefIdeal.main_arg0)
      ∧ r.2.mem ((c.tc : Thread Cert.XatRefIdeal.nD Cert.XatRefIdeal.τ).loc Cert.XatRefIdeal.main_arg1) = m ((c.tc : Thread Cert.XatRefIdeal.nD Cert.XatRefIdeal.τ).loc Cert.XatRefIdeal.main_arg1)
      ∧ r.2.mem ((c.tc : Thread Cert.XatRefIdeal.nD Cert.XatRefIdeal.τ).loc Cert.XatRefIdeal.main_arg2) = m ((c.tc : Thread Cert.XatRefIdeal.nD Cert.XatRefIdeal.τ).loc Cert.XatRefIdeal.main_arg2)
      ∧ r.2.mem ((c.tc : Thread Cert.XatRefIdeal.nD Cert.XatRefIdeal.τ).loc Cert.XatRefIdeal.main_arg3) = m ((c.tc : Thread Cert.XatRefIdeal.nD Cert.XatRefIdeal.τ).loc Cert.XatRefIdeal.main_arg3))
      ∧ r.2.sem = fun _ => 0)

def quiescent_XatRefIdeal_pre_xat_finite [hXatRefIdeal : Cert.XatRefIdeal.Facts] [hPre_xat_finite : Cert.Pre_xat_finite.Facts] : Prop :=
  ∀ (m : (ℓ : Loc Cert.XatRefIdeal.nD Cert.XatRefIdeal.τ Cert.XatRefIdeal.sig) → Buf (Elt Ideal) ℓ) (g : Dev Cert.XatRefIdeal.nD → PrngReg), Pre_XatRefIdeal_xat_finite m →
    θ_run (Cert.XatRefIdeal.defs (F := Ideal)) (onTc (τ := Cert.XatRefIdeal.τ) (Cert.XatRefIdeal.main (F := Ideal))) ⟨m, fun _ => 0, g⟩ (fun r => (∀ c : Dev Cert.XatRefIdeal.nD,
      r.2.mem ((c.tc : Thread Cert.XatRefIdeal.nD Cert.XatRefIdeal.τ).loc Cert.XatRefIdeal.main_arg0) = m ((c.tc : Thread Cert.XatRefIdeal.nD Cert.XatRefIdeal.τ).loc Cert.XatRefIdeal.main_arg0)
      ∧ r.2.mem ((c.tc : Thread Cert.XatRefIdeal.nD Cert.XatRefIdeal.τ).loc Cert.XatRefIdeal.main_arg1) = m ((c.tc : Thread Cert.XatRefIdeal.nD Cert.XatRefIdeal.τ).loc Cert.XatRefIdeal.main_arg1)
      ∧ r.2.mem ((c.tc : Thread Cert.XatRefIdeal.nD Cert.XatRefIdeal.τ).loc Cert.XatRefIdeal.main_arg2) = m ((c.tc : Thread Cert.XatRefIdeal.nD Cert.XatRefIdeal.τ).loc Cert.XatRefIdeal.main_arg2)
      ∧ r.2.mem ((c.tc : Thread Cert.XatRefIdeal.nD Cert.XatRefIdeal.τ).loc Cert.XatRefIdeal.main_arg3) = m ((c.tc : Thread Cert.XatRefIdeal.nD Cert.XatRefIdeal.τ).loc Cert.XatRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2)
      ∧ r.2.mem ((c.tc : Thread Cert.Lin.nD Cert.Lin.τ).loc Cert.Lin.main_arg3) = m ((c.tc : Thread Cert.Lin.nD Cert.Lin.τ).loc Cert.Lin.main_arg3)
      ∧ r.2.mem ((c.tc : Thread Cert.Lin.nD Cert.Lin.τ).loc Cert.Lin.main_arg4) = m ((c.tc : Thread Cert.Lin.nD Cert.Lin.τ).loc Cert.Lin.main_arg4)
      ∧ r.2.mem ((c.tc : Thread Cert.Lin.nD Cert.Lin.τ).loc Cert.Lin.main_arg5) = m ((c.tc : Thread Cert.Lin.nD Cert.Lin.τ).loc Cert.Lin.main_arg5)
      ∧ r.2.mem ((c.tc : Thread Cert.Lin.nD Cert.Lin.τ).loc Cert.Lin.main_arg6) = m ((c.tc : Thread Cert.Lin.nD Cert.Lin.τ).loc Cert.Lin.main_arg6))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
      ∧ r.2.mem ((c.tc : Thread Cert.LinIdeal.nD Cert.LinIdeal.τ).loc Cert.LinIdeal.main_arg3) = m ((c.tc : Thread Cert.LinIdeal.nD Cert.LinIdeal.τ).loc Cert.LinIdeal.main_arg3)
      ∧ r.2.mem ((c.tc : Thread Cert.LinIdeal.nD Cert.LinIdeal.τ).loc Cert.LinIdeal.main_arg4) = m ((c.tc : Thread Cert.LinIdeal.nD Cert.LinIdeal.τ).loc Cert.LinIdeal.main_arg4)
      ∧ r.2.mem ((c.tc : Thread Cert.LinIdeal.nD Cert.LinIdeal.τ).loc Cert.LinIdeal.main_arg5) = m ((c.tc : Thread Cert.LinIdeal.nD Cert.LinIdeal.τ).loc Cert.LinIdeal.main_arg5)
      ∧ r.2.mem ((c.tc : Thread Cert.LinIdeal.nD Cert.LinIdeal.τ).loc Cert.LinIdeal.main_arg6) = m ((c.tc : Thread Cert.LinIdeal.nD Cert.LinIdeal.τ).loc Cert.LinIdeal.main_arg6))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1)
      ∧ r.2.mem ((c.tc : Thread Cert.LinRefIdeal.nD Cert.LinRefIdeal.τ).loc Cert.LinRefIdeal.main_arg2) = m ((c.tc : Thread Cert.LinRefIdeal.nD Cert.LinRefIdeal.τ).loc Cert.LinRefIdeal.main_arg2)
      ∧ r.2.mem ((c.tc : Thread Cert.LinRefIdeal.nD Cert.LinRefIdeal.τ).loc Cert.LinRefIdeal.main_arg3) = m ((c.tc : Thread Cert.LinRefIdeal.nD Cert.LinRefIdeal.τ).loc Cert.LinRefIdeal.main_arg3)
      ∧ r.2.mem ((c.tc : Thread Cert.LinRefIdeal.nD Cert.LinRefIdeal.τ).loc Cert.LinRefIdeal.main_arg4) = m ((c.tc : Thread Cert.LinRefIdeal.nD Cert.LinRefIdeal.τ).loc Cert.LinRefIdeal.main_arg4)
      ∧ r.2.mem ((c.tc : Thread Cert.LinRefIdeal.nD Cert.LinRefIdeal.τ).loc Cert.LinRefIdeal.main_arg5) = m ((c.tc : Thread Cert.LinRefIdeal.nD Cert.LinRefIdeal.τ).loc Cert.LinRefIdeal.main_arg5)
      ∧ r.2.mem ((c.tc : Thread Cert.LinRefIdeal.nD Cert.LinRefIdeal.τ).loc Cert.LinRefIdeal.main_arg6) = m ((c.tc : Thread Cert.LinRefIdeal.nD Cert.LinRefIdeal.τ).loc Cert.LinRefIdeal.main_arg6))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3))
      ∧ r.2.sem = fun _ => 0)

def quiescent_HeadNorm [hHeadNorm : Cert.HeadNorm.Facts] : Prop :=
  ∀ (m : (ℓ : Loc Cert.HeadNorm.nD Cert.HeadNorm.τ Cert.HeadNorm.sig) → Buf (Elt Bits) ℓ) (g : Dev Cert.HeadNorm.nD → PrngReg), Pre_HeadNorm m →
    θ_run (Cert.HeadNorm.defs (F := Bits)) (onTc (τ := Cert.HeadNorm.τ) (Cert.HeadNorm.main (F := Bits))) ⟨m, fun _ => 0, g⟩ (fun r => (∀ c : Dev Cert.HeadNorm.nD,
      r.2.mem ((c.tc : Thread Cert.HeadNorm.nD Cert.HeadNorm.τ).loc Cert.HeadNorm.main_arg0) = m ((c.tc : Thread Cert.HeadNorm.nD Cert.HeadNorm.τ).loc Cert.HeadNorm.main_arg0)
      ∧ r.2.mem ((c.tc : Thread Cert.HeadNorm.nD Cert.HeadNorm.τ).loc Cert.HeadNorm.main_arg1) = m ((c.tc : Thread Cert.HeadNorm.nD Cert.HeadNorm.τ).loc Cert.HeadNorm.main_arg1)
      ∧ r.2.mem ((c.tc : Thread Cert.HeadNorm.nD Cert.HeadNorm.τ).loc Cert.HeadNorm.main_arg2) = m ((c.tc : Thread Cert.HeadNorm.nD Cert.HeadNorm.τ).loc Cert.HeadNorm.main_arg2)
      ∧ r.2.mem ((c.tc : Thread Cert.HeadNorm.nD Cert.HeadNorm.τ).loc Cert.HeadNorm.main_arg3) = m ((c.tc : Thread Cert.HeadNorm.nD Cert.HeadNorm.τ).loc Cert.HeadNorm.main_arg3))
      ∧ r.2.sem = fun _ => 0)

def quiescent_HeadNormIdeal [hHeadNormIdeal : Cert.HeadNormIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg), Pre_HeadNormIdeal m →
    θ_run (Cert.HeadNormIdeal.defs (F := Ideal)) (onTc (τ := Cert.HeadNormIdeal.τ) (Cert.HeadNormIdeal.main (F := Ideal))) ⟨m, fun _ => 0, g⟩ (fun r => (∀ c : Dev Cert.HeadNormIdeal.nD,
      r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
      ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
      ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
      ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ r.2.sem = fun _ => 0)

def quiescent_HeadNormRefIdeal [hHeadNormRefIdeal : Cert.HeadNormRefIdeal.Facts] : Prop :=
  ∀ (m : (ℓ : Loc Cert.HeadNormRefIdeal.nD Cert.HeadNormRefIdeal.τ Cert.HeadNormRefIdeal.sig) → Buf (Elt Ideal) ℓ) (g : Dev Cert.HeadNormRefIdeal.nD → PrngReg), Pre_HeadNormRefIdeal m →
    θ_run (Cert.HeadNormRefIdeal.defs (F := Ideal)) (onTc (τ := Cert.HeadNormRefIdeal.τ) (Cert.HeadNormRefIdeal.main (F := Ideal))) ⟨m, fun _ => 0, g⟩ (fun r => (∀ c : Dev Cert.HeadNormRefIdeal.nD,
      r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2)
      ∧ r.2.mem ((c.tc : Thread Cert.HeadNormRefIdeal.nD Cert.HeadNormRefIdeal.τ).loc Cert.HeadNormRefIdeal.main_arg3) = m ((c.tc : Thread Cert.HeadNormRefIdeal.nD Cert.HeadNormRefIdeal.τ).loc Cert.HeadNormRefIdeal.main_arg3))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2)
      ∧ r.2.mem ((c.tc : Thread Cert.QNorm.nD Cert.QNorm.τ).loc Cert.QNorm.main_arg3) = m ((c.tc : Thread Cert.QNorm.nD Cert.QNorm.τ).loc Cert.QNorm.main_arg3))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
      ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2)
      ∧ r.2.mem ((c.tc : Thread Cert.QNormRefIdeal.nD Cert.QNormRefIdeal.τ).loc Cert.QNormRefIdeal.main_arg3) = m ((c.tc : Thread Cert.QNormRefIdeal.nD Cert.QNormRefIdeal.τ).loc Cert.QNormRefIdeal.main_arg3))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1)
      ∧ r.2.mem ((c.tc : Thread Cert.KvNorm.nD Cert.KvNorm.τ).loc Cert.KvNorm.main_arg2) = m ((c.tc : Thread Cert.KvNorm.nD Cert.KvNorm.τ).loc Cert.KvNorm.main_arg2)
      ∧ r.2.mem ((c.tc : Thread Cert.KvNorm.nD Cert.KvNorm.τ).loc Cert.KvNorm.main_arg3) = m ((c.tc : Thread Cert.KvNorm.nD Cert.KvNorm.τ).loc Cert.KvNorm.main_arg3))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
      ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
      ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1)
      ∧ r.2.mem ((c.tc : Thread Cert.KvNormRefIdeal.nD Cert.KvNormRefIdeal.τ).loc Cert.KvNormRefIdeal.main_arg2) = m ((c.tc : Thread Cert.KvNormRefIdeal.nD Cert.KvNormRefIdeal.τ).loc Cert.KvNormRefIdeal.main_arg2)
      ∧ r.2.mem ((c.tc : Thread Cert.KvNormRefIdeal.nD Cert.KvNormRefIdeal.τ).loc Cert.KvNormRefIdeal.main_arg3) = m ((c.tc : Thread Cert.KvNormRefIdeal.nD Cert.KvNormRefIdeal.τ).loc Cert.KvNormRefIdeal.main_arg3))
      ∧ r.2.sem = fun _ => 0)

def quiescent_EndNorm [hEndNorm : Cert.EndNorm.Facts] : Prop :=
  ∀ (m : (ℓ : Loc Cert.EndNorm.nD Cert.EndNorm.τ Cert.EndNorm.sig) → Buf (Elt Bits) ℓ) (g : Dev Cert.EndNorm.nD → PrngReg), Pre_EndNorm m →
    θ_run (Cert.EndNorm.defs (F := Bits)) (onTc (τ := Cert.EndNorm.τ) (Cert.EndNorm.main (F := Bits))) ⟨m, fun _ => 0, g⟩ (fun r => (∀ c : Dev Cert.EndNorm.nD,
      r.2.mem ((c.tc : Thread Cert.EndNorm.nD Cert.EndNorm.τ).loc Cert.EndNorm.main_arg0) = m ((c.tc : Thread Cert.EndNorm.nD Cert.EndNorm.τ).loc Cert.EndNorm.main_arg0)
      ∧ r.2.mem ((c.tc : Thread Cert.EndNorm.nD Cert.EndNorm.τ).loc Cert.EndNorm.main_arg1) = m ((c.tc : Thread Cert.EndNorm.nD Cert.EndNorm.τ).loc Cert.EndNorm.main_arg1)
      ∧ r.2.mem ((c.tc : Thread Cert.EndNorm.nD Cert.EndNorm.τ).loc Cert.EndNorm.main_arg2) = m ((c.tc : Thread Cert.EndNorm.nD Cert.EndNorm.τ).loc Cert.EndNorm.main_arg2)
      ∧ r.2.mem ((c.tc : Thread Cert.EndNorm.nD Cert.EndNorm.τ).loc Cert.EndNorm.main_arg3) = m ((c.tc : Thread Cert.EndNorm.nD Cert.EndNorm.τ).loc Cert.EndNorm.main_arg3))
      ∧ r.2.sem = fun _ => 0)

def quiescent_EndNormIdeal [hEndNormIdeal : Cert.EndNormIdeal.Facts] : Prop :=
  ∀ (m : (ℓ : Loc Cert.EndNormIdeal.nD Cert.EndNormIdeal.τ Cert.EndNormIdeal.sig) → Buf (Elt Ideal) ℓ) (g : Dev Cert.EndNormIdeal.nD → PrngReg), Pre_EndNormIdeal m →
    θ_run (Cert.EndNormIdeal.defs (F := Ideal)) (onTc (τ := Cert.EndNormIdeal.τ) (Cert.EndNormIdeal.main (F := Ideal))) ⟨m, fun _ => 0, g⟩ (fun r => (∀ c : Dev Cert.EndNormIdeal.nD,
      r.2.mem ((c.tc : Thread Cert.EndNormIdeal.nD Cert.EndNormIdeal.τ).loc Cert.EndNormIdeal.main_arg0) = m ((c.tc : Thread Cert.EndNormIdeal.nD Cert.EndNormIdeal.τ).loc Cert.EndNormIdeal.main_arg0)
      ∧ r.2.mem ((c.tc : Thread Cert.EndNormIdeal.nD Cert.EndNormIdeal.τ).loc Cert.EndNormIdeal.main_arg1) = m ((c.tc : Thread Cert.EndNormIdeal.nD Cert.EndNormIdeal.τ).loc Cert.EndNormIdeal.main_arg1)
      ∧ r.2.mem ((c.tc : Thread Cert.EndNormIdeal.nD Cert.EndNormIdeal.τ).loc Cert.EndNormIdeal.main_arg2) = m ((c.tc : Thread Cert.EndNormIdeal.nD Cert.EndNormIdeal.τ).loc Cert.EndNormIdeal.main_arg2)
      ∧ r.2.mem ((c.tc : Thread Cert.EndNormIdeal.nD Cert.EndNormIdeal.τ).loc Cert.EndNormIdeal.main_arg3) = m ((c.tc : Thread Cert.EndNormIdeal.nD Cert.EndNormIdeal.τ).loc Cert.EndNormIdeal.main_arg3))
      ∧ r.2.sem = fun _ => 0)

def quiescent_EndNormRefIdeal [hEndNormRefIdeal : Cert.EndNormRefIdeal.Facts] : Prop :=
  ∀ (m : (ℓ : Loc Cert.EndNormRefIdeal.nD Cert.EndNormRefIdeal.τ Cert.EndNormRefIdeal.sig) → Buf (Elt Ideal) ℓ) (g : Dev Cert.EndNormRefIdeal.nD → PrngReg), Pre_EndNormRefIdeal m →
    θ_run (Cert.EndNormRefIdeal.defs (F := Ideal)) (onTc (τ := Cert.EndNormRefIdeal.τ) (Cert.EndNormRefIdeal.main (F := Ideal))) ⟨m, fun _ => 0, g⟩ (fun r => (∀ c : Dev Cert.EndNormRefIdeal.nD,
      r.2.mem ((c.tc : Thread Cert.EndNormRefIdeal.nD Cert.EndNormRefIdeal.τ).loc Cert.EndNormRefIdeal.main_arg0) = m ((c.tc : Thread Cert.EndNormRefIdeal.nD Cert.EndNormRefIdeal.τ).loc Cert.EndNormRefIdeal.main_arg0)
      ∧ r.2.mem ((c.tc : Thread Cert.EndNormRefIdeal.nD Cert.EndNormRefIdeal.τ).loc Cert.EndNormRefIdeal.main_arg1) = m ((c.tc : Thread Cert.EndNormRefIdeal.nD Cert.EndNormRefIdeal.τ).loc Cert.EndNormRefIdeal.main_arg1)
      ∧ r.2.mem ((c.tc : Thread Cert.EndNormRefIdeal.nD Cert.EndNormRefIdeal.τ).loc Cert.EndNormRefIdeal.main_arg2) = m ((c.tc : Thread Cert.EndNormRefIdeal.nD Cert.EndNormRefIdeal.τ).loc Cert.EndNormRefIdeal.main_arg2)
      ∧ r.2.mem ((c.tc : Thread Cert.EndNormRefIdeal.nD Cert.EndNormRefIdeal.τ).loc Cert.EndNormRefIdeal.main_arg3) = m ((c.tc : Thread Cert.EndNormRefIdeal.nD Cert.EndNormRefIdeal.τ).loc Cert.EndNormRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2)
      ∧ r.2.mem ((c.tc : Thread Cert.Bias.nD Cert.Bias.τ).loc Cert.Bias.main_arg3) = m ((c.tc : Thread Cert.Bias.nD Cert.Bias.τ).loc Cert.Bias.main_arg3))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2)
      ∧ r.2.mem ((c.tc : Thread Cert.BiasRefIdeal.nD Cert.BiasRefIdeal.τ).loc Cert.BiasRefIdeal.main_arg3) = m ((c.tc : Thread Cert.BiasRefIdeal.nD Cert.BiasRefIdeal.τ).loc Cert.BiasRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_FfnConv [hFfnConv : Cert.FfnConv.Facts] : Prop :=
  ∀ (m : (ℓ : Loc Cert.FfnConv.nD Cert.FfnConv.τ Cert.FfnConv.sig) → Buf (Elt Bits) ℓ) (g : Dev Cert.FfnConv.nD → PrngReg), Pre_FfnConv m →
    θ_run (Cert.FfnConv.defs (F := Bits)) (onTc (τ := Cert.FfnConv.τ) (Cert.FfnConv.main (F := Bits))) ⟨m, fun _ => 0, g⟩ (fun r => (∀ c : Dev Cert.FfnConv.nD,
      r.2.mem ((c.tc : Thread Cert.FfnConv.nD Cert.FfnConv.τ).loc Cert.FfnConv.main_arg0) = m ((c.tc : Thread Cert.FfnConv.nD Cert.FfnConv.τ).loc Cert.FfnConv.main_arg0)
      ∧ r.2.mem ((c.tc : Thread Cert.FfnConv.nD Cert.FfnConv.τ).loc Cert.FfnConv.main_arg1) = m ((c.tc : Thread Cert.FfnConv.nD Cert.FfnConv.τ).loc Cert.FfnConv.main_arg1)
      ∧ r.2.mem ((c.tc : Thread Cert.FfnConv.nD Cert.FfnConv.τ).loc Cert.FfnConv.main_arg2) = m ((c.tc : Thread Cert.FfnConv.nD Cert.FfnConv.τ).loc Cert.FfnConv.main_arg2)
      ∧ r.2.mem ((c.tc : Thread Cert.FfnConv.nD Cert.FfnConv.τ).loc Cert.FfnConv.main_arg3) = m ((c.tc : Thread Cert.FfnConv.nD Cert.FfnConv.τ).loc Cert.FfnConv.main_arg3))
      ∧ r.2.sem = fun _ => 0)

def quiescent_FfnConvIdeal [hFfnConvIdeal : Cert.FfnConvIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg), Pre_FfnConvIdeal m →
    θ_run (Cert.FfnConvIdeal.defs (F := Ideal)) (onTc (τ := Cert.FfnConvIdeal.τ) (Cert.FfnConvIdeal.main (F := Ideal))) ⟨m, fun _ => 0, g⟩ (fun r => (∀ c : Dev Cert.FfnConvIdeal.nD,
      r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
      ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
      ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
      ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ r.2.sem = fun _ => 0)

def quiescent_FfnConvRefIdeal [hFfnConvRefIdeal : Cert.FfnConvRefIdeal.Facts] : Prop :=
  ∀ (m : (ℓ : Loc Cert.FfnConvRefIdeal.nD Cert.FfnConvRefIdeal.τ Cert.FfnConvRefIdeal.sig) → Buf (Elt Ideal) ℓ) (g : Dev Cert.FfnConvRefIdeal.nD → PrngReg), Pre_FfnConvRefIdeal m →
    θ_run (Cert.FfnConvRefIdeal.defs (F := Ideal)) (onTc (τ := Cert.FfnConvRefIdeal.τ) (Cert.FfnConvRefIdeal.main (F := Ideal))) ⟨m, fun _ => 0, g⟩ (fun r => (∀ c : Dev Cert.FfnConvRefIdeal.nD,
      r.2.mem ((c.tc : Thread Cert.FfnConvRefIdeal.nD Cert.FfnConvRefIdeal.τ).loc Cert.FfnConvRefIdeal.main_arg0) = m ((c.tc : Thread Cert.FfnConvRefIdeal.nD Cert.FfnConvRefIdeal.τ).loc Cert.FfnConvRefIdeal.main_arg0)
      ∧ r.2.mem ((c.tc : Thread Cert.FfnConvRefIdeal.nD Cert.FfnConvRefIdeal.τ).loc Cert.FfnConvRefIdeal.main_arg1) = m ((c.tc : Thread Cert.FfnConvRefIdeal.nD Cert.FfnConvRefIdeal.τ).loc Cert.FfnConvRefIdeal.main_arg1)
      ∧ r.2.mem ((c.tc : Thread Cert.FfnConvRefIdeal.nD Cert.FfnConvRefIdeal.τ).loc Cert.FfnConvRefIdeal.main_arg2) = m ((c.tc : Thread Cert.FfnConvRefIdeal.nD Cert.FfnConvRefIdeal.τ).loc Cert.FfnConvRefIdeal.main_arg2)
      ∧ r.2.mem ((c.tc : Thread Cert.FfnConvRefIdeal.nD Cert.FfnConvRefIdeal.τ).loc Cert.FfnConvRefIdeal.main_arg3) = m ((c.tc : Thread Cert.FfnConvRefIdeal.nD Cert.FfnConvRefIdeal.τ).loc Cert.FfnConvRefIdeal.main_arg3))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1)
      ∧ r.2.mem ((c.tc : Thread Cert.Square.nD Cert.Square.τ).loc Cert.Square.main_arg2) = m ((c.tc : Thread Cert.Square.nD Cert.Square.τ).loc Cert.Square.main_arg2)
      ∧ r.2.mem ((c.tc : Thread Cert.Square.nD Cert.Square.τ).loc Cert.Square.main_arg3) = m ((c.tc : Thread Cert.Square.nD Cert.Square.τ).loc Cert.Square.main_arg3)
      ∧ r.2.mem ((c.tc : Thread Cert.Square.nD Cert.Square.τ).loc Cert.Square.main_arg4) = m ((c.tc : Thread Cert.Square.nD Cert.Square.τ).loc Cert.Square.main_arg4)
      ∧ r.2.mem ((c.tc : Thread Cert.Square.nD Cert.Square.τ).loc Cert.Square.main_arg5) = m ((c.tc : Thread Cert.Square.nD Cert.Square.τ).loc Cert.Square.main_arg5)
      ∧ r.2.mem ((c.tc : Thread Cert.Square.nD Cert.Square.τ).loc Cert.Square.main_arg6) = m ((c.tc : Thread Cert.Square.nD Cert.Square.τ).loc Cert.Square.main_arg6))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
      ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2)
      ∧ r.2.mem ((c.tc : Thread Cert.SquareIdeal.nD Cert.SquareIdeal.τ).loc Cert.SquareIdeal.main_arg3) = m ((c.tc : Thread Cert.SquareIdeal.nD Cert.SquareIdeal.τ).loc Cert.SquareIdeal.main_arg3)
      ∧ r.2.mem ((c.tc : Thread Cert.SquareIdeal.nD Cert.SquareIdeal.τ).loc Cert.SquareIdeal.main_arg4) = m ((c.tc : Thread Cert.SquareIdeal.nD Cert.SquareIdeal.τ).loc Cert.SquareIdeal.main_arg4)
      ∧ r.2.mem ((c.tc : Thread Cert.SquareIdeal.nD Cert.SquareIdeal.τ).loc Cert.SquareIdeal.main_arg5) = m ((c.tc : Thread Cert.SquareIdeal.nD Cert.SquareIdeal.τ).loc Cert.SquareIdeal.main_arg5)
      ∧ r.2.mem ((c.tc : Thread Cert.SquareIdeal.nD Cert.SquareIdeal.τ).loc Cert.SquareIdeal.main_arg6) = m ((c.tc : Thread Cert.SquareIdeal.nD Cert.SquareIdeal.τ).loc Cert.SquareIdeal.main_arg6))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1)
      ∧ r.2.mem ((c.tc : Thread Cert.SquareRefIdeal.nD Cert.SquareRefIdeal.τ).loc Cert.SquareRefIdeal.main_arg2) = m ((c.tc : Thread Cert.SquareRefIdeal.nD Cert.SquareRefIdeal.τ).loc Cert.SquareRefIdeal.main_arg2)
      ∧ r.2.mem ((c.tc : Thread Cert.SquareRefIdeal.nD Cert.SquareRefIdeal.τ).loc Cert.SquareRefIdeal.main_arg3) = m ((c.tc : Thread Cert.SquareRefIdeal.nD Cert.SquareRefIdeal.τ).loc Cert.SquareRefIdeal.main_arg3)
      ∧ r.2.mem ((c.tc : Thread Cert.SquareRefIdeal.nD Cert.SquareRefIdeal.τ).loc Cert.SquareRefIdeal.main_arg4) = m ((c.tc : Thread Cert.SquareRefIdeal.nD Cert.SquareRefIdeal.τ).loc Cert.SquareRefIdeal.main_arg4)
      ∧ r.2.mem ((c.tc : Thread Cert.SquareRefIdeal.nD Cert.SquareRefIdeal.τ).loc Cert.SquareRefIdeal.main_arg5) = m ((c.tc : Thread Cert.SquareRefIdeal.nD Cert.SquareRefIdeal.τ).loc Cert.SquareRefIdeal.main_arg5)
      ∧ r.2.mem ((c.tc : Thread Cert.SquareRefIdeal.nD Cert.SquareRefIdeal.τ).loc Cert.SquareRefIdeal.main_arg6) = m ((c.tc : Thread Cert.SquareRefIdeal.nD Cert.SquareRefIdeal.τ).loc Cert.SquareRefIdeal.main_arg6))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3)
      ∧ r.2.mem ((c.tc : Thread Cert.WIn.nD Cert.WIn.τ).loc Cert.WIn.main_arg4) = m ((c.tc : Thread Cert.WIn.nD Cert.WIn.τ).loc Cert.WIn.main_arg4)
      ∧ r.2.mem ((c.tc : Thread Cert.WIn.nD Cert.WIn.τ).loc Cert.WIn.main_arg5) = m ((c.tc : Thread Cert.WIn.nD Cert.WIn.τ).loc Cert.WIn.main_arg5)
      ∧ r.2.mem ((c.tc : Thread Cert.WIn.nD Cert.WIn.τ).loc Cert.WIn.main_arg6) = m ((c.tc : Thread Cert.WIn.nD Cert.WIn.τ).loc Cert.WIn.main_arg6))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
      ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
      ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
      ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1)
      ∧ r.2.mem ((c.tc : Thread Cert.WInRefIdeal.nD Cert.WInRefIdeal.τ).loc Cert.WInRefIdeal.main_arg2) = m ((c.tc : Thread Cert.WInRefIdeal.nD Cert.WInRefIdeal.τ).loc Cert.WInRefIdeal.main_arg2)
      ∧ r.2.mem ((c.tc : Thread Cert.WInRefIdeal.nD Cert.WInRefIdeal.τ).loc Cert.WInRefIdeal.main_arg3) = m ((c.tc : Thread Cert.WInRefIdeal.nD Cert.WInRefIdeal.τ).loc Cert.WInRefIdeal.main_arg3)
      ∧ r.2.mem ((c.tc : Thread Cert.WInRefIdeal.nD Cert.WInRefIdeal.τ).loc Cert.WInRefIdeal.main_arg4) = m ((c.tc : Thread Cert.WInRefIdeal.nD Cert.WInRefIdeal.τ).loc Cert.WInRefIdeal.main_arg4)
      ∧ r.2.mem ((c.tc : Thread Cert.WInRefIdeal.nD Cert.WInRefIdeal.τ).loc Cert.WInRefIdeal.main_arg5) = m ((c.tc : Thread Cert.WInRefIdeal.nD Cert.WInRefIdeal.τ).loc Cert.WInRefIdeal.main_arg5)
      ∧ r.2.mem ((c.tc : Thread Cert.WInRefIdeal.nD Cert.WInRefIdeal.τ).loc Cert.WInRefIdeal.main_arg6) = m ((c.tc : Thread Cert.WInRefIdeal.nD Cert.WInRefIdeal.τ).loc Cert.WInRefIdeal.main_arg6))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2)
      ∧ r.2.mem ((c.tc : Thread Cert.QUp.nD Cert.QUp.τ).loc Cert.QUp.main_arg3) = m ((c.tc : Thread Cert.QUp.nD Cert.QUp.τ).loc Cert.QUp.main_arg3)
      ∧ r.2.mem ((c.tc : Thread Cert.QUp.nD Cert.QUp.τ).loc Cert.QUp.main_arg4) = m ((c.tc : Thread Cert.QUp.nD Cert.QUp.τ).loc Cert.QUp.main_arg4)
      ∧ r.2.mem ((c.tc : Thread Cert.QUp.nD Cert.QUp.τ).loc Cert.QUp.main_arg5) = m ((c.tc : Thread Cert.QUp.nD Cert.QUp.τ).loc Cert.QUp.main_arg5)
      ∧ r.2.mem ((c.tc : Thread Cert.QUp.nD Cert.QUp.τ).loc Cert.QUp.main_arg6) = m ((c.tc : Thread Cert.QUp.nD Cert.QUp.τ).loc Cert.QUp.main_arg6))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
      ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
      ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4)
      ∧ r.2.mem ((c.tc : Thread Cert.QUpIdeal.nD Cert.QUpIdeal.τ).loc Cert.QUpIdeal.main_arg5) = m ((c.tc : Thread Cert.QUpIdeal.nD Cert.QUpIdeal.τ).loc Cert.QUpIdeal.main_arg5)
      ∧ r.2.mem ((c.tc : Thread Cert.QUpIdeal.nD Cert.QUpIdeal.τ).loc Cert.QUpIdeal.main_arg6) = m ((c.tc : Thread Cert.QUpIdeal.nD Cert.QUpIdeal.τ).loc Cert.QUpIdeal.main_arg6))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2)
      ∧ r.2.mem ((c.tc : Thread Cert.QUpRefIdeal.nD Cert.QUpRefIdeal.τ).loc Cert.QUpRefIdeal.main_arg3) = m ((c.tc : Thread Cert.QUpRefIdeal.nD Cert.QUpRefIdeal.τ).loc Cert.QUpRefIdeal.main_arg3)
      ∧ r.2.mem ((c.tc : Thread Cert.QUpRefIdeal.nD Cert.QUpRefIdeal.τ).loc Cert.QUpRefIdeal.main_arg4) = m ((c.tc : Thread Cert.QUpRefIdeal.nD Cert.QUpRefIdeal.τ).loc Cert.QUpRefIdeal.main_arg4)
      ∧ r.2.mem ((c.tc : Thread Cert.QUpRefIdeal.nD Cert.QUpRefIdeal.τ).loc Cert.QUpRefIdeal.main_arg5) = m ((c.tc : Thread Cert.QUpRefIdeal.nD Cert.QUpRefIdeal.τ).loc Cert.QUpRefIdeal.main_arg5)
      ∧ r.2.mem ((c.tc : Thread Cert.QUpRefIdeal.nD Cert.QUpRefIdeal.τ).loc Cert.QUpRefIdeal.main_arg6) = m ((c.tc : Thread Cert.QUpRefIdeal.nD Cert.QUpRefIdeal.τ).loc Cert.QUpRefIdeal.main_arg6))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2)
      ∧ r.2.mem ((c.tc : Thread Cert.KvUp.nD Cert.KvUp.τ).loc Cert.KvUp.main_arg3) = m ((c.tc : Thread Cert.KvUp.nD Cert.KvUp.τ).loc Cert.KvUp.main_arg3)
      ∧ r.2.mem ((c.tc : Thread Cert.KvUp.nD Cert.KvUp.τ).loc Cert.KvUp.main_arg4) = m ((c.tc : Thread Cert.KvUp.nD Cert.KvUp.τ).loc Cert.KvUp.main_arg4)
      ∧ r.2.mem ((c.tc : Thread Cert.KvUp.nD Cert.KvUp.τ).loc Cert.KvUp.main_arg5) = m ((c.tc : Thread Cert.KvUp.nD Cert.KvUp.τ).loc Cert.KvUp.main_arg5)
      ∧ r.2.mem ((c.tc : Thread Cert.KvUp.nD Cert.KvUp.τ).loc Cert.KvUp.main_arg6) = m ((c.tc : Thread Cert.KvUp.nD Cert.KvUp.τ).loc Cert.KvUp.main_arg6))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
      ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
      ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4)
      ∧ r.2.mem ((c.tc : Thread Cert.KvUpIdeal.nD Cert.KvUpIdeal.τ).loc Cert.KvUpIdeal.main_arg5) = m ((c.tc : Thread Cert.KvUpIdeal.nD Cert.KvUpIdeal.τ).loc Cert.KvUpIdeal.main_arg5)
      ∧ r.2.mem ((c.tc : Thread Cert.KvUpIdeal.nD Cert.KvUpIdeal.τ).loc Cert.KvUpIdeal.main_arg6) = m ((c.tc : Thread Cert.KvUpIdeal.nD Cert.KvUpIdeal.τ).loc Cert.KvUpIdeal.main_arg6))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2)
      ∧ r.2.mem ((c.tc : Thread Cert.KvUpRefIdeal.nD Cert.KvUpRefIdeal.τ).loc Cert.KvUpRefIdeal.main_arg3) = m ((c.tc : Thread Cert.KvUpRefIdeal.nD Cert.KvUpRefIdeal.τ).loc Cert.KvUpRefIdeal.main_arg3)
      ∧ r.2.mem ((c.tc : Thread Cert.KvUpRefIdeal.nD Cert.KvUpRefIdeal.τ).loc Cert.KvUpRefIdeal.main_arg4) = m ((c.tc : Thread Cert.KvUpRefIdeal.nD Cert.KvUpRefIdeal.τ).loc Cert.KvUpRefIdeal.main_arg4)
      ∧ r.2.mem ((c.tc : Thread Cert.KvUpRefIdeal.nD Cert.KvUpRefIdeal.τ).loc Cert.KvUpRefIdeal.main_arg5) = m ((c.tc : Thread Cert.KvUpRefIdeal.nD Cert.KvUpRefIdeal.τ).loc Cert.KvUpRefIdeal.main_arg5)
      ∧ r.2.mem ((c.tc : Thread Cert.KvUpRefIdeal.nD Cert.KvUpRefIdeal.τ).loc Cert.KvUpRefIdeal.main_arg6) = m ((c.tc : Thread Cert.KvUpRefIdeal.nD Cert.KvUpRefIdeal.τ).loc Cert.KvUpRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Xat_XatIdeal : Prop :=
  True

def algebraic_XatIdeal_XatRefIdeal_pre_xat_finite [hXatIdeal : Cert.XatIdeal.Facts] [hXatRefIdeal : Cert.XatRefIdeal.Facts] [hPre_xat_finite : Cert.Pre_xat_finite.Facts] : Prop :=
  ∀ (m : (ℓ : Loc Cert.XatIdeal.nD Cert.XatIdeal.τ Cert.XatIdeal.sig) → Buf (Elt Ideal) ℓ) (g : Dev Cert.XatIdeal.nD → PrngReg)
    (m' : (ℓ : Loc Cert.XatRefIdeal.nD Cert.XatRefIdeal.τ Cert.XatRefIdeal.sig) → Buf (Elt Ideal) ℓ) (g' : Dev Cert.XatRefIdeal.nD → PrngReg), Pre_XatIdeal_xat_finite m →
    (∀ c : Dev Cert.XatIdeal.nD,
      m' ((c.tc : Thread Cert.XatRefIdeal.nD Cert.XatRefIdeal.τ).loc Cert.XatRefIdeal.main_arg0) = m ((c.tc : Thread Cert.XatIdeal.nD Cert.XatIdeal.τ).loc Cert.XatIdeal.main_arg0)
      ∧ m' ((c.tc : Thread Cert.XatRefIdeal.nD Cert.XatRefIdeal.τ).loc Cert.XatRefIdeal.main_arg1) = m ((c.tc : Thread Cert.XatIdeal.nD Cert.XatIdeal.τ).loc Cert.XatIdeal.main_arg1)
      ∧ m' ((c.tc : Thread Cert.XatRefIdeal.nD Cert.XatRefIdeal.τ).loc Cert.XatRefIdeal.main_arg2) = m ((c.tc : Thread Cert.XatIdeal.nD Cert.XatIdeal.τ).loc Cert.XatIdeal.main_arg2)
      ∧ m' ((c.tc : Thread Cert.XatRefIdeal.nD Cert.XatRefIdeal.τ).loc Cert.XatRefIdeal.main_arg3) = m ((c.tc : Thread Cert.XatIdeal.nD Cert.XatIdeal.τ).loc Cert.XatIdeal.main_arg3)) →
    ∃ (v0 : (c : Dev Cert.XatIdeal.nD) → Buf (Elt Ideal) ((c.tc : Thread Cert.XatIdeal.nD Cert.XatIdeal.τ).loc Cert.XatIdeal.main_v0_0)) (v1 : (c : Dev Cert.XatIdeal.nD) → Buf (Elt Ideal) ((c.tc : Thread Cert.XatIdeal.nD Cert.XatIdeal.τ).loc Cert.XatIdeal.main_v0_1)) (v2 : (c : Dev Cert.XatIdeal.nD) → Buf (Elt Ideal) ((c.tc : Thread Cert.XatIdeal.nD Cert.XatIdeal.τ).loc Cert.XatIdeal.main_v0_2)),
      θ_run (Cert.XatIdeal.defs (F := Ideal)) (onTc (τ := Cert.XatIdeal.τ) (Cert.XatIdeal.main (F := Ideal))) ⟨m, fun _ => 0, g⟩ (fun r => ∀ c : Dev Cert.XatIdeal.nD,
          r.2.mem ((c.tc : Thread Cert.XatIdeal.nD Cert.XatIdeal.τ).loc Cert.XatIdeal.main_v0_0) = v0 c
          ∧ r.2.mem ((c.tc : Thread Cert.XatIdeal.nD Cert.XatIdeal.τ).loc Cert.XatIdeal.main_v0_1) = v1 c
          ∧ r.2.mem ((c.tc : Thread Cert.XatIdeal.nD Cert.XatIdeal.τ).loc Cert.XatIdeal.main_v0_2) = v2 c
          ∧ r.2.mem ((c.tc : Thread Cert.XatIdeal.nD Cert.XatIdeal.τ).loc Cert.XatIdeal.main_arg0) = m ((c.tc : Thread Cert.XatIdeal.nD Cert.XatIdeal.τ).loc Cert.XatIdeal.main_arg0)
          ∧ r.2.mem ((c.tc : Thread Cert.XatIdeal.nD Cert.XatIdeal.τ).loc Cert.XatIdeal.main_arg1) = m ((c.tc : Thread Cert.XatIdeal.nD Cert.XatIdeal.τ).loc Cert.XatIdeal.main_arg1)
          ∧ r.2.mem ((c.tc : Thread Cert.XatIdeal.nD Cert.XatIdeal.τ).loc Cert.XatIdeal.main_arg2) = m ((c.tc : Thread Cert.XatIdeal.nD Cert.XatIdeal.τ).loc Cert.XatIdeal.main_arg2)
          ∧ r.2.mem ((c.tc : Thread Cert.XatIdeal.nD Cert.XatIdeal.τ).loc Cert.XatIdeal.main_arg3) = m ((c.tc : Thread Cert.XatIdeal.nD Cert.XatIdeal.τ).loc Cert.XatIdeal.main_arg3))
      ∧ θ_run (Cert.XatRefIdeal.defs (F := Ideal)) (onTc (τ := Cert.XatRefIdeal.τ) (Cert.XatRefIdeal.main (F := Ideal))) ⟨m', fun _ => 0, g'⟩ (fun r => ∀ c : Dev Cert.XatRefIdeal.nD,
          r.2.mem ((c.tc : Thread Cert.XatRefIdeal.nD Cert.XatRefIdeal.τ).loc Cert.XatRefIdeal.main_v63) = v0 c
          ∧ r.2.mem ((c.tc : Thread Cert.XatRefIdeal.nD Cert.XatRefIdeal.τ).loc Cert.XatRefIdeal.main_v62) = v1 c
          ∧ r.2.mem ((c.tc : Thread Cert.XatRefIdeal.nD Cert.XatRefIdeal.τ).loc Cert.XatRefIdeal.main_v61) = v2 c
          ∧ r.2.mem ((c.tc : Thread Cert.XatRefIdeal.nD Cert.XatRefIdeal.τ).loc Cert.XatRefIdeal.main_arg0) = m' ((c.tc : Thread Cert.XatRefIdeal.nD Cert.XatRefIdeal.τ).loc Cert.XatRefIdeal.main_arg0)
          ∧ r.2.mem ((c.tc : Thread Cert.XatRefIdeal.nD Cert.XatRefIdeal.τ).loc Cert.XatRefIdeal.main_arg1) = m' ((c.tc : Thread Cert.XatRefIdeal.nD Cert.XatRefIdeal.τ).loc Cert.XatRefIdeal.main_arg1)
          ∧ r.2.mem ((c.tc : Thread Cert.XatRefIdeal.nD Cert.XatRefIdeal.τ).loc Cert.XatRefIdeal.main_arg2) = m' ((c.tc : Thread Cert.XatRefIdeal.nD Cert.XatRefIdeal.τ).loc Cert.XatRefIdeal.main_arg2)
          ∧ r.2.mem ((c.tc : Thread Cert.XatRefIdeal.nD Cert.XatRefIdeal.τ).loc Cert.XatRefIdeal.main_arg3) = m' ((c.tc : Thread Cert.XatRefIdeal.nD Cert.XatRefIdeal.τ).loc Cert.XatRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)) (v1 : (c : Dev Cert.FfnIdeal.nD) → Buf (Elt Ideal) ((c.tc : Thread Cert.FfnIdeal.nD Cert.FfnIdeal.τ).loc Cert.FfnIdeal.main_v14)) (v2 : (c : Dev Cert.FfnIdeal.nD) → Buf (Elt Ideal) ((c.tc : Thread Cert.FfnIdeal.nD Cert.FfnIdeal.τ).loc Cert.FfnIdeal.main_v15)) (v3 : (c : Dev Cert.FfnIdeal.nD) → Buf (Elt Ideal) ((c.tc : Thread Cert.FfnIdeal.nD Cert.FfnIdeal.τ).loc Cert.FfnIdeal.main_v11)) (v4 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_v14) = v1 c
          ∧ r.2.mem ((c.tc : Thread Cert.FfnIdeal.nD Cert.FfnIdeal.τ).loc Cert.FfnIdeal.main_v15) = v2 c
          ∧ r.2.mem ((c.tc : Thread Cert.FfnIdeal.nD Cert.FfnIdeal.τ).loc Cert.FfnIdeal.main_v11) = v3 c
          ∧ r.2.mem ((c.tc : Thread Cert.FfnIdeal.nD Cert.FfnIdeal.τ).loc Cert.FfnIdeal.main_v16) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v92) = v1 c
          ∧ r.2.mem ((c.tc : Thread Cert.FfnRefIdeal.nD Cert.FfnRefIdeal.τ).loc Cert.FfnRefIdeal.main_v87) = v2 c
          ∧ r.2.mem ((c.tc : Thread Cert.FfnRefIdeal.nD Cert.FfnRefIdeal.τ).loc Cert.FfnRefIdeal.main_v93) = v3 c
          ∧ r.2.mem ((c.tc : Thread Cert.FfnRefIdeal.nD Cert.FfnRefIdeal.τ).loc Cert.FfnRefIdeal.main_v58) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v9) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v10)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v10) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)) (v1 : (c : Dev Cert.OutIdeal.nD) → Buf (Elt Ideal) ((c.tc : Thread Cert.OutIdeal.nD Cert.OutIdeal.τ).loc Cert.OutIdeal.main_v8)) (v2 : (c : Dev Cert.OutIdeal.nD) → Buf (Elt Ideal) ((c.tc : Thread Cert.OutIdeal.nD Cert.OutIdeal.τ).loc Cert.OutIdeal.main_v5)) (v3 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_v8) = v1 c
          ∧ r.2.mem ((c.tc : Thread Cert.OutIdeal.nD Cert.OutIdeal.τ).loc Cert.OutIdeal.main_v5) = v2 c
          ∧ r.2.mem ((c.tc : Thread Cert.OutIdeal.nD Cert.OutIdeal.τ).loc Cert.OutIdeal.main_v12) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v11) = v1 c
          ∧ r.2.mem ((c.tc : Thread Cert.OutRefIdeal.nD Cert.OutRefIdeal.τ).loc Cert.OutRefIdeal.main_v12) = v2 c
          ∧ r.2.mem ((c.tc : Thread Cert.OutRefIdeal.nD Cert.OutRefIdeal.τ).loc Cert.OutRefIdeal.main_v13) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)
      ∧ m' ((c.tc : Thread Cert.LinRefIdeal.nD Cert.LinRefIdeal.τ).loc Cert.LinRefIdeal.main_arg2) = m ((c.tc : Thread Cert.LinIdeal.nD Cert.LinIdeal.τ).loc Cert.LinIdeal.main_arg2)
      ∧ m' ((c.tc : Thread Cert.LinRefIdeal.nD Cert.LinRefIdeal.τ).loc Cert.LinRefIdeal.main_arg3) = m ((c.tc : Thread Cert.LinIdeal.nD Cert.LinIdeal.τ).loc Cert.LinIdeal.main_arg3)
      ∧ m' ((c.tc : Thread Cert.LinRefIdeal.nD Cert.LinRefIdeal.τ).loc Cert.LinRefIdeal.main_arg4) = m ((c.tc : Thread Cert.LinIdeal.nD Cert.LinIdeal.τ).loc Cert.LinIdeal.main_arg4)
      ∧ m' ((c.tc : Thread Cert.LinRefIdeal.nD Cert.LinRefIdeal.τ).loc Cert.LinRefIdeal.main_arg5) = m ((c.tc : Thread Cert.LinIdeal.nD Cert.LinIdeal.τ).loc Cert.LinIdeal.main_arg5)
      ∧ m' ((c.tc : Thread Cert.LinRefIdeal.nD Cert.LinRefIdeal.τ).loc Cert.LinRefIdeal.main_arg6) = m ((c.tc : Thread Cert.LinIdeal.nD Cert.LinIdeal.τ).loc Cert.LinIdeal.main_arg6)) →
    ∃ (v0 : (c : Dev Cert.LinIdeal.nD) → Buf (Elt Ideal) ((c.tc : Thread Cert.LinIdeal.nD Cert.LinIdeal.τ).loc Cert.LinIdeal.main_v0)) (v1 : (c : Dev Cert.LinIdeal.nD) → Buf (Elt Ideal) ((c.tc : Thread Cert.LinIdeal.nD Cert.LinIdeal.τ).loc Cert.LinIdeal.main_v3)) (v2 : (c : Dev Cert.LinIdeal.nD) → Buf (Elt Ideal) ((c.tc : Thread Cert.LinIdeal.nD Cert.LinIdeal.τ).loc Cert.LinIdeal.main_v4)) (v3 : (c : Dev Cert.LinIdeal.nD) → Buf (Elt Ideal) ((c.tc : Thread Cert.LinIdeal.nD Cert.LinIdeal.τ).loc Cert.LinIdeal.main_v1)) (v4 : (c : Dev Cert.LinIdeal.nD) → Buf (Elt Ideal) ((c.tc : Thread Cert.LinIdeal.nD Cert.LinIdeal.τ).loc Cert.LinIdeal.main_v6)) (v5 : (c : Dev Cert.LinIdeal.nD) → Buf (Elt Ideal) ((c.tc : Thread Cert.LinIdeal.nD Cert.LinIdeal.τ).loc Cert.LinIdeal.main_v7)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v0) = v0 c
          ∧ r.2.mem ((c.tc : Thread Cert.LinIdeal.nD Cert.LinIdeal.τ).loc Cert.LinIdeal.main_v3) = v1 c
          ∧ r.2.mem ((c.tc : Thread Cert.LinIdeal.nD Cert.LinIdeal.τ).loc Cert.LinIdeal.main_v4) = v2 c
          ∧ r.2.mem ((c.tc : Thread Cert.LinIdeal.nD Cert.LinIdeal.τ).loc Cert.LinIdeal.main_v1) = v3 c
          ∧ r.2.mem ((c.tc : Thread Cert.LinIdeal.nD Cert.LinIdeal.τ).loc Cert.LinIdeal.main_v6) = v4 c
          ∧ r.2.mem ((c.tc : Thread Cert.LinIdeal.nD Cert.LinIdeal.τ).loc Cert.LinIdeal.main_v7) = v5 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
          ∧ r.2.mem ((c.tc : Thread Cert.LinIdeal.nD Cert.LinIdeal.τ).loc Cert.LinIdeal.main_arg3) = m ((c.tc : Thread Cert.LinIdeal.nD Cert.LinIdeal.τ).loc Cert.LinIdeal.main_arg3)
          ∧ r.2.mem ((c.tc : Thread Cert.LinIdeal.nD Cert.LinIdeal.τ).loc Cert.LinIdeal.main_arg4) = m ((c.tc : Thread Cert.LinIdeal.nD Cert.LinIdeal.τ).loc Cert.LinIdeal.main_arg4)
          ∧ r.2.mem ((c.tc : Thread Cert.LinIdeal.nD Cert.LinIdeal.τ).loc Cert.LinIdeal.main_arg5) = m ((c.tc : Thread Cert.LinIdeal.nD Cert.LinIdeal.τ).loc Cert.LinIdeal.main_arg5)
          ∧ r.2.mem ((c.tc : Thread Cert.LinIdeal.nD Cert.LinIdeal.τ).loc Cert.LinIdeal.main_arg6) = m ((c.tc : Thread Cert.LinIdeal.nD Cert.LinIdeal.τ).loc Cert.LinIdeal.main_arg6))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v4) = v0 c
          ∧ r.2.mem ((c.tc : Thread Cert.LinRefIdeal.nD Cert.LinRefIdeal.τ).loc Cert.LinRefIdeal.main_v10) = v1 c
          ∧ r.2.mem ((c.tc : Thread Cert.LinRefIdeal.nD Cert.LinRefIdeal.τ).loc Cert.LinRefIdeal.main_v11) = v2 c
          ∧ r.2.mem ((c.tc : Thread Cert.LinRefIdeal.nD Cert.LinRefIdeal.τ).loc Cert.LinRefIdeal.main_v6) = v3 c
          ∧ r.2.mem ((c.tc : Thread Cert.LinRefIdeal.nD Cert.LinRefIdeal.τ).loc Cert.LinRefIdeal.main_v15) = v4 c
          ∧ r.2.mem ((c.tc : Thread Cert.LinRefIdeal.nD Cert.LinRefIdeal.τ).loc Cert.LinRefIdeal.main_v16) = v5 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1)
          ∧ r.2.mem ((c.tc : Thread Cert.LinRefIdeal.nD Cert.LinRefIdeal.τ).loc Cert.LinRefIdeal.main_arg2) = m' ((c.tc : Thread Cert.LinRefIdeal.nD Cert.LinRefIdeal.τ).loc Cert.LinRefIdeal.main_arg2)
          ∧ r.2.mem ((c.tc : Thread Cert.LinRefIdeal.nD Cert.LinRefIdeal.τ).loc Cert.LinRefIdeal.main_arg3) = m' ((c.tc : Thread Cert.LinRefIdeal.nD Cert.LinRefIdeal.τ).loc Cert.LinRefIdeal.main_arg3)
          ∧ r.2.mem ((c.tc : Thread Cert.LinRefIdeal.nD Cert.LinRefIdeal.τ).loc Cert.LinRefIdeal.main_arg4) = m' ((c.tc : Thread Cert.LinRefIdeal.nD Cert.LinRefIdeal.τ).loc Cert.LinRefIdeal.main_arg4)
          ∧ r.2.mem ((c.tc : Thread Cert.LinRefIdeal.nD Cert.LinRefIdeal.τ).loc Cert.LinRefIdeal.main_arg5) = m' ((c.tc : Thread Cert.LinRefIdeal.nD Cert.LinRefIdeal.τ).loc Cert.LinRefIdeal.main_arg5)
          ∧ r.2.mem ((c.tc : Thread Cert.LinRefIdeal.nD Cert.LinRefIdeal.τ).loc Cert.LinRefIdeal.main_arg6) = m' ((c.tc : Thread Cert.LinRefIdeal.nD Cert.LinRefIdeal.τ).loc Cert.LinRefIdeal.main_arg6))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)) →
    ∃ (v0 : (c : Dev Cert.NormsIdeal.nD) → Buf (Elt Ideal) ((c.tc : Thread Cert.NormsIdeal.nD Cert.NormsIdeal.τ).loc Cert.NormsIdeal.main_v4_0)) (v1 : (c : Dev Cert.NormsIdeal.nD) → Buf (Elt Ideal) ((c.tc : Thread Cert.NormsIdeal.nD Cert.NormsIdeal.τ).loc Cert.NormsIdeal.main_v4_1)) (v2 : (c : Dev Cert.NormsIdeal.nD) → Buf (Elt Ideal) ((c.tc : Thread Cert.NormsIdeal.nD Cert.NormsIdeal.τ).loc Cert.NormsIdeal.main_v4_2)) (v3 : (c : Dev Cert.NormsIdeal.nD) → Buf (Elt Ideal) ((c.tc : Thread Cert.NormsIdeal.nD Cert.NormsIdeal.τ).loc Cert.NormsIdeal.main_v4_3)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v4_0) = v0 c
          ∧ r.2.mem ((c.tc : Thread Cert.NormsIdeal.nD Cert.NormsIdeal.τ).loc Cert.NormsIdeal.main_v4_1) = v1 c
          ∧ r.2.mem ((c.tc : Thread Cert.NormsIdeal.nD Cert.NormsIdeal.τ).loc Cert.NormsIdeal.main_v4_2) = v2 c
          ∧ r.2.mem ((c.tc : Thread Cert.NormsIdeal.nD Cert.NormsIdeal.τ).loc Cert.NormsIdeal.main_v4_3) = v3 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v25) = v0 c
          ∧ r.2.mem ((c.tc : Thread Cert.NormsRefIdeal.nD Cert.NormsRefIdeal.τ).loc Cert.NormsRefIdeal.main_v26) = v1 c
          ∧ r.2.mem ((c.tc : Thread Cert.NormsRefIdeal.nD Cert.NormsRefIdeal.τ).loc Cert.NormsRefIdeal.main_v27) = v2 c
          ∧ r.2.mem ((c.tc : Thread Cert.NormsRefIdeal.nD Cert.NormsRefIdeal.τ).loc Cert.NormsRefIdeal.main_v28) = v3 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)) →
    ∃ (v0 : (c : Dev Cert.HeadsIdeal.nD) → Buf (Elt Ideal) ((c.tc : Thread Cert.HeadsIdeal.nD Cert.HeadsIdeal.τ).loc Cert.HeadsIdeal.main_v4_0)) (v1 : (c : Dev Cert.HeadsIdeal.nD) → Buf (Elt Ideal) ((c.tc : Thread Cert.HeadsIdeal.nD Cert.HeadsIdeal.τ).loc Cert.HeadsIdeal.main_v4_1)) (v2 : (c : Dev Cert.HeadsIdeal.nD) → Buf (Elt Ideal) ((c.tc : Thread Cert.HeadsIdeal.nD Cert.HeadsIdeal.τ).loc Cert.HeadsIdeal.main_v4_2)) (v3 : (c : Dev Cert.HeadsIdeal.nD) → Buf (Elt Ideal) ((c.tc : Thread Cert.HeadsIdeal.nD Cert.HeadsIdeal.τ).loc Cert.HeadsIdeal.main_v4_3)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v4_0) = v0 c
          ∧ r.2.mem ((c.tc : Thread Cert.HeadsIdeal.nD Cert.HeadsIdeal.τ).loc Cert.HeadsIdeal.main_v4_1) = v1 c
          ∧ r.2.mem ((c.tc : Thread Cert.HeadsIdeal.nD Cert.HeadsIdeal.τ).loc Cert.HeadsIdeal.main_v4_2) = v2 c
          ∧ r.2.mem ((c.tc : Thread Cert.HeadsIdeal.nD Cert.HeadsIdeal.τ).loc Cert.HeadsIdeal.main_v4_3) = v3 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v25) = v0 c
          ∧ r.2.mem ((c.tc : Thread Cert.HeadsRefIdeal.nD Cert.HeadsRefIdeal.τ).loc Cert.HeadsRefIdeal.main_v26) = v1 c
          ∧ r.2.mem ((c.tc : Thread Cert.HeadsRefIdeal.nD Cert.HeadsRefIdeal.τ).loc Cert.HeadsRefIdeal.main_v27) = v2 c
          ∧ r.2.mem ((c.tc : Thread Cert.HeadsRefIdeal.nD Cert.HeadsRefIdeal.τ).loc Cert.HeadsRefIdeal.main_v28) = v3 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3))

def preserves_HeadNorm_HeadNormIdeal : Prop :=
  True

def algebraic_HeadNormIdeal_HeadNormRefIdeal [hHeadNormIdeal : Cert.HeadNormIdeal.Facts] [hHeadNormRefIdeal : Cert.HeadNormRefIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg)
    (m' : (ℓ : Loc Cert.HeadNormRefIdeal.nD Cert.HeadNormRefIdeal.τ Cert.HeadNormRefIdeal.sig) → Buf (Elt Ideal) ℓ) (g' : Dev Cert.HeadNormRefIdeal.nD → PrngReg), Pre_HeadNormIdeal m →
    (∀ c : Dev Cert.HeadNormIdeal.nD,
      m' ((c.tc : Thread Cert.HeadNormRefIdeal.nD Cert.HeadNormRefIdeal.τ).loc Cert.HeadNormRefIdeal.main_arg0) = m ((c.tc : Thread Cert.HeadNormIdeal.nD Cert.HeadNormIdeal.τ).loc Cert.HeadNormIdeal.main_arg0)
      ∧ m' ((c.tc : Thread Cert.HeadNormRefIdeal.nD Cert.HeadNormRefIdeal.τ).loc Cert.HeadNormRefIdeal.main_arg1) = m ((c.tc : Thread Cert.HeadNormIdeal.nD Cert.HeadNormIdeal.τ).loc Cert.HeadNormIdeal.main_arg1)
      ∧ m' ((c.tc : Thread Cert.HeadNormRefIdeal.nD Cert.HeadNormRefIdeal.τ).loc Cert.HeadNormRefIdeal.main_arg2) = m ((c.tc : Thread Cert.HeadNormIdeal.nD Cert.HeadNormIdeal.τ).loc Cert.HeadNormIdeal.main_arg2)
      ∧ m' ((c.tc : Thread Cert.HeadNormRefIdeal.nD Cert.HeadNormRefIdeal.τ).loc Cert.HeadNormRefIdeal.main_arg3) = m ((c.tc : Thread Cert.HeadNormIdeal.nD Cert.HeadNormIdeal.τ).loc Cert.HeadNormIdeal.main_arg3)) →
    ∃ (v0 : (c : Dev Cert.HeadNormIdeal.nD) → Buf (Elt Ideal) ((c.tc : Thread Cert.HeadNormIdeal.nD Cert.HeadNormIdeal.τ).loc Cert.HeadNormIdeal.main_v4_0)) (v1 : (c : Dev Cert.HeadNormIdeal.nD) → Buf (Elt Ideal) ((c.tc : Thread Cert.HeadNormIdeal.nD Cert.HeadNormIdeal.τ).loc Cert.HeadNormIdeal.main_v4_1)) (v2 : (c : Dev Cert.HeadNormIdeal.nD) → Buf (Elt Ideal) ((c.tc : Thread Cert.HeadNormIdeal.nD Cert.HeadNormIdeal.τ).loc Cert.HeadNormIdeal.main_v4_2)) (v3 : (c : Dev Cert.HeadNormIdeal.nD) → Buf (Elt Ideal) ((c.tc : Thread Cert.HeadNormIdeal.nD Cert.HeadNormIdeal.τ).loc Cert.HeadNormIdeal.main_v4_3)),
      θ_run (Cert.HeadNormIdeal.defs (F := Ideal)) (onTc (τ := Cert.HeadNormIdeal.τ) (Cert.HeadNormIdeal.main (F := Ideal))) ⟨m, fun _ => 0, g⟩ (fun r => ∀ c : Dev Cert.HeadNormIdeal.nD,
          r.2.mem ((c.tc : Thread Cert.HeadNormIdeal.nD Cert.HeadNormIdeal.τ).loc Cert.HeadNormIdeal.main_v4_0) = v0 c
          ∧ r.2.mem ((c.tc : Thread Cert.HeadNormIdeal.nD Cert.HeadNormIdeal.τ).loc Cert.HeadNormIdeal.main_v4_1) = v1 c
          ∧ r.2.mem ((c.tc : Thread Cert.HeadNormIdeal.nD Cert.HeadNormIdeal.τ).loc Cert.HeadNormIdeal.main_v4_2) = v2 c
          ∧ r.2.mem ((c.tc : Thread Cert.HeadNormIdeal.nD Cert.HeadNormIdeal.τ).loc Cert.HeadNormIdeal.main_v4_3) = v3 c
          ∧ r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
          ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
          ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
          ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ θ_run (Cert.HeadNormRefIdeal.defs (F := Ideal)) (onTc (τ := Cert.HeadNormRefIdeal.τ) (Cert.HeadNormRefIdeal.main (F := Ideal))) ⟨m', fun _ => 0, g'⟩ (fun r => ∀ c : Dev Cert.HeadNormRefIdeal.nD,
          r.2.mem ((c.tc : Thread Cert.HeadNormRefIdeal.nD Cert.HeadNormRefIdeal.τ).loc Cert.HeadNormRefIdeal.main_v25) = v0 c
          ∧ r.2.mem ((c.tc : Thread Cert.HeadNormRefIdeal.nD Cert.HeadNormRefIdeal.τ).loc Cert.HeadNormRefIdeal.main_v26) = v1 c
          ∧ r.2.mem ((c.tc : Thread Cert.HeadNormRefIdeal.nD Cert.HeadNormRefIdeal.τ).loc Cert.HeadNormRefIdeal.main_v27) = v2 c
          ∧ r.2.mem ((c.tc : Thread Cert.HeadNormRefIdeal.nD Cert.HeadNormRefIdeal.τ).loc Cert.HeadNormRefIdeal.main_v28) = v3 c
          ∧ r.2.mem ((c.tc : Thread Cert.HeadNormRefIdeal.nD Cert.HeadNormRefIdeal.τ).loc Cert.HeadNormRefIdeal.main_arg0) = m' ((c.tc : Thread Cert.HeadNormRefIdeal.nD Cert.HeadNormRefIdeal.τ).loc Cert.HeadNormRefIdeal.main_arg0)
          ∧ r.2.mem ((c.tc : Thread Cert.HeadNormRefIdeal.nD Cert.HeadNormRefIdeal.τ).loc Cert.HeadNormRefIdeal.main_arg1) = m' ((c.tc : Thread Cert.HeadNormRefIdeal.nD Cert.HeadNormRefIdeal.τ).loc Cert.HeadNormRefIdeal.main_arg1)
          ∧ r.2.mem ((c.tc : Thread Cert.HeadNormRefIdeal.nD Cert.HeadNormRefIdeal.τ).loc Cert.HeadNormRefIdeal.main_arg2) = m' ((c.tc : Thread Cert.HeadNormRefIdeal.nD Cert.HeadNormRefIdeal.τ).loc Cert.HeadNormRefIdeal.main_arg2)
          ∧ r.2.mem ((c.tc : Thread Cert.HeadNormRefIdeal.nD Cert.HeadNormRefIdeal.τ).loc Cert.HeadNormRefIdeal.main_arg3) = m' ((c.tc : Thread Cert.HeadNormRefIdeal.nD Cert.HeadNormRefIdeal.τ).loc Cert.HeadNormRefIdeal.main_arg3))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)
      ∧ m' ((c.tc : Thread Cert.QNormRefIdeal.nD Cert.QNormRefIdeal.τ).loc Cert.QNormRefIdeal.main_arg3) = m ((c.tc : Thread Cert.QNormIdeal.nD Cert.QNormIdeal.τ).loc Cert.QNormIdeal.main_arg3)) →
    ∃ (v0 : (c : Dev Cert.QNormIdeal.nD) → Buf (Elt Ideal) ((c.tc : Thread Cert.QNormIdeal.nD Cert.QNormIdeal.τ).loc Cert.QNormIdeal.main_v4_0)) (v1 : (c : Dev Cert.QNormIdeal.nD) → Buf (Elt Ideal) ((c.tc : Thread Cert.QNormIdeal.nD Cert.QNormIdeal.τ).loc Cert.QNormIdeal.main_v4_1)) (v2 : (c : Dev Cert.QNormIdeal.nD) → Buf (Elt Ideal) ((c.tc : Thread Cert.QNormIdeal.nD Cert.QNormIdeal.τ).loc Cert.QNormIdeal.main_v4_2)) (v3 : (c : Dev Cert.QNormIdeal.nD) → Buf (Elt Ideal) ((c.tc : Thread Cert.QNormIdeal.nD Cert.QNormIdeal.τ).loc Cert.QNormIdeal.main_v4_3)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v4_0) = v0 c
          ∧ r.2.mem ((c.tc : Thread Cert.QNormIdeal.nD Cert.QNormIdeal.τ).loc Cert.QNormIdeal.main_v4_1) = v1 c
          ∧ r.2.mem ((c.tc : Thread Cert.QNormIdeal.nD Cert.QNormIdeal.τ).loc Cert.QNormIdeal.main_v4_2) = v2 c
          ∧ r.2.mem ((c.tc : Thread Cert.QNormIdeal.nD Cert.QNormIdeal.τ).loc Cert.QNormIdeal.main_v4_3) = v3 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
          ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v25) = v0 c
          ∧ r.2.mem ((c.tc : Thread Cert.QNormRefIdeal.nD Cert.QNormRefIdeal.τ).loc Cert.QNormRefIdeal.main_v26) = v1 c
          ∧ r.2.mem ((c.tc : Thread Cert.QNormRefIdeal.nD Cert.QNormRefIdeal.τ).loc Cert.QNormRefIdeal.main_v27) = v2 c
          ∧ r.2.mem ((c.tc : Thread Cert.QNormRefIdeal.nD Cert.QNormRefIdeal.τ).loc Cert.QNormRefIdeal.main_v28) = v3 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2)
          ∧ r.2.mem ((c.tc : Thread Cert.QNormRefIdeal.nD Cert.QNormRefIdeal.τ).loc Cert.QNormRefIdeal.main_arg3) = m' ((c.tc : Thread Cert.QNormRefIdeal.nD Cert.QNormRefIdeal.τ).loc Cert.QNormRefIdeal.main_arg3))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)
      ∧ m' ((c.tc : Thread Cert.KvNormRefIdeal.nD Cert.KvNormRefIdeal.τ).loc Cert.KvNormRefIdeal.main_arg2) = m ((c.tc : Thread Cert.KvNormIdeal.nD Cert.KvNormIdeal.τ).loc Cert.KvNormIdeal.main_arg2)
      ∧ m' ((c.tc : Thread Cert.KvNormRefIdeal.nD Cert.KvNormRefIdeal.τ).loc Cert.KvNormRefIdeal.main_arg3) = m ((c.tc : Thread Cert.KvNormIdeal.nD Cert.KvNormIdeal.τ).loc Cert.KvNormIdeal.main_arg3)) →
    ∃ (v0 : (c : Dev Cert.KvNormIdeal.nD) → Buf (Elt Ideal) ((c.tc : Thread Cert.KvNormIdeal.nD Cert.KvNormIdeal.τ).loc Cert.KvNormIdeal.main_v4_0)) (v1 : (c : Dev Cert.KvNormIdeal.nD) → Buf (Elt Ideal) ((c.tc : Thread Cert.KvNormIdeal.nD Cert.KvNormIdeal.τ).loc Cert.KvNormIdeal.main_v4_1)) (v2 : (c : Dev Cert.KvNormIdeal.nD) → Buf (Elt Ideal) ((c.tc : Thread Cert.KvNormIdeal.nD Cert.KvNormIdeal.τ).loc Cert.KvNormIdeal.main_v4_2)) (v3 : (c : Dev Cert.KvNormIdeal.nD) → Buf (Elt Ideal) ((c.tc : Thread Cert.KvNormIdeal.nD Cert.KvNormIdeal.τ).loc Cert.KvNormIdeal.main_v4_3)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v4_0) = v0 c
          ∧ r.2.mem ((c.tc : Thread Cert.KvNormIdeal.nD Cert.KvNormIdeal.τ).loc Cert.KvNormIdeal.main_v4_1) = v1 c
          ∧ r.2.mem ((c.tc : Thread Cert.KvNormIdeal.nD Cert.KvNormIdeal.τ).loc Cert.KvNormIdeal.main_v4_2) = v2 c
          ∧ r.2.mem ((c.tc : Thread Cert.KvNormIdeal.nD Cert.KvNormIdeal.τ).loc Cert.KvNormIdeal.main_v4_3) = v3 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
          ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
          ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v25) = v0 c
          ∧ r.2.mem ((c.tc : Thread Cert.KvNormRefIdeal.nD Cert.KvNormRefIdeal.τ).loc Cert.KvNormRefIdeal.main_v26) = v1 c
          ∧ r.2.mem ((c.tc : Thread Cert.KvNormRefIdeal.nD Cert.KvNormRefIdeal.τ).loc Cert.KvNormRefIdeal.main_v27) = v2 c
          ∧ r.2.mem ((c.tc : Thread Cert.KvNormRefIdeal.nD Cert.KvNormRefIdeal.τ).loc Cert.KvNormRefIdeal.main_v28) = v3 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1)
          ∧ r.2.mem ((c.tc : Thread Cert.KvNormRefIdeal.nD Cert.KvNormRefIdeal.τ).loc Cert.KvNormRefIdeal.main_arg2) = m' ((c.tc : Thread Cert.KvNormRefIdeal.nD Cert.KvNormRefIdeal.τ).loc Cert.KvNormRefIdeal.main_arg2)
          ∧ r.2.mem ((c.tc : Thread Cert.KvNormRefIdeal.nD Cert.KvNormRefIdeal.τ).loc Cert.KvNormRefIdeal.main_arg3) = m' ((c.tc : Thread Cert.KvNormRefIdeal.nD Cert.KvNormRefIdeal.τ).loc Cert.KvNormRefIdeal.main_arg3))

def preserves_EndNorm_EndNormIdeal : Prop :=
  True

def algebraic_EndNormIdeal_EndNormRefIdeal [hEndNormIdeal : Cert.EndNormIdeal.Facts] [hEndNormRefIdeal : Cert.EndNormRefIdeal.Facts] : Prop :=
  ∀ (m : (ℓ : Loc Cert.EndNormIdeal.nD Cert.EndNormIdeal.τ Cert.EndNormIdeal.sig) → Buf (Elt Ideal) ℓ) (g : Dev Cert.EndNormIdeal.nD → PrngReg)
    (m' : (ℓ : Loc Cert.EndNormRefIdeal.nD Cert.EndNormRefIdeal.τ Cert.EndNormRefIdeal.sig) → Buf (Elt Ideal) ℓ) (g' : Dev Cert.EndNormRefIdeal.nD → PrngReg), Pre_EndNormIdeal m →
    (∀ c : Dev Cert.EndNormIdeal.nD,
      m' ((c.tc : Thread Cert.EndNormRefIdeal.nD Cert.EndNormRefIdeal.τ).loc Cert.EndNormRefIdeal.main_arg0) = m ((c.tc : Thread Cert.EndNormIdeal.nD Cert.EndNormIdeal.τ).loc Cert.EndNormIdeal.main_arg0)
      ∧ m' ((c.tc : Thread Cert.EndNormRefIdeal.nD Cert.EndNormRefIdeal.τ).loc Cert.EndNormRefIdeal.main_arg1) = m ((c.tc : Thread Cert.EndNormIdeal.nD Cert.EndNormIdeal.τ).loc Cert.EndNormIdeal.main_arg1)
      ∧ m' ((c.tc : Thread Cert.EndNormRefIdeal.nD Cert.EndNormRefIdeal.τ).loc Cert.EndNormRefIdeal.main_arg2) = m ((c.tc : Thread Cert.EndNormIdeal.nD Cert.EndNormIdeal.τ).loc Cert.EndNormIdeal.main_arg2)
      ∧ m' ((c.tc : Thread Cert.EndNormRefIdeal.nD Cert.EndNormRefIdeal.τ).loc Cert.EndNormRefIdeal.main_arg3) = m ((c.tc : Thread Cert.EndNormIdeal.nD Cert.EndNormIdeal.τ).loc Cert.EndNormIdeal.main_arg3)) →
    ∃ (v0 : (c : Dev Cert.EndNormIdeal.nD) → Buf (Elt Ideal) ((c.tc : Thread Cert.EndNormIdeal.nD Cert.EndNormIdeal.τ).loc Cert.EndNormIdeal.main_v4_0)) (v1 : (c : Dev Cert.EndNormIdeal.nD) → Buf (Elt Ideal) ((c.tc : Thread Cert.EndNormIdeal.nD Cert.EndNormIdeal.τ).loc Cert.EndNormIdeal.main_v4_1)) (v2 : (c : Dev Cert.EndNormIdeal.nD) → Buf (Elt Ideal) ((c.tc : Thread Cert.EndNormIdeal.nD Cert.EndNormIdeal.τ).loc Cert.EndNormIdeal.main_v4_2)) (v3 : (c : Dev Cert.EndNormIdeal.nD) → Buf (Elt Ideal) ((c.tc : Thread Cert.EndNormIdeal.nD Cert.EndNormIdeal.τ).loc Cert.EndNormIdeal.main_v4_3)),
      θ_run (Cert.EndNormIdeal.defs (F := Ideal)) (onTc (τ := Cert.EndNormIdeal.τ) (Cert.EndNormIdeal.main (F := Ideal))) ⟨m, fun _ => 0, g⟩ (fun r => ∀ c : Dev Cert.EndNormIdeal.nD,
          r.2.mem ((c.tc : Thread Cert.EndNormIdeal.nD Cert.EndNormIdeal.τ).loc Cert.EndNormIdeal.main_v4_0) = v0 c
          ∧ r.2.mem ((c.tc : Thread Cert.EndNormIdeal.nD Cert.EndNormIdeal.τ).loc Cert.EndNormIdeal.main_v4_1) = v1 c
          ∧ r.2.mem ((c.tc : Thread Cert.EndNormIdeal.nD Cert.EndNormIdeal.τ).loc Cert.EndNormIdeal.main_v4_2) = v2 c
          ∧ r.2.mem ((c.tc : Thread Cert.EndNormIdeal.nD Cert.EndNormIdeal.τ).loc Cert.EndNormIdeal.main_v4_3) = v3 c
          ∧ r.2.mem ((c.tc : Thread Cert.EndNormIdeal.nD Cert.EndNormIdeal.τ).loc Cert.EndNormIdeal.main_arg0) = m ((c.tc : Thread Cert.EndNormIdeal.nD Cert.EndNormIdeal.τ).loc Cert.EndNormIdeal.main_arg0)
          ∧ r.2.mem ((c.tc : Thread Cert.EndNormIdeal.nD Cert.EndNormIdeal.τ).loc Cert.EndNormIdeal.main_arg1) = m ((c.tc : Thread Cert.EndNormIdeal.nD Cert.EndNormIdeal.τ).loc Cert.EndNormIdeal.main_arg1)
          ∧ r.2.mem ((c.tc : Thread Cert.EndNormIdeal.nD Cert.EndNormIdeal.τ).loc Cert.EndNormIdeal.main_arg2) = m ((c.tc : Thread Cert.EndNormIdeal.nD Cert.EndNormIdeal.τ).loc Cert.EndNormIdeal.main_arg2)
          ∧ r.2.mem ((c.tc : Thread Cert.EndNormIdeal.nD Cert.EndNormIdeal.τ).loc Cert.EndNormIdeal.main_arg3) = m ((c.tc : Thread Cert.EndNormIdeal.nD Cert.EndNormIdeal.τ).loc Cert.EndNormIdeal.main_arg3))
      ∧ θ_run (Cert.EndNormRefIdeal.defs (F := Ideal)) (onTc (τ := Cert.EndNormRefIdeal.τ) (Cert.EndNormRefIdeal.main (F := Ideal))) ⟨m', fun _ => 0, g'⟩ (fun r => ∀ c : Dev Cert.EndNormRefIdeal.nD,
          r.2.mem ((c.tc : Thread Cert.EndNormRefIdeal.nD Cert.EndNormRefIdeal.τ).loc Cert.EndNormRefIdeal.main_v25) = v0 c
          ∧ r.2.mem ((c.tc : Thread Cert.EndNormRefIdeal.nD Cert.EndNormRefIdeal.τ).loc Cert.EndNormRefIdeal.main_v26) = v1 c
          ∧ r.2.mem ((c.tc : Thread Cert.EndNormRefIdeal.nD Cert.EndNormRefIdeal.τ).loc Cert.EndNormRefIdeal.main_v27) = v2 c
          ∧ r.2.mem ((c.tc : Thread Cert.EndNormRefIdeal.nD Cert.EndNormRefIdeal.τ).loc Cert.EndNormRefIdeal.main_v28) = v3 c
          ∧ r.2.mem ((c.tc : Thread Cert.EndNormRefIdeal.nD Cert.EndNormRefIdeal.τ).loc Cert.EndNormRefIdeal.main_arg0) = m' ((c.tc : Thread Cert.EndNormRefIdeal.nD Cert.EndNormRefIdeal.τ).loc Cert.EndNormRefIdeal.main_arg0)
          ∧ r.2.mem ((c.tc : Thread Cert.EndNormRefIdeal.nD Cert.EndNormRefIdeal.τ).loc Cert.EndNormRefIdeal.main_arg1) = m' ((c.tc : Thread Cert.EndNormRefIdeal.nD Cert.EndNormRefIdeal.τ).loc Cert.EndNormRefIdeal.main_arg1)
          ∧ r.2.mem ((c.tc : Thread Cert.EndNormRefIdeal.nD Cert.EndNormRefIdeal.τ).loc Cert.EndNormRefIdeal.main_arg2) = m' ((c.tc : Thread Cert.EndNormRefIdeal.nD Cert.EndNormRefIdeal.τ).loc Cert.EndNormRefIdeal.main_arg2)
          ∧ r.2.mem ((c.tc : Thread Cert.EndNormRefIdeal.nD Cert.EndNormRefIdeal.τ).loc Cert.EndNormRefIdeal.main_arg3) = m' ((c.tc : Thread Cert.EndNormRefIdeal.nD Cert.EndNormRefIdeal.τ).loc Cert.EndNormRefIdeal.main_arg3))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)
      ∧ m' ((c.tc : Thread Cert.BiasRefIdeal.nD Cert.BiasRefIdeal.τ).loc Cert.BiasRefIdeal.main_arg2) = m ((c.tc : Thread Cert.BiasIdeal.nD Cert.BiasIdeal.τ).loc Cert.BiasIdeal.main_arg2)
      ∧ m' ((c.tc : Thread Cert.BiasRefIdeal.nD Cert.BiasRefIdeal.τ).loc Cert.BiasRefIdeal.main_arg3) = m ((c.tc : Thread Cert.BiasIdeal.nD Cert.BiasIdeal.τ).loc Cert.BiasIdeal.main_arg3)) →
    ∃ (v0 : (c : Dev Cert.BiasIdeal.nD) → Buf (Elt Ideal) ((c.tc : Thread Cert.BiasIdeal.nD Cert.BiasIdeal.τ).loc Cert.BiasIdeal.main_v4_0)) (v1 : (c : Dev Cert.BiasIdeal.nD) → Buf (Elt Ideal) ((c.tc : Thread Cert.BiasIdeal.nD Cert.BiasIdeal.τ).loc Cert.BiasIdeal.main_v4_1)) (v2 : (c : Dev Cert.BiasIdeal.nD) → Buf (Elt Ideal) ((c.tc : Thread Cert.BiasIdeal.nD Cert.BiasIdeal.τ).loc Cert.BiasIdeal.main_v4_2)) (v3 : (c : Dev Cert.BiasIdeal.nD) → Buf (Elt Ideal) ((c.tc : Thread Cert.BiasIdeal.nD Cert.BiasIdeal.τ).loc Cert.BiasIdeal.main_v4_3)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v4_0) = v0 c
          ∧ r.2.mem ((c.tc : Thread Cert.BiasIdeal.nD Cert.BiasIdeal.τ).loc Cert.BiasIdeal.main_v4_1) = v1 c
          ∧ r.2.mem ((c.tc : Thread Cert.BiasIdeal.nD Cert.BiasIdeal.τ).loc Cert.BiasIdeal.main_v4_2) = v2 c
          ∧ r.2.mem ((c.tc : Thread Cert.BiasIdeal.nD Cert.BiasIdeal.τ).loc Cert.BiasIdeal.main_v4_3) = v3 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
          ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v25) = v0 c
          ∧ r.2.mem ((c.tc : Thread Cert.BiasRefIdeal.nD Cert.BiasRefIdeal.τ).loc Cert.BiasRefIdeal.main_v26) = v1 c
          ∧ r.2.mem ((c.tc : Thread Cert.BiasRefIdeal.nD Cert.BiasRefIdeal.τ).loc Cert.BiasRefIdeal.main_v27) = v2 c
          ∧ r.2.mem ((c.tc : Thread Cert.BiasRefIdeal.nD Cert.BiasRefIdeal.τ).loc Cert.BiasRefIdeal.main_v28) = v3 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2)
          ∧ r.2.mem ((c.tc : Thread Cert.BiasRefIdeal.nD Cert.BiasRefIdeal.τ).loc Cert.BiasRefIdeal.main_arg3) = m' ((c.tc : Thread Cert.BiasRefIdeal.nD Cert.BiasRefIdeal.τ).loc Cert.BiasRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)) (v2 : (c : Dev Cert.ConvIdeal.nD) → Buf (Elt Ideal) ((c.tc : Thread Cert.ConvIdeal.nD Cert.ConvIdeal.τ).loc Cert.ConvIdeal.main_v4_2)) (v3 : (c : Dev Cert.ConvIdeal.nD) → Buf (Elt Ideal) ((c.tc : Thread Cert.ConvIdeal.nD Cert.ConvIdeal.τ).loc Cert.ConvIdeal.main_v4_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_v4_2) = v2 c
          ∧ r.2.mem ((c.tc : Thread Cert.ConvIdeal.nD Cert.ConvIdeal.τ).loc Cert.ConvIdeal.main_v4_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v25) = v0 c
          ∧ r.2.mem ((c.tc : Thread Cert.ConvRefIdeal.nD Cert.ConvRefIdeal.τ).loc Cert.ConvRefIdeal.main_v26) = v1 c
          ∧ r.2.mem ((c.tc : Thread Cert.ConvRefIdeal.nD Cert.ConvRefIdeal.τ).loc Cert.ConvRefIdeal.main_v27) = v2 c
          ∧ r.2.mem ((c.tc : Thread Cert.ConvRefIdeal.nD Cert.ConvRefIdeal.τ).loc Cert.ConvRefIdeal.main_v28) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_FfnConv_FfnConvIdeal : Prop :=
  True

def algebraic_FfnConvIdeal_FfnConvRefIdeal [hFfnConvIdeal : Cert.FfnConvIdeal.Facts] [hFfnConvRefIdeal : Cert.FfnConvRefIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg)
    (m' : (ℓ : Loc Cert.FfnConvRefIdeal.nD Cert.FfnConvRefIdeal.τ Cert.FfnConvRefIdeal.sig) → Buf (Elt Ideal) ℓ) (g' : Dev Cert.FfnConvRefIdeal.nD → PrngReg), Pre_FfnConvIdeal m →
    (∀ c : Dev Cert.FfnConvIdeal.nD,
      m' ((c.tc : Thread Cert.FfnConvRefIdeal.nD Cert.FfnConvRefIdeal.τ).loc Cert.FfnConvRefIdeal.main_arg0) = m ((c.tc : Thread Cert.FfnConvIdeal.nD Cert.FfnConvIdeal.τ).loc Cert.FfnConvIdeal.main_arg0)
      ∧ m' ((c.tc : Thread Cert.FfnConvRefIdeal.nD Cert.FfnConvRefIdeal.τ).loc Cert.FfnConvRefIdeal.main_arg1) = m ((c.tc : Thread Cert.FfnConvIdeal.nD Cert.FfnConvIdeal.τ).loc Cert.FfnConvIdeal.main_arg1)
      ∧ m' ((c.tc : Thread Cert.FfnConvRefIdeal.nD Cert.FfnConvRefIdeal.τ).loc Cert.FfnConvRefIdeal.main_arg2) = m ((c.tc : Thread Cert.FfnConvIdeal.nD Cert.FfnConvIdeal.τ).loc Cert.FfnConvIdeal.main_arg2)
      ∧ m' ((c.tc : Thread Cert.FfnConvRefIdeal.nD Cert.FfnConvRefIdeal.τ).loc Cert.FfnConvRefIdeal.main_arg3) = m ((c.tc : Thread Cert.FfnConvIdeal.nD Cert.FfnConvIdeal.τ).loc Cert.FfnConvIdeal.main_arg3)) →
    ∃ (v0 : (c : Dev Cert.FfnConvIdeal.nD) → Buf (Elt Ideal) ((c.tc : Thread Cert.FfnConvIdeal.nD Cert.FfnConvIdeal.τ).loc Cert.FfnConvIdeal.main_v4_0)) (v1 : (c : Dev Cert.FfnConvIdeal.nD) → Buf (Elt Ideal) ((c.tc : Thread Cert.FfnConvIdeal.nD Cert.FfnConvIdeal.τ).loc Cert.FfnConvIdeal.main_v4_1)) (v2 : (c : Dev Cert.FfnConvIdeal.nD) → Buf (Elt Ideal) ((c.tc : Thread Cert.FfnConvIdeal.nD Cert.FfnConvIdeal.τ).loc Cert.FfnConvIdeal.main_v4_2)) (v3 : (c : Dev Cert.FfnConvIdeal.nD) → Buf (Elt Ideal) ((c.tc : Thread Cert.FfnConvIdeal.nD Cert.FfnConvIdeal.τ).loc Cert.FfnConvIdeal.main_v4_3)),
      θ_run (Cert.FfnConvIdeal.defs (F := Ideal)) (onTc (τ := Cert.FfnConvIdeal.τ) (Cert.FfnConvIdeal.main (F := Ideal))) ⟨m, fun _ => 0, g⟩ (fun r => ∀ c : Dev Cert.FfnConvIdeal.nD,
          r.2.mem ((c.tc : Thread Cert.FfnConvIdeal.nD Cert.FfnConvIdeal.τ).loc Cert.FfnConvIdeal.main_v4_0) = v0 c
          ∧ r.2.mem ((c.tc : Thread Cert.FfnConvIdeal.nD Cert.FfnConvIdeal.τ).loc Cert.FfnConvIdeal.main_v4_1) = v1 c
          ∧ r.2.mem ((c.tc : Thread Cert.FfnConvIdeal.nD Cert.FfnConvIdeal.τ).loc Cert.FfnConvIdeal.main_v4_2) = v2 c
          ∧ r.2.mem ((c.tc : Thread Cert.FfnConvIdeal.nD Cert.FfnConvIdeal.τ).loc Cert.FfnConvIdeal.main_v4_3) = v3 c
          ∧ r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
          ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
          ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
          ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ θ_run (Cert.FfnConvRefIdeal.defs (F := Ideal)) (onTc (τ := Cert.FfnConvRefIdeal.τ) (Cert.FfnConvRefIdeal.main (F := Ideal))) ⟨m', fun _ => 0, g'⟩ (fun r => ∀ c : Dev Cert.FfnConvRefIdeal.nD,
          r.2.mem ((c.tc : Thread Cert.FfnConvRefIdeal.nD Cert.FfnConvRefIdeal.τ).loc Cert.FfnConvRefIdeal.main_v25) = v0 c
          ∧ r.2.mem ((c.tc : Thread Cert.FfnConvRefIdeal.nD Cert.FfnConvRefIdeal.τ).loc Cert.FfnConvRefIdeal.main_v26) = v1 c
          ∧ r.2.mem ((c.tc : Thread Cert.FfnConvRefIdeal.nD Cert.FfnConvRefIdeal.τ).loc Cert.FfnConvRefIdeal.main_v27) = v2 c
          ∧ r.2.mem ((c.tc : Thread Cert.FfnConvRefIdeal.nD Cert.FfnConvRefIdeal.τ).loc Cert.FfnConvRefIdeal.main_v28) = v3 c
          ∧ r.2.mem ((c.tc : Thread Cert.FfnConvRefIdeal.nD Cert.FfnConvRefIdeal.τ).loc Cert.FfnConvRefIdeal.main_arg0) = m' ((c.tc : Thread Cert.FfnConvRefIdeal.nD Cert.FfnConvRefIdeal.τ).loc Cert.FfnConvRefIdeal.main_arg0)
          ∧ r.2.mem ((c.tc : Thread Cert.FfnConvRefIdeal.nD Cert.FfnConvRefIdeal.τ).loc Cert.FfnConvRefIdeal.main_arg1) = m' ((c.tc : Thread Cert.FfnConvRefIdeal.nD Cert.FfnConvRefIdeal.τ).loc Cert.FfnConvRefIdeal.main_arg1)
          ∧ r.2.mem ((c.tc : Thread Cert.FfnConvRefIdeal.nD Cert.FfnConvRefIdeal.τ).loc Cert.FfnConvRefIdeal.main_arg2) = m' ((c.tc : Thread Cert.FfnConvRefIdeal.nD Cert.FfnConvRefIdeal.τ).loc Cert.FfnConvRefIdeal.main_arg2)
          ∧ r.2.mem ((c.tc : Thread Cert.FfnConvRefIdeal.nD Cert.FfnConvRefIdeal.τ).loc Cert.FfnConvRefIdeal.main_arg3) = m' ((c.tc : Thread Cert.FfnConvRefIdeal.nD Cert.FfnConvRefIdeal.τ).loc Cert.FfnConvRefIdeal.main_arg3))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)
      ∧ m' ((c.tc : Thread Cert.SquareRefIdeal.nD Cert.SquareRefIdeal.τ).loc Cert.SquareRefIdeal.main_arg2) = m ((c.tc : Thread Cert.SquareIdeal.nD Cert.SquareIdeal.τ).loc Cert.SquareIdeal.main_arg2)
      ∧ m' ((c.tc : Thread Cert.SquareRefIdeal.nD Cert.SquareRefIdeal.τ).loc Cert.SquareRefIdeal.main_arg3) = m ((c.tc : Thread Cert.SquareIdeal.nD Cert.SquareIdeal.τ).loc Cert.SquareIdeal.main_arg3)
      ∧ m' ((c.tc : Thread Cert.SquareRefIdeal.nD Cert.SquareRefIdeal.τ).loc Cert.SquareRefIdeal.main_arg4) = m ((c.tc : Thread Cert.SquareIdeal.nD Cert.SquareIdeal.τ).loc Cert.SquareIdeal.main_arg4)
      ∧ m' ((c.tc : Thread Cert.SquareRefIdeal.nD Cert.SquareRefIdeal.τ).loc Cert.SquareRefIdeal.main_arg5) = m ((c.tc : Thread Cert.SquareIdeal.nD Cert.SquareIdeal.τ).loc Cert.SquareIdeal.main_arg5)
      ∧ m' ((c.tc : Thread Cert.SquareRefIdeal.nD Cert.SquareRefIdeal.τ).loc Cert.SquareRefIdeal.main_arg6) = m ((c.tc : Thread Cert.SquareIdeal.nD Cert.SquareIdeal.τ).loc Cert.SquareIdeal.main_arg6)) →
    ∃ (v0 : (c : Dev Cert.SquareIdeal.nD) → Buf (Elt Ideal) ((c.tc : Thread Cert.SquareIdeal.nD Cert.SquareIdeal.τ).loc Cert.SquareIdeal.main_v7_0)) (v1 : (c : Dev Cert.SquareIdeal.nD) → Buf (Elt Ideal) ((c.tc : Thread Cert.SquareIdeal.nD Cert.SquareIdeal.τ).loc Cert.SquareIdeal.main_v7_1)) (v2 : (c : Dev Cert.SquareIdeal.nD) → Buf (Elt Ideal) ((c.tc : Thread Cert.SquareIdeal.nD Cert.SquareIdeal.τ).loc Cert.SquareIdeal.main_v7_2)) (v3 : (c : Dev Cert.SquareIdeal.nD) → Buf (Elt Ideal) ((c.tc : Thread Cert.SquareIdeal.nD Cert.SquareIdeal.τ).loc Cert.SquareIdeal.main_v7_3)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v7_0) = v0 c
          ∧ r.2.mem ((c.tc : Thread Cert.SquareIdeal.nD Cert.SquareIdeal.τ).loc Cert.SquareIdeal.main_v7_1) = v1 c
          ∧ r.2.mem ((c.tc : Thread Cert.SquareIdeal.nD Cert.SquareIdeal.τ).loc Cert.SquareIdeal.main_v7_2) = v2 c
          ∧ r.2.mem ((c.tc : Thread Cert.SquareIdeal.nD Cert.SquareIdeal.τ).loc Cert.SquareIdeal.main_v7_3) = v3 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
          ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2)
          ∧ r.2.mem ((c.tc : Thread Cert.SquareIdeal.nD Cert.SquareIdeal.τ).loc Cert.SquareIdeal.main_arg3) = m ((c.tc : Thread Cert.SquareIdeal.nD Cert.SquareIdeal.τ).loc Cert.SquareIdeal.main_arg3)
          ∧ r.2.mem ((c.tc : Thread Cert.SquareIdeal.nD Cert.SquareIdeal.τ).loc Cert.SquareIdeal.main_arg4) = m ((c.tc : Thread Cert.SquareIdeal.nD Cert.SquareIdeal.τ).loc Cert.SquareIdeal.main_arg4)
          ∧ r.2.mem ((c.tc : Thread Cert.SquareIdeal.nD Cert.SquareIdeal.τ).loc Cert.SquareIdeal.main_arg5) = m ((c.tc : Thread Cert.SquareIdeal.nD Cert.SquareIdeal.τ).loc Cert.SquareIdeal.main_arg5)
          ∧ r.2.mem ((c.tc : Thread Cert.SquareIdeal.nD Cert.SquareIdeal.τ).loc Cert.SquareIdeal.main_arg6) = m ((c.tc : Thread Cert.SquareIdeal.nD Cert.SquareIdeal.τ).loc Cert.SquareIdeal.main_arg6))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v12) = v0 c
          ∧ r.2.mem ((c.tc : Thread Cert.SquareRefIdeal.nD Cert.SquareRefIdeal.τ).loc Cert.SquareRefIdeal.main_v36) = v1 c
          ∧ r.2.mem ((c.tc : Thread Cert.SquareRefIdeal.nD Cert.SquareRefIdeal.τ).loc Cert.SquareRefIdeal.main_v17) = v2 c
          ∧ r.2.mem ((c.tc : Thread Cert.SquareRefIdeal.nD Cert.SquareRefIdeal.τ).loc Cert.SquareRefIdeal.main_v23) = v3 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1)
          ∧ r.2.mem ((c.tc : Thread Cert.SquareRefIdeal.nD Cert.SquareRefIdeal.τ).loc Cert.SquareRefIdeal.main_arg2) = m' ((c.tc : Thread Cert.SquareRefIdeal.nD Cert.SquareRefIdeal.τ).loc Cert.SquareRefIdeal.main_arg2)
          ∧ r.2.mem ((c.tc : Thread Cert.SquareRefIdeal.nD Cert.SquareRefIdeal.τ).loc Cert.SquareRefIdeal.main_arg3) = m' ((c.tc : Thread Cert.SquareRefIdeal.nD Cert.SquareRefIdeal.τ).loc Cert.SquareRefIdeal.main_arg3)
          ∧ r.2.mem ((c.tc : Thread Cert.SquareRefIdeal.nD Cert.SquareRefIdeal.τ).loc Cert.SquareRefIdeal.main_arg4) = m' ((c.tc : Thread Cert.SquareRefIdeal.nD Cert.SquareRefIdeal.τ).loc Cert.SquareRefIdeal.main_arg4)
          ∧ r.2.mem ((c.tc : Thread Cert.SquareRefIdeal.nD Cert.SquareRefIdeal.τ).loc Cert.SquareRefIdeal.main_arg5) = m' ((c.tc : Thread Cert.SquareRefIdeal.nD Cert.SquareRefIdeal.τ).loc Cert.SquareRefIdeal.main_arg5)
          ∧ r.2.mem ((c.tc : Thread Cert.SquareRefIdeal.nD Cert.SquareRefIdeal.τ).loc Cert.SquareRefIdeal.main_arg6) = m' ((c.tc : Thread Cert.SquareRefIdeal.nD Cert.SquareRefIdeal.τ).loc Cert.SquareRefIdeal.main_arg6))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)
      ∧ m' ((c.tc : Thread Cert.WInRefIdeal.nD Cert.WInRefIdeal.τ).loc Cert.WInRefIdeal.main_arg2) = m ((c.tc : Thread Cert.WInIdeal.nD Cert.WInIdeal.τ).loc Cert.WInIdeal.main_arg2)
      ∧ m' ((c.tc : Thread Cert.WInRefIdeal.nD Cert.WInRefIdeal.τ).loc Cert.WInRefIdeal.main_arg3) = m ((c.tc : Thread Cert.WInIdeal.nD Cert.WInIdeal.τ).loc Cert.WInIdeal.main_arg3)
      ∧ m' ((c.tc : Thread Cert.WInRefIdeal.nD Cert.WInRefIdeal.τ).loc Cert.WInRefIdeal.main_arg4) = m ((c.tc : Thread Cert.WInIdeal.nD Cert.WInIdeal.τ).loc Cert.WInIdeal.main_arg4)
      ∧ m' ((c.tc : Thread Cert.WInRefIdeal.nD Cert.WInRefIdeal.τ).loc Cert.WInRefIdeal.main_arg5) = m ((c.tc : Thread Cert.WInIdeal.nD Cert.WInIdeal.τ).loc Cert.WInIdeal.main_arg5)
      ∧ m' ((c.tc : Thread Cert.WInRefIdeal.nD Cert.WInRefIdeal.τ).loc Cert.WInRefIdeal.main_arg6) = m ((c.tc : Thread Cert.WInIdeal.nD Cert.WInIdeal.τ).loc Cert.WInIdeal.main_arg6)) →
    ∃ (v0 : (c : Dev Cert.WInIdeal.nD) → Buf (Elt Ideal) ((c.tc : Thread Cert.WInIdeal.nD Cert.WInIdeal.τ).loc Cert.WInIdeal.main_v7_0)) (v1 : (c : Dev Cert.WInIdeal.nD) → Buf (Elt Ideal) ((c.tc : Thread Cert.WInIdeal.nD Cert.WInIdeal.τ).loc Cert.WInIdeal.main_v7_1)) (v2 : (c : Dev Cert.WInIdeal.nD) → Buf (Elt Ideal) ((c.tc : Thread Cert.WInIdeal.nD Cert.WInIdeal.τ).loc Cert.WInIdeal.main_v7_2)) (v3 : (c : Dev Cert.WInIdeal.nD) → Buf (Elt Ideal) ((c.tc : Thread Cert.WInIdeal.nD Cert.WInIdeal.τ).loc Cert.WInIdeal.main_v7_3)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v7_0) = v0 c
          ∧ r.2.mem ((c.tc : Thread Cert.WInIdeal.nD Cert.WInIdeal.τ).loc Cert.WInIdeal.main_v7_1) = v1 c
          ∧ r.2.mem ((c.tc : Thread Cert.WInIdeal.nD Cert.WInIdeal.τ).loc Cert.WInIdeal.main_v7_2) = v2 c
          ∧ r.2.mem ((c.tc : Thread Cert.WInIdeal.nD Cert.WInIdeal.τ).loc Cert.WInIdeal.main_v7_3) = v3 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
          ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
          ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
          ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v12) = v0 c
          ∧ r.2.mem ((c.tc : Thread Cert.WInRefIdeal.nD Cert.WInRefIdeal.τ).loc Cert.WInRefIdeal.main_v36) = v1 c
          ∧ r.2.mem ((c.tc : Thread Cert.WInRefIdeal.nD Cert.WInRefIdeal.τ).loc Cert.WInRefIdeal.main_v17) = v2 c
          ∧ r.2.mem ((c.tc : Thread Cert.WInRefIdeal.nD Cert.WInRefIdeal.τ).loc Cert.WInRefIdeal.main_v23) = v3 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1)
          ∧ r.2.mem ((c.tc : Thread Cert.WInRefIdeal.nD Cert.WInRefIdeal.τ).loc Cert.WInRefIdeal.main_arg2) = m' ((c.tc : Thread Cert.WInRefIdeal.nD Cert.WInRefIdeal.τ).loc Cert.WInRefIdeal.main_arg2)
          ∧ r.2.mem ((c.tc : Thread Cert.WInRefIdeal.nD Cert.WInRefIdeal.τ).loc Cert.WInRefIdeal.main_arg3) = m' ((c.tc : Thread Cert.WInRefIdeal.nD Cert.WInRefIdeal.τ).loc Cert.WInRefIdeal.main_arg3)
          ∧ r.2.mem ((c.tc : Thread Cert.WInRefIdeal.nD Cert.WInRefIdeal.τ).loc Cert.WInRefIdeal.main_arg4) = m' ((c.tc : Thread Cert.WInRefIdeal.nD Cert.WInRefIdeal.τ).loc Cert.WInRefIdeal.main_arg4)
          ∧ r.2.mem ((c.tc : Thread Cert.WInRefIdeal.nD Cert.WInRefIdeal.τ).loc Cert.WInRefIdeal.main_arg5) = m' ((c.tc : Thread Cert.WInRefIdeal.nD Cert.WInRefIdeal.τ).loc Cert.WInRefIdeal.main_arg5)
          ∧ r.2.mem ((c.tc : Thread Cert.WInRefIdeal.nD Cert.WInRefIdeal.τ).loc Cert.WInRefIdeal.main_arg6) = m' ((c.tc : Thread Cert.WInRefIdeal.nD Cert.WInRefIdeal.τ).loc Cert.WInRefIdeal.main_arg6))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)
      ∧ m' ((c.tc : Thread Cert.QUpRefIdeal.nD Cert.QUpRefIdeal.τ).loc Cert.QUpRefIdeal.main_arg3) = m ((c.tc : Thread Cert.QUpIdeal.nD Cert.QUpIdeal.τ).loc Cert.QUpIdeal.main_arg3)
      ∧ m' ((c.tc : Thread Cert.QUpRefIdeal.nD Cert.QUpRefIdeal.τ).loc Cert.QUpRefIdeal.main_arg4) = m ((c.tc : Thread Cert.QUpIdeal.nD Cert.QUpIdeal.τ).loc Cert.QUpIdeal.main_arg4)
      ∧ m' ((c.tc : Thread Cert.QUpRefIdeal.nD Cert.QUpRefIdeal.τ).loc Cert.QUpRefIdeal.main_arg5) = m ((c.tc : Thread Cert.QUpIdeal.nD Cert.QUpIdeal.τ).loc Cert.QUpIdeal.main_arg5)
      ∧ m' ((c.tc : Thread Cert.QUpRefIdeal.nD Cert.QUpRefIdeal.τ).loc Cert.QUpRefIdeal.main_arg6) = m ((c.tc : Thread Cert.QUpIdeal.nD Cert.QUpIdeal.τ).loc Cert.QUpIdeal.main_arg6)) →
    ∃ (v0 : (c : Dev Cert.QUpIdeal.nD) → Buf (Elt Ideal) ((c.tc : Thread Cert.QUpIdeal.nD Cert.QUpIdeal.τ).loc Cert.QUpIdeal.main_v7_0)) (v1 : (c : Dev Cert.QUpIdeal.nD) → Buf (Elt Ideal) ((c.tc : Thread Cert.QUpIdeal.nD Cert.QUpIdeal.τ).loc Cert.QUpIdeal.main_v7_1)) (v2 : (c : Dev Cert.QUpIdeal.nD) → Buf (Elt Ideal) ((c.tc : Thread Cert.QUpIdeal.nD Cert.QUpIdeal.τ).loc Cert.QUpIdeal.main_v7_2)) (v3 : (c : Dev Cert.QUpIdeal.nD) → Buf (Elt Ideal) ((c.tc : Thread Cert.QUpIdeal.nD Cert.QUpIdeal.τ).loc Cert.QUpIdeal.main_v7_3)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v7_0) = v0 c
          ∧ r.2.mem ((c.tc : Thread Cert.QUpIdeal.nD Cert.QUpIdeal.τ).loc Cert.QUpIdeal.main_v7_1) = v1 c
          ∧ r.2.mem ((c.tc : Thread Cert.QUpIdeal.nD Cert.QUpIdeal.τ).loc Cert.QUpIdeal.main_v7_2) = v2 c
          ∧ r.2.mem ((c.tc : Thread Cert.QUpIdeal.nD Cert.QUpIdeal.τ).loc Cert.QUpIdeal.main_v7_3) = v3 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
          ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
          ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4)
          ∧ r.2.mem ((c.tc : Thread Cert.QUpIdeal.nD Cert.QUpIdeal.τ).loc Cert.QUpIdeal.main_arg5) = m ((c.tc : Thread Cert.QUpIdeal.nD Cert.QUpIdeal.τ).loc Cert.QUpIdeal.main_arg5)
          ∧ r.2.mem ((c.tc : Thread Cert.QUpIdeal.nD Cert.QUpIdeal.τ).loc Cert.QUpIdeal.main_arg6) = m ((c.tc : Thread Cert.QUpIdeal.nD Cert.QUpIdeal.τ).loc Cert.QUpIdeal.main_arg6))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v12) = v0 c
          ∧ r.2.mem ((c.tc : Thread Cert.QUpRefIdeal.nD Cert.QUpRefIdeal.τ).loc Cert.QUpRefIdeal.main_v36) = v1 c
          ∧ r.2.mem ((c.tc : Thread Cert.QUpRefIdeal.nD Cert.QUpRefIdeal.τ).loc Cert.QUpRefIdeal.main_v17) = v2 c
          ∧ r.2.mem ((c.tc : Thread Cert.QUpRefIdeal.nD Cert.QUpRefIdeal.τ).loc Cert.QUpRefIdeal.main_v23) = v3 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2)
          ∧ r.2.mem ((c.tc : Thread Cert.QUpRefIdeal.nD Cert.QUpRefIdeal.τ).loc Cert.QUpRefIdeal.main_arg3) = m' ((c.tc : Thread Cert.QUpRefIdeal.nD Cert.QUpRefIdeal.τ).loc Cert.QUpRefIdeal.main_arg3)
          ∧ r.2.mem ((c.tc : Thread Cert.QUpRefIdeal.nD Cert.QUpRefIdeal.τ).loc Cert.QUpRefIdeal.main_arg4) = m' ((c.tc : Thread Cert.QUpRefIdeal.nD Cert.QUpRefIdeal.τ).loc Cert.QUpRefIdeal.main_arg4)
          ∧ r.2.mem ((c.tc : Thread Cert.QUpRefIdeal.nD Cert.QUpRefIdeal.τ).loc Cert.QUpRefIdeal.main_arg5) = m' ((c.tc : Thread Cert.QUpRefIdeal.nD Cert.QUpRefIdeal.τ).loc Cert.QUpRefIdeal.main_arg5)
          ∧ r.2.mem ((c.tc : Thread Cert.QUpRefIdeal.nD Cert.QUpRefIdeal.τ).loc Cert.QUpRefIdeal.main_arg6) = m' ((c.tc : Thread Cert.QUpRefIdeal.nD Cert.QUpRefIdeal.τ).loc Cert.QUpRefIdeal.main_arg6))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)
      ∧ m' ((c.tc : Thread Cert.KvUpRefIdeal.nD Cert.KvUpRefIdeal.τ).loc Cert.KvUpRefIdeal.main_arg3) = m ((c.tc : Thread Cert.KvUpIdeal.nD Cert.KvUpIdeal.τ).loc Cert.KvUpIdeal.main_arg3)
      ∧ m' ((c.tc : Thread Cert.KvUpRefIdeal.nD Cert.KvUpRefIdeal.τ).loc Cert.KvUpRefIdeal.main_arg4) = m ((c.tc : Thread Cert.KvUpIdeal.nD Cert.KvUpIdeal.τ).loc Cert.KvUpIdeal.main_arg4)
      ∧ m' ((c.tc : Thread Cert.KvUpRefIdeal.nD Cert.KvUpRefIdeal.τ).loc Cert.KvUpRefIdeal.main_arg5) = m ((c.tc : Thread Cert.KvUpIdeal.nD Cert.KvUpIdeal.τ).loc Cert.KvUpIdeal.main_arg5)
      ∧ m' ((c.tc : Thread Cert.KvUpRefIdeal.nD Cert.KvUpRefIdeal.τ).loc Cert.KvUpRefIdeal.main_arg6) = m ((c.tc : Thread Cert.KvUpIdeal.nD Cert.KvUpIdeal.τ).loc Cert.KvUpIdeal.main_arg6)) →
    ∃ (v0 : (c : Dev Cert.KvUpIdeal.nD) → Buf (Elt Ideal) ((c.tc : Thread Cert.KvUpIdeal.nD Cert.KvUpIdeal.τ).loc Cert.KvUpIdeal.main_v7_0)) (v1 : (c : Dev Cert.KvUpIdeal.nD) → Buf (Elt Ideal) ((c.tc : Thread Cert.KvUpIdeal.nD Cert.KvUpIdeal.τ).loc Cert.KvUpIdeal.main_v7_1)) (v2 : (c : Dev Cert.KvUpIdeal.nD) → Buf (Elt Ideal) ((c.tc : Thread Cert.KvUpIdeal.nD Cert.KvUpIdeal.τ).loc Cert.KvUpIdeal.main_v7_2)) (v3 : (c : Dev Cert.KvUpIdeal.nD) → Buf (Elt Ideal) ((c.tc : Thread Cert.KvUpIdeal.nD Cert.KvUpIdeal.τ).loc Cert.KvUpIdeal.main_v7_3)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v7_0) = v0 c
          ∧ r.2.mem ((c.tc : Thread Cert.KvUpIdeal.nD Cert.KvUpIdeal.τ).loc Cert.KvUpIdeal.main_v7_1) = v1 c
          ∧ r.2.mem ((c.tc : Thread Cert.KvUpIdeal.nD Cert.KvUpIdeal.τ).loc Cert.KvUpIdeal.main_v7_2) = v2 c
          ∧ r.2.mem ((c.tc : Thread Cert.KvUpIdeal.nD Cert.KvUpIdeal.τ).loc Cert.KvUpIdeal.main_v7_3) = v3 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
          ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
          ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4)
          ∧ r.2.mem ((c.tc : Thread Cert.KvUpIdeal.nD Cert.KvUpIdeal.τ).loc Cert.KvUpIdeal.main_arg5) = m ((c.tc : Thread Cert.KvUpIdeal.nD Cert.KvUpIdeal.τ).loc Cert.KvUpIdeal.main_arg5)
          ∧ r.2.mem ((c.tc : Thread Cert.KvUpIdeal.nD Cert.KvUpIdeal.τ).loc Cert.KvUpIdeal.main_arg6) = m ((c.tc : Thread Cert.KvUpIdeal.nD Cert.KvUpIdeal.τ).loc Cert.KvUpIdeal.main_arg6))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v12) = v0 c
          ∧ r.2.mem ((c.tc : Thread Cert.KvUpRefIdeal.nD Cert.KvUpRefIdeal.τ).loc Cert.KvUpRefIdeal.main_v36) = v1 c
          ∧ r.2.mem ((c.tc : Thread Cert.KvUpRefIdeal.nD Cert.KvUpRefIdeal.τ).loc Cert.KvUpRefIdeal.main_v17) = v2 c
          ∧ r.2.mem ((c.tc : Thread Cert.KvUpRefIdeal.nD Cert.KvUpRefIdeal.τ).loc Cert.KvUpRefIdeal.main_v23) = v3 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2)
          ∧ r.2.mem ((c.tc : Thread Cert.KvUpRefIdeal.nD Cert.KvUpRefIdeal.τ).loc Cert.KvUpRefIdeal.main_arg3) = m' ((c.tc : Thread Cert.KvUpRefIdeal.nD Cert.KvUpRefIdeal.τ).loc Cert.KvUpRefIdeal.main_arg3)
          ∧ r.2.mem ((c.tc : Thread Cert.KvUpRefIdeal.nD Cert.KvUpRefIdeal.τ).loc Cert.KvUpRefIdeal.main_arg4) = m' ((c.tc : Thread Cert.KvUpRefIdeal.nD Cert.KvUpRefIdeal.τ).loc Cert.KvUpRefIdeal.main_arg4)
          ∧ r.2.mem ((c.tc : Thread Cert.KvUpRefIdeal.nD Cert.KvUpRefIdeal.τ).loc Cert.KvUpRefIdeal.main_arg5) = m' ((c.tc : Thread Cert.KvUpRefIdeal.nD Cert.KvUpRefIdeal.τ).loc Cert.KvUpRefIdeal.main_arg5)
          ∧ r.2.mem ((c.tc : Thread Cert.KvUpRefIdeal.nD Cert.KvUpRefIdeal.τ).loc Cert.KvUpRefIdeal.main_arg6) = m' ((c.tc : Thread Cert.KvUpRefIdeal.nD Cert.KvUpRefIdeal.τ).loc Cert.KvUpRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)) (v3 : (c : Dev Cert.FfnUpIdeal.nD) → Buf (Elt Ideal) ((c.tc : Thread Cert.FfnUpIdeal.nD Cert.FfnUpIdeal.τ).loc Cert.FfnUpIdeal.main_v7_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_v7_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v12) = v0 c
          ∧ r.2.mem ((c.tc : Thread Cert.FfnUpRefIdeal.nD Cert.FfnUpRefIdeal.τ).loc Cert.FfnUpRefIdeal.main_v36) = v1 c
          ∧ r.2.mem ((c.tc : Thread Cert.FfnUpRefIdeal.nD Cert.FfnUpRefIdeal.τ).loc Cert.FfnUpRefIdeal.main_v17) = v2 c
          ∧ r.2.mem ((c.tc : Thread Cert.FfnUpRefIdeal.nD Cert.FfnUpRefIdeal.τ).loc Cert.FfnUpRefIdeal.main_v23) = v3 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)) (v2 : (c : Dev Cert.FfnDownIdeal.nD) → Buf (Elt Ideal) ((c.tc : Thread Cert.FfnDownIdeal.nD Cert.FfnDownIdeal.τ).loc Cert.FfnDownIdeal.main_v7_2)) (v3 : (c : Dev Cert.FfnDownIdeal.nD) → Buf (Elt Ideal) ((c.tc : Thread Cert.FfnDownIdeal.nD Cert.FfnDownIdeal.τ).loc Cert.FfnDownIdeal.main_v7_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_v7_2) = v2 c
          ∧ r.2.mem ((c.tc : Thread Cert.FfnDownIdeal.nD Cert.FfnDownIdeal.τ).loc Cert.FfnDownIdeal.main_v7_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v12) = v0 c
          ∧ r.2.mem ((c.tc : Thread Cert.FfnDownRefIdeal.nD Cert.FfnDownRefIdeal.τ).loc Cert.FfnDownRefIdeal.main_v36) = v1 c
          ∧ r.2.mem ((c.tc : Thread Cert.FfnDownRefIdeal.nD Cert.FfnDownRefIdeal.τ).loc Cert.FfnDownRefIdeal.main_v17) = v2 c
          ∧ r.2.mem ((c.tc : Thread Cert.FfnDownRefIdeal.nD Cert.FfnDownRefIdeal.τ).loc Cert.FfnDownRefIdeal.main_v23) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hXat : Cert.Xat.Facts) (hXatIdeal : Cert.XatIdeal.Facts) (hXatRefIdeal : Cert.XatRefIdeal.Facts) (hFfn : Cert.Ffn.Facts) (hFfnIdeal : Cert.FfnIdeal.Facts) (hFfnRefIdeal : Cert.FfnRefIdeal.Facts) (hDa : Cert.Da.Facts) (hDaIdeal : Cert.DaIdeal.Facts) (hDaRefIdeal : Cert.DaRefIdeal.Facts) (hDw : Cert.Dw.Facts) (hDwIdeal : Cert.DwIdeal.Facts) (hDwRefIdeal : Cert.DwRefIdeal.Facts) (hOut : Cert.Out.Facts) (hOutIdeal : Cert.OutIdeal.Facts) (hOutRefIdeal : Cert.OutRefIdeal.Facts) (hLin : Cert.Lin.Facts) (hLinIdeal : Cert.LinIdeal.Facts) (hLinRefIdeal : Cert.LinRefIdeal.Facts) (hNorms : Cert.Norms.Facts) (hNormsIdeal : Cert.NormsIdeal.Facts) (hNormsRefIdeal : Cert.NormsRefIdeal.Facts) (hHeads : Cert.Heads.Facts) (hHeadsIdeal : Cert.HeadsIdeal.Facts) (hHeadsRefIdeal : Cert.HeadsRefIdeal.Facts) (hHeadNorm : Cert.HeadNorm.Facts) (hHeadNormIdeal : Cert.HeadNormIdeal.Facts) (hHeadNormRefIdeal : Cert.HeadNormRefIdeal.Facts) (hQNorm : Cert.QNorm.Facts) (hQNormIdeal : Cert.QNormIdeal.Facts) (hQNormRefIdeal : Cert.QNormRefIdeal.Facts) (hKvNorm : Cert.KvNorm.Facts) (hKvNormIdeal : Cert.KvNormIdeal.Facts) (hKvNormRefIdeal : Cert.KvNormRefIdeal.Facts) (hEndNorm : Cert.EndNorm.Facts) (hEndNormIdeal : Cert.EndNormIdeal.Facts) (hEndNormRefIdeal : Cert.EndNormRefIdeal.Facts) (hBias : Cert.Bias.Facts) (hBiasIdeal : Cert.BiasIdeal.Facts) (hBiasRefIdeal : Cert.BiasRefIdeal.Facts) (hConv : Cert.Conv.Facts) (hConvIdeal : Cert.ConvIdeal.Facts) (hConvRefIdeal : Cert.ConvRefIdeal.Facts) (hFfnConv : Cert.FfnConv.Facts) (hFfnConvIdeal : Cert.FfnConvIdeal.Facts) (hFfnConvRefIdeal : Cert.FfnConvRefIdeal.Facts) (hSquare : Cert.Square.Facts) (hSquareIdeal : Cert.SquareIdeal.Facts) (hSquareRefIdeal : Cert.SquareRefIdeal.Facts) (hWIn : Cert.WIn.Facts) (hWInIdeal : Cert.WInIdeal.Facts) (hWInRefIdeal : Cert.WInRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hLoss : Cert.Loss.Facts) (hLossIdeal : Cert.LossIdeal.Facts) (hLossRefIdeal : Cert.LossRefIdeal.Facts) (hPre_xat_finite : Cert.Pre_xat_finite.Facts),
    quiescent_Xat (hXat := hXat)
    ∧ quiescent_XatIdeal (hXatIdeal := hXatIdeal)
    ∧ quiescent_XatIdeal_pre_xat_finite (hXatIdeal := hXatIdeal) (hPre_xat_finite := hPre_xat_finite)
    ∧ quiescent_XatRefIdeal (hXatRefIdeal := hXatRefIdeal)
    ∧ quiescent_XatRefIdeal_pre_xat_finite (hXatRefIdeal := hXatRefIdeal) (hPre_xat_finite := hPre_xat_finite)
    ∧ quiescent_Ffn (hFfn := hFfn)
    ∧ quiescent_FfnIdeal (hFfnIdeal := hFfnIdeal)
    ∧ quiescent_FfnRefIdeal (hFfnRefIdeal := hFfnRefIdeal)
    ∧ quiescent_Da (hDa := hDa)
    ∧ quiescent_DaIdeal (hDaIdeal := hDaIdeal)
    ∧ quiescent_DaRefIdeal (hDaRefIdeal := hDaRefIdeal)
    ∧ quiescent_Dw (hDw := hDw)
    ∧ quiescent_DwIdeal (hDwIdeal := hDwIdeal)
    ∧ quiescent_DwRefIdeal (hDwRefIdeal := hDwRefIdeal)
    ∧ quiescent_Out (hOut := hOut)
    ∧ quiescent_OutIdeal (hOutIdeal := hOutIdeal)
    ∧ quiescent_OutRefIdeal (hOutRefIdeal := hOutRefIdeal)
    ∧ quiescent_Lin (hLin := hLin)
    ∧ quiescent_LinIdeal (hLinIdeal := hLinIdeal)
    ∧ quiescent_LinRefIdeal (hLinRefIdeal := hLinRefIdeal)
    ∧ quiescent_Norms (hNorms := hNorms)
    ∧ quiescent_NormsIdeal (hNormsIdeal := hNormsIdeal)
    ∧ quiescent_NormsRefIdeal (hNormsRefIdeal := hNormsRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_HeadNorm (hHeadNorm := hHeadNorm)
    ∧ quiescent_HeadNormIdeal (hHeadNormIdeal := hHeadNormIdeal)
    ∧ quiescent_HeadNormRefIdeal (hHeadNormRefIdeal := hHeadNormRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_EndNorm (hEndNorm := hEndNorm)
    ∧ quiescent_EndNormIdeal (hEndNormIdeal := hEndNormIdeal)
    ∧ quiescent_EndNormRefIdeal (hEndNormRefIdeal := hEndNormRefIdeal)
    ∧ quiescent_Bias (hBias := hBias)
    ∧ quiescent_BiasIdeal (hBiasIdeal := hBiasIdeal)
    ∧ quiescent_BiasRefIdeal (hBiasRefIdeal := hBiasRefIdeal)
    ∧ quiescent_Conv (hConv := hConv)
    ∧ quiescent_ConvIdeal (hConvIdeal := hConvIdeal)
    ∧ quiescent_ConvRefIdeal (hConvRefIdeal := hConvRefIdeal)
    ∧ quiescent_FfnConv (hFfnConv := hFfnConv)
    ∧ quiescent_FfnConvIdeal (hFfnConvIdeal := hFfnConvIdeal)
    ∧ quiescent_FfnConvRefIdeal (hFfnConvRefIdeal := hFfnConvRefIdeal)
    ∧ quiescent_Square (hSquare := hSquare)
    ∧ quiescent_SquareIdeal (hSquareIdeal := hSquareIdeal)
    ∧ quiescent_SquareRefIdeal (hSquareRefIdeal := hSquareRefIdeal)
    ∧ quiescent_WIn (hWIn := hWIn)
    ∧ quiescent_WInIdeal (hWInIdeal := hWInIdeal)
    ∧ quiescent_WInRefIdeal (hWInRefIdeal := hWInRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Loss (hLoss := hLoss)
    ∧ quiescent_LossIdeal (hLossIdeal := hLossIdeal)
    ∧ quiescent_LossRefIdeal (hLossRefIdeal := hLossRefIdeal)
    ∧ preserves_Xat_XatIdeal
    ∧ algebraic_XatIdeal_XatRefIdeal_pre_xat_finite (hXatIdeal := hXatIdeal) (hXatRefIdeal := hXatRefIdeal) (hPre_xat_finite := hPre_xat_finite)
    ∧ preserves_Ffn_FfnIdeal
    ∧ algebraic_FfnIdeal_FfnRefIdeal (hFfnIdeal := hFfnIdeal) (hFfnRefIdeal := hFfnRefIdeal)
    ∧ preserves_Da_DaIdeal
    ∧ algebraic_DaIdeal_DaRefIdeal (hDaIdeal := hDaIdeal) (hDaRefIdeal := hDaRefIdeal)
    ∧ preserves_Dw_DwIdeal
    ∧ algebraic_DwIdeal_DwRefIdeal (hDwIdeal := hDwIdeal) (hDwRefIdeal := hDwRefIdeal)
    ∧ preserves_Out_OutIdeal
    ∧ algebraic_OutIdeal_OutRefIdeal (hOutIdeal := hOutIdeal) (hOutRefIdeal := hOutRefIdeal)
    ∧ preserves_Lin_LinIdeal
    ∧ algebraic_LinIdeal_LinRefIdeal (hLinIdeal := hLinIdeal) (hLinRefIdeal := hLinRefIdeal)
    ∧ preserves_Norms_NormsIdeal
    ∧ algebraic_NormsIdeal_NormsRefIdeal (hNormsIdeal := hNormsIdeal) (hNormsRefIdeal := hNormsRefIdeal)
    ∧ preserves_Heads_HeadsIdeal
    ∧ algebraic_HeadsIdeal_HeadsRefIdeal (hHeadsIdeal := hHeadsIdeal) (hHeadsRefIdeal := hHeadsRefIdeal)
    ∧ preserves_HeadNorm_HeadNormIdeal
    ∧ algebraic_HeadNormIdeal_HeadNormRefIdeal (hHeadNormIdeal := hHeadNormIdeal) (hHeadNormRefIdeal := hHeadNormRefIdeal)
    ∧ preserves_QNorm_QNormIdeal
    ∧ algebraic_QNormIdeal_QNormRefIdeal (hQNormIdeal := hQNormIdeal) (hQNormRefIdeal := hQNormRefIdeal)
    ∧ preserves_KvNorm_KvNormIdeal
    ∧ algebraic_KvNormIdeal_KvNormRefIdeal (hKvNormIdeal := hKvNormIdeal) (hKvNormRefIdeal := hKvNormRefIdeal)
    ∧ preserves_EndNorm_EndNormIdeal
    ∧ algebraic_EndNormIdeal_EndNormRefIdeal (hEndNormIdeal := hEndNormIdeal) (hEndNormRefIdeal := hEndNormRefIdeal)
    ∧ preserves_Bias_BiasIdeal
    ∧ algebraic_BiasIdeal_BiasRefIdeal (hBiasIdeal := hBiasIdeal) (hBiasRefIdeal := hBiasRefIdeal)
    ∧ preserves_Conv_ConvIdeal
    ∧ algebraic_ConvIdeal_ConvRefIdeal (hConvIdeal := hConvIdeal) (hConvRefIdeal := hConvRefIdeal)
    ∧ preserves_FfnConv_FfnConvIdeal
    ∧ algebraic_FfnConvIdeal_FfnConvRefIdeal (hFfnConvIdeal := hFfnConvIdeal) (hFfnConvRefIdeal := hFfnConvRefIdeal)
    ∧ preserves_Square_SquareIdeal
    ∧ algebraic_SquareIdeal_SquareRefIdeal (hSquareIdeal := hSquareIdeal) (hSquareRefIdeal := hSquareRefIdeal)
    ∧ preserves_WIn_WInIdeal
    ∧ algebraic_WInIdeal_WInRefIdeal (hWInIdeal := hWInIdeal) (hWInRefIdeal := hWInRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Loss_LossIdeal
    ∧ algebraic_LossIdeal_LossRefIdeal (hLossIdeal := hLossIdeal) (hLossRefIdeal := hLossRefIdeal)
-- ==== Pre_xat_finite.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  bcast_S_S256x2048 : S_.BroadcastsInDim S256x2048 (![] : Fin 0 → Fin S256x2048.rank)
  bitsLt_bf16_f32 : FTy.bits .bf16 < FTy.bits .f32

variable [Facts]

def fn_part1 {F : FTy → Type} [FloatOps F] (main_v4 : IVec S2048x2048 1) (main_v9 : IVec S256x2048 1) (main_v14 : IVec S256x2048 1) (main_v15 : FVec F S2048x2048 .f32) (main_v16 : FVec F S2048x2048 .f32) : IVec S2048x2048 1 × IVec S256x2048 1 × IVec S256x2048 1 × IVec S2048x2048 1 :=
  let main_v17 : IVec S2048x2048 1 := cmpf .ogt main_v15 main_v16
  let main_cst_6 : FVec F S_ .f32 := constant S_ .f32 0x7F800000#32
  let main_v18 : FVec F S2048x2048 .f32 := broadcastInDim S2048x2048 ![] bcast_S_S2048x2048 main_cst_6
  let main_v19 : IVec S2048x2048 1 := cmpf .olt main_v15 main_v18
  let main_v20 : IVec S2048x2048 1 := andi main_v17 main_v19
  (main_v4, main_v9, main_v14, main_v20)

def fn {F : FTy → Type} [FloatOps F] (main_arg0 : FVec F S2048x2048 .f32) (main_arg1 : FVec F S256x2048 .f32) (main_arg2 : FVec F S256x2048 .f32) (main_arg3 : FVec F S2048x2048 .bf16) : IVec S2048x2048 1 × IVec S256x2048 1 × IVec S256x2048 1 × IVec S2048x2048 1 :=
  let main_cst : FVec F S_ .f32 := constant S_ .f32 0xFF800000#32
  let main_v0 : FVec F S2048x2048 .f32 := broadcastInDim S2048x2048 ![] bcast_S_S2048x2048 main_cst
  let main_v1 : IVec S2048x2048 1 := cmpf .ogt main_arg0 main_v0
  let main_cst_0 : FVec F S_ .f32 := constant S_ .f32 0x7F800000#32
  let main_v2 : FVec F S2048x2048 .f32 := broadcastInDim S2048x2048 ![] bcast_S_S2048x2048 main_cst_0
  let main_v3 : IVec S2048x2048 1 := cmpf .olt main_arg0 main_v2
  let main_v4 : IVec S2048x2048 1 := andi main_v1 main_v3
  let main_cst_1 : FVec F S_ .f32 := constant S_ .f32 0xFF800000#32
  let main_v5 : FVec F S256x2048 .f32 := broadcastInDim S256x2048 ![] bcast_S_S256x2048 main_cst_1
  let main_v6 : IVec S256x2048 1 := cmpf .ogt main_arg1 main_v5
  let main_cst_2 : FVec F S_ .f32 := constant S_ .f32 0x7F800000#32
  let main_v7 : FVec F S256x2048 .f32 := broadcastInDim S256x2048 ![] bcast_S_S256x2048 main_cst_2
  let main_v8 : IVec S256x2048 1 := cmpf .olt main_arg1 main_v7
  let main_v9 : IVec S256x2048 1 := andi main_v6 main_v8
  let main_cst_3 : FVec F S_ .f32 := constant S_ .f32 0xFF800000#32
  let main_v10 : FVec F S256x2048 .f32 := broadcastInDim S256x2048 ![] bcast_S_S256x2048 main_cst_3
  let main_v11 : IVec S256x2048 1 := cmpf .ogt main_arg2 main_v10
  let main_cst_4 : FVec F S_ .f32 := constant S_ .f32 0x7F800000#32
  let main_v12 : FVec F S256x2048 .f32 := broadcastInDim S256x2048 ![] bcast_S_S256x2048 main_cst_4
  let main_v13 : IVec S256x2048 1 := cmpf .olt main_arg2 main_v12
  let main_v14 : IVec S256x2048 1 := andi main_v11 main_v13
  let main_v15 : FVec F S2048x2048 .f32 := (extf .f32 · bitsLt_bf16_f32) main_arg3
  let main_cst_5 : FVec F S_ .f32 := constant S_ .f32 0xFF800000#32
  let main_v16 : FVec F S2048x2048 .f32 := broadcastInDim S2048x2048 ![] bcast_S_S2048x2048 main_cst_5
  fn_part1 (F := F) main_v4 main_v9 main_v14 main_v15 main_v16
-- ==== Xat.lean ====
abbrev S2048x2048 : Shape := ⟨2, ![2048, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .bf16⟩
  | .hbm, ⟨4, _⟩ => ⟨S2048x2048, .f32⟩
  | .hbm, ⟨5, _⟩ => ⟨S256x2048, .f32⟩
  | .hbm, ⟨6, _⟩ => ⟨S256x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XatRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 82
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .bf16⟩
  | .hbm, ⟨4, _⟩ => ⟨S2048x4x512, .f32⟩
  | .hbm, ⟨5, _⟩ => ⟨S256x4x512, .f32⟩
  | .hbm, ⟨6, _⟩ => ⟨S256x4x512, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x512x2048, .f32⟩
  | .hbm, ⟨50, _⟩ => ⟨S2048x4x512, .f32⟩
  | .hbm, ⟨51, _⟩ => ⟨S2048x2048, .f32⟩
  | .hbm, ⟨52, _⟩ => ⟨S2048x2048, .f32⟩
  | .hbm, ⟨53, _⟩ => ⟨S2048x4x512, .f32⟩
  | .hbm, ⟨54, _⟩ => ⟨S4x512x2048, .f32⟩
  | .hbm, ⟨55, _⟩ => ⟨S4x2048x256, .f32⟩
  | .hbm, ⟨56, _⟩ => ⟨S4x512x256, .f32⟩
  | .hbm, ⟨57, _⟩ => ⟨S256x4x512, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1, .f32⟩
  | .hbm, ⟨65, _⟩ => ⟨S4x2048x256, .f32⟩
  | .hbm, ⟨66, _⟩ => ⟨S4x2048x256, .f32⟩
  | .hbm, ⟨67, _⟩ => ⟨S_, .f32⟩
  | .hbm, ⟨68, _⟩ => ⟨S4x2048, .f32⟩
  | .hbm, ⟨69, _⟩ => ⟨S4x2048x256, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048x256, .f32⟩
  | .hbm, ⟨74, _⟩ => ⟨S4x2048x256, .f32⟩
  | .hbm, ⟨75, _⟩ => ⟨S4x256x512, .f32⟩
  | .hbm, ⟨76, _⟩ => ⟨S256x4x512, .f32⟩
  | .hbm, ⟨77, _⟩ => ⟨S4x2048x512, .f32⟩
  | .hbm, ⟨78, _⟩ => ⟨S2048x4x512, .f32⟩
  | .hbm, ⟨79, _⟩ => ⟨S256x2048, .f32⟩
  | .hbm, ⟨80, _⟩ => ⟨S256x2048, .f32⟩
  | .hbm, ⟨81, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Ffn.lean ====
abbrev S2048x2048 : Shape := ⟨2, ![2048, 2048]⟩
abbrev S8x2048x1408 : Shape := ⟨3, ![8, 2048, 1408]⟩
abbrev S8x3x1408 : Shape := ⟨3, ![8, 3, 1408]⟩
abbrev S8x704x2048 : Shape := ⟨3, ![8, 704, 2048]⟩
abbrev S2048 : Shape := ⟨1, ![2048]⟩
abbrev S11264 : Shape := ⟨1, ![11264]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩
abbrev S2x4x2048x1408 : Shape := ⟨4, ![2, 4, 2048, 1408]⟩
abbrev S2x4x3x1408 : Shape := ⟨4, ![2, 4, 3, 1408]⟩
abbrev S2x4x1x1408 : Shape := ⟨4, ![2, 4, 1, 1408]⟩
abbrev S2048x5632 : Shape := ⟨2, ![2048, 5632]⟩
abbrev S2x1x2048x128 : Shape := ⟨4, ![2, 1, 2048, 128]⟩
abbrev S2x1x3x128 : Shape := ⟨4, ![2, 1, 3, 128]⟩
abbrev S2x1x1x128 : Shape := ⟨4, ![2, 1, 1, 128]⟩
abbrev S2048x128 : Shape := ⟨2, ![2048, 128]⟩
abbrev S1x1x2048x128 : Shape := ⟨4, ![1, 1, 2048, 128]⟩
abbrev S1x1x3x128 : Shape := ⟨4, ![1, 1, 3, 128]⟩
abbrev S3x128 : Shape := ⟨2, ![3, 128]⟩
abbrev S1x1x1x128 : Shape := ⟨4, ![1, 1, 1, 128]⟩
abbrev S1x128 : Shape := ⟨2, ![1, 128]⟩
abbrev S5632x2048 : Shape := ⟨2, ![5632, 2048]⟩
abbrev S1024x5632 : Shape := ⟨2, ![1024, 5632]⟩
abbrev S5632x256 : Shape := ⟨2, ![5632, 256]⟩
abbrev S1024x256 : Shape := ⟨2, ![1024, 256]⟩
abbrev S512x2048 : Shape := ⟨2, ![512, 2048]⟩
abbrev S2048x512 : Shape := ⟨2, ![2048, 512]⟩
abbrev S128 : Shape := ⟨1, ![128]⟩
abbrev S2x128 : Shape := ⟨2, ![2, 128]⟩
abbrev S2048x1024 : Shape := ⟨2, ![2048, 1024]⟩

abbrev nBuf : Space → Nat
  | .hbm => 26
  | .vmem => 57
  | .smem => 0
  | _ => 0

abbrev bufTy : (tb : Table) → Fin (tcTables nBuf tb) → BufTy
  | .hbm, ⟨0, _⟩ => ⟨S2048x2048, .f32⟩
  | .hbm, ⟨1, _⟩ => ⟨S8x2048x1408, .bf16⟩
  | .hbm, ⟨2, _⟩ => ⟨S8x3x1408, .f32⟩
  | .hbm, ⟨3, _⟩ => ⟨S8x704x2048, .bf16⟩
  | .hbm, ⟨4, _⟩ => ⟨S2048, .f32⟩
  | .hbm, ⟨5, _⟩ => ⟨S11264, .f32⟩
  | .hbm, ⟨6, _⟩ => ⟨S2048x2048, .f32⟩
  | .hbm, ⟨7, _⟩ => ⟨S1x2048, .f32⟩
  | .hbm, ⟨8, _⟩ => ⟨S2048x2048, .bf16⟩
  | .hbm, ⟨9, _⟩ => ⟨S8x2048x1408, .f32⟩
  | .hbm, ⟨10, _⟩ => ⟨S2x4x2048x1408, .f32⟩
  | .hbm, ⟨11, _⟩ => ⟨S2x4x3x1408, .f32⟩
  | .hbm, ⟨12, _⟩ => ⟨S2x4x1x1408, .f32⟩
  | .hbm, ⟨13, _⟩ => ⟨S2048x5632, .bf16⟩
  | .hbm, ⟨14, _⟩ => ⟨S5632x2048, .bf16⟩
  | .hbm, ⟨15, _⟩ => ⟨S2048x2048, .f32⟩
  | .hbm, ⟨16, _⟩ => ⟨S2048x2048, .bf16⟩
  | .hbm, ⟨17, _⟩ => ⟨S2048x5632, .bf16⟩
  | .hbm, ⟨18, _⟩ => ⟨S5632x2048, .bf16⟩
  | .hbm, ⟨19, _⟩ => ⟨S2x4x2048x1408, .bf16⟩
  | .hbm, ⟨20, _⟩ => ⟨S2x4x3x1408, .f32⟩
  | .hbm, ⟨21, _⟩ => ⟨S2x4x1x1408, .f32⟩
  | .hbm, ⟨22, _⟩ => ⟨S8x2048x1408, .bf16⟩
  | .hbm, ⟨23, _⟩ => ⟨S8x2048x1408, .bf16⟩
  | .hbm, ⟨24, _⟩ => ⟨S8x3x1408, .f32⟩
  | .hbm, ⟨25, _⟩ => ⟨S11264, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x1408, .bf16⟩
  | .local _ .vmem, ⟨8, _⟩ => ⟨S1x2048x1408, .bf16⟩
  | .local _ .vmem, ⟨9, _⟩ => ⟨S1x1024x1408, .f32⟩
  | .local _ .vmem, ⟨10, _⟩ => ⟨S1x1024x1408, .f32⟩
  | .local _ .vmem, ⟨11, _⟩ => ⟨S2x1x2048x128, .f32⟩
  | .local _ .vmem, ⟨12, _⟩ => ⟨S2x1x2048x128, .f32⟩
  | .local _ .vmem, ⟨13, _⟩ => ⟨S2x1x3x128, .f32⟩
  | .local _ .vmem, ⟨14, _⟩ => ⟨S2x1x3x128, .f32⟩
  | .local _ .vmem, ⟨15, _⟩ => ⟨S2x1x1x128, .f32⟩
  | .local _ .vmem, ⟨16, _⟩ => ⟨S2x1x1x128, .f32⟩
  | .local _ .vmem, ⟨17, _⟩ => ⟨S2048x128, .bf16⟩
  | .local _ .vmem, ⟨18, _⟩ => ⟨S2048x128, .bf16⟩
  | .local _ .vmem, ⟨19, _⟩ => ⟨S1024x5632, .bf16⟩
  | .local _ .vmem, ⟨20, _⟩ => ⟨S1024x5632, .bf16⟩
  | .local _ .vmem, ⟨21, _⟩ => ⟨S5632x256, .bf16⟩
  | .local _ .vmem, ⟨22, _⟩ => ⟨S5632x256, .bf16⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S2048x2048, .bf16⟩
  | .local _ .vmem, ⟨28, _⟩ => ⟨S512x2048, .bf16⟩
  | .local _ .vmem, ⟨29, _⟩ => ⟨S512x2048, .bf16⟩
  | .local _ .vmem, ⟨30, _⟩ => ⟨S2048x512, .bf16⟩
  | .local _ .vmem, ⟨31, _⟩ => ⟨S2048x512, .bf16⟩
  | .local _ .vmem, ⟨32, _⟩ => ⟨S2048x512, .bf16⟩
  | .local _ .vmem, ⟨33, _⟩ => ⟨S2048x512, .bf16⟩
  | .local _ .vmem, ⟨34, _⟩ => ⟨S2048x2048, .bf16⟩
  | .local _ .vmem, ⟨35, _⟩ => ⟨S512x2048, .bf16⟩
  | .local _ .vmem, ⟨36, _⟩ => ⟨S512x2048, .bf16⟩
  | .local _ .vmem, ⟨37, _⟩ => ⟨S2x1x2048x128, .f32⟩
  | .local _ .vmem, ⟨38, _⟩ => ⟨S2x1x2048x128, .f32⟩
  | .local _ .vmem, ⟨39, _⟩ => ⟨S2x1x3x128, .f32⟩
  | .local _ .vmem, ⟨40, _⟩ => ⟨S2x1x3x128, .f32⟩
  | .local _ .vmem, ⟨41, _⟩ => ⟨S2x1x1x128, .f32⟩
  | .local _ .vmem, ⟨42, _⟩ => ⟨S2x1x1x128, .f32⟩
  | .local _ .vmem, ⟨43, _⟩ => ⟨S2048x128, .bf16⟩
  | .local _ .vmem, ⟨44, _⟩ => ⟨S2048x128, .bf16⟩
  | .local _ .vmem, ⟨45, _⟩ => ⟨S2x1x2048x128, .bf16⟩
  | .local _ .vmem, ⟨46, _⟩ => ⟨S2x1x2048x128, .bf16⟩
  | .local _ .vmem, ⟨47, _⟩ => ⟨S2x1x3x128, .f32⟩
  | .local _ .vmem, ⟨48, _⟩ => ⟨S2x1x3x128, .f32⟩
  | .local _ .vmem, ⟨49, _⟩ => ⟨S2x1x1x128, .f32⟩
  | .local _ .vmem, ⟨50, _⟩ => ⟨S2x1x1x128, .f32⟩
  | .local _ .vmem, ⟨51, _⟩ => ⟨S2048x1024, .bf16⟩
  | .local _ .vmem, ⟨52, _⟩ => ⟨S2048x1024, .bf16⟩
  | .local _ .vmem, ⟨53, _⟩ => ⟨S1x2048x1408, .bf16⟩
  | .local _ .vmem, ⟨54, _⟩ => ⟨S1x2048x1408, .bf16⟩
  | .local _ .vmem, ⟨55, _⟩ => ⟨S1x1024x1408, .bf16⟩
  | .local _ .vmem, ⟨56, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg3_1 : Ref sig .tc := ⟨.vmem, 44, rfl⟩
abbrev cc6_stg4_0 : Ref sig .tc := ⟨.vmem, 45, rfl⟩
abbrev cc6_stg4_1 : Ref sig .tc := ⟨.vmem, 46, rfl⟩
abbrev cc6_stg5_0 : Ref sig .tc := ⟨.vmem, 47, rfl⟩
abbrev cc6_stg5_1 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc6_sem3_0 : DmaSem sig := 43
abbrev cc6_sem3_1 : DmaSem sig := 44
abbrev cc6_sem4_0 : DmaSem sig := 45
abbrev cc6_sem4_1 : DmaSem sig := 46
abbrev cc6_sem5_0 : DmaSem sig := 47
abbrev cc6_sem5_1 : DmaSem sig := 48
abbrev cc6_sem6_0 : DmaSem sig := 49
abbrev cc6_sem6_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 11], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc2_transform_3 (i : grid2.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![c0_i32.toNat, v1.toNat]

abbrev stage2_0 : Fin 2 → Memref sig .tc .vmem S2x1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2x1x3x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2x1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S5632x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![11, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S512x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![4, 11], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc6_transform_2 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc6_transform_3 (i : grid6.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![c0_i32.toNat, v1.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc6_transform_5 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc6_transform_6 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage6_0 : Fin 2 → Memref sig .tc .vmem S2x1x2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2x1x3x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S2x1x1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S2048x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S2x1x2048x128 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S2x1x3x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S2x1x1x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev grid7 : Pipeline.Grid := ⟨3, ![8, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 2 → Memref sig .tc .vmem S1x2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S1x1024x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== FfnRefIdeal.lean ====
abbrev S2048x2048 : Shape := ⟨2, ![2048, 2048]⟩
abbrev S8x2048x1408 : Shape := ⟨3, ![8, 2048, 1408]⟩
abbrev S8x3x1408 : Shape := ⟨3, ![8, 3, 1408]⟩
abbrev S8x704x2048 : Shape := ⟨3, ![8, 704, 2048]⟩
abbrev S2048 : Shape := ⟨1, ![2048]⟩
abbrev S11264 : Shape := ⟨1, ![11264]⟩
abbrev S5632x2048 : Shape := ⟨2, ![5632, 2048]⟩
abbrev S_ : Shape := ⟨0, ![]⟩
abbrev S2048x1 : Shape := ⟨2, ![2048, 1]⟩
abbrev S1x2048 : Shape := ⟨2, ![1, 2048]⟩
abbrev S2048x8x1408 : Shape := ⟨3, ![2048, 8, 1408]⟩
abbrev S2048x11264 : Shape := ⟨2, ![2048, 11264]⟩
abbrev S3x8x1408 : Shape := ⟨3, ![3, 8, 1408]⟩
abbrev S3x11264 : Shape := ⟨2, ![3, 11264]⟩
abbrev S2x11264 : Shape := ⟨2, ![2, 11264]⟩
abbrev S2050x11264 : Shape := ⟨2, ![2050, 11264]⟩
abbrev S1x11264 : Shape := ⟨2, ![1, 11264]⟩
abbrev S2048x5632 : Shape := ⟨2, ![2048, 5632]⟩
abbrev S11264x2048 : Shape := ⟨2, ![11264, 2048]⟩

abbrev nBuf : Space → Nat
  | .hbm => 133
  | .vmem => 0
  | .smem => 0
  | _ => 0

abbrev hbmTy0_0 (i : Nat) : BufTy := match i % 128 with
  | 0 => ⟨S2048x2048, .f32⟩
  | 1 => ⟨S8x2048x1408, .bf16⟩
  | 2 => ⟨S8x3x1408, .f32⟩
  | 3 => ⟨S8x704x2048, .bf16⟩
  | 4 => ⟨S2048, .f32⟩
  | 5 => ⟨S11264, .f32⟩
  | 6 => ⟨S2048x2048, .f32⟩
  | 7 => ⟨S8x2048x1408, .f32⟩
  | 8 => ⟨S5632x2048, .bf16⟩
  | 9 => ⟨S5632x2048, .f32⟩
  | 10 => ⟨S2048x2048, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x2048, .f32⟩
  | 22 => ⟨S2048x2048, .f32⟩
  | 23 => ⟨S1x2048, .f32⟩
  | 24 => ⟨S2048x2048, .f32⟩
  | 25 => ⟨S2048x2048, .f32⟩
  | 26 => ⟨S2048x8x1408, .f32⟩
  | 27 => ⟨S2048x11264, .f32⟩
  | 28 => ⟨S2048x11264, .f32⟩
  | 29 => ⟨S3x8x1408, .f32⟩
  | 30 => ⟨S3x11264, .f32⟩
  | 31 => ⟨S_, .f32⟩
  | 32 => ⟨S2x11264, .f32⟩
  | 33 => ⟨S2050x11264, .f32⟩
  | 34 => ⟨S_, .f32⟩
  | 35 => ⟨S2x11264, .f32⟩
  | 36 => ⟨S2048x11264, .f32⟩
  | 37 => ⟨S1x11264, .f32⟩
  | 38 => ⟨S2048x11264, .f32⟩
  | 39 => ⟨S2048x11264, .f32⟩
  | 40 => ⟨S_, .f32⟩
  | 41 => ⟨S2048x11264, .f32⟩
  | 42 => ⟨S2048x11264, .f32⟩
  | 43 => ⟨S2048x11264, .f32⟩
  | 44 => ⟨S1x11264, .f32⟩
  | 45 => ⟨S2048x11264, .f32⟩
  | 46 => ⟨S2048x11264, .f32⟩
  | 47 => ⟨S2048x11264, .f32⟩
  | 48 => ⟨S2048x11264, .f32⟩
  | 49 => ⟨S1x11264, .f32⟩
  | 50 => ⟨S2048x11264, .f32⟩
  | 51 => ⟨S2048x11264, .f32⟩
  | 52 => ⟨S2048x11264, .f32⟩
  | 53 => ⟨S1x11264, .f32⟩
  | 54 => ⟨S2048x11264, .f32⟩
  | 55 => ⟨S2048x11264, .f32⟩
  | 56 => ⟨S2048x5632, .f32⟩
  | 57 => ⟨S2048x5632, .f32⟩
  | 58 => ⟨S2048x5632, .f32⟩
  | 59 => ⟨S2048x5632, .f32⟩
  | 60 => ⟨S_, .f32⟩
  | 61 => ⟨S2048x5632, .f32⟩
  | 62 => ⟨S2048x5632, .f32⟩
  | 63 => ⟨S_, .f32⟩
  | 64 => ⟨S2048x5632, .f32⟩
  | 65 => ⟨S2048x5632, .f32⟩
  | 66 => ⟨S_, .f32⟩
  | 67 => ⟨S2048x5632, .f32⟩
  | 68 => ⟨S2048x5632, .f32⟩
  | 69 => ⟨S2048x5632, .f32⟩
  | 70 => ⟨S2048x5632, .f32⟩
  | 71 => ⟨S2048x5632, .f32⟩
  | 72 => ⟨S2048x2048, .f32⟩
  | 73 => ⟨S2048x2048, .f32⟩
  | 74 => ⟨S2048x5632, .f32⟩
  | 75 => ⟨S5632x2048, .f32⟩
  | 76 => ⟨S2048x5632, .f32⟩
  | 77 => ⟨S2048x5632, .f32⟩
  | 78 => ⟨S2048x5632, .f32⟩
  | 79 => ⟨S2048x5632, .f32⟩
  | 80 => ⟨S2048x5632, .f32⟩
  | 81 => ⟨S2048x5632, .f32⟩
  | 82 => ⟨S2048x5632, .f32⟩
  | 83 => ⟨S2048x11264, .f32⟩
  | 84 => ⟨S_, .f32⟩
  | 85 => ⟨S11264, .f32⟩
  | 86 => ⟨S1x11264, .f32⟩
  | 87 => ⟨S_, .f32⟩
  | 88 => ⟨S11264, .f32⟩
  | 89 => ⟨S2048x11264, .f32⟩
  | 90 => ⟨S_, .f32⟩
  | 91 => ⟨S11264, .f32⟩
  | 92 => ⟨S1x11264, .f32⟩
  | 93 => ⟨S2048x11264, .f32⟩
  | 94 => ⟨S2048x11264, .f32⟩
  | 95 => ⟨S_, .f32⟩
  | 96 => ⟨S3x11264, .f32⟩
  | 97 => ⟨S_, .f32⟩
  | 98 => ⟨S2050x11264, .f32⟩
  | 99 => ⟨S2048x11264, .f32⟩
  | 100 => ⟨S_, .f32⟩
  | 101 => ⟨S11264, .f32⟩
  | 102 => ⟨S1x11264, .f32⟩
  | 103 => ⟨S2048x11264, .f32⟩
  | 104 => ⟨S2048x11264, .f32⟩
  | 105 => ⟨S_, .f32⟩
  | 106 => ⟨S3x11264, .f32⟩
  | 107 => ⟨S3x11264, .f32⟩
  | 108 => ⟨S_, .f32⟩
  | 109 => ⟨S2050x11264, .f32⟩
  | 110 => ⟨S2050x11264, .f32⟩
  | 111 => ⟨S2048x11264, .f32⟩
  | 112 => ⟨S_, .f32⟩
  | 113 => ⟨S11264, .f32⟩
  | 114 => ⟨S1x11264, .f32⟩
  | 115 => ⟨S2048x11264, .f32⟩
  | 116 => ⟨S2048x11264, .f32⟩
  | 117 => ⟨S_, .f32⟩
  | 118 => ⟨S3x11264, .f32⟩
  | 119 => ⟨S3x11264, .f32⟩
  | 120 => ⟨S_, .f32⟩
  | 121 => ⟨S2050x11264, .f32⟩
  | 122 => ⟨S2050x11264, .f32⟩
  | 123 => ⟨S2x11264, .f32⟩
  | 124 => ⟨S2048x11264, .f32⟩
  | 125 => ⟨S3x8x1408, .f32⟩
  | 126 => ⟨S8x3x1408, .f32⟩
  | 127 => ⟨S11264x2048, .f32⟩
  | _ => ⟨S2048x2048, .f32⟩

abbrev hbmTy0_1 (i : Nat) : BufTy := match i % 128 with
  | 0 => ⟨S2048x11264, .f32⟩
  | 1 => ⟨S2048x8x1408, .f32⟩
  | 2 => ⟨S8x2048x1408, .f32⟩
  | 3 => ⟨S8x2048x1408, .bf16⟩
  | 4 => ⟨S5632x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v45_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v45_1 : Ref sig .tc := ⟨.hbm, 69, rfl⟩
abbrev main_v45_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v54 : Ref sig .tc := ⟨.hbm, 82, rfl⟩
abbrev main_v55 : Ref sig .tc := ⟨.hbm, 83, rfl⟩
abbrev main_cst_5 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Da.lean ====
abbrev S8x2048x1408 : Shape := ⟨3, ![8, 2048, 1408]⟩
abbrev S2048x2048 : Shape := ⟨2, ![2048, 2048]⟩
abbrev S1x2048x1408 : Shape := ⟨3, ![1, 2048, 1408]⟩
abbrev S1x512x1408 : Shape := ⟨3, ![1, 512, 1408]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2048x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaRefIdeal.lean ====
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩
abbrev S2048x11264 : Shape := ⟨2, ![2048, 11264]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S8x2048x1408, .f32⟩
  | .hbm, ⟨9, _⟩ => ⟨S2048x8x1408, .f32⟩
  | .hbm, ⟨10, _⟩ => ⟨S2048x11264, .f32⟩
  | .hbm, ⟨11, _⟩ => ⟨S2048x2048, .f32⟩
  | .hbm, ⟨12, _⟩ => ⟨S2048x2048, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dw.lean ====
abbrev S2048x2048 : Shape := ⟨2, ![2048, 2048]⟩
abbrev S2048x3072 : Shape := ⟨2, ![2048, 3072]⟩
abbrev S2048x1024 : Shape := ⟨2, ![2048, 1024]⟩
abbrev S2048x848 : Shape := ⟨2, ![2048, 848]⟩
abbrev S_ : Shape := ⟨0, ![]⟩
abbrev S2048x48 : Shape := ⟨2, ![2048, 48]⟩
abbrev S2048x896 : Shape := ⟨2, ![2048, 896]⟩
abbrev S2048x4944 : Shape := ⟨2, ![2048, 4944]⟩
abbrev S2048x512 : Shape := ⟨2, ![2048, 512]⟩
abbrev S1024x896 : Shape := ⟨2, ![1024, 896]⟩

abbrev nBuf : Space → Nat
  | .hbm => 19
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .f32⟩
  | .hbm, ⟨2, _⟩ => ⟨S2048x1024, .f32⟩
  | .hbm, ⟨3, _⟩ => ⟨S2048x848, .f32⟩
  | .hbm, ⟨4, _⟩ => ⟨S_, .f32⟩
  | .hbm, ⟨5, _⟩ => ⟨S2048x48, .f32⟩
  | .hbm, ⟨6, _⟩ => ⟨S2048x896, .f32⟩
  | .hbm, ⟨7, _⟩ => ⟨S2048x3072, .bf16⟩
  | .hbm, ⟨8, _⟩ => ⟨S2048x1024, .bf16⟩
  | .hbm, ⟨9, _⟩ => ⟨S2048x896, .bf16⟩
  | .hbm, ⟨10, _⟩ => ⟨S_, .bf16⟩
  | .hbm, ⟨11, _⟩ => ⟨S2048x4944, .bf16⟩
  | .hbm, ⟨12, _⟩ => ⟨S2048x4944, .bf16⟩
  | .hbm, ⟨13, _⟩ => ⟨S2048x4944, .bf16⟩
  | .hbm, ⟨14, _⟩ => ⟨S2048x896, .bf16⟩
  | .hbm, ⟨15, _⟩ => ⟨S2048x848, .bf16⟩
  | .hbm, ⟨16, _⟩ => ⟨S_, .i32⟩
  | .hbm, ⟨17, _⟩ => ⟨S_, .i32⟩
  | .hbm, ⟨18, _⟩ => ⟨S2048x4944, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S2048x1024, .bf16⟩
  | .local _ .vmem, ⟨12, _⟩ => ⟨S2048x896, .bf16⟩
  | .local _ .vmem, ⟨13, _⟩ => ⟨S1024x896, .bf16⟩
  | .local _ .vmem, ⟨14, _⟩ => ⟨S1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_1 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg0.toNat, v0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x896 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x896 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== DwRefIdeal.lean ====
abbrev S2048x2048 : Shape := ⟨2, ![2048, 2048]⟩
abbrev S2048x3072 : Shape := ⟨2, ![2048, 3072]⟩
abbrev S2048x1024 : Shape := ⟨2, ![2048, 1024]⟩
abbrev S2048x848 : Shape := ⟨2, ![2048, 848]⟩
abbrev S_ : Shape := ⟨0, ![]⟩
abbrev S2048x4944 : Shape := ⟨2, ![2048, 4944]⟩
abbrev S4944x2048 : Shape := ⟨2, ![4944, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .f32⟩
  | .hbm, ⟨2, _⟩ => ⟨S2048x1024, .f32⟩
  | .hbm, ⟨3, _⟩ => ⟨S2048x848, .f32⟩
  | .hbm, ⟨4, _⟩ => ⟨S_, .f32⟩
  | .hbm, ⟨5, _⟩ => ⟨S2048x4944, .f32⟩
  | .hbm, ⟨6, _⟩ => ⟨S2048x2048, .f32⟩
  | .hbm, ⟨7, _⟩ => ⟨S2048x4944, .f32⟩
  | .hbm, ⟨8, _⟩ => ⟨S2048x4944, .f32⟩
  | .hbm, ⟨9, _⟩ => ⟨S4944x2048, .f32⟩
  | .hbm, ⟨10, _⟩ => ⟨S2048x4944, .f32⟩
  | .hbm, ⟨11, _⟩ => ⟨S2048x4944, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Out.lean ====
abbrev S2048x1024 : Shape := ⟨2, ![2048, 1024]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩
abbrev S512x2048 : Shape := ⟨2, ![512, 2048]⟩
abbrev S1024x1024 : Shape := ⟨2, ![1024, 1024]⟩
abbrev S_ : Shape := ⟨0, ![]⟩

abbrev nBuf : Space → Nat
  | .hbm => 20
  | .vmem => 34
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S1024x2048, .bf16⟩
  | .hbm, ⟨6, _⟩ => ⟨S1024x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x1024, .bf16⟩
  | .hbm, ⟨11, _⟩ => ⟨S1024x2048, .bf16⟩
  | .hbm, ⟨12, _⟩ => ⟨S2048x2048, .bf16⟩
  | .hbm, ⟨13, _⟩ => ⟨S2048x1024, .bf16⟩
  | .hbm, ⟨14, _⟩ => ⟨S1024x2048, .bf16⟩
  | .hbm, ⟨15, _⟩ => ⟨S_, .bf16⟩
  | .hbm, ⟨16, _⟩ => ⟨S2048x2048, .bf16⟩
  | .hbm, ⟨17, _⟩ => ⟨S_, .bf16⟩
  | .hbm, ⟨18, _⟩ => ⟨S2048x2048, .bf16⟩
  | .hbm, ⟨19, _⟩ => ⟨S2048x2048, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x1024, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x2048, .bf16⟩
  | .local _ .vmem, ⟨15, _⟩ => ⟨S512x2048, .bf16⟩
  | .local _ .vmem, ⟨16, _⟩ => ⟨S512x2048, .bf16⟩
  | .local _ .vmem, ⟨17, _⟩ => ⟨S2048x512, .bf16⟩
  | .local _ .vmem, ⟨18, _⟩ => ⟨S2048x512, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S2048x2048, .bf16⟩
  | .local _ .vmem, ⟨25, _⟩ => ⟨S512x2048, .bf16⟩
  | .local _ .vmem, ⟨26, _⟩ => ⟨S512x2048, .bf16⟩
  | .local _ .vmem, ⟨27, _⟩ => ⟨S2048x512, .bf16⟩
  | .local _ .vmem, ⟨28, _⟩ => ⟨S2048x512, .bf16⟩
  | .local _ .vmem, ⟨29, _⟩ => ⟨S2048x1024, .bf16⟩
  | .local _ .vmem, ⟨30, _⟩ => ⟨S2048x1024, .bf16⟩
  | .local _ .vmem, ⟨31, _⟩ => ⟨S2048x1024, .bf16⟩
  | .local _ .vmem, ⟨32, _⟩ => ⟨S1024x1024, .bf16⟩
  | .local _ .vmem, ⟨33, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== OutRefIdeal.lean ====
abbrev S2048x1024 : Shape := ⟨2, ![2048, 1024]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S2048x1024, .f32⟩
  | .hbm, ⟨16, _⟩ => ⟨S2048x1024, .bf16⟩
  | .hbm, ⟨17, _⟩ => ⟨S2048x1024, .bf16⟩
  | .hbm, ⟨18, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Lin.lean ====
abbrev S2048x2048 : Shape := ⟨2, ![2048, 2048]⟩
abbrev S2048x512 : Shape := ⟨2, ![2048, 512]⟩
abbrev S1024x2048 : Shape := ⟨2, ![1024, 2048]⟩
abbrev S2048x1024 : Shape := ⟨2, ![2048, 1024]⟩
abbrev S1024x1024 : Shape := ⟨2, ![1024, 1024]⟩
abbrev S512x2048 : Shape := ⟨2, ![512, 2048]⟩

abbrev nBuf : Space → Nat
  | .hbm => 15
  | .vmem => 33
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S2048x2048, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S2048x2048, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x2048, .bf16⟩
  | .local _ .vmem, ⟨24, _⟩ => ⟨S512x2048, .bf16⟩
  | .local _ .vmem, ⟨25, _⟩ => ⟨S512x2048, .bf16⟩
  | .local _ .vmem, ⟨26, _⟩ => ⟨S2048x512, .bf16⟩
  | .local _ .vmem, ⟨27, _⟩ => ⟨S2048x512, .bf16⟩
  | .local _ .vmem, ⟨28, _⟩ => ⟨S2048x2048, .bf16⟩
  | .local _ .vmem, ⟨29, _⟩ => ⟨S2048x512, .bf16⟩
  | .local _ .vmem, ⟨30, _⟩ => ⟨S2048x512, .bf16⟩
  | .local _ .vmem, ⟨31, _⟩ => ⟨S2048x512, .bf16⟩
  | .local _ .vmem, ⟨32, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== LinRefIdeal.lean ====
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Norms.lean ====
abbrev S8x4x2048 : Shape := ⟨3, ![8, 4, 2048]⟩
abbrev S4x2048 : Shape := ⟨2, ![4, 2048]⟩
abbrev S1x8x4x2048 : Shape := ⟨4, ![1, 8, 4, 2048]⟩
abbrev S1x4x2048 : Shape := ⟨3, ![1, 4, 2048]⟩
abbrev S1x1x4x2048 : Shape := ⟨4, ![1, 1, 4, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S1x8x4x2048, .f32⟩
  | .hbm, ⟨5, _⟩ => ⟨S1x4x2048, .f32⟩
  | .hbm, ⟨6, _⟩ => ⟨S1x4x2048, .f32⟩
  | .hbm, ⟨7, _⟩ => ⟨S1x4x2048, .f32⟩
  | .hbm, ⟨8, _⟩ => ⟨S1x4x2048, .f32⟩
  | .hbm, ⟨9, _⟩ => ⟨S1x4x2048, .f32⟩
  | .hbm, ⟨10, _⟩ => ⟨S1x4x2048, .f32⟩
  | .hbm, ⟨11, _⟩ => ⟨S1x4x2048, .f32⟩
  | .local _ .vmem, ⟨0, _⟩ => ⟨S1x8x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== NormsIdeal.lean ====
abbrev S8x4x2048 : Shape := ⟨3, ![8, 4, 2048]⟩
abbrev S4x2048 : Shape := ⟨2, ![4, 2048]⟩
abbrev S1x8x4x2048 : Shape := ⟨4, ![1, 8, 4, 2048]⟩
abbrev S1x4x2048 : Shape := ⟨3, ![1, 4, 2048]⟩
abbrev S1x1x4x2048 : Shape := ⟨4, ![1, 1, 4, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S1x8x4x2048, .f32⟩
  | .hbm, ⟨5, _⟩ => ⟨S1x4x2048, .f32⟩
  | .hbm, ⟨6, _⟩ => ⟨S1x4x2048, .f32⟩
  | .hbm, ⟨7, _⟩ => ⟨S1x4x2048, .f32⟩
  | .hbm, ⟨8, _⟩ => ⟨S1x4x2048, .f32⟩
  | .hbm, ⟨9, _⟩ => ⟨S1x4x2048, .f32⟩
  | .hbm, ⟨10, _⟩ => ⟨S1x4x2048, .f32⟩
  | .hbm, ⟨11, _⟩ => ⟨S1x4x2048, .f32⟩
  | .local _ .vmem, ⟨0, _⟩ => ⟨S1x8x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== NormsRefIdeal.lean ====
abbrev S8x4x2048 : Shape := ⟨3, ![8, 4, 2048]⟩
abbrev S4x2048 : Shape := ⟨2, ![4, 2048]⟩
abbrev S_ : Shape := ⟨0, ![]⟩
abbrev S1x4x2048 : Shape := ⟨3, ![1, 4, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S1x4x2048, .f32⟩
  | .hbm, ⟨40, _⟩ => ⟨S1x4x2048, .f32⟩
  | .hbm, ⟨41, _⟩ => ⟨S1x4x2048, .f32⟩
  | .hbm, ⟨42, _⟩ => ⟨S1x4x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Heads.lean ====
abbrev S8x4x8 : Shape := ⟨3, ![8, 4, 8]⟩
abbrev S4x8 : Shape := ⟨2, ![4, 8]⟩
abbrev S1x8x4x8 : Shape := ⟨4, ![1, 8, 4, 8]⟩
abbrev S1x4x8 : Shape := ⟨3, ![1, 4, 8]⟩
abbrev S1x1x4x8 : Shape := ⟨4, ![1, 1, 4, 8]⟩

abbrev nBuf : Space → Nat
  | .hbm => 12
  | .vmem => 8
  | .smem => 0
  | _ => 0

abbrev bufTy : (tb : Table) → Fin (tcTables nBuf tb) → BufTy
  | .hbm, ⟨0, _⟩ => ⟨S8x4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S1x8x4x8, .f32⟩
  | .hbm, ⟨5, _⟩ => ⟨S1x4x8, .f32⟩
  | .hbm, ⟨6, _⟩ => ⟨S1x4x8, .f32⟩
  | .hbm, ⟨7, _⟩ => ⟨S1x4x8, .f32⟩
  | .hbm, ⟨8, _⟩ => ⟨S1x4x8, .f32⟩
  | .hbm, ⟨9, _⟩ => ⟨S1x4x8, .f32⟩
  | .hbm, ⟨10, _⟩ => ⟨S1x4x8, .f32⟩
  | .hbm, ⟨11, _⟩ => ⟨S1x4x8, .f32⟩
  | .local _ .vmem, ⟨0, _⟩ => ⟨S1x8x4x8, .f32⟩
  | .local _ .vmem, ⟨1, _⟩ => ⟨S1x4x8, .f32⟩
  | .local _ .vmem, ⟨2, _⟩ => ⟨S1x4x8, .f32⟩
  | .local _ .vmem, ⟨3, _⟩ => ⟨S1x4x8, .f32⟩
  | .local _ .vmem, ⟨4, _⟩ => ⟨S1x4x8, .f32⟩
  | .local _ .vmem, ⟨5, _⟩ => ⟨S1x4x8, .f32⟩
  | .local _ .vmem, ⟨6, _⟩ => ⟨S1x4x8, .f32⟩
  | .local _ .vmem, ⟨7, _⟩ => ⟨S1x4x8, .f32⟩
  | _, _ => ⟨S8x4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== HeadsIdeal.lean ====
abbrev S8x4x8 : Shape := ⟨3, ![8, 4, 8]⟩
abbrev S4x8 : Shape := ⟨2, ![4, 8]⟩
abbrev S1x8x4x8 : Shape := ⟨4, ![1, 8, 4, 8]⟩
abbrev S1x4x8 : Shape := ⟨3, ![1, 4, 8]⟩
abbrev S1x1x4x8 : Shape := ⟨4, ![1, 1, 4, 8]⟩

abbrev nBuf : Space → Nat
  | .hbm => 12
  | .vmem => 8
  | .smem => 0
  | _ => 0

abbrev bufTy : (tb : Table) → Fin (tcTables nBuf tb) → BufTy
  | .hbm, ⟨0, _⟩ => ⟨S8x4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S1x8x4x8, .f32⟩
  | .hbm, ⟨5, _⟩ => ⟨S1x4x8, .f32⟩
  | .hbm, ⟨6, _⟩ => ⟨S1x4x8, .f32⟩
  | .hbm, ⟨7, _⟩ => ⟨S1x4x8, .f32⟩
  | .hbm, ⟨8, _⟩ => ⟨S1x4x8, .f32⟩
  | .hbm, ⟨9, _⟩ => ⟨S1x4x8, .f32⟩
  | .hbm, ⟨10, _⟩ => ⟨S1x4x8, .f32⟩
  | .hbm, ⟨11, _⟩ => ⟨S1x4x8, .f32⟩
  | .local _ .vmem, ⟨0, _⟩ => ⟨S1x8x4x8, .f32⟩
  | .local _ .vmem, ⟨1, _⟩ => ⟨S1x4x8, .f32⟩
  | .local _ .vmem, ⟨2, _⟩ => ⟨S1x4x8, .f32⟩
  | .local _ .vmem, ⟨3, _⟩ => ⟨S1x4x8, .f32⟩
  | .local _ .vmem, ⟨4, _⟩ => ⟨S1x4x8, .f32⟩
  | .local _ .vmem, ⟨5, _⟩ => ⟨S1x4x8, .f32⟩
  | .local _ .vmem, ⟨6, _⟩ => ⟨S1x4x8, .f32⟩
  | .local _ .vmem, ⟨7, _⟩ => ⟨S1x4x8, .f32⟩
  | _, _ => ⟨S8x4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== HeadsRefIdeal.lean ====
abbrev S8x4x8 : Shape := ⟨3, ![8, 4, 8]⟩
abbrev S4x8 : Shape := ⟨2, ![4, 8]⟩
abbrev S_ : Shape := ⟨0, ![]⟩
abbrev S1x4x8 : Shape := ⟨3, ![1, 4, 8]⟩

abbrev nBuf : Space → Nat
  | .hbm => 43
  | .vmem => 0
  | .smem => 0
  | _ => 0

abbrev bufTy : (tb : Table) → Fin (tcTables nBuf tb) → BufTy
  | .hbm, ⟨0, _⟩ => ⟨S8x4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S_, .f32⟩
  | .hbm, ⟨5, _⟩ => ⟨S4x8, .f32⟩
  | .hbm, ⟨6, _⟩ => ⟨S_, .f32⟩
  | .hbm, ⟨7, _⟩ => ⟨S4x8, .f32⟩
  | .hbm, ⟨8, _⟩ => ⟨S4x8, .f32⟩
  | .hbm, ⟨9, _⟩ => ⟨S_, .f32⟩
  | .hbm, ⟨10, _⟩ => ⟨S4x8, .f32⟩
  | .hbm, ⟨11, _⟩ => ⟨S4x8, .f32⟩
  | .hbm, ⟨12, _⟩ => ⟨S4x8, .f32⟩
  | .hbm, ⟨13, _⟩ => ⟨S_, .f32⟩
  | .hbm, ⟨14, _⟩ => ⟨S4x8, .f32⟩
  | .hbm, ⟨15, _⟩ => ⟨S4x8, .f32⟩
  | .hbm, ⟨16, _⟩ => ⟨S4x8, .f32⟩
  | .hbm, ⟨17, _⟩ => ⟨S_, .f32⟩
  | .hbm, ⟨18, _⟩ => ⟨S4x8, .f32⟩
  | .hbm, ⟨19, _⟩ => ⟨S4x8, .f32⟩
  | .hbm, ⟨20, _⟩ => ⟨S4x8, .f32⟩
  | .hbm, ⟨21, _⟩ => ⟨S_, .f32⟩
  | .hbm, ⟨22, _⟩ => ⟨S4x8, .f32⟩
  | .hbm, ⟨23, _⟩ => ⟨S4x8, .f32⟩
  | .hbm, ⟨24, _⟩ => ⟨S_, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S_, .f32⟩
  | .hbm, ⟨29, _⟩ => ⟨S4x8, .f32⟩
  | .hbm, ⟨30, _⟩ => ⟨S4x8, .f32⟩
  | .hbm, ⟨31, _⟩ => ⟨S4x8, .f32⟩
  | .hbm, ⟨32, _⟩ => ⟨S_, .f32⟩
  | .hbm, ⟨33, _⟩ => ⟨S4x8, .f32⟩
  | .hbm, ⟨34, _⟩ => ⟨S4x8, .f32⟩
  | .hbm, ⟨35, _⟩ => ⟨S4x8, .f32⟩
  | .hbm, ⟨36, _⟩ => ⟨S_, .f32⟩
  | .hbm, ⟨37, _⟩ => ⟨S4x8, .f32⟩
  | .hbm, ⟨38, _⟩ => ⟨S4x8, .f32⟩
  | .hbm, ⟨39, _⟩ => ⟨S1x4x8, .f32⟩
  | .hbm, ⟨40, _⟩ => ⟨S1x4x8, .f32⟩
  | .hbm, ⟨41, _⟩ => ⟨S1x4x8, .f32⟩
  | .hbm, ⟨42, _⟩ => ⟨S1x4x8, .f32⟩
  | _, _ => ⟨S8x4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== HeadNorm.lean ====
abbrev S8x4x128 : Shape := ⟨3, ![8, 4, 128]⟩
abbrev S4x128 : Shape := ⟨2, ![4, 128]⟩
abbrev S1x8x4x128 : Shape := ⟨4, ![1, 8, 4, 128]⟩
abbrev S1x4x128 : Shape := ⟨3, ![1, 4, 128]⟩
abbrev S1x1x4x128 : Shape := ⟨4, ![1, 1, 4, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S1x8x4x128, .f32⟩
  | .hbm, ⟨5, _⟩ => ⟨S1x4x128, .f32⟩
  | .hbm, ⟨6, _⟩ => ⟨S1x4x128, .f32⟩
  | .hbm, ⟨7, _⟩ => ⟨S1x4x128, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S1x4x128, .f32⟩
  | .local _ .vmem, ⟨0, _⟩ => ⟨S1x8x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | _, _ => ⟨S8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== HeadNormIdeal.lean ====
abbrev S8x4x128 : Shape := ⟨3, ![8, 4, 128]⟩
abbrev S4x128 : Shape := ⟨2, ![4, 128]⟩
abbrev S1x8x4x128 : Shape := ⟨4, ![1, 8, 4, 128]⟩
abbrev S1x4x128 : Shape := ⟨3, ![1, 4, 128]⟩
abbrev S1x1x4x128 : Shape := ⟨4, ![1, 1, 4, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S1x8x4x128, .f32⟩
  | .hbm, ⟨5, _⟩ => ⟨S1x4x128, .f32⟩
  | .hbm, ⟨6, _⟩ => ⟨S1x4x128, .f32⟩
  | .hbm, ⟨7, _⟩ => ⟨S1x4x128, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S1x4x128, .f32⟩
  | .local _ .vmem, ⟨0, _⟩ => ⟨S1x8x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | _, _ => ⟨S8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== HeadNormRefIdeal.lean ====
abbrev S8x4x128 : Shape := ⟨3, ![8, 4, 128]⟩
abbrev S4x128 : Shape := ⟨2, ![4, 128]⟩
abbrev S_ : Shape := ⟨0, ![]⟩
abbrev S1x4x128 : Shape := ⟨3, ![1, 4, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | .hbm, ⟨39, _⟩ => ⟨S1x4x128, .f32⟩
  | .hbm, ⟨40, _⟩ => ⟨S1x4x128, .f32⟩
  | .hbm, ⟨41, _⟩ => ⟨S1x4x128, .f32⟩
  | .hbm, ⟨42, _⟩ => ⟨S1x4x128, .f32⟩
  | _, _ => ⟨S8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== QNorm.lean ====
abbrev S8x4x512 : Shape := ⟨3, ![8, 4, 512]⟩
abbrev S4x512 : Shape := ⟨2, ![4, 512]⟩
abbrev S1x8x4x512 : Shape := ⟨4, ![1, 8, 4, 512]⟩
abbrev S1x4x512 : Shape := ⟨3, ![1, 4, 512]⟩
abbrev S1x1x4x512 : Shape := ⟨4, ![1, 1, 4, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S1x8x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .hbm, ⟨8, _⟩ => ⟨S1x4x512, .f32⟩
  | .hbm, ⟨9, _⟩ => ⟨S1x4x512, .f32⟩
  | .hbm, ⟨10, _⟩ => ⟨S1x4x512, .f32⟩
  | .hbm, ⟨11, _⟩ => ⟨S1x4x512, .f32⟩
  | .local _ .vmem, ⟨0, _⟩ => ⟨S1x8x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== QNormIdeal.lean ====
abbrev S8x4x512 : Shape := ⟨3, ![8, 4, 512]⟩
abbrev S4x512 : Shape := ⟨2, ![4, 512]⟩
abbrev S1x8x4x512 : Shape := ⟨4, ![1, 8, 4, 512]⟩
abbrev S1x4x512 : Shape := ⟨3, ![1, 4, 512]⟩
abbrev S1x1x4x512 : Shape := ⟨4, ![1, 1, 4, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S1x8x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .hbm, ⟨8, _⟩ => ⟨S1x4x512, .f32⟩
  | .hbm, ⟨9, _⟩ => ⟨S1x4x512, .f32⟩
  | .hbm, ⟨10, _⟩ => ⟨S1x4x512, .f32⟩
  | .hbm, ⟨11, _⟩ => ⟨S1x4x512, .f32⟩
  | .local _ .vmem, ⟨0, _⟩ => ⟨S1x8x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== QNormRefIdeal.lean ====
abbrev S8x4x512 : Shape := ⟨3, ![8, 4, 512]⟩
abbrev S4x512 : Shape := ⟨2, ![4, 512]⟩
abbrev S_ : Shape := ⟨0, ![]⟩
abbrev S1x4x512 : Shape := ⟨3, ![1, 4, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S_, .f32⟩
  | .hbm, ⟨7, _⟩ => ⟨S4x512, .f32⟩
  | .hbm, ⟨8, _⟩ => ⟨S4x512, .f32⟩
  | .hbm, ⟨9, _⟩ => ⟨S_, .f32⟩
  | .hbm, ⟨10, _⟩ => ⟨S4x512, .f32⟩
  | .hbm, ⟨11, _⟩ => ⟨S4x512, .f32⟩
  | .hbm, ⟨12, _⟩ => ⟨S4x512, .f32⟩
  | .hbm, ⟨13, _⟩ => ⟨S_, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | .hbm, ⟨39, _⟩ => ⟨S1x4x512, .f32⟩
  | .hbm, ⟨40, _⟩ => ⟨S1x4x512, .f32⟩
  | .hbm, ⟨41, _⟩ => ⟨S1x4x512, .f32⟩
  | .hbm, ⟨42, _⟩ => ⟨S1x4x512, .f32⟩
  | _, _ => ⟨S8x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== KvNorm.lean ====
abbrev S8x4x256 : Shape := ⟨3, ![8, 4, 256]⟩
abbrev S4x256 : Shape := ⟨2, ![4, 256]⟩
abbrev S1x8x4x256 : Shape := ⟨4, ![1, 8, 4, 256]⟩
abbrev S1x4x256 : Shape := ⟨3, ![1, 4, 256]⟩
abbrev S1x1x4x256 : Shape := ⟨4, ![1, 1, 4, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S1x8x4x256, .f32⟩
  | .hbm, ⟨5, _⟩ => ⟨S1x4x256, .f32⟩
  | .hbm, ⟨6, _⟩ => ⟨S1x4x256, .f32⟩
  | .hbm, ⟨7, _⟩ => ⟨S1x4x256, .f32⟩
  | .hbm, ⟨8, _⟩ => ⟨S1x4x256, .f32⟩
  | .hbm, ⟨9, _⟩ => ⟨S1x4x256, .f32⟩
  | .hbm, ⟨10, _⟩ => ⟨S1x4x256, .f32⟩
  | .hbm, ⟨11, _⟩ => ⟨S1x4x256, .f32⟩
  | .local _ .vmem, ⟨0, _⟩ => ⟨S1x8x4x256, .f32⟩
  | .local _ .vmem, ⟨1, _⟩ => ⟨S1x4x256, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x4x256, .f32⟩
  | .local _ .vmem, ⟨7, _⟩ => ⟨S1x4x256, .f32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KvNormIdeal.lean ====
abbrev S8x4x256 : Shape := ⟨3, ![8, 4, 256]⟩
abbrev S4x256 : Shape := ⟨2, ![4, 256]⟩
abbrev S1x8x4x256 : Shape := ⟨4, ![1, 8, 4, 256]⟩
abbrev S1x4x256 : Shape := ⟨3, ![1, 4, 256]⟩
abbrev S1x1x4x256 : Shape := ⟨4, ![1, 1, 4, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S1x8x4x256, .f32⟩
  | .hbm, ⟨5, _⟩ => ⟨S1x4x256, .f32⟩
  | .hbm, ⟨6, _⟩ => ⟨S1x4x256, .f32⟩
  | .hbm, ⟨7, _⟩ => ⟨S1x4x256, .f32⟩
  | .hbm, ⟨8, _⟩ => ⟨S1x4x256, .f32⟩
  | .hbm, ⟨9, _⟩ => ⟨S1x4x256, .f32⟩
  | .hbm, ⟨10, _⟩ => ⟨S1x4x256, .f32⟩
  | .hbm, ⟨11, _⟩ => ⟨S1x4x256, .f32⟩
  | .local _ .vmem, ⟨0, _⟩ => ⟨S1x8x4x256, .f32⟩
  | .local _ .vmem, ⟨1, _⟩ => ⟨S1x4x256, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x4x256, .f32⟩
  | .local _ .vmem, ⟨7, _⟩ => ⟨S1x4x256, .f32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KvNormRefIdeal.lean ====
abbrev S8x4x256 : Shape := ⟨3, ![8, 4, 256]⟩
abbrev S4x256 : Shape := ⟨2, ![4, 256]⟩
abbrev S_ : Shape := ⟨0, ![]⟩
abbrev S1x4x256 : Shape := ⟨3, ![1, 4, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S_, .f32⟩
  | .hbm, ⟨7, _⟩ => ⟨S4x256, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S_, .f32⟩
  | .hbm, ⟨14, _⟩ => ⟨S4x256, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x256, .f32⟩
  | .hbm, ⟨21, _⟩ => ⟨S_, .f32⟩
  | .hbm, ⟨22, _⟩ => ⟨S4x256, .f32⟩
  | .hbm, ⟨23, _⟩ => ⟨S4x256, .f32⟩
  | .hbm, ⟨24, _⟩ => ⟨S_, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S4x256, .f32⟩
  | .hbm, ⟨32, _⟩ => ⟨S_, .f32⟩
  | .hbm, ⟨33, _⟩ => ⟨S4x256, .f32⟩
  | .hbm, ⟨34, _⟩ => ⟨S4x256, .f32⟩
  | .hbm, ⟨35, _⟩ => ⟨S4x256, .f32⟩
  | .hbm, ⟨36, _⟩ => ⟨S_, .f32⟩
  | .hbm, ⟨37, _⟩ => ⟨S4x256, .f32⟩
  | .hbm, ⟨38, _⟩ => ⟨S4x256, .f32⟩
  | .hbm, ⟨39, _⟩ => ⟨S1x4x256, .f32⟩
  | .hbm, ⟨40, _⟩ => ⟨S1x4x256, .f32⟩
  | .hbm, ⟨41, _⟩ => ⟨S1x4x256, .f32⟩
  | .hbm, ⟨42, _⟩ => ⟨S1x4x256, .f32⟩
  | _, _ => ⟨S8x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== EndNorm.lean ====
abbrev S8x2048 : Shape := ⟨2, ![8, 2048]⟩
abbrev S2048 : Shape := ⟨1, ![2048]⟩
abbrev S1x8x1x2048 : Shape := ⟨4, ![1, 8, 1, 2048]⟩
abbrev S1x1x2048 : Shape := ⟨3, ![1, 1, 2048]⟩
abbrev S1x1x1x2048 : Shape := ⟨4, ![1, 1, 1, 2048]⟩
abbrev S1x2048 : Shape := ⟨2, ![1, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x8x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .local _ .vmem, ⟨0, _⟩ => ⟨S1x8x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== EndNormIdeal.lean ====
abbrev S8x2048 : Shape := ⟨2, ![8, 2048]⟩
abbrev S2048 : Shape := ⟨1, ![2048]⟩
abbrev S1x8x1x2048 : Shape := ⟨4, ![1, 8, 1, 2048]⟩
abbrev S1x1x2048 : Shape := ⟨3, ![1, 1, 2048]⟩
abbrev S1x1x1x2048 : Shape := ⟨4, ![1, 1, 1, 2048]⟩
abbrev S1x2048 : Shape := ⟨2, ![1, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x8x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .local _ .vmem, ⟨0, _⟩ => ⟨S1x8x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== EndNormRefIdeal.lean ====
abbrev S8x2048 : Shape := ⟨2, ![8, 2048]⟩
abbrev S2048 : Shape := ⟨1, ![2048]⟩
abbrev S_ : Shape := ⟨0, ![]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x1x2048, .f32⟩
  | .hbm, ⟨40, _⟩ => ⟨S1x1x2048, .f32⟩
  | .hbm, ⟨41, _⟩ => ⟨S1x1x2048, .f32⟩
  | .hbm, ⟨42, _⟩ => ⟨S1x1x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Bias.lean ====
abbrev S8x4x11264 : Shape := ⟨3, ![8, 4, 11264]⟩
abbrev S4x11264 : Shape := ⟨2, ![4, 11264]⟩
abbrev S1x8x4x11264 : Shape := ⟨4, ![1, 8, 4, 11264]⟩
abbrev S1x4x11264 : Shape := ⟨3, ![1, 4, 11264]⟩
abbrev S1x1x4x11264 : Shape := ⟨4, ![1, 1, 4, 11264]⟩

abbrev nBuf : Space → Nat
  | .hbm => 12
  | .vmem => 8
  | .smem => 0
  | _ => 0

abbrev bufTy : (tb : Table) → Fin (tcTables nBuf tb) → BufTy
  | .hbm, ⟨0, _⟩ => ⟨S8x4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S1x8x4x11264, .f32⟩
  | .hbm, ⟨5, _⟩ => ⟨S1x4x11264, .f32⟩
  | .hbm, ⟨6, _⟩ => ⟨S1x4x11264, .f32⟩
  | .hbm, ⟨7, _⟩ => ⟨S1x4x11264, .f32⟩
  | .hbm, ⟨8, _⟩ => ⟨S1x4x11264, .f32⟩
  | .hbm, ⟨9, _⟩ => ⟨S1x4x11264, .f32⟩
  | .hbm, ⟨10, _⟩ => ⟨S1x4x11264, .f32⟩
  | .hbm, ⟨11, _⟩ => ⟨S1x4x11264, .f32⟩
  | .local _ .vmem, ⟨0, _⟩ => ⟨S1x8x4x11264, .f32⟩
  | .local _ .vmem, ⟨1, _⟩ => ⟨S1x4x11264, .f32⟩
  | .local _ .vmem, ⟨2, _⟩ => ⟨S1x4x11264, .f32⟩
  | .local _ .vmem, ⟨3, _⟩ => ⟨S1x4x11264, .f32⟩
  | .local _ .vmem, ⟨4, _⟩ => ⟨S1x4x11264, .f32⟩
  | .local _ .vmem, ⟨5, _⟩ => ⟨S1x4x11264, .f32⟩
  | .local _ .vmem, ⟨6, _⟩ => ⟨S1x4x11264, .f32⟩
  | .local _ .vmem, ⟨7, _⟩ => ⟨S1x4x11264, .f32⟩
  | _, _ => ⟨S8x4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x11264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== BiasIdeal.lean ====
abbrev S8x4x11264 : Shape := ⟨3, ![8, 4, 11264]⟩
abbrev S4x11264 : Shape := ⟨2, ![4, 11264]⟩
abbrev S1x8x4x11264 : Shape := ⟨4, ![1, 8, 4, 11264]⟩
abbrev S1x4x11264 : Shape := ⟨3, ![1, 4, 11264]⟩
abbrev S1x1x4x11264 : Shape := ⟨4, ![1, 1, 4, 11264]⟩

abbrev nBuf : Space → Nat
  | .hbm => 12
  | .vmem => 8
  | .smem => 0
  | _ => 0

abbrev bufTy : (tb : Table) → Fin (tcTables nBuf tb) → BufTy
  | .hbm, ⟨0, _⟩ => ⟨S8x4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S1x8x4x11264, .f32⟩
  | .hbm, ⟨5, _⟩ => ⟨S1x4x11264, .f32⟩
  | .hbm, ⟨6, _⟩ => ⟨S1x4x11264, .f32⟩
  | .hbm, ⟨7, _⟩ => ⟨S1x4x11264, .f32⟩
  | .hbm, ⟨8, _⟩ => ⟨S1x4x11264, .f32⟩
  | .hbm, ⟨9, _⟩ => ⟨S1x4x11264, .f32⟩
  | .hbm, ⟨10, _⟩ => ⟨S1x4x11264, .f32⟩
  | .hbm, ⟨11, _⟩ => ⟨S1x4x11264, .f32⟩
  | .local _ .vmem, ⟨0, _⟩ => ⟨S1x8x4x11264, .f32⟩
  | .local _ .vmem, ⟨1, _⟩ => ⟨S1x4x11264, .f32⟩
  | .local _ .vmem, ⟨2, _⟩ => ⟨S1x4x11264, .f32⟩
  | .local _ .vmem, ⟨3, _⟩ => ⟨S1x4x11264, .f32⟩
  | .local _ .vmem, ⟨4, _⟩ => ⟨S1x4x11264, .f32⟩
  | .local _ .vmem, ⟨5, _⟩ => ⟨S1x4x11264, .f32⟩
  | .local _ .vmem, ⟨6, _⟩ => ⟨S1x4x11264, .f32⟩
  | .local _ .vmem, ⟨7, _⟩ => ⟨S1x4x11264, .f32⟩
  | _, _ => ⟨S8x4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x11264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== BiasRefIdeal.lean ====
abbrev S8x4x11264 : Shape := ⟨3, ![8, 4, 11264]⟩
abbrev S4x11264 : Shape := ⟨2, ![4, 11264]⟩
abbrev S_ : Shape := ⟨0, ![]⟩
abbrev S1x4x11264 : Shape := ⟨3, ![1, 4, 11264]⟩

abbrev nBuf : Space → Nat
  | .hbm => 43
  | .vmem => 0
  | .smem => 0
  | _ => 0

abbrev bufTy : (tb : Table) → Fin (tcTables nBuf tb) → BufTy
  | .hbm, ⟨0, _⟩ => ⟨S8x4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S_, .f32⟩
  | .hbm, ⟨5, _⟩ => ⟨S4x11264, .f32⟩
  | .hbm, ⟨6, _⟩ => ⟨S_, .f32⟩
  | .hbm, ⟨7, _⟩ => ⟨S4x11264, .f32⟩
  | .hbm, ⟨8, _⟩ => ⟨S4x11264, .f32⟩
  | .hbm, ⟨9, _⟩ => ⟨S_, .f32⟩
  | .hbm, ⟨10, _⟩ => ⟨S4x11264, .f32⟩
  | .hbm, ⟨11, _⟩ => ⟨S4x11264, .f32⟩
  | .hbm, ⟨12, _⟩ => ⟨S4x11264, .f32⟩
  | .hbm, ⟨13, _⟩ => ⟨S_, .f32⟩
  | .hbm, ⟨14, _⟩ => ⟨S4x11264, .f32⟩
  | .hbm, ⟨15, _⟩ => ⟨S4x11264, .f32⟩
  | .hbm, ⟨16, _⟩ => ⟨S4x11264, .f32⟩
  | .hbm, ⟨17, _⟩ => ⟨S_, .f32⟩
  | .hbm, ⟨18, _⟩ => ⟨S4x11264, .f32⟩
  | .hbm, ⟨19, _⟩ => ⟨S4x11264, .f32⟩
  | .hbm, ⟨20, _⟩ => ⟨S4x11264, .f32⟩
  | .hbm, ⟨21, _⟩ => ⟨S_, .f32⟩
  | .hbm, ⟨22, _⟩ => ⟨S4x11264, .f32⟩
  | .hbm, ⟨23, _⟩ => ⟨S4x11264, .f32⟩
  | .hbm, ⟨24, _⟩ => ⟨S_, .f32⟩
  | .hbm, ⟨25, _⟩ => ⟨S4x11264, .f32⟩
  | .hbm, ⟨26, _⟩ => ⟨S4x11264, .f32⟩
  | .hbm, ⟨27, _⟩ => ⟨S4x11264, .f32⟩
  | .hbm, ⟨28, _⟩ => ⟨S_, .f32⟩
  | .hbm, ⟨29, _⟩ => ⟨S4x11264, .f32⟩
  | .hbm, ⟨30, _⟩ => ⟨S4x11264, .f32⟩
  | .hbm, ⟨31, _⟩ => ⟨S4x11264, .f32⟩
  | .hbm, ⟨32, _⟩ => ⟨S_, .f32⟩
  | .hbm, ⟨33, _⟩ => ⟨S4x11264, .f32⟩
  | .hbm, ⟨34, _⟩ => ⟨S4x11264, .f32⟩
  | .hbm, ⟨35, _⟩ => ⟨S4x11264, .f32⟩
  | .hbm, ⟨36, _⟩ => ⟨S_, .f32⟩
  | .hbm, ⟨37, _⟩ => ⟨S4x11264, .f32⟩
  | .hbm, ⟨38, _⟩ => ⟨S4x11264, .f32⟩
  | .hbm, ⟨39, _⟩ => ⟨S1x4x11264, .f32⟩
  | .hbm, ⟨40, _⟩ => ⟨S1x4x11264, .f32⟩
  | .hbm, ⟨41, _⟩ => ⟨S1x4x11264, .f32⟩
  | .hbm, ⟨42, _⟩ => ⟨S1x4x11264, .f32⟩
  | _, _ => ⟨S8x4x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Conv.lean ====
abbrev S8x4x4x384 : Shape := ⟨4, ![8, 4, 4, 384]⟩
abbrev S4x4x384 : Shape := ⟨3, ![4, 4, 384]⟩
abbrev S1x8x16x384 : Shape := ⟨4, ![1, 8, 16, 384]⟩
abbrev S1x16x384 : Shape := ⟨3, ![1, 16, 384]⟩
abbrev S1x1x16x384 : Shape := ⟨4, ![1, 1, 16, 384]⟩
abbrev S16x384 : Shape := ⟨2, ![16, 384]⟩

abbrev nBuf : Space → Nat
  | .hbm => 12
  | .vmem => 8
  | .smem => 0
  | _ => 0

abbrev bufTy : (tb : Table) → Fin (tcTables nBuf tb) → BufTy
  | .hbm, ⟨0, _⟩ => ⟨S8x4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S1x8x16x384, .f32⟩
  | .hbm, ⟨5, _⟩ => ⟨S1x16x384, .f32⟩
  | .hbm, ⟨6, _⟩ => ⟨S1x16x384, .f32⟩
  | .hbm, ⟨7, _⟩ => ⟨S1x16x384, .f32⟩
  | .hbm, ⟨8, _⟩ => ⟨S1x16x384, .f32⟩
  | .hbm, ⟨9, _⟩ => ⟨S1x16x384, .f32⟩
  | .hbm, ⟨10, _⟩ => ⟨S1x16x384, .f32⟩
  | .hbm, ⟨11, _⟩ => ⟨S1x16x384, .f32⟩
  | .local _ .vmem, ⟨0, _⟩ => ⟨S1x8x16x384, .f32⟩
  | .local _ .vmem, ⟨1, _⟩ => ⟨S1x16x384, .f32⟩
  | .local _ .vmem, ⟨2, _⟩ => ⟨S1x16x384, .f32⟩
  | .local _ .vmem, ⟨3, _⟩ => ⟨S1x16x384, .f32⟩
  | .local _ .vmem, ⟨4, _⟩ => ⟨S1x16x384, .f32⟩
  | .local _ .vmem, ⟨5, _⟩ => ⟨S1x16x384, .f32⟩
  | .local _ .vmem, ⟨6, _⟩ => ⟨S1x16x384, .f32⟩
  | .local _ .vmem, ⟨7, _⟩ => ⟨S1x16x384, .f32⟩
  | _, _ => ⟨S8x4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ConvIdeal.lean ====
abbrev S8x4x4x384 : Shape := ⟨4, ![8, 4, 4, 384]⟩
abbrev S4x4x384 : Shape := ⟨3, ![4, 4, 384]⟩
abbrev S1x8x16x384 : Shape := ⟨4, ![1, 8, 16, 384]⟩
abbrev S1x16x384 : Shape := ⟨3, ![1, 16, 384]⟩
abbrev S1x1x16x384 : Shape := ⟨4, ![1, 1, 16, 384]⟩
abbrev S16x384 : Shape := ⟨2, ![16, 384]⟩

abbrev nBuf : Space → Nat
  | .hbm => 12
  | .vmem => 8
  | .smem => 0
  | _ => 0

abbrev bufTy : (tb : Table) → Fin (tcTables nBuf tb) → BufTy
  | .hbm, ⟨0, _⟩ => ⟨S8x4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S1x8x16x384, .f32⟩
  | .hbm, ⟨5, _⟩ => ⟨S1x16x384, .f32⟩
  | .hbm, ⟨6, _⟩ => ⟨S1x16x384, .f32⟩
  | .hbm, ⟨7, _⟩ => ⟨S1x16x384, .f32⟩
  | .hbm, ⟨8, _⟩ => ⟨S1x16x384, .f32⟩
  | .hbm, ⟨9, _⟩ => ⟨S1x16x384, .f32⟩
  | .hbm, ⟨10, _⟩ => ⟨S1x16x384, .f32⟩
  | .hbm, ⟨11, _⟩ => ⟨S1x16x384, .f32⟩
  | .local _ .vmem, ⟨0, _⟩ => ⟨S1x8x16x384, .f32⟩
  | .local _ .vmem, ⟨1, _⟩ => ⟨S1x16x384, .f32⟩
  | .local _ .vmem, ⟨2, _⟩ => ⟨S1x16x384, .f32⟩
  | .local _ .vmem, ⟨3, _⟩ => ⟨S1x16x384, .f32⟩
  | .local _ .vmem, ⟨4, _⟩ => ⟨S1x16x384, .f32⟩
  | .local _ .vmem, ⟨5, _⟩ => ⟨S1x16x384, .f32⟩
  | .local _ .vmem, ⟨6, _⟩ => ⟨S1x16x384, .f32⟩
  | .local _ .vmem, ⟨7, _⟩ => ⟨S1x16x384, .f32⟩
  | _, _ => ⟨S8x4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ConvRefIdeal.lean ====
abbrev S8x4x4x384 : Shape := ⟨4, ![8, 4, 4, 384]⟩
abbrev S4x4x384 : Shape := ⟨3, ![4, 4, 384]⟩
abbrev S_ : Shape := ⟨0, ![]⟩
abbrev S1x16x384 : Shape := ⟨3, ![1, 16, 384]⟩

abbrev nBuf : Space → Nat
  | .hbm => 43
  | .vmem => 0
  | .smem => 0
  | _ => 0

abbrev bufTy : (tb : Table) → Fin (tcTables nBuf tb) → BufTy
  | .hbm, ⟨0, _⟩ => ⟨S8x4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S_, .f32⟩
  | .hbm, ⟨5, _⟩ => ⟨S4x4x384, .f32⟩
  | .hbm, ⟨6, _⟩ => ⟨S_, .f32⟩
  | .hbm, ⟨7, _⟩ => ⟨S4x4x384, .f32⟩
  | .hbm, ⟨8, _⟩ => ⟨S4x4x384, .f32⟩
  | .hbm, ⟨9, _⟩ => ⟨S_, .f32⟩
  | .hbm, ⟨10, _⟩ => ⟨S4x4x384, .f32⟩
  | .hbm, ⟨11, _⟩ => ⟨S4x4x384, .f32⟩
  | .hbm, ⟨12, _⟩ => ⟨S4x4x384, .f32⟩
  | .hbm, ⟨13, _⟩ => ⟨S_, .f32⟩
  | .hbm, ⟨14, _⟩ => ⟨S4x4x384, .f32⟩
  | .hbm, ⟨15, _⟩ => ⟨S4x4x384, .f32⟩
  | .hbm, ⟨16, _⟩ => ⟨S4x4x384, .f32⟩
  | .hbm, ⟨17, _⟩ => ⟨S_, .f32⟩
  | .hbm, ⟨18, _⟩ => ⟨S4x4x384, .f32⟩
  | .hbm, ⟨19, _⟩ => ⟨S4x4x384, .f32⟩
  | .hbm, ⟨20, _⟩ => ⟨S4x4x384, .f32⟩
  | .hbm, ⟨21, _⟩ => ⟨S_, .f32⟩
  | .hbm, ⟨22, _⟩ => ⟨S4x4x384, .f32⟩
  | .hbm, ⟨23, _⟩ => ⟨S4x4x384, .f32⟩
  | .hbm, ⟨24, _⟩ => ⟨S_, .f32⟩
  | .hbm, ⟨25, _⟩ => ⟨S4x4x384, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | .hbm, ⟨39, _⟩ => ⟨S1x16x384, .f32⟩
  | .hbm, ⟨40, _⟩ => ⟨S1x16x384, .f32⟩
  | .hbm, ⟨41, _⟩ => ⟨S1x16x384, .f32⟩
  | .hbm, ⟨42, _⟩ => ⟨S1x16x384, .f32⟩
  | _, _ => ⟨S8x4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== FfnConv.lean ====
abbrev S8x4x3x1408 : Shape := ⟨4, ![8, 4, 3, 1408]⟩
abbrev S4x3x1408 : Shape := ⟨3, ![4, 3, 1408]⟩
abbrev S1x8x12x1408 : Shape := ⟨4, ![1, 8, 12, 1408]⟩
abbrev S1x12x1408 : Shape := ⟨3, ![1, 12, 1408]⟩
abbrev S1x1x12x1408 : Shape := ⟨4, ![1, 1, 12, 1408]⟩
abbrev S12x1408 : Shape := ⟨2, ![12, 1408]⟩

abbrev nBuf : Space → Nat
  | .hbm => 12
  | .vmem => 8
  | .smem => 0
  | _ => 0

abbrev bufTy : (tb : Table) → Fin (tcTables nBuf tb) → BufTy
  | .hbm, ⟨0, _⟩ => ⟨S8x4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S1x8x12x1408, .f32⟩
  | .hbm, ⟨5, _⟩ => ⟨S1x12x1408, .f32⟩
  | .hbm, ⟨6, _⟩ => ⟨S1x12x1408, .f32⟩
  | .hbm, ⟨7, _⟩ => ⟨S1x12x1408, .f32⟩
  | .hbm, ⟨8, _⟩ => ⟨S1x12x1408, .f32⟩
  | .hbm, ⟨9, _⟩ => ⟨S1x12x1408, .f32⟩
  | .hbm, ⟨10, _⟩ => ⟨S1x12x1408, .f32⟩
  | .hbm, ⟨11, _⟩ => ⟨S1x12x1408, .f32⟩
  | .local _ .vmem, ⟨0, _⟩ => ⟨S1x8x12x1408, .f32⟩
  | .local _ .vmem, ⟨1, _⟩ => ⟨S1x12x1408, .f32⟩
  | .local _ .vmem, ⟨2, _⟩ => ⟨S1x12x1408, .f32⟩
  | .local _ .vmem, ⟨3, _⟩ => ⟨S1x12x1408, .f32⟩
  | .local _ .vmem, ⟨4, _⟩ => ⟨S1x12x1408, .f32⟩
  | .local _ .vmem, ⟨5, _⟩ => ⟨S1x12x1408, .f32⟩
  | .local _ .vmem, ⟨6, _⟩ => ⟨S1x12x1408, .f32⟩
  | .local _ .vmem, ⟨7, _⟩ => ⟨S1x12x1408, .f32⟩
  | _, _ => ⟨S8x4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x12x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== FfnConvRefIdeal.lean ====
abbrev S8x4x3x1408 : Shape := ⟨4, ![8, 4, 3, 1408]⟩
abbrev S4x3x1408 : Shape := ⟨3, ![4, 3, 1408]⟩
abbrev S_ : Shape := ⟨0, ![]⟩
abbrev S1x12x1408 : Shape := ⟨3, ![1, 12, 1408]⟩

abbrev nBuf : Space → Nat
  | .hbm => 43
  | .vmem => 0
  | .smem => 0
  | _ => 0

abbrev bufTy : (tb : Table) → Fin (tcTables nBuf tb) → BufTy
  | .hbm, ⟨0, _⟩ => ⟨S8x4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S_, .f32⟩
  | .hbm, ⟨5, _⟩ => ⟨S4x3x1408, .f32⟩
  | .hbm, ⟨6, _⟩ => ⟨S_, .f32⟩
  | .hbm, ⟨7, _⟩ => ⟨S4x3x1408, .f32⟩
  | .hbm, ⟨8, _⟩ => ⟨S4x3x1408, .f32⟩
  | .hbm, ⟨9, _⟩ => ⟨S_, .f32⟩
  | .hbm, ⟨10, _⟩ => ⟨S4x3x1408, .f32⟩
  | .hbm, ⟨11, _⟩ => ⟨S4x3x1408, .f32⟩
  | .hbm, ⟨12, _⟩ => ⟨S4x3x1408, .f32⟩
  | .hbm, ⟨13, _⟩ => ⟨S_, .f32⟩
  | .hbm, ⟨14, _⟩ => ⟨S4x3x1408, .f32⟩
  | .hbm, ⟨15, _⟩ => ⟨S4x3x1408, .f32⟩
  | .hbm, ⟨16, _⟩ => ⟨S4x3x1408, .f32⟩
  | .hbm, ⟨17, _⟩ => ⟨S_, .f32⟩
  | .hbm, ⟨18, _⟩ => ⟨S4x3x1408, .f32⟩
  | .hbm, ⟨19, _⟩ => ⟨S4x3x1408, .f32⟩
  | .hbm, ⟨20, _⟩ => ⟨S4x3x1408, .f32⟩
  | .hbm, ⟨21, _⟩ => ⟨S_, .f32⟩
  | .hbm, ⟨22, _⟩ => ⟨S4x3x1408, .f32⟩
  | .hbm, ⟨23, _⟩ => ⟨S4x3x1408, .f32⟩
  | .hbm, ⟨24, _⟩ => ⟨S_, .f32⟩
  | .hbm, ⟨25, _⟩ => ⟨S4x3x1408, .f32⟩
  | .hbm, ⟨26, _⟩ => ⟨S4x3x1408, .f32⟩
  | .hbm, ⟨27, _⟩ => ⟨S4x3x1408, .f32⟩
  | .hbm, ⟨28, _⟩ => ⟨S_, .f32⟩
  | .hbm, ⟨29, _⟩ => ⟨S4x3x1408, .f32⟩
  | .hbm, ⟨30, _⟩ => ⟨S4x3x1408, .f32⟩
  | .hbm, ⟨31, _⟩ => ⟨S4x3x1408, .f32⟩
  | .hbm, ⟨32, _⟩ => ⟨S_, .f32⟩
  | .hbm, ⟨33, _⟩ => ⟨S4x3x1408, .f32⟩
  | .hbm, ⟨34, _⟩ => ⟨S4x3x1408, .f32⟩
  | .hbm, ⟨35, _⟩ => ⟨S4x3x1408, .f32⟩
  | .hbm, ⟨36, _⟩ => ⟨S_, .f32⟩
  | .hbm, ⟨37, _⟩ => ⟨S4x3x1408, .f32⟩
  | .hbm, ⟨38, _⟩ => ⟨S4x3x1408, .f32⟩
  | .hbm, ⟨39, _⟩ => ⟨S1x12x1408, .f32⟩
  | .hbm, ⟨40, _⟩ => ⟨S1x12x1408, .f32⟩
  | .hbm, ⟨41, _⟩ => ⟨S1x12x1408, .f32⟩
  | .hbm, ⟨42, _⟩ => ⟨S1x12x1408, .f32⟩
  | _, _ => ⟨S8x4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Square.lean ====
abbrev S8x256x2048 : Shape := ⟨3, ![8, 256, 2048]⟩
abbrev S4x256x2048 : Shape := ⟨3, ![4, 256, 2048]⟩
abbrev S_ : Shape := ⟨0, ![]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 31
  | .vmem => 64
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S_, .f32⟩
  | .hbm, ⟨10, _⟩ => ⟨S4x256x2048, .f32⟩
  | .hbm, ⟨11, _⟩ => ⟨S_, .f32⟩
  | .hbm, ⟨12, _⟩ => ⟨S4x256x2048, .f32⟩
  | .hbm, ⟨13, _⟩ => ⟨S_, .f32⟩
  | .hbm, ⟨14, _⟩ => ⟨S4x256x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S4x256x2048, .f32⟩
  | .hbm, ⟨23, _⟩ => ⟨S4x256x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S8x128x2048, .bf16⟩
  | .local _ .vmem, ⟨33, _⟩ => ⟨S8x128x2048, .bf16⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | .local _ .vmem, ⟨44, _⟩ => ⟨S1x128x2048, .f32⟩
  | .local _ .vmem, ⟨45, _⟩ => ⟨S1x128x2048, .f32⟩
  | .local _ .vmem, ⟨46, _⟩ => ⟨S1x128x2048, .f32⟩
  | .local _ .vmem, ⟨47, _⟩ => ⟨S1x128x2048, .f32⟩
  | .local _ .vmem, ⟨48, _⟩ => ⟨S8x128x2048, .bf16⟩
  | .local _ .vmem, ⟨49, _⟩ => ⟨S8x128x2048, .bf16⟩
  | .local _ .vmem, ⟨50, _⟩ => ⟨S1x128x2048, .f32⟩
  | .local _ .vmem, ⟨51, _⟩ => ⟨S1x128x2048, .f32⟩
  | .local _ .vmem, ⟨52, _⟩ => ⟨S1x128x2048, .f32⟩
  | .local _ .vmem, ⟨53, _⟩ => ⟨S1x128x2048, .f32⟩
  | .local _ .vmem, ⟨54, _⟩ => ⟨S1x128x2048, .f32⟩
  | .local _ .vmem, ⟨55, _⟩ => ⟨S1x128x2048, .f32⟩
  | .local _ .vmem, ⟨56, _⟩ => ⟨S1x128x2048, .f32⟩
  | .local _ .vmem, ⟨57, _⟩ => ⟨S1x128x2048, .f32⟩
  | .local _ .vmem, ⟨58, _⟩ => ⟨S1x128x2048, .f32⟩
  | .local _ .vmem, ⟨59, _⟩ => ⟨S1x128x2048, .f32⟩
  | .local _ .vmem, ⟨60, _⟩ => ⟨S1x128x2048, .f32⟩
  | .local _ .vmem, ⟨61, _⟩ => ⟨S1x128x2048, .f32⟩
  | .local _ .vmem, ⟨62, _⟩ => ⟨S1x128x2048, .f32⟩
  | .local _ .vmem, ⟨63, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== SquareIdeal.lean ====
abbrev S8x256x2048 : Shape := ⟨3, ![8, 256, 2048]⟩
abbrev S4x256x2048 : Shape := ⟨3, ![4, 256, 2048]⟩
abbrev S_ : Shape := ⟨0, ![]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 31
  | .vmem => 64
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S_, .f32⟩
  | .hbm, ⟨10, _⟩ => ⟨S4x256x2048, .f32⟩
  | .hbm, ⟨11, _⟩ => ⟨S_, .f32⟩
  | .hbm, ⟨12, _⟩ => ⟨S4x256x2048, .f32⟩
  | .hbm, ⟨13, _⟩ => ⟨S_, .f32⟩
  | .hbm, ⟨14, _⟩ => ⟨S4x256x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S4x256x2048, .f32⟩
  | .hbm, ⟨23, _⟩ => ⟨S4x256x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S8x128x2048, .bf16⟩
  | .local _ .vmem, ⟨33, _⟩ => ⟨S8x128x2048, .bf16⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | .local _ .vmem, ⟨44, _⟩ => ⟨S1x128x2048, .f32⟩
  | .local _ .vmem, ⟨45, _⟩ => ⟨S1x128x2048, .f32⟩
  | .local _ .vmem, ⟨46, _⟩ => ⟨S1x128x2048, .f32⟩
  | .local _ .vmem, ⟨47, _⟩ => ⟨S1x128x2048, .f32⟩
  | .local _ .vmem, ⟨48, _⟩ => ⟨S8x128x2048, .bf16⟩
  | .local _ .vmem, ⟨49, _⟩ => ⟨S8x128x2048, .bf16⟩
  | .local _ .vmem, ⟨50, _⟩ => ⟨S1x128x2048, .f32⟩
  | .local _ .vmem, ⟨51, _⟩ => ⟨S1x128x2048, .f32⟩
  | .local _ .vmem, ⟨52, _⟩ => ⟨S1x128x2048, .f32⟩
  | .local _ .vmem, ⟨53, _⟩ => ⟨S1x128x2048, .f32⟩
  | .local _ .vmem, ⟨54, _⟩ => ⟨S1x128x2048, .f32⟩
  | .local _ .vmem, ⟨55, _⟩ => ⟨S1x128x2048, .f32⟩
  | .local _ .vmem, ⟨56, _⟩ => ⟨S1x128x2048, .f32⟩
  | .local _ .vmem, ⟨57, _⟩ => ⟨S1x128x2048, .f32⟩
  | .local _ .vmem, ⟨58, _⟩ => ⟨S1x128x2048, .f32⟩
  | .local _ .vmem, ⟨59, _⟩ => ⟨S1x128x2048, .f32⟩
  | .local _ .vmem, ⟨60, _⟩ => ⟨S1x128x2048, .f32⟩
  | .local _ .vmem, ⟨61, _⟩ => ⟨S1x128x2048, .f32⟩
  | .local _ .vmem, ⟨62, _⟩ => ⟨S1x128x2048, .f32⟩
  | .local _ .vmem, ⟨63, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== SquareRefIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S4x256x2048, .f32⟩
  | .hbm, ⟨39, _⟩ => ⟨S_, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | .hbm, ⟨53, _⟩ => ⟨S4x256x2048, .f32⟩
  | .hbm, ⟨54, _⟩ => ⟨S_, .f32⟩
  | .hbm, ⟨55, _⟩ => ⟨S4x256x2048, .f32⟩
  | .hbm, ⟨56, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== WIn.lean ====
abbrev S8x2048x618 : Shape := ⟨3, ![8, 2048, 618]⟩
abbrev S4x2048x618 : Shape := ⟨3, ![4, 2048, 618]⟩
abbrev S_ : Shape := ⟨0, ![]⟩
abbrev S8x256x618 : Shape := ⟨3, ![8, 256, 618]⟩
abbrev S1x256x618 : Shape := ⟨3, ![1, 256, 618]⟩
abbrev S256x618 : Shape := ⟨2, ![256, 618]⟩

abbrev nBuf : Space → Nat
  | .hbm => 31
  | .vmem => 64
  | .smem => 0
  | _ => 0

abbrev bufTy : (tb : Table) → Fin (tcTables nBuf tb) → BufTy
  | .hbm, ⟨0, _⟩ => ⟨S8x2048x618, .bf16⟩
  | .hbm, ⟨1, _⟩ => ⟨S8x2048x618, .bf16⟩
  | .hbm, ⟨2, _⟩ => ⟨S8x2048x618, .bf16⟩
  | .hbm, ⟨3, _⟩ => ⟨S8x2048x618, .bf16⟩
  | .hbm, ⟨4, _⟩ => ⟨S4x2048x618, .f32⟩
  | .hbm, ⟨5, _⟩ => ⟨S4x2048x618, .f32⟩
  | .hbm, ⟨6, _⟩ => ⟨S4x2048x618, .f32⟩
  | .hbm, ⟨7, _⟩ => ⟨S_, .f32⟩
  | .hbm, ⟨8, _⟩ => ⟨S4x2048x618, .f32⟩
  | .hbm, ⟨9, _⟩ => ⟨S_, .f32⟩
  | .hbm, ⟨10, _⟩ => ⟨S4x2048x618, .f32⟩
  | .hbm, ⟨11, _⟩ => ⟨S_, .f32⟩
  | .hbm, ⟨12, _⟩ => ⟨S4x2048x618, .f32⟩
  | .hbm, ⟨13, _⟩ => ⟨S_, .f32⟩
  | .hbm, ⟨14, _⟩ => ⟨S4x2048x618, .f32⟩
  | .hbm, ⟨15, _⟩ => ⟨S4x2048x618, .f32⟩
  | .hbm, ⟨16, _⟩ => ⟨S4x2048x618, .f32⟩
  | .hbm, ⟨17, _⟩ => ⟨S4x2048x618, .f32⟩
  | .hbm, ⟨18, _⟩ => ⟨S4x2048x618, .f32⟩
  | .hbm, ⟨19, _⟩ => ⟨S4x2048x618, .f32⟩
  | .hbm, ⟨20, _⟩ => ⟨S4x2048x618, .f32⟩
  | .hbm, ⟨21, _⟩ => ⟨S4x2048x618, .f32⟩
  | .hbm, ⟨22, _⟩ => ⟨S4x2048x618, .f32⟩
  | .hbm, ⟨23, _⟩ => ⟨S4x2048x618, .f32⟩
  | .hbm, ⟨24, _⟩ => ⟨S4x2048x618, .f32⟩
  | .hbm, ⟨25, _⟩ => ⟨S4x2048x618, .f32⟩
  | .hbm, ⟨26, _⟩ => ⟨S4x2048x618, .f32⟩
  | .hbm, ⟨27, _⟩ => ⟨S4x2048x618, .f32⟩
  | .hbm, ⟨28, _⟩ => ⟨S4x2048x618, .f32⟩
  | .hbm, ⟨29, _⟩ => ⟨S4x2048x618, .f32⟩
  | .hbm, ⟨30, _⟩ => ⟨S4x2048x618, .f32⟩
  | .local _ .vmem, ⟨0, _⟩ => ⟨S8x256x618, .bf16⟩
  | .local _ .vmem, ⟨1, _⟩ => ⟨S8x256x618, .bf16⟩
  | .local _ .vmem, ⟨2, _⟩ => ⟨S1x256x618, .f32⟩
  | .local _ .vmem, ⟨3, _⟩ => ⟨S1x256x618, .f32⟩
  | .local _ .vmem, ⟨4, _⟩ => ⟨S1x256x618, .f32⟩
  | .local _ .vmem, ⟨5, _⟩ => ⟨S1x256x618, .f32⟩
  | .local _ .vmem, ⟨6, _⟩ => ⟨S1x256x618, .f32⟩
  | .local _ .vmem, ⟨7, _⟩ => ⟨S1x256x618, .f32⟩
  | .local _ .vmem, ⟨8, _⟩ => ⟨S1x256x618, .f32⟩
  | .local _ .vmem, ⟨9, _⟩ => ⟨S1x256x618, .f32⟩
  | .local _ .vmem, ⟨10, _⟩ => ⟨S1x256x618, .f32⟩
  | .local _ .vmem, ⟨11, _⟩ => ⟨S1x256x618, .f32⟩
  | .local _ .vmem, ⟨12, _⟩ => ⟨S1x256x618, .f32⟩
  | .local _ .vmem, ⟨13, _⟩ => ⟨S1x256x618, .f32⟩
  | .local _ .vmem, ⟨14, _⟩ => ⟨S1x256x618, .f32⟩
  | .local _ .vmem, ⟨15, _⟩ => ⟨S1x256x618, .f32⟩
  | .local _ .vmem, ⟨16, _⟩ => ⟨S8x256x618, .bf16⟩
  | .local _ .vmem, ⟨17, _⟩ => ⟨S8x256x618, .bf16⟩
  | .local _ .vmem, ⟨18, _⟩ => ⟨S1x256x618, .f32⟩
  | .local _ .vmem, ⟨19, _⟩ => ⟨S1x256x618, .f32⟩
  | .local _ .vmem, ⟨20, _⟩ => ⟨S1x256x618, .f32⟩
  | .local _ .vmem, ⟨21, _⟩ => ⟨S1x256x618, .f32⟩
  | .local _ .vmem, ⟨22, _⟩ => ⟨S1x256x618, .f32⟩
  | .local _ .vmem, ⟨23, _⟩ => ⟨S1x256x618, .f32⟩
  | .local _ .vmem, ⟨24, _⟩ => ⟨S1x256x618, .f32⟩
  | .local _ .vmem, ⟨25, _⟩ => ⟨S1x256x618, .f32⟩
  | .local _ .vmem, ⟨26, _⟩ => ⟨S1x256x618, .f32⟩
  | .local _ .vmem, ⟨27, _⟩ => ⟨S1x256x618, .f32⟩
  | .local _ .vmem, ⟨28, _⟩ => ⟨S1x256x618, .f32⟩
  | .local _ .vmem, ⟨29, _⟩ => ⟨S1x256x618, .f32⟩
  | .local _ .vmem, ⟨30, _⟩ => ⟨S1x256x618, .f32⟩
  | .local _ .vmem, ⟨31, _⟩ => ⟨S1x256x618, .f32⟩
  | .local _ .vmem, ⟨32, _⟩ => ⟨S8x256x618, .bf16⟩
  | .local _ .vmem, ⟨33, _⟩ => ⟨S8x256x618, .bf16⟩
  | .local _ .vmem, ⟨34, _⟩ => ⟨S1x256x618, .f32⟩
  | .local _ .vmem, ⟨35, _⟩ => ⟨S1x256x618, .f32⟩
  | .local _ .vmem, ⟨36, _⟩ => ⟨S1x256x618, .f32⟩
  | .local _ .vmem, ⟨37, _⟩ => ⟨S1x256x618, .f32⟩
  | .local _ .vmem, ⟨38, _⟩ => ⟨S1x256x618, .f32⟩
  | .local _ .vmem, ⟨39, _⟩ => ⟨S1x256x618, .f32⟩
  | .local _ .vmem, ⟨40, _⟩ => ⟨S1x256x618, .f32⟩
  | .local _ .vmem, ⟨41, _⟩ => ⟨S1x256x618, .f32⟩
  | .local _ .vmem, ⟨42, _⟩ => ⟨S1x256x618, .f32⟩
  | .local _ .vmem, ⟨43, _⟩ => ⟨S1x256x618, .f32⟩
  | .local _ .vmem, ⟨44, _⟩ => ⟨S1x256x618, .f32⟩
  | .local _ .vmem, ⟨45, _⟩ => ⟨S1x256x618, .f32⟩
  | .local _ .vmem, ⟨46, _⟩ => ⟨S1x256x618, .f32⟩
  | .local _ .vmem, ⟨47, _⟩ => ⟨S1x256x618, .f32⟩
  | .local _ .vmem, ⟨48, _⟩ => ⟨S8x256x618, .bf16⟩
  | .local _ .vmem, ⟨49, _⟩ => ⟨S8x256x618, .bf16⟩
  | .local _ .vmem, ⟨50, _⟩ => ⟨S1x256x618, .f32⟩
  | .local _ .vmem, ⟨51, _⟩ => ⟨S1x256x618, .f32⟩
  | .local _ .vmem, ⟨52, _⟩ => ⟨S1x256x618, .f32⟩
  | .local _ .vmem, ⟨53, _⟩ => ⟨S1x256x618, .f32⟩
  | .local _ .vmem, ⟨54, _⟩ => ⟨S1x256x618, .f32⟩
  | .local _ .vmem, ⟨55, _⟩ => ⟨S1x256x618, .f32⟩
  | .local _ .vmem, ⟨56, _⟩ => ⟨S1x256x618, .f32⟩
  | .local _ .vmem, ⟨57, _⟩ => ⟨S1x256x618, .f32⟩
  | .local _ .vmem, ⟨58, _⟩ => ⟨S1x256x618, .f32⟩
  | .local _ .vmem, ⟨59, _⟩ => ⟨S1x256x618, .f32⟩
  | .local _ .vmem, ⟨60, _⟩ => ⟨S1x256x618, .f32⟩
  | .local _ .vmem, ⟨61, _⟩ => ⟨S1x256x618, .f32⟩
  | .local _ .vmem, ⟨62, _⟩ => ⟨S1x256x618, .f32⟩
  | .local _ .vmem, ⟨63, _⟩ => ⟨S1x256x618, .f32⟩
  | _, _ => ⟨S8x2048x618, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x256x618 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x618 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x618 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x618 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x618 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x618 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x618 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x618 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x256x618 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x618 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x618 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x618 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x618 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x618 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x618 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x618 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x256x618 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x618 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x618 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x618 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x618 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x618 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x618 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x618 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x256x618 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x618 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x618 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x618 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x618 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x618 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x618 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x618 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== WInIdeal.lean ====
abbrev S8x2048x618 : Shape := ⟨3, ![8, 2048, 618]⟩
abbrev S4x2048x618 : Shape := ⟨3, ![4, 2048, 618]⟩
abbrev S_ : Shape := ⟨0, ![]⟩
abbrev S8x256x618 : Shape := ⟨3, ![8, 256, 618]⟩
abbrev S1x256x618 : Shape := ⟨3, ![1, 256, 618]⟩
abbrev S256x618 : Shape := ⟨2, ![256, 618]⟩

abbrev nBuf : Space → Nat
  | .hbm => 31
  | .vmem => 64
  | .smem => 0
  | _ => 0

abbrev bufTy : (tb : Table) → Fin (tcTables nBuf tb) → BufTy
  | .hbm, ⟨0, _⟩ => ⟨S8x2048x618, .bf16⟩
  | .hbm, ⟨1, _⟩ => ⟨S8x2048x618, .bf16⟩
  | .hbm, ⟨2, _⟩ => ⟨S8x2048x618, .bf16⟩
  | .hbm, ⟨3, _⟩ => ⟨S8x2048x618, .bf16⟩
  | .hbm, ⟨4, _⟩ => ⟨S4x2048x618, .f32⟩
  | .hbm, ⟨5, _⟩ => ⟨S4x2048x618, .f32⟩
  | .hbm, ⟨6, _⟩ => ⟨S4x2048x618, .f32⟩
  | .hbm, ⟨7, _⟩ => ⟨S_, .f32⟩
  | .hbm, ⟨8, _⟩ => ⟨S4x2048x618, .f32⟩
  | .hbm, ⟨9, _⟩ => ⟨S_, .f32⟩
  | .hbm, ⟨10, _⟩ => ⟨S4x2048x618, .f32⟩
  | .hbm, ⟨11, _⟩ => ⟨S_, .f32⟩
  | .hbm, ⟨12, _⟩ => ⟨S4x2048x618, .f32⟩
  | .hbm, ⟨13, _⟩ => ⟨S_, .f32⟩
  | .hbm, ⟨14, _⟩ => ⟨S4x2048x618, .f32⟩
  | .hbm, ⟨15, _⟩ => ⟨S4x2048x618, .f32⟩
  | .hbm, ⟨16, _⟩ => ⟨S4x2048x618, .f32⟩
  | .hbm, ⟨17, _⟩ => ⟨S4x2048x618, .f32⟩
  | .hbm, ⟨18, _⟩ => ⟨S4x2048x618, .f32⟩
  | .hbm, ⟨19, _⟩ => ⟨S4x2048x618, .f32⟩
  | .hbm, ⟨20, _⟩ => ⟨S4x2048x618, .f32⟩
  | .hbm, ⟨21, _⟩ => ⟨S4x2048x618, .f32⟩
  | .hbm, ⟨22, _⟩ => ⟨S4x2048x618, .f32⟩
  | .hbm, ⟨23, _⟩ => ⟨S4x2048x618, .f32⟩
  | .hbm, ⟨24, _⟩ => ⟨S4x2048x618, .f32⟩
  | .hbm, ⟨25, _⟩ => ⟨S4x2048x618, .f32⟩
  | .hbm, ⟨26, _⟩ => ⟨S4x2048x618, .f32⟩
  | .hbm, ⟨27, _⟩ => ⟨S4x2048x618, .f32⟩
  | .hbm, ⟨28, _⟩ => ⟨S4x2048x618, .f32⟩
  | .hbm, ⟨29, _⟩ => ⟨S4x2048x618, .f32⟩
  | .hbm, ⟨30, _⟩ => ⟨S4x2048x618, .f32⟩
  | .local _ .vmem, ⟨0, _⟩ => ⟨S8x256x618, .bf16⟩
  | .local _ .vmem, ⟨1, _⟩ => ⟨S8x256x618, .bf16⟩
  | .local _ .vmem, ⟨2, _⟩ => ⟨S1x256x618, .f32⟩
  | .local _ .vmem, ⟨3, _⟩ => ⟨S1x256x618, .f32⟩
  | .local _ .vmem, ⟨4, _⟩ => ⟨S1x256x618, .f32⟩
  | .local _ .vmem, ⟨5, _⟩ => ⟨S1x256x618, .f32⟩
  | .local _ .vmem, ⟨6, _⟩ => ⟨S1x256x618, .f32⟩
  | .local _ .vmem, ⟨7, _⟩ => ⟨S1x256x618, .f32⟩
  | .local _ .vmem, ⟨8, _⟩ => ⟨S1x256x618, .f32⟩
  | .local _ .vmem, ⟨9, _⟩ => ⟨S1x256x618, .f32⟩
  | .local _ .vmem, ⟨10, _⟩ => ⟨S1x256x618, .f32⟩
  | .local _ .vmem, ⟨11, _⟩ => ⟨S1x256x618, .f32⟩
  | .local _ .vmem, ⟨12, _⟩ => ⟨S1x256x618, .f32⟩
  | .local _ .vmem, ⟨13, _⟩ => ⟨S1x256x618, .f32⟩
  | .local _ .vmem, ⟨14, _⟩ => ⟨S1x256x618, .f32⟩
  | .local _ .vmem, ⟨15, _⟩ => ⟨S1x256x618, .f32⟩
  | .local _ .vmem, ⟨16, _⟩ => ⟨S8x256x618, .bf16⟩
  | .local _ .vmem, ⟨17, _⟩ => ⟨S8x256x618, .bf16⟩
  | .local _ .vmem, ⟨18, _⟩ => ⟨S1x256x618, .f32⟩
  | .local _ .vmem, ⟨19, _⟩ => ⟨S1x256x618, .f32⟩
  | .local _ .vmem, ⟨20, _⟩ => ⟨S1x256x618, .f32⟩
  | .local _ .vmem, ⟨21, _⟩ => ⟨S1x256x618, .f32⟩
  | .local _ .vmem, ⟨22, _⟩ => ⟨S1x256x618, .f32⟩
  | .local _ .vmem, ⟨23, _⟩ => ⟨S1x256x618, .f32⟩
  | .local _ .vmem, ⟨24, _⟩ => ⟨S1x256x618, .f32⟩
  | .local _ .vmem, ⟨25, _⟩ => ⟨S1x256x618, .f32⟩
  | .local _ .vmem, ⟨26, _⟩ => ⟨S1x256x618, .f32⟩
  | .local _ .vmem, ⟨27, _⟩ => ⟨S1x256x618, .f32⟩
  | .local _ .vmem, ⟨28, _⟩ => ⟨S1x256x618, .f32⟩
  | .local _ .vmem, ⟨29, _⟩ => ⟨S1x256x618, .f32⟩
  | .local _ .vmem, ⟨30, _⟩ => ⟨S1x256x618, .f32⟩
  | .local _ .vmem, ⟨31, _⟩ => ⟨S1x256x618, .f32⟩
  | .local _ .vmem, ⟨32, _⟩ => ⟨S8x256x618, .bf16⟩
  | .local _ .vmem, ⟨33, _⟩ => ⟨S8x256x618, .bf16⟩
  | .local _ .vmem, ⟨34, _⟩ => ⟨S1x256x618, .f32⟩
  | .local _ .vmem, ⟨35, _⟩ => ⟨S1x256x618, .f32⟩
  | .local _ .vmem, ⟨36, _⟩ => ⟨S1x256x618, .f32⟩
  | .local _ .vmem, ⟨37, _⟩ => ⟨S1x256x618, .f32⟩
  | .local _ .vmem, ⟨38, _⟩ => ⟨S1x256x618, .f32⟩
  | .local _ .vmem, ⟨39, _⟩ => ⟨S1x256x618, .f32⟩
  | .local _ .vmem, ⟨40, _⟩ => ⟨S1x256x618, .f32⟩
  | .local _ .vmem, ⟨41, _⟩ => ⟨S1x256x618, .f32⟩
  | .local _ .vmem, ⟨42, _⟩ => ⟨S1x256x618, .f32⟩
  | .local _ .vmem, ⟨43, _⟩ => ⟨S1x256x618, .f32⟩
  | .local _ .vmem, ⟨44, _⟩ => ⟨S1x256x618, .f32⟩
  | .local _ .vmem, ⟨45, _⟩ => ⟨S1x256x618, .f32⟩
  | .local _ .vmem, ⟨46, _⟩ => ⟨S1x256x618, .f32⟩
  | .local _ .vmem, ⟨47, _⟩ => ⟨S1x256x618, .f32⟩
  | .local _ .vmem, ⟨48, _⟩ => ⟨S8x256x618, .bf16⟩
  | .local _ .vmem, ⟨49, _⟩ => ⟨S8x256x618, .bf16⟩
  | .local _ .vmem, ⟨50, _⟩ => ⟨S1x256x618, .f32⟩
  | .local _ .vmem, ⟨51, _⟩ => ⟨S1x256x618, .f32⟩
  | .local _ .vmem, ⟨52, _⟩ => ⟨S1x256x618, .f32⟩
  | .local _ .vmem, ⟨53, _⟩ => ⟨S1x256x618, .f32⟩
  | .local _ .vmem, ⟨54, _⟩ => ⟨S1x256x618, .f32⟩
  | .local _ .vmem, ⟨55, _⟩ => ⟨S1x256x618, .f32⟩
  | .local _ .vmem, ⟨56, _⟩ => ⟨S1x256x618, .f32⟩
  | .local _ .vmem, ⟨57, _⟩ => ⟨S1x256x618, .f32⟩
  | .local _ .vmem, ⟨58, _⟩ => ⟨S1x256x618, .f32⟩
  | .local _ .vmem, ⟨59, _⟩ => ⟨S1x256x618, .f32⟩
  | .local _ .vmem, ⟨60, _⟩ => ⟨S1x256x618, .f32⟩
  | .local _ .vmem, ⟨61, _⟩ => ⟨S1x256x618, .f32⟩
  | .local _ .vmem, ⟨62, _⟩ => ⟨S1x256x618, .f32⟩
  | .local _ .vmem, ⟨63, _⟩ => ⟨S1x256x618, .f32⟩
  | _, _ => ⟨S8x2048x618, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x256x618 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x618 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x618 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x618 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x618 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x618 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x618 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x618 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x256x618 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x618 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x618 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x618 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x618 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x618 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x618 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x618 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x256x618 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x618 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x618 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x618 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x618 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x618 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x618 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x618 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x256x618 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x618 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x618 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x618 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x618 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x618 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x618 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x618 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== WInRefIdeal.lean ====
abbrev S8x2048x618 : Shape := ⟨3, ![8, 2048, 618]⟩
abbrev S4x2048x618 : Shape := ⟨3, ![4, 2048, 618]⟩
abbrev S_ : Shape := ⟨0, ![]⟩
abbrev S2048x618 : Shape := ⟨2, ![2048, 618]⟩
abbrev S1x2048x618 : Shape := ⟨3, ![1, 2048, 618]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x618, .bf16⟩
  | .hbm, ⟨1, _⟩ => ⟨S8x2048x618, .bf16⟩
  | .hbm, ⟨2, _⟩ => ⟨S8x2048x618, .bf16⟩
  | .hbm, ⟨3, _⟩ => ⟨S8x2048x618, .bf16⟩
  | .hbm, ⟨4, _⟩ => ⟨S4x2048x618, .f32⟩
  | .hbm, ⟨5, _⟩ => ⟨S4x2048x618, .f32⟩
  | .hbm, ⟨6, _⟩ => ⟨S4x2048x618, .f32⟩
  | .hbm, ⟨7, _⟩ => ⟨S8x2048x618, .f32⟩
  | .hbm, ⟨8, _⟩ => ⟨S_, .f32⟩
  | .hbm, ⟨9, _⟩ => ⟨S2048x618, .f32⟩
  | .hbm, ⟨10, _⟩ => ⟨S8x2048x618, .f32⟩
  | .hbm, ⟨11, _⟩ => ⟨S_, .f32⟩
  | .hbm, ⟨12, _⟩ => ⟨S2048x618, .f32⟩
  | .hbm, ⟨13, _⟩ => ⟨S8x2048x618, .f32⟩
  | .hbm, ⟨14, _⟩ => ⟨S_, .f32⟩
  | .hbm, ⟨15, _⟩ => ⟨S2048x618, .f32⟩
  | .hbm, ⟨16, _⟩ => ⟨S8x2048x618, .f32⟩
  | .hbm, ⟨17, _⟩ => ⟨S_, .f32⟩
  | .hbm, ⟨18, _⟩ => ⟨S2048x618, .f32⟩
  | .hbm, ⟨19, _⟩ => ⟨S1x2048x618, .f32⟩
  | .hbm, ⟨20, _⟩ => ⟨S1x2048x618, .f32⟩
  | .hbm, ⟨21, _⟩ => ⟨S1x2048x618, .f32⟩
  | .hbm, ⟨22, _⟩ => ⟨S1x2048x618, .f32⟩
  | .hbm, ⟨23, _⟩ => ⟨S4x2048x618, .f32⟩
  | .hbm, ⟨24, _⟩ => ⟨S_, .f32⟩
  | .hbm, ⟨25, _⟩ => ⟨S4x2048x618, .f32⟩
  | .hbm, ⟨26, _⟩ => ⟨S4x2048x618, .f32⟩
  | .hbm, ⟨27, _⟩ => ⟨S_, .f32⟩
  | .hbm, ⟨28, _⟩ => ⟨S4x2048x618, .f32⟩
  | .hbm, ⟨29, _⟩ => ⟨S4x2048x618, .f32⟩
  | .hbm, ⟨30, _⟩ => ⟨S4x2048x618, .f32⟩
  | .hbm, ⟨31, _⟩ => ⟨S_, .f32⟩
  | .hbm, ⟨32, _⟩ => ⟨S4x2048x618, .f32⟩
  | .hbm, ⟨33, _⟩ => ⟨S4x2048x618, .f32⟩
  | .hbm, ⟨34, _⟩ => ⟨S4x2048x618, .f32⟩
  | .hbm, ⟨35, _⟩ => ⟨S_, .f32⟩
  | .hbm, ⟨36, _⟩ => ⟨S4x2048x618, .f32⟩
  | .hbm, ⟨37, _⟩ => ⟨S4x2048x618, .f32⟩
  | .hbm, ⟨38, _⟩ => ⟨S4x2048x618, .f32⟩
  | .hbm, ⟨39, _⟩ => ⟨S_, .f32⟩
  | .hbm, ⟨40, _⟩ => ⟨S4x2048x618, .f32⟩
  | .hbm, ⟨41, _⟩ => ⟨S4x2048x618, .f32⟩
  | .hbm, ⟨42, _⟩ => ⟨S_, .f32⟩
  | .hbm, ⟨43, _⟩ => ⟨S4x2048x618, .f32⟩
  | .hbm, ⟨44, _⟩ => ⟨S4x2048x618, .f32⟩
  | .hbm, ⟨45, _⟩ => ⟨S4x2048x618, .f32⟩
  | .hbm, ⟨46, _⟩ => ⟨S_, .f32⟩
  | .hbm, ⟨47, _⟩ => ⟨S4x2048x618, .f32⟩
  | .hbm, ⟨48, _⟩ => ⟨S4x2048x618, .f32⟩
  | .hbm, ⟨49, _⟩ => ⟨S4x2048x618, .f32⟩
  | .hbm, ⟨50, _⟩ => ⟨S_, .f32⟩
  | .hbm, ⟨51, _⟩ => ⟨S4x2048x618, .f32⟩
  | .hbm, ⟨52, _⟩ => ⟨S4x2048x618, .f32⟩
  | .hbm, ⟨53, _⟩ => ⟨S4x2048x618, .f32⟩
  | .hbm, ⟨54, _⟩ => ⟨S_, .f32⟩
  | .hbm, ⟨55, _⟩ => ⟨S4x2048x618, .f32⟩
  | .hbm, ⟨56, _⟩ => ⟨S4x2048x618, .f32⟩
  | _, _ => ⟨S8x2048x618, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== QUp.lean ====
abbrev S8x512x192 : Shape := ⟨3, ![8, 512, 192]⟩
abbrev S4x512x192 : Shape := ⟨3, ![4, 512, 192]⟩
abbrev S_ : Shape := ⟨0, ![]⟩
abbrev S1x512x192 : Shape := ⟨3, ![1, 512, 192]⟩
abbrev S512x192 : Shape := ⟨2, ![512, 192]⟩

abbrev nBuf : Space → Nat
  | .hbm => 31
  | .vmem => 32
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S8x512x192, .bf16⟩
  | .hbm, ⟨3, _⟩ => ⟨S8x512x192, .bf16⟩
  | .hbm, ⟨4, _⟩ => ⟨S4x512x192, .f32⟩
  | .hbm, ⟨5, _⟩ => ⟨S4x512x192, .f32⟩
  | .hbm, ⟨6, _⟩ => ⟨S4x512x192, .f32⟩
  | .hbm, ⟨7, _⟩ => ⟨S_, .f32⟩
  | .hbm, ⟨8, _⟩ => ⟨S4x512x192, .f32⟩
  | .hbm, ⟨9, _⟩ => ⟨S_, .f32⟩
  | .hbm, ⟨10, _⟩ => ⟨S4x512x192, .f32⟩
  | .hbm, ⟨11, _⟩ => ⟨S_, .f32⟩
  | .hbm, ⟨12, _⟩ => ⟨S4x512x192, .f32⟩
  | .hbm, ⟨13, _⟩ => ⟨S_, .f32⟩
  | .hbm, ⟨14, _⟩ => ⟨S4x512x192, .f32⟩
  | .hbm, ⟨15, _⟩ => ⟨S4x512x192, .f32⟩
  | .hbm, ⟨16, _⟩ => ⟨S4x512x192, .f32⟩
  | .hbm, ⟨17, _⟩ => ⟨S4x512x192, .f32⟩
  | .hbm, ⟨18, _⟩ => ⟨S4x512x192, .f32⟩
  | .hbm, ⟨19, _⟩ => ⟨S4x512x192, .f32⟩
  | .hbm, ⟨20, _⟩ => ⟨S4x512x192, .f32⟩
  | .hbm, ⟨21, _⟩ => ⟨S4x512x192, .f32⟩
  | .hbm, ⟨22, _⟩ => ⟨S4x512x192, .f32⟩
  | .hbm, ⟨23, _⟩ => ⟨S4x512x192, .f32⟩
  | .hbm, ⟨24, _⟩ => ⟨S4x512x192, .f32⟩
  | .hbm, ⟨25, _⟩ => ⟨S4x512x192, .f32⟩
  | .hbm, ⟨26, _⟩ => ⟨S4x512x192, .f32⟩
  | .hbm, ⟨27, _⟩ => ⟨S4x512x192, .f32⟩
  | .hbm, ⟨28, _⟩ => ⟨S4x512x192, .f32⟩
  | .hbm, ⟨29, _⟩ => ⟨S4x512x192, .f32⟩
  | .hbm, ⟨30, _⟩ => ⟨S4x512x192, .f32⟩
  | .local _ .vmem, ⟨0, _⟩ => ⟨S8x512x192, .bf16⟩
  | .local _ .vmem, ⟨1, _⟩ => ⟨S1x512x192, .f32⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S8x512x192, .bf16⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | .local _ .vmem, ⟨16, _⟩ => ⟨S8x512x192, .bf16⟩
  | .local _ .vmem, ⟨17, _⟩ => ⟨S1x512x192, .f32⟩
  | .local _ .vmem, ⟨18, _⟩ => ⟨S1x512x192, .f32⟩
  | .local _ .vmem, ⟨19, _⟩ => ⟨S1x512x192, .f32⟩
  | .local _ .vmem, ⟨20, _⟩ => ⟨S1x512x192, .f32⟩
  | .local _ .vmem, ⟨21, _⟩ => ⟨S1x512x192, .f32⟩
  | .local _ .vmem, ⟨22, _⟩ => ⟨S1x512x192, .f32⟩
  | .local _ .vmem, ⟨23, _⟩ => ⟨S1x512x192, .f32⟩
  | .local _ .vmem, ⟨24, _⟩ => ⟨S8x512x192, .bf16⟩
  | .local _ .vmem, ⟨25, _⟩ => ⟨S1x512x192, .f32⟩
  | .local _ .vmem, ⟨26, _⟩ => ⟨S1x512x192, .f32⟩
  | .local _ .vmem, ⟨27, _⟩ => ⟨S1x512x192, .f32⟩
  | .local _ .vmem, ⟨28, _⟩ => ⟨S1x512x192, .f32⟩
  | .local _ .vmem, ⟨29, _⟩ => ⟨S1x512x192, .f32⟩
  | .local _ .vmem, ⟨30, _⟩ => ⟨S1x512x192, .f32⟩
  | .local _ .vmem, ⟨31, _⟩ => ⟨S1x512x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x512x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S8x512x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x512x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x512x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x512x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x512x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x512x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x512x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x512x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S8x512x192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x512x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x512x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x512x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x512x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x512x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x512x192 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x512x192 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S8x512x192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x512x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x512x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x512x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x512x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x512x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x512x192 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x512x192 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== QUpIdeal.lean ====
abbrev S8x512x192 : Shape := ⟨3, ![8, 512, 192]⟩
abbrev S4x512x192 : Shape := ⟨3, ![4, 512, 192]⟩
abbrev S_ : Shape := ⟨0, ![]⟩
abbrev S1x512x192 : Shape := ⟨3, ![1, 512, 192]⟩
abbrev S512x192 : Shape := ⟨2, ![512, 192]⟩

abbrev nBuf : Space → Nat
  | .hbm => 31
  | .vmem => 32
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S8x512x192, .bf16⟩
  | .hbm, ⟨3, _⟩ => ⟨S8x512x192, .bf16⟩
  | .hbm, ⟨4, _⟩ => ⟨S4x512x192, .f32⟩
  | .hbm, ⟨5, _⟩ => ⟨S4x512x192, .f32⟩
  | .hbm, ⟨6, _⟩ => ⟨S4x512x192, .f32⟩
  | .hbm, ⟨7, _⟩ => ⟨S_, .f32⟩
  | .hbm, ⟨8, _⟩ => ⟨S4x512x192, .f32⟩
  | .hbm, ⟨9, _⟩ => ⟨S_, .f32⟩
  | .hbm, ⟨10, _⟩ => ⟨S4x512x192, .f32⟩
  | .hbm, ⟨11, _⟩ => ⟨S_, .f32⟩
  | .hbm, ⟨12, _⟩ => ⟨S4x512x192, .f32⟩
  | .hbm, ⟨13, _⟩ => ⟨S_, .f32⟩
  | .hbm, ⟨14, _⟩ => ⟨S4x512x192, .f32⟩
  | .hbm, ⟨15, _⟩ => ⟨S4x512x192, .f32⟩
  | .hbm, ⟨16, _⟩ => ⟨S4x512x192, .f32⟩
  | .hbm, ⟨17, _⟩ => ⟨S4x512x192, .f32⟩
  | .hbm, ⟨18, _⟩ => ⟨S4x512x192, .f32⟩
  | .hbm, ⟨19, _⟩ => ⟨S4x512x192, .f32⟩
  | .hbm, ⟨20, _⟩ => ⟨S4x512x192, .f32⟩
  | .hbm, ⟨21, _⟩ => ⟨S4x512x192, .f32⟩
  | .hbm, ⟨22, _⟩ => ⟨S4x512x192, .f32⟩
  | .hbm, ⟨23, _⟩ => ⟨S4x512x192, .f32⟩
  | .hbm, ⟨24, _⟩ => ⟨S4x512x192, .f32⟩
  | .hbm, ⟨25, _⟩ => ⟨S4x512x192, .f32⟩
  | .hbm, ⟨26, _⟩ => ⟨S4x512x192, .f32⟩
  | .hbm, ⟨27, _⟩ => ⟨S4x512x192, .f32⟩
  | .hbm, ⟨28, _⟩ => ⟨S4x512x192, .f32⟩
  | .hbm, ⟨29, _⟩ => ⟨S4x512x192, .f32⟩
  | .hbm, ⟨30, _⟩ => ⟨S4x512x192, .f32⟩
  | .local _ .vmem, ⟨0, _⟩ => ⟨S8x512x192, .bf16⟩
  | .local _ .vmem, ⟨1, _⟩ => ⟨S1x512x192, .f32⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S8x512x192, .bf16⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | .local _ .vmem, ⟨16, _⟩ => ⟨S8x512x192, .bf16⟩
  | .local _ .vmem, ⟨17, _⟩ => ⟨S1x512x192, .f32⟩
  | .local _ .vmem, ⟨18, _⟩ => ⟨S1x512x192, .f32⟩
  | .local _ .vmem, ⟨19, _⟩ => ⟨S1x512x192, .f32⟩
  | .local _ .vmem, ⟨20, _⟩ => ⟨S1x512x192, .f32⟩
  | .local _ .vmem, ⟨21, _⟩ => ⟨S1x512x192, .f32⟩
  | .local _ .vmem, ⟨22, _⟩ => ⟨S1x512x192, .f32⟩
  | .local _ .vmem, ⟨23, _⟩ => ⟨S1x512x192, .f32⟩
  | .local _ .vmem, ⟨24, _⟩ => ⟨S8x512x192, .bf16⟩
  | .local _ .vmem, ⟨25, _⟩ => ⟨S1x512x192, .f32⟩
  | .local _ .vmem, ⟨26, _⟩ => ⟨S1x512x192, .f32⟩
  | .local _ .vmem, ⟨27, _⟩ => ⟨S1x512x192, .f32⟩
  | .local _ .vmem, ⟨28, _⟩ => ⟨S1x512x192, .f32⟩
  | .local _ .vmem, ⟨29, _⟩ => ⟨S1x512x192, .f32⟩
  | .local _ .vmem, ⟨30, _⟩ => ⟨S1x512x192, .f32⟩
  | .local _ .vmem, ⟨31, _⟩ => ⟨S1x512x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x512x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S8x512x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x512x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x512x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x512x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x512x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x512x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x512x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x512x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S8x512x192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x512x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x512x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x512x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x512x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x512x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x512x192 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x512x192 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S8x512x192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x512x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x512x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x512x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x512x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x512x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x512x192 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x512x192 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== QUpRefIdeal.lean ====
abbrev S8x512x192 : Shape := ⟨3, ![8, 512, 192]⟩
abbrev S4x512x192 : Shape := ⟨3, ![4, 512, 192]⟩
abbrev S_ : Shape := ⟨0, ![]⟩
abbrev S512x192 : Shape := ⟨2, ![512, 192]⟩
abbrev S1x512x192 : Shape := ⟨3, ![1, 512, 192]⟩

abbrev nBuf : Space → Nat
  | .hbm => 57
  | .vmem => 0
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S8x512x192, .bf16⟩
  | .hbm, ⟨3, _⟩ => ⟨S8x512x192, .bf16⟩
  | .hbm, ⟨4, _⟩ => ⟨S4x512x192, .f32⟩
  | .hbm, ⟨5, _⟩ => ⟨S4x512x192, .f32⟩
  | .hbm, ⟨6, _⟩ => ⟨S4x512x192, .f32⟩
  | .hbm, ⟨7, _⟩ => ⟨S8x512x192, .f32⟩
  | .hbm, ⟨8, _⟩ => ⟨S_, .f32⟩
  | .hbm, ⟨9, _⟩ => ⟨S512x192, .f32⟩
  | .hbm, ⟨10, _⟩ => ⟨S8x512x192, .f32⟩
  | .hbm, ⟨11, _⟩ => ⟨S_, .f32⟩
  | .hbm, ⟨12, _⟩ => ⟨S512x192, .f32⟩
  | .hbm, ⟨13, _⟩ => ⟨S8x512x192, .f32⟩
  | .hbm, ⟨14, _⟩ => ⟨S_, .f32⟩
  | .hbm, ⟨15, _⟩ => ⟨S512x192, .f32⟩
  | .hbm, ⟨16, _⟩ => ⟨S8x512x192, .f32⟩
  | .hbm, ⟨17, _⟩ => ⟨S_, .f32⟩
  | .hbm, ⟨18, _⟩ => ⟨S512x192, .f32⟩
  | .hbm, ⟨19, _⟩ => ⟨S1x512x192, .f32⟩
  | .hbm, ⟨20, _⟩ => ⟨S1x512x192, .f32⟩
  | .hbm, ⟨21, _⟩ => ⟨S1x512x192, .f32⟩
  | .hbm, ⟨22, _⟩ => ⟨S1x512x192, .f32⟩
  | .hbm, ⟨23, _⟩ => ⟨S4x512x192, .f32⟩
  | .hbm, ⟨24, _⟩ => ⟨S_, .f32⟩
  | .hbm, ⟨25, _⟩ => ⟨S4x512x192, .f32⟩
  | .hbm, ⟨26, _⟩ => ⟨S4x512x192, .f32⟩
  | .hbm, ⟨27, _⟩ => ⟨S_, .f32⟩
  | .hbm, ⟨28, _⟩ => ⟨S4x512x192, .f32⟩
  | .hbm, ⟨29, _⟩ => ⟨S4x512x192, .f32⟩
  | .hbm, ⟨30, _⟩ => ⟨S4x512x192, .f32⟩
  | .hbm, ⟨31, _⟩ => ⟨S_, .f32⟩
  | .hbm, ⟨32, _⟩ => ⟨S4x512x192, .f32⟩
  | .hbm, ⟨33, _⟩ => ⟨S4x512x192, .f32⟩
  | .hbm, ⟨34, _⟩ => ⟨S4x512x192, .f32⟩
  | .hbm, ⟨35, _⟩ => ⟨S_, .f32⟩
  | .hbm, ⟨36, _⟩ => ⟨S4x512x192, .f32⟩
  | .hbm, ⟨37, _⟩ => ⟨S4x512x192, .f32⟩
  | .hbm, ⟨38, _⟩ => ⟨S4x512x192, .f32⟩
  | .hbm, ⟨39, _⟩ => ⟨S_, .f32⟩
  | .hbm, ⟨40, _⟩ => ⟨S4x512x192, .f32⟩
  | .hbm, ⟨41, _⟩ => ⟨S4x512x192, .f32⟩
  | .hbm, ⟨42, _⟩ => ⟨S_, .f32⟩
  | .hbm, ⟨43, _⟩ => ⟨S4x512x192, .f32⟩
  | .hbm, ⟨44, _⟩ => ⟨S4x512x192, .f32⟩
  | .hbm, ⟨45, _⟩ => ⟨S4x512x192, .f32⟩
  | .hbm, ⟨46, _⟩ => ⟨S_, .f32⟩
  | .hbm, ⟨47, _⟩ => ⟨S4x512x192, .f32⟩
  | .hbm, ⟨48, _⟩ => ⟨S4x512x192, .f32⟩
  | .hbm, ⟨49, _⟩ => ⟨S4x512x192, .f32⟩
  | .hbm, ⟨50, _⟩ => ⟨S_, .f32⟩
  | .hbm, ⟨51, _⟩ => ⟨S4x512x192, .f32⟩
  | .hbm, ⟨52, _⟩ => ⟨S4x512x192, .f32⟩
  | .hbm, ⟨53, _⟩ => ⟨S4x512x192, .f32⟩
  | .hbm, ⟨54, _⟩ => ⟨S_, .f32⟩
  | .hbm, ⟨55, _⟩ => ⟨S4x512x192, .f32⟩
  | .hbm, ⟨56, _⟩ => ⟨S4x512x192, .f32⟩
  | _, _ => ⟨S8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KvUp.lean ====
abbrev S8x256x256 : Shape := ⟨3, ![8, 256, 256]⟩
abbrev S4x256x256 : Shape := ⟨3, ![4, 256, 256]⟩
abbrev S_ : Shape := ⟨0, ![]⟩
abbrev S1x256x256 : Shape := ⟨3, ![1, 256, 256]⟩
abbrev S256x256 : Shape := ⟨2, ![256, 256]⟩

abbrev nBuf : Space → Nat
  | .hbm => 31
  | .vmem => 32
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S8x256x256, .bf16⟩
  | .hbm, ⟨3, _⟩ => ⟨S8x256x256, .bf16⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S_, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S_, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S4x256x256, .f32⟩
  | .local _ .vmem, ⟨0, _⟩ => ⟨S8x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S8x256x256, .bf16⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S8x256x256, .bf16⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S8x256x256, .bf16⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S8x256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S8x256x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S8x256x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== KvUpIdeal.lean ====
abbrev S8x256x256 : Shape := ⟨3, ![8, 256, 256]⟩
abbrev S4x256x256 : Shape := ⟨3, ![4, 256, 256]⟩
abbrev S_ : Shape := ⟨0, ![]⟩
abbrev S1x256x256 : Shape := ⟨3, ![1, 256, 256]⟩
abbrev S256x256 : Shape := ⟨2, ![256, 256]⟩

abbrev nBuf : Space → Nat
  | .hbm => 31
  | .vmem => 32
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S8x256x256, .bf16⟩
  | .hbm, ⟨3, _⟩ => ⟨S8x256x256, .bf16⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S_, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S_, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S4x256x256, .f32⟩
  | .local _ .vmem, ⟨0, _⟩ => ⟨S8x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S8x256x256, .bf16⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S8x256x256, .bf16⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S8x256x256, .bf16⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S8x256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S8x256x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S8x256x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== KvUpRefIdeal.lean ====
abbrev S8x256x256 : Shape := ⟨3, ![8, 256, 256]⟩
abbrev S4x256x256 : Shape := ⟨3, ![4, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 57
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S8x256x256, .bf16⟩
  | .hbm, ⟨3, _⟩ => ⟨S8x256x256, .bf16⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S8x256x256, .f32⟩
  | .hbm, ⟨8, _⟩ => ⟨S_, .f32⟩
  | .hbm, ⟨9, _⟩ => ⟨S256x256, .f32⟩
  | .hbm, ⟨10, _⟩ => ⟨S8x256x256, .f32⟩
  | .hbm, ⟨11, _⟩ => ⟨S_, .f32⟩
  | .hbm, ⟨12, _⟩ => ⟨S256x256, .f32⟩
  | .hbm, ⟨13, _⟩ => ⟨S8x256x256, .f32⟩
  | .hbm, ⟨14, _⟩ => ⟨S_, .f32⟩
  | .hbm, ⟨15, _⟩ => ⟨S256x256, .f32⟩
  | .hbm, ⟨16, _⟩ => ⟨S8x256x256, .f32⟩
  | .hbm, ⟨17, _⟩ => ⟨S_, .f32⟩
  | .hbm, ⟨18, _⟩ => ⟨S256x256, .f32⟩
  | .hbm, ⟨19, _⟩ => ⟨S1x256x256, .f32⟩
  | .hbm, ⟨20, _⟩ => ⟨S1x256x256, .f32⟩
  | .hbm, ⟨21, _⟩ => ⟨S1x256x256, .f32⟩
  | .hbm, ⟨22, _⟩ => ⟨S1x256x256, .f32⟩
  | .hbm, ⟨23, _⟩ => ⟨S4x256x256, .f32⟩
  | .hbm, ⟨24, _⟩ => ⟨S_, .f32⟩
  | .hbm, ⟨25, _⟩ => ⟨S4x256x256, .f32⟩
  | .hbm, ⟨26, _⟩ => ⟨S4x256x256, .f32⟩
  | .hbm, ⟨27, _⟩ => ⟨S_, .f32⟩
  | .hbm, ⟨28, _⟩ => ⟨S4x256x256, .f32⟩
  | .hbm, ⟨29, _⟩ => ⟨S4x256x256, .f32⟩
  | .hbm, ⟨30, _⟩ => ⟨S4x256x256, .f32⟩
  | .hbm, ⟨31, _⟩ => ⟨S_, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S_, .f32⟩
  | .hbm, ⟨36, _⟩ => ⟨S4x256x256, .f32⟩
  | .hbm, ⟨37, _⟩ => ⟨S4x256x256, .f32⟩
  | .hbm, ⟨38, _⟩ => ⟨S4x256x256, .f32⟩
  | .hbm, ⟨39, _⟩ => ⟨S_, .f32⟩
  | .hbm, ⟨40, _⟩ => ⟨S4x256x256, .f32⟩
  | .hbm, ⟨41, _⟩ => ⟨S4x256x256, .f32⟩
  | .hbm, ⟨42, _⟩ => ⟨S_, .f32⟩
  | .hbm, ⟨43, _⟩ => ⟨S4x256x256, .f32⟩
  | .hbm, ⟨44, _⟩ => ⟨S4x256x256, .f32⟩
  | .hbm, ⟨45, _⟩ => ⟨S4x256x256, .f32⟩
  | .hbm, ⟨46, _⟩ => ⟨S_, .f32⟩
  | .hbm, ⟨47, _⟩ => ⟨S4x256x256, .f32⟩
  | .hbm, ⟨48, _⟩ => ⟨S4x256x256, .f32⟩
  | .hbm, ⟨49, _⟩ => ⟨S4x256x256, .f32⟩
  | .hbm, ⟨50, _⟩ => ⟨S_, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S_, .f32⟩
  | .hbm, ⟨55, _⟩ => ⟨S4x256x256, .f32⟩
  | .hbm, ⟨56, _⟩ => ⟨S4x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== FfnUp.lean ====
abbrev S8x2048x1408 : Shape := ⟨3, ![8, 2048, 1408]⟩
abbrev S4x2048x1408 : Shape := ⟨3, ![4, 2048, 1408]⟩
abbrev S_ : Shape := ⟨0, ![]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 31
  | .vmem => 64
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .bf16⟩
  | .hbm, ⟨3, _⟩ => ⟨S8x2048x1408, .bf16⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S_, .f32⟩
  | .hbm, ⟨8, _⟩ => ⟨S4x2048x1408, .f32⟩
  | .hbm, ⟨9, _⟩ => ⟨S_, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S_, .f32⟩
  | .hbm, ⟨14, _⟩ => ⟨S4x2048x1408, .f32⟩
  | .hbm, ⟨15, _⟩ => ⟨S4x2048x1408, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S4x2048x1408, .f32⟩
  | .hbm, ⟨21, _⟩ => ⟨S4x2048x1408, .f32⟩
  | .hbm, ⟨22, _⟩ => ⟨S4x2048x1408, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S4x2048x1408, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S8x128x1408, .bf16⟩
  | .local _ .vmem, ⟨17, _⟩ => ⟨S8x128x1408, .bf16⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S1x128x1408, .f32⟩
  | .local _ .vmem, ⟨25, _⟩ => ⟨S1x128x1408, .f32⟩
  | .local _ .vmem, ⟨26, _⟩ => ⟨S1x128x1408, .f32⟩
  | .local _ .vmem, ⟨27, _⟩ => ⟨S1x128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | .local _ .vmem, ⟨32, _⟩ => ⟨S8x128x1408, .bf16⟩
  | .local _ .vmem, ⟨33, _⟩ => ⟨S8x128x1408, .bf16⟩
  | .local _ .vmem, ⟨34, _⟩ => ⟨S1x128x1408, .f32⟩
  | .local _ .vmem, ⟨35, _⟩ => ⟨S1x128x1408, .f32⟩
  | .local _ .vmem, ⟨36, _⟩ => ⟨S1x128x1408, .f32⟩
  | .local _ .vmem, ⟨37, _⟩ => ⟨S1x128x1408, .f32⟩
  | .local _ .vmem, ⟨38, _⟩ => ⟨S1x128x1408, .f32⟩
  | .local _ .vmem, ⟨39, _⟩ => ⟨S1x128x1408, .f32⟩
  | .local _ .vmem, ⟨40, _⟩ => ⟨S1x128x1408, .f32⟩
  | .local _ .vmem, ⟨41, _⟩ => ⟨S1x128x1408, .f32⟩
  | .local _ .vmem, ⟨42, _⟩ => ⟨S1x128x1408, .f32⟩
  | .local _ .vmem, ⟨43, _⟩ => ⟨S1x128x1408, .f32⟩
  | .local _ .vmem, ⟨44, _⟩ => ⟨S1x128x1408, .f32⟩
  | .local _ .vmem, ⟨45, _⟩ => ⟨S1x128x1408, .f32⟩
  | .local _ .vmem, ⟨46, _⟩ => ⟨S1x128x1408, .f32⟩
  | .local _ .vmem, ⟨47, _⟩ => ⟨S1x128x1408, .f32⟩
  | .local _ .vmem, ⟨48, _⟩ => ⟨S8x128x1408, .bf16⟩
  | .local _ .vmem, ⟨49, _⟩ => ⟨S8x128x1408, .bf16⟩
  | .local _ .vmem, ⟨50, _⟩ => ⟨S1x128x1408, .f32⟩
  | .local _ .vmem, ⟨51, _⟩ => ⟨S1x128x1408, .f32⟩
  | .local _ .vmem, ⟨52, _⟩ => ⟨S1x128x1408, .f32⟩
  | .local _ .vmem, ⟨53, _⟩ => ⟨S1x128x1408, .f32⟩
  | .local _ .vmem, ⟨54, _⟩ => ⟨S1x128x1408, .f32⟩
  | .local _ .vmem, ⟨55, _⟩ => ⟨S1x128x1408, .f32⟩
  | .local _ .vmem, ⟨56, _⟩ => ⟨S1x128x1408, .f32⟩
  | .local _ .vmem, ⟨57, _⟩ => ⟨S1x128x1408, .f32⟩
  | .local _ .vmem, ⟨58, _⟩ => ⟨S1x128x1408, .f32⟩
  | .local _ .vmem, ⟨59, _⟩ => ⟨S1x128x1408, .f32⟩
  | .local _ .vmem, ⟨60, _⟩ => ⟨S1x128x1408, .f32⟩
  | .local _ .vmem, ⟨61, _⟩ => ⟨S1x128x1408, .f32⟩
  | .local _ .vmem, ⟨62, _⟩ => ⟨S1x128x1408, .f32⟩
  | .local _ .vmem, ⟨63, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x128x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x128x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x128x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== FfnUpIdeal.lean ====
abbrev S8x2048x1408 : Shape := ⟨3, ![8, 2048, 1408]⟩
abbrev S4x2048x1408 : Shape := ⟨3, ![4, 2048, 1408]⟩
abbrev S_ : Shape := ⟨0, ![]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 31
  | .vmem => 64
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .bf16⟩
  | .hbm, ⟨3, _⟩ => ⟨S8x2048x1408, .bf16⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S_, .f32⟩
  | .hbm, ⟨8, _⟩ => ⟨S4x2048x1408, .f32⟩
  | .hbm, ⟨9, _⟩ => ⟨S_, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S_, .f32⟩
  | .hbm, ⟨14, _⟩ => ⟨S4x2048x1408, .f32⟩
  | .hbm, ⟨15, _⟩ => ⟨S4x2048x1408, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S4x2048x1408, .f32⟩
  | .hbm, ⟨21, _⟩ => ⟨S4x2048x1408, .f32⟩
  | .hbm, ⟨22, _⟩ => ⟨S4x2048x1408, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S4x2048x1408, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S8x128x1408, .bf16⟩
  | .local _ .vmem, ⟨17, _⟩ => ⟨S8x128x1408, .bf16⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S1x128x1408, .f32⟩
  | .local _ .vmem, ⟨25, _⟩ => ⟨S1x128x1408, .f32⟩
  | .local _ .vmem, ⟨26, _⟩ => ⟨S1x128x1408, .f32⟩
  | .local _ .vmem, ⟨27, _⟩ => ⟨S1x128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | .local _ .vmem, ⟨32, _⟩ => ⟨S8x128x1408, .bf16⟩
  | .local _ .vmem, ⟨33, _⟩ => ⟨S8x128x1408, .bf16⟩
  | .local _ .vmem, ⟨34, _⟩ => ⟨S1x128x1408, .f32⟩
  | .local _ .vmem, ⟨35, _⟩ => ⟨S1x128x1408, .f32⟩
  | .local _ .vmem, ⟨36, _⟩ => ⟨S1x128x1408, .f32⟩
  | .local _ .vmem, ⟨37, _⟩ => ⟨S1x128x1408, .f32⟩
  | .local _ .vmem, ⟨38, _⟩ => ⟨S1x128x1408, .f32⟩
  | .local _ .vmem, ⟨39, _⟩ => ⟨S1x128x1408, .f32⟩
  | .local _ .vmem, ⟨40, _⟩ => ⟨S1x128x1408, .f32⟩
  | .local _ .vmem, ⟨41, _⟩ => ⟨S1x128x1408, .f32⟩
  | .local _ .vmem, ⟨42, _⟩ => ⟨S1x128x1408, .f32⟩
  | .local _ .vmem, ⟨43, _⟩ => ⟨S1x128x1408, .f32⟩
  | .local _ .vmem, ⟨44, _⟩ => ⟨S1x128x1408, .f32⟩
  | .local _ .vmem, ⟨45, _⟩ => ⟨S1x128x1408, .f32⟩
  | .local _ .vmem, ⟨46, _⟩ => ⟨S1x128x1408, .f32⟩
  | .local _ .vmem, ⟨47, _⟩ => ⟨S1x128x1408, .f32⟩
  | .local _ .vmem, ⟨48, _⟩ => ⟨S8x128x1408, .bf16⟩
  | .local _ .vmem, ⟨49, _⟩ => ⟨S8x128x1408, .bf16⟩
  | .local _ .vmem, ⟨50, _⟩ => ⟨S1x128x1408, .f32⟩
  | .local _ .vmem, ⟨51, _⟩ => ⟨S1x128x1408, .f32⟩
  | .local _ .vmem, ⟨52, _⟩ => ⟨S1x128x1408, .f32⟩
  | .local _ .vmem, ⟨53, _⟩ => ⟨S1x128x1408, .f32⟩
  | .local _ .vmem, ⟨54, _⟩ => ⟨S1x128x1408, .f32⟩
  | .local _ .vmem, ⟨55, _⟩ => ⟨S1x128x1408, .f32⟩
  | .local _ .vmem, ⟨56, _⟩ => ⟨S1x128x1408, .f32⟩
  | .local _ .vmem, ⟨57, _⟩ => ⟨S1x128x1408, .f32⟩
  | .local _ .vmem, ⟨58, _⟩ => ⟨S1x128x1408, .f32⟩
  | .local _ .vmem, ⟨59, _⟩ => ⟨S1x128x1408, .f32⟩
  | .local _ .vmem, ⟨60, _⟩ => ⟨S1x128x1408, .f32⟩
  | .local _ .vmem, ⟨61, _⟩ => ⟨S1x128x1408, .f32⟩
  | .local _ .vmem, ⟨62, _⟩ => ⟨S1x128x1408, .f32⟩
  | .local _ .vmem, ⟨63, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x128x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x128x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x128x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== FfnUpRefIdeal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .bf16⟩
  | .hbm, ⟨3, _⟩ => ⟨S8x2048x1408, .bf16⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S8x2048x1408, .f32⟩
  | .hbm, ⟨8, _⟩ => ⟨S_, .f32⟩
  | .hbm, ⟨9, _⟩ => ⟨S2048x1408, .f32⟩
  | .hbm, ⟨10, _⟩ => ⟨S8x2048x1408, .f32⟩
  | .hbm, ⟨11, _⟩ => ⟨S_, .f32⟩
  | .hbm, ⟨12, _⟩ => ⟨S2048x1408, .f32⟩
  | .hbm, ⟨13, _⟩ => ⟨S8x2048x1408, .f32⟩
  | .hbm, ⟨14, _⟩ => ⟨S_, .f32⟩
  | .hbm, ⟨15, _⟩ => ⟨S2048x1408, .f32⟩
  | .hbm, ⟨16, _⟩ => ⟨S8x2048x1408, .f32⟩
  | .hbm, ⟨17, _⟩ => ⟨S_, .f32⟩
  | .hbm, ⟨18, _⟩ => ⟨S2048x1408, .f32⟩
  | .hbm, ⟨19, _⟩ => ⟨S1x2048x1408, .f32⟩
  | .hbm, ⟨20, _⟩ => ⟨S1x2048x1408, .f32⟩
  | .hbm, ⟨21, _⟩ => ⟨S1x2048x1408, .f32⟩
  | .hbm, ⟨22, _⟩ => ⟨S1x2048x1408, .f32⟩
  | .hbm, ⟨23, _⟩ => ⟨S4x2048x1408, .f32⟩
  | .hbm, ⟨24, _⟩ => ⟨S_, .f32⟩
  | .hbm, ⟨25, _⟩ => ⟨S4x2048x1408, .f32⟩
  | .hbm, ⟨26, _⟩ => ⟨S4x2048x1408, .f32⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S4x2048x1408, .f32⟩
  | .hbm, ⟨31, _⟩ => ⟨S_, .f32⟩
  | .hbm, ⟨32, _⟩ => ⟨S4x2048x1408, .f32⟩
  | .hbm, ⟨33, _⟩ => ⟨S4x2048x1408, .f32⟩
  | .hbm, ⟨34, _⟩ => ⟨S4x2048x1408, .f32⟩
  | .hbm, ⟨35, _⟩ => ⟨S_, .f32⟩
  | .hbm, ⟨36, _⟩ => ⟨S4x2048x1408, .f32⟩
  | .hbm, ⟨37, _⟩ => ⟨S4x2048x1408, .f32⟩
  | .hbm, ⟨38, _⟩ => ⟨S4x2048x1408, .f32⟩
  | .hbm, ⟨39, _⟩ => ⟨S_, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S4x2048x1408, .f32⟩
  | .hbm, ⟨46, _⟩ => ⟨S_, .f32⟩
  | .hbm, ⟨47, _⟩ => ⟨S4x2048x1408, .f32⟩
  | .hbm, ⟨48, _⟩ => ⟨S4x2048x1408, .f32⟩
  | .hbm, ⟨49, _⟩ => ⟨S4x2048x1408, .f32⟩
  | .hbm, ⟨50, _⟩ => ⟨S_, .f32⟩
  | .hbm, ⟨51, _⟩ => ⟨S4x2048x1408, .f32⟩
  | .hbm, ⟨52, _⟩ => ⟨S4x2048x1408, .f32⟩
  | .hbm, ⟨53, _⟩ => ⟨S4x2048x1408, .f32⟩
  | .hbm, ⟨54, _⟩ => ⟨S_, .f32⟩
  | .hbm, ⟨55, _⟩ => ⟨S4x2048x1408, .f32⟩
  | .hbm, ⟨56, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== FfnDown.lean ====
abbrev S8x704x2048 : Shape := ⟨3, ![8, 704, 2048]⟩
abbrev S4x704x2048 : Shape := ⟨3, ![4, 704, 2048]⟩
abbrev S_ : Shape := ⟨0, ![]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 31
  | .vmem => 64
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S_, .f32⟩
  | .hbm, ⟨8, _⟩ => ⟨S4x704x2048, .f32⟩
  | .hbm, ⟨9, _⟩ => ⟨S_, .f32⟩
  | .hbm, ⟨10, _⟩ => ⟨S4x704x2048, .f32⟩
  | .hbm, ⟨11, _⟩ => ⟨S_, .f32⟩
  | .hbm, ⟨12, _⟩ => ⟨S4x704x2048, .f32⟩
  | .hbm, ⟨13, _⟩ => ⟨S_, .f32⟩
  | .hbm, ⟨14, _⟩ => ⟨S4x704x2048, .f32⟩
  | .hbm, ⟨15, _⟩ => ⟨S4x704x2048, .f32⟩
  | .hbm, ⟨16, _⟩ => ⟨S4x704x2048, .f32⟩
  | .hbm, ⟨17, _⟩ => ⟨S4x704x2048, .f32⟩
  | .hbm, ⟨18, _⟩ => ⟨S4x704x2048, .f32⟩
  | .hbm, ⟨19, _⟩ => ⟨S4x704x2048, .f32⟩
  | .hbm, ⟨20, _⟩ => ⟨S4x704x2048, .f32⟩
  | .hbm, ⟨21, _⟩ => ⟨S4x704x2048, .f32⟩
  | .hbm, ⟨22, _⟩ => ⟨S4x704x2048, .f32⟩
  | .hbm, ⟨23, _⟩ => ⟨S4x704x2048, .f32⟩
  | .hbm, ⟨24, _⟩ => ⟨S4x704x2048, .f32⟩
  | .hbm, ⟨25, _⟩ => ⟨S4x704x2048, .f32⟩
  | .hbm, ⟨26, _⟩ => ⟨S4x704x2048, .f32⟩
  | .hbm, ⟨27, _⟩ => ⟨S4x704x2048, .f32⟩
  | .hbm, ⟨28, _⟩ => ⟨S4x704x2048, .f32⟩
  | .hbm, ⟨29, _⟩ => ⟨S4x704x2048, .f32⟩
  | .hbm, ⟨30, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S8x64x2048, .bf16⟩
  | .local _ .vmem, ⟨17, _⟩ => ⟨S8x64x2048, .bf16⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S1x64x2048, .f32⟩
  | .local _ .vmem, ⟨29, _⟩ => ⟨S1x64x2048, .f32⟩
  | .local _ .vmem, ⟨30, _⟩ => ⟨S1x64x2048, .f32⟩
  | .local _ .vmem, ⟨31, _⟩ => ⟨S1x64x2048, .f32⟩
  | .local _ .vmem, ⟨32, _⟩ => ⟨S8x64x2048, .bf16⟩
  | .local _ .vmem, ⟨33, _⟩ => ⟨S8x64x2048, .bf16⟩
  | .local _ .vmem, ⟨34, _⟩ => ⟨S1x64x2048, .f32⟩
  | .local _ .vmem, ⟨35, _⟩ => ⟨S1x64x2048, .f32⟩
  | .local _ .vmem, ⟨36, _⟩ => ⟨S1x64x2048, .f32⟩
  | .local _ .vmem, ⟨37, _⟩ => ⟨S1x64x2048, .f32⟩
  | .local _ .vmem, ⟨38, _⟩ => ⟨S1x64x2048, .f32⟩
  | .local _ .vmem, ⟨39, _⟩ => ⟨S1x64x2048, .f32⟩
  | .local _ .vmem, ⟨40, _⟩ => ⟨S1x64x2048, .f32⟩
  | .local _ .vmem, ⟨41, _⟩ => ⟨S1x64x2048, .f32⟩
  | .local _ .vmem, ⟨42, _⟩ => ⟨S1x64x2048, .f32⟩
  | .local _ .vmem, ⟨43, _⟩ => ⟨S1x64x2048, .f32⟩
  | .local _ .vmem, ⟨44, _⟩ => ⟨S1x64x2048, .f32⟩
  | .local _ .vmem, ⟨45, _⟩ => ⟨S1x64x2048, .f32⟩
  | .local _ .vmem, ⟨46, _⟩ => ⟨S1x64x2048, .f32⟩
  | .local _ .vmem, ⟨47, _⟩ => ⟨S1x64x2048, .f32⟩
  | .local _ .vmem, ⟨48, _⟩ => ⟨S8x64x2048, .bf16⟩
  | .local _ .vmem, ⟨49, _⟩ => ⟨S8x64x2048, .bf16⟩
  | .local _ .vmem, ⟨50, _⟩ => ⟨S1x64x2048, .f32⟩
  | .local _ .vmem, ⟨51, _⟩ => ⟨S1x64x2048, .f32⟩
  | .local _ .vmem, ⟨52, _⟩ => ⟨S1x64x2048, .f32⟩
  | .local _ .vmem, ⟨53, _⟩ => ⟨S1x64x2048, .f32⟩
  | .local _ .vmem, ⟨54, _⟩ => ⟨S1x64x2048, .f32⟩
  | .local _ .vmem, ⟨55, _⟩ => ⟨S1x64x2048, .f32⟩
  | .local _ .vmem, ⟨56, _⟩ => ⟨S1x64x2048, .f32⟩
  | .local _ .vmem, ⟨57, _⟩ => ⟨S1x64x2048, .f32⟩
  | .local _ .vmem, ⟨58, _⟩ => ⟨S1x64x2048, .f32⟩
  | .local _ .vmem, ⟨59, _⟩ => ⟨S1x64x2048, .f32⟩
  | .local _ .vmem, ⟨60, _⟩ => ⟨S1x64x2048, .f32⟩
  | .local _ .vmem, ⟨61, _⟩ => ⟨S1x64x2048, .f32⟩
  | .local _ .vmem, ⟨62, _⟩ => ⟨S1x64x2048, .f32⟩
  | .local _ .vmem, ⟨63, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S8x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![11], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S8x64x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![11], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x64x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x64x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x64x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x64x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== FfnDownRefIdeal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S8x704x2048, .f32⟩
  | .hbm, ⟨8, _⟩ => ⟨S_, .f32⟩
  | .hbm, ⟨9, _⟩ => ⟨S704x2048, .f32⟩
  | .hbm, ⟨10, _⟩ => ⟨S8x704x2048, .f32⟩
  | .hbm, ⟨11, _⟩ => ⟨S_, .f32⟩
  | .hbm, ⟨12, _⟩ => ⟨S704x2048, .f32⟩
  | .hbm, ⟨13, _⟩ => ⟨S8x704x2048, .f32⟩
  | .hbm, ⟨14, _⟩ => ⟨S_, .f32⟩
  | .hbm, ⟨15, _⟩ => ⟨S704x2048, .f32⟩
  | .hbm, ⟨16, _⟩ => ⟨S8x704x2048, .f32⟩
  | .hbm, ⟨17, _⟩ => ⟨S_, .f32⟩
  | .hbm, ⟨18, _⟩ => ⟨S704x2048, .f32⟩
  | .hbm, ⟨19, _⟩ => ⟨S1x704x2048, .f32⟩
  | .hbm, ⟨20, _⟩ => ⟨S1x704x2048, .f32⟩
  | .hbm, ⟨21, _⟩ => ⟨S1x704x2048, .f32⟩
  | .hbm, ⟨22, _⟩ => ⟨S1x704x2048, .f32⟩
  | .hbm, ⟨23, _⟩ => ⟨S4x704x2048, .f32⟩
  | .hbm, ⟨24, _⟩ => ⟨S_, .f32⟩
  | .hbm, ⟨25, _⟩ => ⟨S4x704x2048, .f32⟩
  | .hbm, ⟨26, _⟩ => ⟨S4x704x2048, .f32⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S4x704x2048, .f32⟩
  | .hbm, ⟨31, _⟩ => ⟨S_, .f32⟩
  | .hbm, ⟨32, _⟩ => ⟨S4x704x2048, .f32⟩
  | .hbm, ⟨33, _⟩ => ⟨S4x704x2048, .f32⟩
  | .hbm, ⟨34, _⟩ => ⟨S4x704x2048, .f32⟩
  | .hbm, ⟨35, _⟩ => ⟨S_, .f32⟩
  | .hbm, ⟨36, _⟩ => ⟨S4x704x2048, .f32⟩
  | .hbm, ⟨37, _⟩ => ⟨S4x704x2048, .f32⟩
  | .hbm, ⟨38, _⟩ => ⟨S4x704x2048, .f32⟩
  | .hbm, ⟨39, _⟩ => ⟨S_, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S4x704x2048, .f32⟩
  | .hbm, ⟨46, _⟩ => ⟨S_, .f32⟩
  | .hbm, ⟨47, _⟩ => ⟨S4x704x2048, .f32⟩
  | .hbm, ⟨48, _⟩ => ⟨S4x704x2048, .f32⟩
  | .hbm, ⟨49, _⟩ => ⟨S4x704x2048, .f32⟩
  | .hbm, ⟨50, _⟩ => ⟨S_, .f32⟩
  | .hbm, ⟨51, _⟩ => ⟨S4x704x2048, .f32⟩
  | .hbm, ⟨52, _⟩ => ⟨S4x704x2048, .f32⟩
  | .hbm, ⟨53, _⟩ => ⟨S4x704x2048, .f32⟩
  | .hbm, ⟨54, _⟩ => ⟨S_, .f32⟩
  | .hbm, ⟨55, _⟩ => ⟨S4x704x2048, .f32⟩
  | .hbm, ⟨56, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Loss.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x1, .f32⟩
  | .hbm, ⟨5, _⟩ => ⟨S_, .f32⟩
  | .hbm, ⟨6, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x1, .f32⟩
  | .local _ .vmem, ⟨6, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.SoftmaxRow.lean ====
/- One row of a softmax over extended reals, and its gradient.

   A row has scores `s` and cotangents `g` of its probabilities. The gradient of the scores is written twice: with the
   row's greatest score held constant (`grad`), and with the greatest score differentiated too, its share split evenly
   over the places that attain it (`gradTie`). The two agree where the cotangents are real and no score is infinite from
   above, because the shares that the second one adds sum to zero. -/
module

public import Idealize.ShloMosaic.PureOps.Ideal
public import Idealize.ShloMosaic.PureOps.Ideal.Laws

@[expose] public section

set_option maxRecDepth 16384

noncomputable section

namespace Cert.Proof.Row

open Idealize.ShloMosaic

variable {n : Nat}

/-- The greatest score of the row. -/
def top (s : Fin n → EReal) : EReal := Finset.univ.fold max ⊥ s

/-- The exponential of a score less the greatest one. -/
def ex (s : Fin n → EReal) (j : Fin n) : EReal := Ideal.exp (s j - top s)

/-- The sum of the row's exponentials. -/
def tot (s : Fin n → EReal) : EReal := ∑ j, ex s j

/-- The gradient of the scores, the greatest score held constant. -/
def grad (s g : Fin n → EReal) (j : Fin n) : EReal :=
  (Ideal.div (g j) (tot s) + -(∑ i, g i * Ideal.div 1 (tot s * tot s) * ex s i)) * ex s j

/-- One where the score is the greatest one, zero elsewhere. -/
def hit (s : Fin n → EReal) (j : Fin n) : EReal := if s j = top s then 1 else 0

/-- The gradient of the scores with the greatest score differentiated too. -/
def gradTie (s g : Fin n → EReal) (j : Fin n) : EReal :=
  grad s g j + Ideal.div (∑ i, -(grad s g i)) (∑ i, hit s i) * hit s j

theorem le_top (s : Fin n → EReal) (j : Fin n) : s j ≤ top s :=
  (Finset.fold_max_le (top s)).1 le_rfl |>.2 j (Finset.mem_univ j)

/-- The greatest score is real when no score is infinite from above and one is not infinite from below. -/
theorem top_real (s : Fin n → EReal) (hs : ∀ j, s j ≠ ⊤) (hr : ∃ j, s j ≠ ⊥) : ∃ m : ℝ, top s = m := by
  obtain ⟨j, hj⟩ := hr
  have hb : top s ≠ ⊥ := fun h => hj (le_bot_iff.1 (h ▸ le_top s j))
  have ht : top s < ⊤ := (Finset.fold_max_lt ⊤).2 ⟨bot_lt_top, fun i _ => lt_top_iff_ne_top.2 (hs i)⟩
  exact ⟨(top s).toReal, (EReal.coe_toReal ht.ne hb).symm⟩

/-- Each exponential is then a real number, none of them negative, and the sum of them is positive. -/
theorem ex_real (s : Fin n → EReal) (hs : ∀ j, s j ≠ ⊤) (hr : ∃ j, s j ≠ ⊥) :
    ∃ a : Fin n → ℝ, (∀ j, ex s j = a j) ∧ 0 < ∑ j, a j := by
  obtain ⟨m, hm⟩ := top_real s hs hr
  have h : ∀ j, ∃ x : ℝ, ex s j = x ∧ 0 ≤ x ∧ (s j ≠ ⊥ → 0 < x) := by
    intro j
    rcases hj : s j with _ | _ | x
    · exact ⟨0, by rw [ex, hj, hm]; rfl, le_rfl, fun h => absurd rfl h⟩
    · exact absurd hj (hs j)
    · exact ⟨Real.exp (x - m), by rw [ex, hj, hm]; rfl, (Real.exp_pos _).le, fun _ => Real.exp_pos _⟩
  choose a ha using h
  obtain ⟨j, hj⟩ := hr
  exact ⟨a, fun j => (ha j).1, Finset.sum_pos' (fun i _ => (ha i).2.1) ⟨j, Finset.mem_univ j, (ha j).2.2 hj⟩⟩

theorem coe_sum {ι : Type} (t : Finset ι) (f : ι → ℝ) : ((∑ i ∈ t, f i : ℝ) : EReal) = ∑ i ∈ t, (f i : EReal) :=
  map_sum (⟨⟨((↑) : ℝ → EReal), EReal.coe_zero⟩, EReal.coe_add⟩ : ℝ →+ EReal) f t

/-- The gradient is real, and its entries sum to zero: a softmax does not see a constant added to its row. -/
theorem grad_real (s g : Fin n → EReal) (hs : ∀ j, s j ≠ ⊤) (hr : ∃ j, s j ≠ ⊥) (hg : ∀ j, ∃ x : ℝ, g j = x) :
    ∃ t : Fin n → ℝ, (∀ j, grad s g j = t j) ∧ ∑ j, t j = 0 := by
  obtain ⟨a, ha, hu⟩ := ex_real s hs hr
  choose b hb using hg
  have ht : tot s = ((∑ j, a j : ℝ) : EReal) := by rw [tot, coe_sum]; exact Finset.sum_congr rfl fun j _ => ha j
  generalize hU : (∑ j, a j : ℝ) = U at hu ht
  have h0 : U ≠ 0 := hu.ne'
  have hc : ∑ i, g i * Ideal.div 1 (tot s * tot s) * ex s i = ((∑ i, b i * (1 / (U * U)) * a i : ℝ) : EReal) := by
    rw [coe_sum]
    refine Finset.sum_congr rfl fun i _ => ?_
    rw [ha, hb, ht, ← EReal.coe_mul, Ideal.div_coe (mul_ne_zero h0 h0), one_mul, ← EReal.coe_mul, ← EReal.coe_mul]
  refine ⟨fun j => (b j * (1 / U) + -(∑ i, b i * (1 / (U * U)) * a i)) * a j, fun j => ?_, ?_⟩
  · rw [grad, hc, ha, hb, ht, Ideal.div_coe h0]
    push_cast
    rfl
  · have h1 : ∑ i, b i * (1 / (U * U)) * a i = (∑ i, b i * a i) * (1 / (U * U)) := by
      rw [Finset.sum_mul]; exact Finset.sum_congr rfl fun i _ => by ring
    have h2 : ∀ j, (b j * (1 / U) + -(∑ i, b i * (1 / (U * U)) * a i)) * a j
        = b j * a j * (1 / U) + a j * -((∑ i, b i * a i) * (1 / (U * U))) := fun j => by rw [h1]; ring
    rw [Finset.sum_congr rfl fun j _ => h2 j, Finset.sum_add_distrib, ← Finset.sum_mul, ← Finset.sum_mul, hU]
    field_simp
    ring

theorem hit_nonneg (s : Fin n → EReal) (j : Fin n) : 0 ≤ hit s j := by
  rw [hit]; split <;> simp

/-- Differentiating the greatest score adds nothing. -/
theorem gradTie_eq (s g : Fin n → EReal) (hs : ∀ j, s j ≠ ⊤) (hr : ∃ j, s j ≠ ⊥) (hg : ∀ j, ∃ x : ℝ, g j = x)
    (j : Fin n) : gradTie s g j = grad s g j := by
  obtain ⟨t, ht, h0⟩ := grad_real s g hs hr hg
  have hz : ∑ i, -(grad s g i) = 0 := by
    rw [Finset.sum_congr rfl fun i _ => show -(grad s g i) = ((-(t i) : ℝ) : EReal) by rw [ht, EReal.coe_neg], ← coe_sum,
      Finset.sum_neg_distrib, h0, neg_zero, EReal.coe_zero]
  rw [gradTie, hz]
  by_cases hc : ∑ i, hit s i = 0
  · have hj : hit s j = 0 := (Finset.sum_eq_zero_iff_of_nonneg fun i _ => hit_nonneg s i).1 hc j (Finset.mem_univ j)
    rw [hj, mul_zero, add_zero]
  · rw [Ideal.div, if_neg hc, zero_mul, zero_mul, add_zero]

end Cert.Proof.Row

end
-- ==== Proof.Attention.lean ====
/- One head of softmax attention over extended reals, and its gradients.

   The head has queries `q`, keys `k`, values `v` and the cotangents `g` of its output. The scores are the products of
   queries and keys, scaled by `c`. Every definition is a plain sum; the programs' proofs read their results as these. -/
module

public import proofs.«01_k».proof.Proof.SoftmaxRow

@[expose] public section

set_option maxRecDepth 16384

noncomputable section

namespace Cert.Proof.Attn

open Idealize.ShloMosaic

variable {n k d : Nat}

/-- The scores of query `r`. -/
def score (Q : Fin n → Fin d → EReal) (K : Fin k → Fin d → EReal) (c : EReal) (r : Fin n) (j : Fin k) : EReal :=
  (∑ x, Q r x * K j x) * c

/-- The cotangents of the probabilities of query `r`. -/
def cot (G : Fin n → Fin d → EReal) (V : Fin k → Fin d → EReal) (r : Fin n) (j : Fin k) : EReal :=
  ∑ x, G r x * V j x

/-- The gradient of the products of query `r` with the keys. -/
def dscore (Q : Fin n → Fin d → EReal) (K V : Fin k → Fin d → EReal) (G : Fin n → Fin d → EReal) (c : EReal)
    (r : Fin n) (j : Fin k) : EReal :=
  Row.grad (score Q K c r) (cot G V r) j * c

/-- The gradient of the queries. -/
def dq (Q : Fin n → Fin d → EReal) (K V : Fin k → Fin d → EReal) (G : Fin n → Fin d → EReal) (c : EReal)
    (r : Fin n) (x : Fin d) : EReal :=
  ∑ j, dscore Q K V G c r j * K j x

/-- The gradient of the keys. -/
def dk (Q : Fin n → Fin d → EReal) (K V : Fin k → Fin d → EReal) (G : Fin n → Fin d → EReal) (c : EReal)
    (j : Fin k) (x : Fin d) : EReal :=
  ∑ r, dscore Q K V G c r j * Q r x

/-- The gradient of the values: the probabilities times the cotangents. -/
def dv (Q : Fin n → Fin d → EReal) (K : Fin k → Fin d → EReal) (G : Fin n → Fin d → EReal) (c : EReal)
    (j : Fin k) (x : Fin d) : EReal :=
  ∑ r, Ideal.div (Row.ex (score Q K c r) j) (Row.tot (score Q K c r)) * G r x

/-- A matrix of real numbers. -/
def Real2 (A : Fin n → Fin d → EReal) : Prop := ∀ r x, ∃ a : ℝ, A r x = a

theorem dot_real {ι : Type} (t : Finset ι) (f g : ι → EReal) (hf : ∀ i, ∃ a : ℝ, f i = a) (hg : ∀ i, ∃ a : ℝ, g i = a) :
    ∃ a : ℝ, ∑ i ∈ t, f i * g i = a := by
  choose a ha using hf
  choose b hb using hg
  exact ⟨∑ i ∈ t, a i * b i, by rw [Row.coe_sum]; exact Finset.sum_congr rfl fun i _ => by rw [ha, hb, EReal.coe_mul]⟩

theorem score_real (Q : Fin n → Fin d → EReal) (K : Fin k → Fin d → EReal) (c : EReal) (hQ : Real2 Q) (hK : Real2 K)
    (hc : ∃ a : ℝ, c = a) (r : Fin n) (j : Fin k) : ∃ a : ℝ, score Q K c r j = a := by
  obtain ⟨a, ha⟩ := dot_real Finset.univ (Q r) (K j) (hQ r) (hK j)
  obtain ⟨b, rfl⟩ := hc
  exact ⟨a * b, by rw [score, ha, EReal.coe_mul]⟩

/-- With real scores and cotangents the tie term vanishes. -/
theorem gradTie_real [NeZero k] (Q : Fin n → Fin d → EReal) (K V : Fin k → Fin d → EReal) (G : Fin n → Fin d → EReal)
    (c : EReal) (hQ : Real2 Q) (hK : Real2 K) (hV : Real2 V) (hG : Real2 G) (hc : ∃ a : ℝ, c = a) (r : Fin n)
    (j : Fin k) :
    Row.gradTie (score Q K c r) (cot G V r) j = Row.grad (score Q K c r) (cot G V r) j := by
  have h := score_real Q K c hQ hK hc r
  refine Row.gradTie_eq _ _ (fun i => ?_) ⟨0, ?_⟩ (fun i => dot_real Finset.univ (G r) (V i) (hG r) (hV i)) j
  · obtain ⟨a, ha⟩ := h i
    rw [ha]; exact EReal.coe_ne_top a
  · obtain ⟨a, ha⟩ := h 0
    rw [ha]; exact EReal.coe_ne_bot a

end Cert.Proof.Attn

end
-- ==== Proof.XatTile.lean ====
/- The memory attention's backward kernel at one grid point: what its body stores, read at an index. -/
module

public import proofs.«01_k».proof.Proof.Gen.XatIdeal.Frame
public import proofs.«01_k».proof.Proof.Attention
public import Idealize.ShloMosaic.Lib.Pipeline.ValueKit
public import Idealize.ShloMosaic.Lib.Pointwise

@[expose] public section

set_option maxRecDepth 16384

noncomputable section

namespace Cert.Proof.Xat

open Cert.XatIdeal Cert.XatIdeal.Gen Idealize.ShloMosaic

/-- The scale of the scores, as the program spells it. -/
abbrev scale : EReal := Ideal.ofBits .f32 0x3D3504F3#32

/-- A block as a matrix. -/
def mat (a : Vec Ideal S256x512 .f32) : Fin 256 → Fin 512 → EReal := fun r x => a (ix2 r x)

/-- A rounded block as a matrix. -/
def matb (a : Vec Ideal S256x512 .bf16) : Fin 256 → Fin 512 → EReal := fun r x => a (ix2 r x)

theorem negInf_bits : Ideal.ofBits .f32 0xFF800000#32 = ⊥ := by simp [Ideal.ofBits, Ideal.ieee]

variable (q k v : Vec Ideal S256x512 .f32) (d : Vec Ideal S256x512 .bf16)

theorem pay3_at (r j : Fin 256) : k0_pay3 q k (ix2 r j) = Attn.score (mat q) (mat k) scale r j := by
  pointwise [k0_pay3]
  rfl

theorem pay4_at (r : Fin 256) : k0_pay4 q k (ix1 r) = Row.top (Attn.score (mat q) (mat k) scale r) := by
  pointwise [k0_pay4]
  rw [negInf_bits, Row.top]
  exact congrArg (fun f => Finset.univ.fold max ⊥ f) (funext fun j => pay3_at q k r j)

theorem pay5_at (r j : Fin 256) : k0_pay5 q k (ix2 r j) = Row.hit (Attn.score (mat q) (mat k) scale r) j := by
  pointwise [k0_pay5]
  rw [pay3_at, pay4_at, Row.hit]
  by_cases h : Attn.score (mat q) (mat k) scale r j = Row.top (Attn.score (mat q) (mat k) scale r)
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

theorem pay6_at (r : Fin 256) : k0_pay6 q k (ix1 r) = ∑ j, Row.hit (Attn.score (mat q) (mat k) scale r) j := by
  pointwise [k0_pay6]
  exact Finset.sum_congr rfl fun j _ => pay5_at q k r j

theorem pay7_at (r j : Fin 256) : k0_pay7 q k (ix2 r j) = Row.ex (Attn.score (mat q) (mat k) scale r) j := by
  pointwise [k0_pay7]
  rw [pay3_at, pay4_at, Row.ex]

theorem pay8_at (r : Fin 256) : k0_pay8 q k (ix2 r 0) = Row.tot (Attn.score (mat q) (mat k) scale r) := by
  pointwise [k0_pay8]
  exact Finset.sum_congr rfl fun j _ => pay7_at q k r j

theorem pay10_at (r j : Fin 256) : k0_pay10 v d (ix2 r j) = Attn.cot (matb d) (mat v) r j := by
  pointwise [k0_pay10, k0_pay9]
  rfl

theorem pay11_at (j : Fin 256) (x : Fin 512) :
    k0_pay11 q k d (ix2 j x) = Attn.dv (mat q) (mat k) (matb d) scale j x := by
  pointwise [k0_pay11, k0_pay9]
  refine Finset.sum_congr rfl fun r _ => ?_
  rw [pay7_at, pay8_at]
  rfl

theorem pay12_at (r j : Fin 256) : k0_pay12 q k v d (ix2 r j) = Attn.cot (matb d) (mat v) r j *
    Ideal.div 1 (Row.tot (Attn.score (mat q) (mat k) scale r) * Row.tot (Attn.score (mat q) (mat k) scale r)) := by
  pointwise [k0_pay12]
  rw [pay10_at, pay8_at]

/-- The gradient of the products, as the body leaves it: the greatest score differentiated too. -/
theorem pay13_at (r j : Fin 256) :
    k0_pay13 (k0_pay5 q k) (k0_pay6 q k) (k0_pay7 q k) (k0_pay8 q k) (k0_pay10 v d) (k0_pay12 q k v d) (ix2 r j)
      = Row.gradTie (Attn.score (mat q) (mat k) scale r) (Attn.cot (matb d) (mat v) r) j * scale := by
  pointwise [k0_pay13]
  simp only [pay5_at, pay6_at, pay7_at, pay8_at, pay10_at, pay12_at, Fin.sum_univ_one, Finset.univ_unique, Finset.sum_singleton, zero_sub]
  rfl

/-! ## The three blocks that the body stores, for real arguments -/

theorem scale_real : ∃ a : ℝ, scale = a := by
  simp [scale, Ideal.ofBits, Ideal.ieee, -EReal.coe_mul]

variable (hq : Attn.Real2 (mat q)) (hk : Attn.Real2 (mat k)) (hv : Attn.Real2 (mat v)) (hd : Attn.Real2 (matb d))
include hq hk hv hd

theorem pay13_real (r j : Fin 256) :
    k0_pay13 (k0_pay5 q k) (k0_pay6 q k) (k0_pay7 q k) (k0_pay8 q k) (k0_pay10 v d) (k0_pay12 q k v d) (ix2 r j)
      = Attn.dscore (mat q) (mat k) (mat v) (matb d) scale r j := by
  rw [pay13_at, Attn.gradTie_real _ _ _ _ _ hq hk hv hd scale_real]
  rfl

theorem pay14_real (r : Fin 256) (x : Fin 512) :
    k0_pay14 k (k0_pay5 q k) (k0_pay6 q k) (k0_pay7 q k) (k0_pay8 q k) (k0_pay10 v d) (k0_pay12 q k v d) (ix2 r x)
      = Attn.dq (mat q) (mat k) (mat v) (matb d) scale r x := by
  pointwise [k0_pay14]
  exact Finset.sum_congr rfl fun j _ => by rw [pay13_real q k v d hq hk hv hd]; rfl

theorem pay15_real (p : Vec Ideal S256x512 .f32) (j : Fin 256) (x : Fin 512) :
    k0_pay15 q (k0_pay5 q k) (k0_pay6 q k) (k0_pay7 q k) (k0_pay8 q k) (k0_pay10 v d) (k0_pay12 q k v d) p (ix2 j x)
      = p (ix2 j x) + Attn.dk (mat q) (mat k) (mat v) (matb d) scale j x := by
  pointwise [k0_pay15]
  exact congrArg (p (ix2 j x) + ·) (Finset.sum_congr rfl fun r _ => by rw [pay13_real q k v d hq hk hv hd]; rfl)

end Cert.Proof.Xat

end
-- ==== Proof.XatValue.lean ====
/- The memory attention's backward kernel after its run: its three result arrays, head by head. -/
module

public import proofs.«01_k».proof.Proof.XatTile

@[expose] public section

set_option maxRecDepth 16384

noncomputable section

namespace Cert.Proof.Xat

open Cert.XatIdeal Cert.XatIdeal.Gen Idealize.ShloMosaic Idealize.ShloMosaic.TcCoe Idealize.SL.Sem
open Idealize.ShloMosaic.Pipeline (Dat)

/-- Column `x` of head `h`. -/
def col (h : Fin 4) (x : Fin 512) : Fin 2048 := ⟨512 * h.val + x.val, by omega⟩

/-- Head `h` of an array of queries. -/
def headQ (a : Vec Ideal S2048x2048 .f32) (h : Fin 4) : Fin 2048 → Fin 512 → EReal := fun r x => a (ix2 r (col h x))

/-- Head `h` of an array of rounded cotangents. -/
def headD (a : Vec Ideal S2048x2048 .bf16) (h : Fin 4) : Fin 2048 → Fin 512 → EReal := fun r x => a (ix2 r (col h x))

/-- Head `h` of an array of keys or values. -/
def headK (a : Vec Ideal S256x2048 .f32) (h : Fin 4) : Fin 256 → Fin 512 → EReal := fun r x => a (ix2 r (col h x))

/-- The head of a column, and the column inside the head. -/
def hd (y : Fin 2048) : Fin 4 := ⟨y.val / 512, by omega⟩
def ln (y : Fin 2048) : Fin 512 := ⟨y.val % 512, by omega⟩

variable (q : Vec Ideal S2048x2048 .f32) (k v : Vec Ideal S256x2048 .f32) (d : Vec Ideal S2048x2048 .bf16)

/-- The gradient of the queries, every head. -/
def DQ : Vec Ideal S2048x2048 .f32 := fun i =>
  Attn.dq (headQ q (hd (i 1))) (headK k (hd (i 1))) (headK v (hd (i 1))) (headD d (hd (i 1))) scale (i 0) (ln (i 1))

/-- The gradient of the keys, every head. -/
def DK : Vec Ideal S256x2048 .f32 := fun i =>
  Attn.dk (headQ q (hd (i 1))) (headK k (hd (i 1))) (headK v (hd (i 1))) (headD d (hd (i 1))) scale (i 0) (ln (i 1))

/-- The gradient of the values, every head. -/
def DV : Vec Ideal S256x2048 .f32 := fun i =>
  Attn.dv (headQ q (hd (i 1))) (headK k (hd (i 1))) (headD d (hd (i 1))) scale (i 0) (ln (i 1))

theorem idx : ∀ t : Fin cfg0.N, win0_0.index t = ![t.val % 8, t.val / 8] ∧ win0_1.index t = ![0, t.val / 8]
    ∧ win0_2.index t = ![0, t.val / 8] ∧ win0_3.index t = ![t.val % 8, t.val / 8]
    ∧ win0_4.index t = ![t.val % 8, t.val / 8] ∧ win0_5.index t = ![0, t.val / 8]
    ∧ win0_6.index t = ![0, t.val / 8] ∧ t.val / 8 < 4 :=
  (by decide +kernel : ∀ t : Fin grid0.N, _)

theorem hd_col (h : Fin 4) (x : Fin 512) : hd (col h x) = h := Fin.ext (by simp only [hd, col]; omega)
theorem ln_col (h : Fin 4) (x : Fin 512) : ln (col h x) = x := Fin.ext (by simp only [ln, col]; omega)

theorem DQ_at (h : Fin 4) (r : Fin 2048) (x : Fin 512) :
    DQ q k v d (ix2 r (col h x)) = Attn.dq (headQ q h) (headK k h) (headK v h) (headD d h) scale r x := by
  show Attn.dq (headQ q (hd (col h x))) (headK k (hd (col h x))) (headK v (hd (col h x))) (headD d (hd (col h x))) scale r
    (ln (col h x)) = _
  rw [hd_col, ln_col]

theorem DK_at (h : Fin 4) (j : Fin 256) (x : Fin 512) :
    DK q k v d (ix2 j (col h x)) = Attn.dk (headQ q h) (headK k h) (headK v h) (headD d h) scale j x := by
  show Attn.dk (headQ q (hd (col h x))) (headK k (hd (col h x))) (headK v (hd (col h x))) (headD d (hd (col h x))) scale j
    (ln (col h x)) = _
  rw [hd_col, ln_col]

theorem DV_at (h : Fin 4) (j : Fin 256) (x : Fin 512) :
    DV q k d (ix2 j (col h x)) = Attn.dv (headQ q h) (headK k h) (headD d h) scale j x := by
  show Attn.dv (headQ q (hd (col h x))) (headK k (hd (col h x))) (headD d (hd (col h x))) scale j (ln (col h x)) = _
  rw [hd_col, ln_col]

variable (m : (ℓ : Loc nD τ sig) → Buf (Elt Ideal) ℓ) (c : Dev nD)

/-- The kernel's arguments. -/
abbrev argQ : Vec Ideal S2048x2048 .f32 := m ((c : Thread nD τ).loc main_arg0)
abbrev argK : Vec Ideal S256x2048 .f32 := m ((c : Thread nD τ).loc main_arg1)
abbrev argV : Vec Ideal S256x2048 .f32 := m ((c : Thread nD τ).loc main_arg2)
abbrev argD : Vec Ideal S2048x2048 .bf16 := m ((c : Thread nD τ).loc main_arg3)

/-- The head that grid point `t` works on, and the query of its row `r`. -/
def ptHead (t : Fin cfg0.N) : Fin 4 := ⟨t.val / 8, (idx t).2.2.2.2.2.2.2⟩
def ptRow (t : Fin cfg0.N) (r : Fin 256) : Fin 2048 := ⟨256 * (t.val % 8) + r.val, by omega⟩

theorem blkQ (t : Fin cfg0.N) : mat (iblk m c 0 t) = fun r x => headQ (argQ m c) (ptHead t) (ptRow t r) x := by
  funext r x
  unfold mat headQ col ptHead ptRow argQ
  blk_ext [iblk, V, idx t]

theorem blkK (t : Fin cfg0.N) : mat (iblk m c 1 t) = headK (argK m c) (ptHead t) := by
  funext r x
  unfold mat headK col ptHead argK
  blk_ext [iblk, V, idx t]

theorem blkV (t : Fin cfg0.N) : mat (iblk m c 2 t) = headK (argV m c) (ptHead t) := by
  funext r x
  unfold mat headK col ptHead argV
  blk_ext [iblk, V, idx t]

theorem blkD (t : Fin cfg0.N) : matb (iblk m c 3 t) = fun r x => headD (argD m c) (ptHead t) (ptRow t r) x := by
  funext r x
  unfold matb headD col ptHead ptRow argD
  blk_ext [iblk, V, idx t]

/-- Every argument is real. -/
structure Finite : Prop where
  q : ∀ i, ∃ a : ℝ, argQ m c i = a
  k : ∀ i, ∃ a : ℝ, argK m c i = a
  v : ∀ i, ∃ a : ℝ, argV m c i = a
  d : ∀ i, ∃ a : ℝ, argD m c i = a

variable {m c} (hf : Finite m c)
include hf

theorem finQ (t : Fin cfg0.N) : Attn.Real2 (mat (iblk m c 0 t)) := by rw [blkQ]; exact fun r x => hf.q _
theorem finK (t : Fin cfg0.N) : Attn.Real2 (mat (iblk m c 1 t)) := by rw [blkK]; exact fun r x => hf.k _
theorem finV (t : Fin cfg0.N) : Attn.Real2 (mat (iblk m c 2 t)) := by rw [blkV]; exact fun r x => hf.v _
theorem finD (t : Fin cfg0.N) : Attn.Real2 (matb (iblk m c 3 t)) := by rw [blkD]; exact fun r x => hf.d _

/-- What point `t` stores of the gradient of the queries. -/
theorem tileQ (t : Fin cfg0.N) (r : Fin 256) (x : Fin 512) :
    Attn.dq (mat (iblk m c 0 t)) (mat (iblk m c 1 t)) (mat (iblk m c 2 t)) (matb (iblk m c 3 t)) scale r x
      = DQ (argQ m c) (argK m c) (argV m c) (argD m c) (ix2 (ptRow t r) (col (ptHead t) x)) := by
  rw [DQ_at, blkQ, blkK, blkV, blkD]
  rfl

theorem finalQ : (dats m 0 c).arrAt 4 cfg0.N = DQ (argQ m c) (argK m c) (argV m c) (argD m c) := by
  refine (dats m 0 c).arrAt_eq_of_covers 4 _ (by decide +kernel) fun t _ y => ?_
  blk_simp
  rw [after0_4]
  have he : ((cfg0.win 4).blk t).view.emb y = ix2 (ptRow t (y 0)) (col (ptHead t) (y 1)) := by
    unfold col ptHead ptRow
    blk_ext [idx t]
  have hp := (pay14_real (iblk m c 0 t) (iblk m c 1 t) (iblk m c 2 t) (iblk m c 3 t) (finQ hf t) (finK hf t) (finV hf t)
    (finD hf t) (y 0) (y 1)).trans (tileQ hf t (y 0) (y 1))
  have hy : y = ix2 (y 0) (y 1) := by funext a; fin_cases a <;> rfl
  by_cases h0 : t.val % 8 = 0
  · rw [outsAt0_A m c t h0]
    frame_out
    exact (congrArg _ hy).trans (hp.trans (congrArg _ he.symm))
  · rw [outsAt0_B m c t h0]
    frame_out
    exact (congrArg _ hy).trans (hp.trans (congrArg _ he.symm))

/-- The point of a head's run that works on query tile `s`. -/
abbrev runPt (t : Fin cfg0.N) (h : t.val % 8 = 7) (s : Fin 8) : Fin cfg0.N :=
  ⟨8 * (t.val / 8) + s.val, Pipeline.run_point_lt_of_flush t h s⟩

omit hf in
theorem runPt_head (t : Fin cfg0.N) (h : t.val % 8 = 7) (s : Fin 8) : ptHead (runPt t h s) = ptHead t :=
  Fin.ext (by simp only [ptHead, runPt]; omega)

omit hf in
theorem runPt_row (t : Fin cfg0.N) (h : t.val % 8 = 7) (s : Fin 8) (r : Fin 256) (hl) :
    ptRow (runPt t h s) r = ⟨s.val * 256 + r.val, hl⟩ :=
  Fin.ext (by simp only [ptRow, runPt]; omega)

theorem accK (t : Fin cfg0.N) (h : t.val % 8 = 7) (i : S256x512.Idx) :
    (outsAt0 m c t.val t.isLt).2.1 i = 0 + ∑ s : Fin 8, Attn.dk (mat (iblk m c 0 (runPt t h s)))
      (mat (iblk m c 1 (runPt t h s))) (mat (iblk m c 2 (runPt t h s))) (matb (iblk m c 3 (runPt t h s))) scale (i 0) (i 1) := by
  refine Pipeline.eq_sum_fin_of_reset_step_apply_of_flush (fun n hn => (outsAt0 m c n hn).2.1) 8 (fun _ => (0 : EReal))
    (fun t i => Attn.dk (mat (iblk m c 0 t)) (mat (iblk m c 1 t)) (mat (iblk m c 2 t)) (matb (iblk m c 3 t)) scale (i 0) (i 1))
    (fun t h0 i => ?_) (fun t h0 i => ?_) t h i
  · show (outsAt0 m c t.val t.isLt).2.1 i = _
    rw [outsAt0_A m c t h0]
    frame_out
    idx_vars i
    refine (pay15_real (iblk m c 0 t) (iblk m c 1 t) (iblk m c 2 t) (iblk m c 3 t) (finQ hf t) (finK hf t) (finV hf t)
      (finD hf t) _ _ _).trans (congrArg (· + _) ?_)
    pointwise [k0_pay1]
  · show (outsAt0 m c t.val t.isLt).2.1 i = _
    rw [outsAt0_B m c t h0]
    frame_out
    idx_vars i
    exact pay15_real (iblk m c 0 t) (iblk m c 1 t) (iblk m c 2 t) (iblk m c 3 t) (finQ hf t) (finK hf t) (finV hf t)
      (finD hf t) _ _ _

theorem accV (t : Fin cfg0.N) (h : t.val % 8 = 7) (i : S256x512.Idx) :
    (outsAt0 m c t.val t.isLt).2.2 i = 0 + ∑ s : Fin 8, Attn.dv (mat (iblk m c 0 (runPt t h s)))
      (mat (iblk m c 1 (runPt t h s))) (matb (iblk m c 3 (runPt t h s))) scale (i 0) (i 1) := by
  refine Pipeline.eq_sum_fin_of_reset_step_apply_of_flush (fun n hn => (outsAt0 m c n hn).2.2) 8 (fun _ => (0 : EReal))
    (fun t i => Attn.dv (mat (iblk m c 0 t)) (mat (iblk m c 1 t)) (matb (iblk m c 3 t)) scale (i 0) (i 1))
    (fun t h0 i => ?_) (fun t h0 i => ?_) t h i
  · show (outsAt0 m c t.val t.isLt).2.2 i = _
    rw [outsAt0_A m c t h0]
    frame_out
    idx_vars i
    pointwise [k0_pay16, k0_pay2]
    rw [pay11_at]
  · show (outsAt0 m c t.val t.isLt).2.2 i = _
    rw [outsAt0_B m c t h0]
    frame_out
    idx_vars i
    pointwise [k0_pay16]
    rw [pay11_at]

/-- The query tiles of a run, one after another, are all the queries. -/
theorem sumK (t : Fin cfg0.N) (h : t.val % 8 = 7) (j : Fin 256) (x : Fin 512) :
    ∑ s : Fin 8, Attn.dk (mat (iblk m c 0 (runPt t h s))) (mat (iblk m c 1 (runPt t h s)))
        (mat (iblk m c 2 (runPt t h s))) (matb (iblk m c 3 (runPt t h s))) scale j x
      = DK (argQ m c) (argK m c) (argV m c) (argD m c) (ix2 j (col (ptHead t) x)) := by
  rw [DK_at]
  refine Fin.sum_mul_add_congr (L := 2048) fun s r hl => ?_
  rw [blkQ, blkK, blkV, blkD, runPt_head, ← runPt_row t h s r hl]
  rfl

theorem sumV (t : Fin cfg0.N) (h : t.val % 8 = 7) (j : Fin 256) (x : Fin 512) :
    ∑ s : Fin 8, Attn.dv (mat (iblk m c 0 (runPt t h s))) (mat (iblk m c 1 (runPt t h s)))
        (matb (iblk m c 3 (runPt t h s))) scale j x
      = DV (argQ m c) (argK m c) (argD m c) (ix2 j (col (ptHead t) x)) := by
  rw [DV_at]
  refine Fin.sum_mul_add_congr (L := 2048) fun s r hl => ?_
  rw [blkQ, blkK, blkD, runPt_head, ← runPt_row t h s r hl]
  rfl

theorem finalK : (dats m 0 c).arrAt 5 cfg0.N = DK (argQ m c) (argK m c) (argV m c) (argD m c) := by
  refine (dats m 0 c).arrAt_eq_of_covers 5 _ (by decide +kernel) fun t hft y => ?_
  blk_simp
  rw [after0_5]
  have h := (flush0_5 t).mp hft
  have he : ((cfg0.win 5).blk t).view.emb y = ix2 (y 0) (col (ptHead t) (y 1)) := by
    unfold col ptHead
    blk_ext [idx t]
  refine (accK hf t h y).trans (Eq.trans ?_ (congrArg _ he.symm))
  exact (zero_add _).trans (sumK hf t h (y 0) (y 1))

theorem finalV : (dats m 0 c).arrAt 6 cfg0.N = DV (argQ m c) (argK m c) (argD m c) := by
  refine (dats m 0 c).arrAt_eq_of_covers 6 _ (by decide +kernel) fun t hft y => ?_
  blk_simp
  rw [after0_6]
  have h := (flush0_6 t).mp hft
  have he : ((cfg0.win 6).blk t).view.emb y = ix2 (y 0) (col (ptHead t) (y 1)) := by
    unfold col ptHead
    blk_ext [idx t]
  refine (accV hf t h y).trans (Eq.trans ?_ (congrArg _ he.symm))
  exact (zero_add _).trans (sumV hf t h (y 0) (y 1))

end Cert.Proof.Xat

end
-- ==== Proof.XatRefRead.lean ====
/- The memory attention's reference gradient: its three results, read at an index. -/
module

public import proofs.«01_k».proof.Proof.Gen.XatRefIdeal.Read
public import proofs.«01_k».proof.Proof.XatValue

@[expose] public section

set_option maxRecDepth 16384

noncomputable section

namespace Cert.Proof.Xat

open Cert.XatRefIdeal Cert.XatRefIdeal.Gen Cert.XatRefIdeal.Read Idealize.ShloMosaic

variable (q : Vec Ideal S2048x2048 .f32) (k v : Vec Ideal S256x2048 .f32) (d : Vec Ideal S2048x2048 .bf16)

theorem col_hd_ln (y : Fin 2048) : col (hd y) (ln y) = y := Fin.ext (by simp only [col, hd, ln]; omega)

theorem v0_at (r : Fin 2048) (h : Fin 4) (x : Fin 512) : val_main_v0 (F := Ideal) q (ix3 r h x) = headQ q h r x := by
  unfold headQ col
  pointwise [val_main_v0]
  blk_ext []

theorem v1_at (r : Fin 256) (h : Fin 4) (x : Fin 512) : val_main_v1 (F := Ideal) k (ix3 r h x) = headK k h r x := by
  unfold headK col
  pointwise [val_main_v1]
  blk_ext []

theorem v2_at (r : Fin 256) (h : Fin 4) (x : Fin 512) : val_main_v2 (F := Ideal) v (ix3 r h x) = headK v h r x := by
  unfold headK col
  pointwise [val_main_v2]
  blk_ext []

theorem v38_at (r : Fin 2048) (h : Fin 4) (x : Fin 512) : val_main_v38 (F := Ideal) d (ix3 r h x) = headD d h r x := by
  unfold headD col
  pointwise [val_main_v38, val_main_v37]
  blk_ext []

theorem v5_at (h : Fin 4) (r : Fin 2048) (j : Fin 256) :
    val_main_v5 (F := Ideal) q k (ix3 h r j) = Attn.score (headQ q h) (headK k h) scale r j := by
  pointwise [val_main_v5, val_main_v3, val_main_v4, val_main_cst]
  simp only [v0_at, v1_at]
  rfl

theorem v6_at (h : Fin 4) (r : Fin 2048) :
    val_main_v6 (F := Ideal) q k (ix2 h r) = Row.top (Attn.score (headQ q h) (headK k h) scale r) := by
  pointwise [val_main_v6, val_main_cst_0]
  rw [negInf_bits, Row.top]
  exact congrArg (fun f => Finset.univ.fold max ⊥ f) (funext fun j => v5_at q k h r j)

theorem v12_at (i : S4x2048.Idx) : val_main_v12 (F := Ideal) i = (⊥ : EReal) := by
  rw [val_main_v12_apply]
  exact negInf_bits

theorem max_bot (a b : EReal) (h : a = ⊥) : FloatOps.maximumf (F := Ideal) (φ := .f32) a b = b := by
  subst h
  exact max_eq_right bot_le

theorem v13_at (h : Fin 4) (r : Fin 2048) :
    val_main_v13 (F := Ideal) q k (ix2 h r) = Row.top (Attn.score (headQ q h) (headK k h) scale r) := by
  rw [val_main_v13_apply, v6_at]
  exact max_bot _ _ (v12_at _)

theorem v23_at (h : Fin 4) (r : Fin 2048) :
    val_main_v23 (F := Ideal) q k (ix3 h r 0) = Row.top (Attn.score (headQ q h) (headK k h) scale r) := by
  pointwise [val_main_v23]
  exact v13_at q k h r

theorem v26_at (h : Fin 4) (r : Fin 2048) (j : Fin 256) :
    val_main_v26 (F := Ideal) q k (ix3 h r j) = Row.ex (Attn.score (headQ q h) (headK k h) scale r) j := by
  pointwise [val_main_v26, val_main_v25, val_main_v24]
  rw [v5_at, v23_at, Row.ex]

theorem v28_at (h : Fin 4) (r : Fin 2048) :
    val_main_v28 (F := Ideal) q k (ix3 h r 0) = Row.tot (Attn.score (headQ q h) (headK k h) scale r) := by
  pointwise [val_main_v28, val_main_v27, val_main_cst_8]
  exact Finset.sum_congr rfl fun j _ => v26_at q k h r j

theorem v40_at (h : Fin 4) (r : Fin 2048) (j : Fin 256) :
    val_main_v40 (F := Ideal) v d (ix3 h r j) = Attn.cot (headD d h) (headK v h) r j := by
  pointwise [val_main_v40, val_main_v39]
  simp only [v38_at, v2_at]
  rfl

theorem v47_at (h : Fin 4) (r : Fin 2048) : val_main_v47 (F := Ideal) q k v d (ix3 h r 0)
    = ∑ j, Attn.cot (headD d h) (headK v h) r j * Ideal.div 1 (Row.tot (Attn.score (headQ q h) (headK k h) scale r)
      * Row.tot (Attn.score (headQ q h) (headK k h) scale r)) * Row.ex (Attn.score (headQ q h) (headK k h) scale r) j := by
  pointwise [val_main_v47, val_main_v46, val_main_cst_10, val_main_v45, val_main_v44, val_main_v43, val_main_v33,
    val_main_v32, val_main_cst_9, val_main_v31]
  simp only [v40_at, v26_at, v28_at]

theorem v56_at (h : Fin 4) (r : Fin 2048) (j : Fin 256) : val_main_v56 (F := Ideal) q k v d (ix3 h r j)
    = Attn.dscore (headQ q h) (headK k h) (headK v h) (headD d h) scale r j := by
  pointwise [val_main_v56, val_main_v55, val_main_cst_12, val_main_v54, val_main_v53, val_main_v52, val_main_v51,
    val_main_cst_11, val_main_v50, val_main_v49, val_main_v48]
  simp only [Finset.univ_unique, Finset.sum_singleton, Fin.default_eq_zero, v40_at, v26_at, v28_at, v47_at]
  rfl

theorem v63_at (r : Fin 2048) (h : Fin 4) (x : Fin 512) :
    val_main_v63 (F := Ideal) q k v d (ix2 r (col h x)) = DQ q k v d (ix2 r (col h x)) := by
  rw [DQ_at]
  pointwise [val_main_v63, val_main_v60, val_main_v59, col]
  simp only [v56_at, v1_at]
  rfl

theorem v62_at (j : Fin 256) (h : Fin 4) (x : Fin 512) :
    val_main_v62 (F := Ideal) q k v d (ix2 j (col h x)) = DK q k v d (ix2 j (col h x)) := by
  rw [DK_at]
  pointwise [val_main_v62, val_main_v58, val_main_v57, col]
  simp only [v56_at, v0_at]
  rfl

theorem v61_at (j : Fin 256) (h : Fin 4) (x : Fin 512) :
    val_main_v61 (F := Ideal) q k d (ix2 j (col h x)) = DV q k d (ix2 j (col h x)) := by
  rw [DV_at]
  pointwise [val_main_v61, val_main_v42, val_main_v41, val_main_v39, val_main_v30, val_main_v29, col]
  simp only [v38_at, v26_at, v28_at]
  exact Finset.sum_congr rfl fun r _ => mul_comm _ _

theorem ref_dq : val_main_v63 (F := Ideal) q k v d = DQ q k v d := by
  funext i
  rw [eq_ix2 i, ← col_hd_ln (i 1)]
  exact v63_at q k v d _ _ _

theorem ref_dk : val_main_v62 (F := Ideal) q k v d = DK q k v d := by
  funext i
  rw [eq_ix2 i, ← col_hd_ln (i 1)]
  exact v62_at q k v d _ _ _

theorem ref_dv : val_main_v61 (F := Ideal) q k d = DV q k d := by
  funext i
  rw [eq_ix2 i, ← col_hd_ln (i 1)]
  exact v61_at q k d _ _ _

end Cert.Proof.Xat

end
-- ==== Proof.XatClaim.lean ====
/- The memory attention's backward kernel against the gradient of the reference's attention. -/
module

public import proofs.«01_k».proof.Defs
public import proofs.«01_k».proof.Proof.Gen.XatIdeal.Value
public import proofs.«01_k».proof.Proof.Gen.XatRefIdeal.Run
public import proofs.«01_k».proof.Proof.Gen.Pre_xat_finite
public import proofs.«01_k».proof.Proof.XatRefRead
public import Idealize.ShloMosaic.Lib.Quiescent

@[expose] public section

set_option maxRecDepth 16384

noncomputable section

namespace Cert.Proof.Xat

open Idealize.ShloMosaic Idealize.ShloMosaic.TcCoe Idealize.SL.Sem

theorem posInf_bits : Ideal.ofBits .f32 0x7F800000#32 = ⊤ := by simp [Ideal.ofBits, Ideal.ieee]

/-- The test that the precondition makes of an element, read as what it says. -/
theorem real_of_test (x : EReal)
    (h : FloatOps.cmpf (F := Ideal) (φ := .f32) .ogt x (Ideal.ofBits .f32 0xFF800000#32)
      &&& FloatOps.cmpf (F := Ideal) (φ := .f32) .olt x (Ideal.ofBits .f32 0x7F800000#32) = 1#1) : ∃ a : ℝ, x = a := by
  rw [negInf_bits, posInf_bits] at h
  induction x using EReal.rec with
  | bot => exact absurd h (by simp [FloatOps.cmpf, Ideal.cmp])
  | top => exact absurd h (by simp [FloatOps.cmpf, Ideal.cmp])
  | coe a => exact ⟨a, rfl⟩

theorem finite_of_pre (m : (ℓ : Loc Cert.XatIdeal.nD Cert.XatIdeal.τ Cert.XatIdeal.sig) → Buf (Elt Ideal) ℓ)
    (h : Pre_XatIdeal_xat_finite (hPre_xat_finite := Cert.Pre_xat_finite.Gen.facts) m) (c : Dev Cert.XatIdeal.nD) : Finite m c := by
  obtain ⟨hq, hk, hv, hd⟩ := h c
  refine ⟨fun i => real_of_test _ (congrFun hq i), fun i => real_of_test _ (congrFun hk i),
    fun i => real_of_test _ (congrFun hv i), fun i => real_of_test _ (congrFun hd i)⟩

/-- The reference, a program of host operations alone, keeps its arguments; it has no semaphore. -/
theorem refFrame : quiescent_XatRefIdeal (hXatRefIdeal := Cert.XatRefIdeal.Gen.facts) := fun m g _ =>
  (θ_run _ _ _).mono (fun r h => ⟨fun c => (h c).2.2.2, sem_eq_zero_of_no_sems (by decide) r.2⟩)
    (Cert.XatRefIdeal.Value.run m g)

theorem algebraic : algebraic_XatIdeal_XatRefIdeal_pre_xat_finite (hXatIdeal := Cert.XatIdeal.Gen.facts)
    (hXatRefIdeal := Cert.XatRefIdeal.Gen.facts) (hPre_xat_finite := Cert.Pre_xat_finite.Gen.facts) := by
  intro m g m' g' hpre hagree
  have hf := finite_of_pre m hpre
  refine ⟨fun c => DQ (argQ m c) (argK m c) (argV m c) (argD m c), fun c => DK (argQ m c) (argK m c) (argV m c) (argD m c),
    fun c => DV (argQ m c) (argK m c) (argD m c), (θ_run _ _ _).mono (fun r h c => ?_) (Cert.XatIdeal.Value.run_blocks m g),
    (θ_run _ _ _).mono (fun r h c => ?_) (Cert.XatRefIdeal.Value.run m' g')⟩
  · obtain ⟨h4, h5, h6, h'⟩ := h c
    exact ⟨h4.trans (finalQ (hf c)), h5.trans (finalK (hf c)), h6.trans (finalV (hf c)), h'⟩
  · obtain ⟨h0, h1, h2, h'⟩ := h c
    obtain ⟨e0, e1, e2, e3⟩ := hagree c
    refine ⟨h0.trans ?_, h1.trans ?_, h2.trans ?_, h'⟩
    · rw [Cert.XatRefIdeal.Read.val_main_v63_eq, ref_dq, e0, e1, e2, e3]
    · rw [Cert.XatRefIdeal.Read.val_main_v62_eq, ref_dk, e0, e1, e2, e3]
    · refine Eq.trans (b := Cert.XatRefIdeal.Read.val_main_v61 (F := Ideal) _ _ _) rfl ?_
      rw [ref_dv, e0, e1, e3]

end Cert.Proof.Xat

end
-- ==== Proof.FfnRun.lean ====
/- The feed-forward block's kernels run one after another: what every buffer holds at the end. -/
module

public import proofs.«01_k».proof.Proof.Gen.FfnIdeal.Frame

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W14`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => h)

end Cert.Proof.Ffn

end
-- ==== Proof.FfnSpec.lean ====
/- The feed-forward block over extended reals, and its gradients.

   A row is normed, projected to 11264 columns, convolved along the rows three steps back, and shifted by a bias. The
   first half of the columns gates the second half; the gated columns are projected back and added to the row. Every
   definition is a plain sum; the programs' proofs read their results as these. -/
module

public import Idealize.ShloMosaic.PureOps.Ideal
public import Idealize.ShloMosaic.PureOps.Ideal.Laws

@[expose] public section

set_option maxRecDepth 16384

noncomputable section

namespace Cert.Proof.Ffn

open Idealize.ShloMosaic

/-! ## One column of the convolution and the gate -/

/-- A column moved `n` rows on, zeros before its first row. -/
def back (n : Nat) (x : Fin 2048 → EReal) (r : Fin 2048) : EReal :=
  if n ≤ r.val then x ⟨r.val - n, by omega⟩ else 0

/-- A column moved `n` rows up, zeros after its last row. -/
def ahead (n : Nat) (x : Fin 2048 → EReal) (r : Fin 2048) : EReal :=
  if h : r.val + n < 2048 then x ⟨r.val + n, h⟩ else 0

/-- The causal convolution of a column with three taps. -/
def conv (w : Fin 3 → EReal) (x : Fin 2048 → EReal) (r : Fin 2048) : EReal :=
  x r * w 2 + back 2 x r * w 0 + back 1 x r * w 1

/-- The gradient of the convolved column. -/
def convT (w : Fin 3 → EReal) (c : Fin 2048 → EReal) (r : Fin 2048) : EReal :=
  ahead 1 (fun s => c s * w 1) r + ahead 2 (fun s => c s * w 0) r + c r * w 2

/-- The gradient of tap `k`. -/
def tap (x c : Fin 2048 → EReal) (k : Fin 3) : EReal := ∑ r, back (2 - k.val) x r * c r

theorem back_zero (x : Fin 2048 → EReal) : back 0 x = x := by
  funext r
  exact if_pos (Nat.zero_le _)

/-- The logistic function, and the gate `x · logistic x`. -/
def sigm (x : EReal) : EReal := Ideal.div 1 (1 + Ideal.exp (-x))
def silu (x : EReal) : EReal := x * sigm x

/-- The gradient of the gate at `x`, times `t`. -/
def dsilu (x t : EReal) : EReal := x * t * (sigm x * (1 - sigm x)) + t * sigm x

/-- The derivative of the logistic function in the kernel's form: a quotient with the square of its denominator. -/
theorem sig_deriv (x : EReal) :
    Ideal.div 1 ((1 + Ideal.exp (-x)) * (1 + Ideal.exp (-x))) * Ideal.exp (-x) = sigm x * (1 - sigm x) := by
  have hs : sigm x = Ideal.logistic x := rfl
  rw [hs]
  induction x using EReal.rec with
  | bot =>
    have h1 : (1 : EReal) + ⊤ = ⊤ := by rw [← EReal.coe_one, EReal.coe_add_top]
    simp [Ideal.div, h1]
  | top =>
    have h1 : (1 : EReal) - 1 = 0 := by rw [← EReal.coe_one, ← EReal.coe_sub, sub_self, EReal.coe_zero]
    simp [Ideal.div, h1]
  | coe a =>
    have hp : (1 + Real.exp (-a)) * (1 + Real.exp (-a)) ≠ 0 := by positivity
    rw [Ideal.logistic_coe, ← EReal.coe_neg, Ideal.exp_coe, ← EReal.coe_one, ← EReal.coe_add, ← EReal.coe_mul, Ideal.div_coe hp,
      ← EReal.coe_mul, ← EReal.coe_mul, ← EReal.coe_sub, ← EReal.coe_mul]
    refine congrArg _ ?_
    field_simp
    ring

/-- The kernel's form of the gate's gradient. -/
theorem dsilu_eq (x t : EReal) :
    t * sigm x + (0 - (0 - x * t * Ideal.div 1 ((1 + Ideal.exp (-x)) * (1 + Ideal.exp (-x))) * 1) * Ideal.exp (-x)) = dsilu x t := by
  rw [dsilu, ← sig_deriv, zero_sub, zero_sub, mul_one, EReal.neg_mul, neg_neg, mul_assoc (x * t), add_comm]

/-! ## The whole block -/

/-- The block's arguments: rows, weights, taps, the norm's gain, biases, and the cotangent of the result. -/
structure Args where
  h : Fin 2048 → Fin 2048 → EReal
  wu : Fin 2048 → Fin 11264 → EReal
  cw : Fin 3 → Fin 11264 → EReal
  wd : Fin 5632 → Fin 2048 → EReal
  gain : Fin 2048 → EReal
  bias : Fin 11264 → EReal
  g : Fin 2048 → Fin 2048 → EReal

/-- The gate's column and the gated column that make column `j` of the activations. -/
def lo (j : Fin 5632) : Fin 11264 := ⟨j.val, by omega⟩
def hi (j : Fin 5632) : Fin 11264 := ⟨5632 + j.val, by omega⟩

/-- A row divided by the root of its mean square, times the gain. -/
def normed (h : Fin 2048 → Fin 2048 → EReal) (gain : Fin 2048 → EReal) (r x : Fin 2048) : EReal :=
  h r x * Ideal.rsqrt (Ideal.div (∑ y, h r y * h r y) (Ideal.ofBits .f32 0x45000000#32) + Ideal.ofBits .f32 0x358637BD#32)
    * gain x

/-- The product of two matrices. -/
def mul {n k m : Nat} (A : Fin n → Fin k → EReal) (B : Fin k → Fin m → EReal) (r : Fin n) (c : Fin m) : EReal :=
  ∑ x, A r x * B x c

/-- The activations, from the projected columns, their taps and their biases. -/
def gated (p : Fin 2048 → Fin 11264 → EReal) (cw : Fin 3 → Fin 11264 → EReal) (b : Fin 11264 → EReal)
    (r : Fin 2048) (j : Fin 5632) : EReal :=
  silu (conv (cw · (lo j)) (p · (lo j)) r + b (lo j)) * (conv (cw · (hi j)) (p · (hi j)) r + b (hi j))

/-- The gradient of the gate's column. -/
def dlo (p : Fin 2048 → Fin 11264 → EReal) (cw : Fin 3 → Fin 11264 → EReal) (b : Fin 11264 → EReal)
    (d : Fin 2048 → Fin 5632 → EReal) (r : Fin 2048) (j : Fin 5632) : EReal :=
  dsilu (conv (cw · (lo j)) (p · (lo j)) r + b (lo j)) (d r j * (conv (cw · (hi j)) (p · (hi j)) r + b (hi j)))

/-- The gradient of the gated column. -/
def dhi (p : Fin 2048 → Fin 11264 → EReal) (cw : Fin 3 → Fin 11264 → EReal) (b : Fin 11264 → EReal)
    (d : Fin 2048 → Fin 5632 → EReal) (r : Fin 2048) (j : Fin 5632) : EReal :=
  silu (conv (cw · (lo j)) (p · (lo j)) r + b (lo j)) * d r j

/-- The gradient of every convolved column. -/
def dconvd (p : Fin 2048 → Fin 11264 → EReal) (cw : Fin 3 → Fin 11264 → EReal) (b : Fin 11264 → EReal)
    (d : Fin 2048 → Fin 5632 → EReal) (r : Fin 2048) (f : Fin 11264) : EReal :=
  if h : f.val < 5632 then dlo p cw b d r ⟨f.val, h⟩ else dhi p cw b d r ⟨f.val - 5632, by omega⟩

theorem dconvd_lo (p : Fin 2048 → Fin 11264 → EReal) (cw : Fin 3 → Fin 11264 → EReal) (b : Fin 11264 → EReal)
    (d : Fin 2048 → Fin 5632 → EReal) (r : Fin 2048) (j : Fin 5632) : dconvd p cw b d r (lo j) = dlo p cw b d r j :=
  dif_pos j.isLt

theorem dconvd_hi (p : Fin 2048 → Fin 11264 → EReal) (cw : Fin 3 → Fin 11264 → EReal) (b : Fin 11264 → EReal)
    (d : Fin 2048 → Fin 5632 → EReal) (r : Fin 2048) (j : Fin 5632) : dconvd p cw b d r (hi j) = dhi p cw b d r j := by
  have h : ¬(hi j).val < 5632 := by simp only [hi]; omega
  refine (dif_neg h).trans (congrArg (dhi p cw b d r) (Fin.ext ?_))
  simp only [hi]
  omega

namespace Args

variable (a : Args)

/-- The normed rows, the projected columns, the activations. -/
def hn : Fin 2048 → Fin 2048 → EReal := normed a.h a.gain
def pre : Fin 2048 → Fin 11264 → EReal := mul a.hn a.wu
def act : Fin 2048 → Fin 5632 → EReal := gated a.pre a.cw a.bias

/-- The block's result. -/
def out (r x : Fin 2048) : EReal := mul a.act a.wd r x + a.h r x

/-- The gradients of the activations and of the second weights. -/
def dact (r : Fin 2048) (j : Fin 5632) : EReal := ∑ x, a.g r x * a.wd j x
def dwd (j : Fin 5632) (x : Fin 2048) : EReal := ∑ r, a.act r j * a.g r x

/-- The gradients of the convolved columns, of the columns before it, of the taps, the biases and the first weights. -/
def dcv : Fin 2048 → Fin 11264 → EReal := dconvd a.pre a.cw a.bias a.dact
def dpre (r : Fin 2048) (f : Fin 11264) : EReal := convT (a.cw · f) (a.dcv · f) r
def dcw (k : Fin 3) (f : Fin 11264) : EReal := tap (a.pre · f) (a.dcv · f) k
def dbias (f : Fin 11264) : EReal := ∑ r, a.dcv r f
def dwu (x : Fin 2048) (f : Fin 11264) : EReal := ∑ r, a.hn r x * a.dpre r f

end Args

end Cert.Proof.Ffn

end
-- ==== Proof.FfnShapes.lean ====
/- The feed-forward block's arrays read as matrices: rows against columns, the columns of all groups side by side. -/
module

public import proofs.«01_k».proof.Proof.FfnSpec
public import Idealize.ShloMosaic.Lib.Pipeline.ValueKit
public import Idealize.ShloMosaic.Lib.Pointwise

@[expose] public section

set_option maxRecDepth 16384

noncomputable section

namespace Cert.Proof.Ffn

open Idealize.ShloMosaic

variable {n k : Nat}

/-- An array of two axes as a matrix, and a matrix as an array. -/
def mx (a : (⟨2, ![n, k]⟩ : Shape).Idx → EReal) : Fin n → Fin k → EReal := fun r x => a (ix2 r x)
def ar2 (f : Fin n → Fin k → EReal) : (⟨2, ![n, k]⟩ : Shape).Idx → EReal := fun i => f (i 0) (i 1)

/-- An array of three axes, the first of them one long, as a matrix. -/
def slab (a : (⟨3, ![1, n, k]⟩ : Shape).Idx → EReal) : Fin n → Fin k → EReal := fun r x => a (ix3 0 r x)

/-- The group of a column, the column inside its group, and back. -/
def grp (f : Fin 11264) : Fin 8 := ⟨f.val / 1408, by omega⟩
def lane (f : Fin 11264) : Fin 1408 := ⟨f.val % 1408, by omega⟩
def join (g : Fin 8) (l : Fin 1408) : Fin 11264 := ⟨1408 * g.val + l.val, by omega⟩

theorem join_grp (f : Fin 11264) : join (grp f) (lane f) = f := Fin.ext (by simp only [join, grp, lane]; omega)
theorem grp_join (g : Fin 8) (l : Fin 1408) : grp (join g l) = g := Fin.ext (by simp only [join, grp]; omega)
theorem lane_join (g : Fin 8) (l : Fin 1408) : lane (join g l) = l := Fin.ext (by simp only [join, lane]; omega)

/-- Eight groups of columns side by side, and a matrix cut into them. -/
def flat3 (a : (⟨3, ![8, n, 1408]⟩ : Shape).Idx → EReal) : Fin n → Fin 11264 → EReal :=
  fun r f => a (ix3 (grp f) r (lane f))
def ar3 (p : Fin n → Fin 11264 → EReal) : (⟨3, ![8, n, 1408]⟩ : Shape).Idx → EReal := fun i => p (i 1) (join (i 0) (i 2))

/-- The half and the quarter of a half that a column lies in. -/
def half (f : Fin 11264) : Fin 2 := ⟨f.val / 5632, by omega⟩
def quar (f : Fin 11264) : Fin 4 := ⟨f.val / 1408 % 4, by omega⟩
def join4 (s : Fin 2) (q : Fin 4) (l : Fin 1408) : Fin 11264 := ⟨5632 * s.val + 1408 * q.val + l.val, by omega⟩

theorem join4_half (f : Fin 11264) : join4 (half f) (quar f) (lane f) = f :=
  Fin.ext (by simp only [join4, half, quar, lane]; omega)
theorem half_join4 (s : Fin 2) (q : Fin 4) (l : Fin 1408) : half (join4 s q l) = s := Fin.ext (by simp only [join4, half]; omega)
theorem quar_join4 (s : Fin 2) (q : Fin 4) (l : Fin 1408) : quar (join4 s q l) = q := Fin.ext (by simp only [join4, quar]; omega)
theorem lane_join4 (s : Fin 2) (q : Fin 4) (l : Fin 1408) : lane (join4 s q l) = l := Fin.ext (by simp only [join4, lane]; omega)

/-- Two halves of four groups side by side, and a matrix cut into them. -/
def flat4 (a : (⟨4, ![2, 4, n, 1408]⟩ : Shape).Idx → EReal) : Fin n → Fin 11264 → EReal :=
  fun r f => a (ix4 (half f) (quar f) r (lane f))
def ar4 (p : Fin n → Fin 11264 → EReal) : (⟨4, ![2, 4, n, 1408]⟩ : Shape).Idx → EReal :=
  fun i => p (i 2) (join4 (i 0) (i 1) (i 3))

theorem mx_ar2 (f : Fin n → Fin k → EReal) : mx (ar2 f) = f := rfl
theorem flat3_ar3 (p : Fin n → Fin 11264 → EReal) : flat3 (ar3 p) = p := by
  funext r f
  exact congrArg (p r) (join_grp f)
theorem flat4_ar4 (p : Fin n → Fin 11264 → EReal) : flat4 (ar4 p) = p := by
  funext r f
  exact congrArg (p r) (join4_half f)

end Cert.Proof.Ffn

end
-- ==== Proof.FfnProducts.lean ====
/- The feed-forward block's norm and products after their runs: each result array as a matrix. -/
module

public import proofs.«01_k».proof.Proof.Gen.FfnIdeal.Frame
public import proofs.«01_k».proof.Proof.FfnShapes

@[expose] public section

set_option maxRecDepth 16384

noncomputable section

namespace Cert.Proof.Ffn

open Cert.FfnIdeal Cert.FfnIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The norm: 256 rows at a point -/

theorem idx0 : ∀ t : Fin cfg0.N, win0_0.index t = ![t.val, 0] ∧ win0_1.index t = ![0, 0] ∧ win0_2.index t = ![t.val, 0] ∧ t.val < 8 :=
  (by decide +kernel : ∀ t : Fin grid0.N, _)

/-- Row `r` of point `t`'s block. -/
def row0 (t : Fin cfg0.N) (r : Fin 256) : Fin 2048 := ⟨256 * t.val + r.val, by have := (idx0 t).2.2.2; omega⟩

theorem norm_tile (a : Vec Ideal S256x2048 .f32) (b : Vec Ideal S1x2048 .f32) (r : Fin 256) (x : Fin 2048) :
    k0_pay1 a b (ix2 r x) = mx a r x * Ideal.rsqrt (Ideal.div (∑ y, mx a r y * mx a r y)
      (Ideal.ofBits .f32 0x45000000#32) + Ideal.ofBits .f32 0x358637BD#32) * mx b 0 x := by
  pointwise [k0_pay1]
  rfl

/-- The normed rows. -/
def norm0 : Fin 2048 → Fin 2048 → EReal :=
  normed (mx (n := 2048) (k := 2048) (V c main_arg0)) (mx (n := 1) (k := 2048) (V c main_v0) 0)

theorem norm_array : (dat0 V c).arrAt 2 cfg0.N = ar2 (norm0 V c) := by
  refine (dat0 V c).arrAt_eq_of_covers 2 _ (by decide +kernel) fun t _ y => ?_
  blk_simp
  rw [after0_2]
  have he : ((cfg0.win 2).blk t).view.emb y = ix2 (row0 t (y 0)) (y 1) := by
    unfold row0
    blk_ext [idx0 t]
  have h0 : mx (n := 256) (k := 2048) (iblk0 V c 0 t) = fun r x => mx (n := 2048) (k := 2048) (V c main_arg0) (row0 t r) x := by
    funext r x
    unfold mx row0
    blk_ext [iblk0, idx0 t]
  have h1 : mx (n := 1) (k := 2048) (iblk0 V c 1 t) = mx (n := 1) (k := 2048) (V c main_v0) := by
    funext r x
    unfold mx
    blk_ext [iblk0, idx0 t]
  have hp := norm_tile (iblk0 V c 0 t) (iblk0 V c 1 t) (y 0) (y 1)
  rw [h0, h1] at hp
  have hy : y = ix2 (y 0) (y 1) := by funext a; fin_cases a <;> rfl
  frame_out
  exact (congrArg _ hy).trans (hp.trans (congrArg (ar2 (norm0 V c)) he.symm))

/-! ## The first product: 1024 rows of one group at a point -/

theorem idx1 : ∀ t : Fin cfg1.N, win1_0.index t = ![t.val % 2, 0] ∧ win1_1.index t = ![t.val / 2, 0, 0]
    ∧ win1_2.index t = ![t.val / 2, t.val % 2, 0] ∧ t.val / 2 < 8 :=
  (by decide +kernel : ∀ t : Fin grid1.N, _)

/-- Row `r` of point `t`'s block, and the point's group. -/
def row1 (t : Fin cfg1.N) (r : Fin 1024) : Fin 2048 := ⟨1024 * (t.val % 2) + r.val, by omega⟩
def grp1 (t : Fin cfg1.N) : Fin 8 := ⟨t.val / 2, (idx1 t).2.2.2⟩

theorem up_tile (a : Vec Ideal S1024x2048 .bf16) (b : Vec Ideal S1x2048x1408 .bf16) (r : Fin 1024) (x : Fin 1408) :
    k1_pay1 a b (ix3 0 r x) = mul (mx a) (slab b) r x := by
  pointwise [k1_pay1]
  rfl

/-- The projected columns. -/
def up1 : Fin 2048 → Fin 11264 → EReal :=
  mul (mx (n := 2048) (k := 2048) (V c main_v1)) (flat3 (n := 2048) (V c main_arg1))

theorem up_array : (dat1 V c).arrAt 2 cfg1.N = ar3 (up1 V c) := by
  refine (dat1 V c).arrAt_eq_of_covers 2 _ (by decide +kernel) fun t _ y => ?_
  blk_simp
  rw [after1_2]
  have he : ((cfg1.win 2).blk t).view.emb y = ix3 (grp1 t) (row1 t (y 1)) (y 2) := by
    unfold grp1 row1
    blk_ext [idx1 t]
  have h0 : mx (n := 1024) (k := 2048) (iblk1 V c 0 t) = fun r x => mx (n := 2048) (k := 2048) (V c main_v1) (row1 t r) x := by
    funext r x
    unfold mx row1
    blk_ext [iblk1, idx1 t]
  have h1 : slab (n := 2048) (k := 1408) (iblk1 V c 1 t)
      = fun x l => flat3 (n := 2048) (V c main_arg1) x (join (grp1 t) l) := by
    funext x l
    rw [flat3, grp_join, lane_join]
    unfold grp1 slab
    blk_ext [iblk1, idx1 t]
  have hp := up_tile (iblk1 V c 0 t) (iblk1 V c 1 t) (y 1) (y 2)
  rw [h0, h1] at hp
  have hy : y = ix3 0 (y 1) (y 2) := by funext a; fin_cases a <;> [exact Subsingleton.elim (α := Fin 1) _ _; rfl; rfl]
  frame_out
  exact (congrArg _ hy).trans (hp.trans (congrArg (ar3 (up1 V c)) he.symm))

/-! ## The second product: 1024 rows and 256 columns at a point, the residual added -/

theorem idx3 : ∀ t : Fin cfg3.N, win3_0.index t = ![t.val / 8, 0] ∧ win3_1.index t = ![0, t.val % 8]
    ∧ win3_2.index t = ![t.val / 8, t.val % 8] ∧ win3_3.index t = ![t.val / 8, t.val % 8] ∧ t.val / 8 < 2 :=
  (by decide +kernel : ∀ t : Fin grid3.N, _)

/-- Row `r` and column `x` of point `t`'s block. -/
def row3 (t : Fin cfg3.N) (r : Fin 1024) : Fin 2048 := ⟨1024 * (t.val / 8) + r.val, by have := (idx3 t).2.2.2.2; omega⟩
def col3 (t : Fin cfg3.N) (x : Fin 256) : Fin 2048 := ⟨256 * (t.val % 8) + x.val, by omega⟩

theorem down_tile (a : Vec Ideal S1024x5632 .bf16) (b : Vec Ideal S5632x256 .bf16) (d : Vec Ideal S1024x256 .f32)
    (r : Fin 1024) (x : Fin 256) : k3_pay1 a b d (ix2 r x) = mul (mx a) (mx b) r x + mx d r x := by
  pointwise [k3_pay1]
  rfl

/-- The block's result. -/
def down3 (r x : Fin 2048) : EReal :=
  mul (mx (n := 2048) (k := 5632) (V c main_v6)) (mx (n := 5632) (k := 2048) (V c main_v7)) r x
    + mx (n := 2048) (k := 2048) (V c main_arg0) r x

theorem down_array : (dat3 V c).arrAt 3 cfg3.N = ar2 (down3 V c) := by
  refine (dat3 V c).arrAt_eq_of_covers 3 _ (by decide +kernel) fun t _ y => ?_
  blk_simp
  rw [after3_3]
  have he : ((cfg3.win 3).blk t).view.emb y = ix2 (row3 t (y 0)) (col3 t (y 1)) := by
    unfold row3 col3
    blk_ext [idx3 t]
  have h0 : mx (n := 1024) (k := 5632) (iblk3 V c 0 t) = fun r x => mx (n := 2048) (k := 5632) (V c main_v6) (row3 t r) x := by
    funext r x
    unfold mx row3
    blk_ext [iblk3, idx3 t]
  have h1 : mx (n := 5632) (k := 256) (iblk3 V c 1 t) = fun r x => mx (n := 5632) (k := 2048) (V c main_v7) r (col3 t x) := by
    funext r x
    unfold mx col3
    blk_ext [iblk3, idx3 t]
  have h2 : mx (n := 1024) (k := 256) (iblk3 V c 2 t)
      = fun r x => mx (n := 2048) (k := 2048) (V c main_arg0) (row3 t r) (col3 t x) := by
    funext r x
    unfold mx row3 col3
    blk_ext [iblk3, idx3 t]
  have hp := down_tile (iblk3 V c 0 t) (iblk3 V c 1 t) (iblk3 V c 2 t) (y 0) (y 1)
  rw [h0, h1, h2] at hp
  have hy : y = ix2 (y 0) (y 1) := by funext a; fin_cases a <;> rfl
  frame_out
  exact (congrArg _ hy).trans (hp.trans (congrArg (ar2 (down3 V c)) he.symm))

/-! ## The gradient of the activations: 512 columns at a point -/

theorem idx4 : ∀ t : Fin cfg4.N, win4_0.index t = ![0, 0] ∧ win4_1.index t = ![t.val, 0] ∧ win4_2.index t = ![0, t.val]
    ∧ t.val < 11 :=
  (by decide +kernel : ∀ t : Fin grid4.N, _)

/-- Column `x` of point `t`'s block. -/
def col4 (t : Fin cfg4.N) (x : Fin 512) : Fin 5632 := ⟨512 * t.val + x.val, by have := (idx4 t).2.2.2; omega⟩

theorem dact_tile (a : Vec Ideal S2048x2048 .bf16) (b : Vec Ideal S512x2048 .bf16) (r : Fin 2048) (j : Fin 512) :
    k4_pay1 a b (ix2 r j) = ∑ x, mx a r x * mx b j x := by
  pointwise [k4_pay1]
  rfl

/-- The gradient of the activations. -/
def dact4 (r : Fin 2048) (j : Fin 5632) : EReal :=
  ∑ x, mx (n := 2048) (k := 2048) (V c main_v9) r x * mx (n := 5632) (k := 2048) (V c main_v7) j x

theorem dact_array : (dat4 V c).arrAt 2 cfg4.N = ar2 (dact4 V c) := by
  refine (dat4 V c).arrAt_eq_of_covers 2 _ (by decide +kernel) fun t _ y => ?_
  blk_simp
  rw [after4_2]
  have he : ((cfg4.win 2).blk t).view.emb y = ix2 (y 0) (col4 t (y 1)) := by
    unfold col4
    blk_ext [idx4 t]
  have h0 : mx (n := 2048) (k := 2048) (iblk4 V c 0 t) = mx (n := 2048) (k := 2048) (V c main_v9) := by
    funext r x
    unfold mx
    blk_ext [iblk4, idx4 t]
  have h1 : mx (n := 512) (k := 2048) (iblk4 V c 1 t) = fun j x => mx (n := 5632) (k := 2048) (V c main_v7) (col4 t j) x := by
    funext r x
    unfold mx col4
    blk_ext [iblk4, idx4 t]
  have hp := dact_tile (iblk4 V c 0 t) (iblk4 V c 1 t) (y 0) (y 1)
  rw [h0, h1] at hp
  have hy : y = ix2 (y 0) (y 1) := by funext a; fin_cases a <;> rfl
  frame_out
  exact (congrArg _ hy).trans (hp.trans (congrArg (ar2 (dact4 V c)) he.symm))

/-! ## The gradient of the second weights: 512 rows of the weights at a point -/

theorem idx5 : ∀ t : Fin cfg5.N, win5_0.index t = ![0, t.val] ∧ win5_1.index t = ![0, 0] ∧ win5_2.index t = ![t.val, 0]
    ∧ t.val < 11 :=
  (by decide +kernel : ∀ t : Fin grid5.N, _)

/-- Row `j` of point `t`'s block. -/
def row5 (t : Fin cfg5.N) (j : Fin 512) : Fin 5632 := ⟨512 * t.val + j.val, by have := (idx5 t).2.2.2; omega⟩

theorem dwd_tile (a : Vec Ideal S2048x512 .bf16) (b : Vec Ideal S2048x2048 .bf16) (j : Fin 512) (x : Fin 2048) :
    k5_pay1 a b (ix2 j x) = ∑ r, mx a r j * mx b r x := by
  pointwise [k5_pay1]
  rfl

/-- The gradient of the second weights. -/
def dwd5 (j : Fin 5632) (x : Fin 2048) : EReal :=
  ∑ r, mx (n := 2048) (k := 5632) (V c main_v6) r j * mx (n := 2048) (k := 2048) (V c main_v9) r x

theorem dwd_array : (dat5 V c).arrAt 2 cfg5.N = ar2 (dwd5 V c) := by
  refine (dat5 V c).arrAt_eq_of_covers 2 _ (by decide +kernel) fun t _ y => ?_
  blk_simp
  rw [after5_2]
  have he : ((cfg5.win 2).blk t).view.emb y = ix2 (row5 t (y 0)) (y 1) := by
    unfold row5
    blk_ext [idx5 t]
  have h0 : mx (n := 2048) (k := 512) (iblk5 V c 0 t) = fun r j => mx (n := 2048) (k := 5632) (V c main_v6) r (row5 t j) := by
    funext r x
    unfold mx row5
    blk_ext [iblk5, idx5 t]
  have h1 : mx (n := 2048) (k := 2048) (iblk5 V c 1 t) = mx (n := 2048) (k := 2048) (V c main_v9) := by
    funext r x
    unfold mx
    blk_ext [iblk5, idx5 t]
  have hp := dwd_tile (iblk5 V c 0 t) (iblk5 V c 1 t) (y 0) (y 1)
  rw [h0, h1] at hp
  have hy : y = ix2 (y 0) (y 1) := by funext a; fin_cases a <;> rfl
  frame_out
  exact (congrArg _ hy).trans (hp.trans (congrArg (ar2 (dwd5 V c)) he.symm))

/-! ## The gradient of the first weights: 1024 rows of one group at a point -/

theorem idx7 : ∀ t : Fin cfg7.N, win7_0.index t = ![0, t.val % 2] ∧ win7_1.index t = ![t.val / 2, 0, 0]
    ∧ win7_2.index t = ![t.val / 2, t.val % 2, 0] ∧ t.val / 2 < 8 :=
  (by decide +kernel : ∀ t : Fin grid7.N, _)

/-- Row `r` of point `t`'s block, and the point's group. -/
def row7 (t : Fin cfg7.N) (r : Fin 1024) : Fin 2048 := ⟨1024 * (t.val % 2) + r.val, by omega⟩
def grp7 (t : Fin cfg7.N) : Fin 8 := ⟨t.val / 2, (idx7 t).2.2.2⟩

theorem dwu_tile (a : Vec Ideal S2048x1024 .bf16) (b : Vec Ideal S1x2048x1408 .bf16) (x : Fin 1024) (l : Fin 1408) :
    k7_pay1 a b (ix3 0 x l) = ∑ r, mx a r x * slab b r l := by
  pointwise [k7_pay1]
  rfl

/-- The gradient of the first weights. -/
def dwu7 (x : Fin 2048) (f : Fin 11264) : EReal :=
  ∑ r, mx (n := 2048) (k := 2048) (V c main_v1) r x * flat3 (n := 2048) (V c main_v13) r f

theorem dwu_array : (dat7 V c).arrAt 2 cfg7.N = ar3 (dwu7 V c) := by
  refine (dat7 V c).arrAt_eq_of_covers 2 _ (by decide +kernel) fun t _ y => ?_
  blk_simp
  rw [after7_2]
  have he : ((cfg7.win 2).blk t).view.emb y = ix3 (grp7 t) (row7 t (y 1)) (y 2) := by
    unfold grp7 row7
    blk_ext [idx7 t]
  have h0 : mx (n := 2048) (k := 1024) (iblk7 V c 0 t) = fun r x => mx (n := 2048) (k := 2048) (V c main_v1) r (row7 t x) := by
    funext r x
    unfold mx row7
    blk_ext [iblk7, idx7 t]
  have h1 : slab (n := 2048) (k := 1408) (iblk7 V c 1 t)
      = fun x l => flat3 (n := 2048) (V c main_v13) x (join (grp7 t) l) := by
    funext x l
    rw [flat3, grp_join, lane_join]
    unfold grp7 slab
    blk_ext [iblk7, idx7 t]
  have hp := dwu_tile (iblk7 V c 0 t) (iblk7 V c 1 t) (y 1) (y 2)
  rw [h0, h1] at hp
  have hy : y = ix3 0 (y 1) (y 2) := by funext a; fin_cases a <;> [exact Subsingleton.elim (α := Fin 1) _ _; rfl; rfl]
  frame_out
  exact (congrArg _ hy).trans (hp.trans (congrArg (ar3 (dwu7 V c)) he.symm))

end Cert.Proof.Ffn

end
-- ==== Proof.FfnGate.lean ====
/- The feed-forward block's gate at one grid point, forward and backward: what its body stores, read at an index. -/
module

public import proofs.«01_k».proof.Proof.Gen.FfnIdeal.Frame
public import proofs.«01_k».proof.Proof.FfnShapes

@[expose] public section

set_option maxRecDepth 16384

noncomputable section

namespace Cert.Proof.Ffn

open Cert.FfnIdeal Cert.FfnIdeal.Gen Idealize.ShloMosaic Idealize.ShloMosaic.TcCoe Idealize.SL.Sem

/-! ## A column moved along its rows, as the body moves it: a rotation, and zeros where it wrapped -/

theorem sel_sge (r : Fin 2048) (n : Nat) (hn : n < 2048) (A : EReal) :
    Scalar.select (IntOp.cmpi .sge (BitVec.ofNat 32 r.val) (BitVec.ofNat 32 n)) A 0 = if n ≤ r.val then A else 0 := by
  rw [WordCmp.cmpi_sge_ofNat (by omega) (by omega)]
  unfold Scalar.select
  simp only [WordCmp.ofBool_eq_one_iff', decide_eq_true_iff]

theorem sel_slt (r : Fin 2048) (n : Nat) (hn : n < 2048) (A : EReal) :
    Scalar.select (IntOp.cmpi .slt (BitVec.ofNat 32 r.val) (BitVec.ofNat 32 n)) A 0 = if r.val < n then A else 0 := by
  rw [WordCmp.cmpi_slt_ofNat (by omega) (by omega)]
  unfold Scalar.select
  simp only [WordCmp.ofBool_eq_one_iff', decide_eq_true_iff]

/-- A column rotated by `n` rows, zeros in its first `n` rows. -/
theorem sel_back (x : Fin 2048 → EReal) (r : Fin 2048) (n : Nat) (hn : n < 2048) (hl) :
    Scalar.select (IntOp.cmpi .sge (BitVec.ofNat 32 r.val) (BitVec.ofNat 32 n)) (x ⟨(r.val + 2048 - n) % 2048, hl⟩) 0 = back n x r := by
  rw [sel_sge r n hn]
  unfold back
  by_cases h : n ≤ r.val
  · rw [if_pos h, if_pos h]
    exact congrArg x (Fin.ext (by simp only; omega))
  · rw [if_neg h, if_neg h]

/-- A column rotated by all but `n` rows, zeros in its last `n` rows. -/
theorem sel_ahead (x : Fin 2048 → EReal) (r : Fin 2048) (n : Nat) (hn : 0 < n ∧ n < 2048) (hl) :
    Scalar.select (IntOp.cmpi .slt (BitVec.ofNat 32 r.val) (BitVec.ofNat 32 (2048 - n))) (x ⟨(r.val + 2048 - (2048 - n)) % 2048, hl⟩) 0
      = ahead n x r := by
  rw [sel_slt r (2048 - n) (by omega)]
  unfold ahead
  by_cases h : r.val + n < 2048
  · rw [if_pos (by omega), dif_pos h]
    exact congrArg x (Fin.ext (by simp only; omega))
  · rw [if_neg (by omega), dif_neg h]

variable (X Y : Vec Ideal S2048x128 .f32) (w v : Vec Ideal S3x128 .f32) (a b : Vec Ideal S1x128 .f32)

/-- Column `x` of a block. -/
abbrev cl {n k : Nat} (A : (⟨2, ![n, k]⟩ : Shape).Idx → EReal) (x : Fin k) : Fin n → EReal := fun r => mx A r x

theorem pay30_at (r : Fin 2048) (x : Fin 128) : k6_pay30 (F := Ideal) X (ix2 r x) = back 1 (cl X x) r := by
  pointwise [k6_pay30]
  exact sel_back (cl X x) r 1 (by omega) _

theorem pay28_at (r : Fin 2048) (x : Fin 128) : k6_pay28 (F := Ideal) X (ix2 r x) = back 2 (cl X x) r := by
  pointwise [k6_pay28]
  exact sel_back (cl X x) r 2 (by omega) _

theorem pay32_at (r : Fin 2048) (x : Fin 128) :
    k6_pay32 (F := Ideal) X w a (ix2 r x) = conv (cl w x) (cl X x) r + a (ix2 0 x) := by
  pointwise [k6_pay32, k6_pay27, k6_pay29, k6_pay31]
  rw [pay28_at, pay30_at]
  rfl

/-! ## The gate's column of the backward body -/

variable (A : Vec Ideal S1x1x2048x128 .f32) (W : Vec Ideal S1x1x3x128 .f32) (B : Vec Ideal S1x1x1x128 .f32)
  (D : Vec Ideal S2048x128 .f32)

/-- Column `x` of one half of a block. -/
abbrev hc {n : Nat} (A : (⟨4, ![1, 1, n, 128]⟩ : Shape).Idx → EReal) (x : Fin 128) : Fin n → EReal := fun r => A (ix4 0 0 r x)

/-- The convolved and shifted column of a half. -/
def pa (r : Fin 2048) (x : Fin 128) : EReal := conv (hc W x) (hc A x) r + hc B x 0

theorem pay7_at (r : Fin 2048) (x : Fin 128) : k6_pay7 (F := Ideal) A (ix2 r x) = hc A x r := by
  pointwise [k6_pay7]

theorem pay14_at (r : Fin 2048) (x : Fin 128) : k6_pay14 (F := Ideal) A (ix2 r x) = back 2 (hc A x) r := by
  pointwise [k6_pay14, k6_pay7]
  exact sel_back (hc A x) r 2 (by omega) _

theorem pay19_at (r : Fin 2048) (x : Fin 128) : k6_pay19 (F := Ideal) k6_pay17 (k6_pay18 A) (ix2 r x) = back 1 (hc A x) r := by
  pointwise [k6_pay19, k6_pay17, k6_pay18, k6_pay7]
  exact sel_back (hc A x) r 1 (by omega) _

theorem pay16_at (r : Fin 2048) (x : Fin 128) :
    k6_pay16 (F := Ideal) A W (ix2 r x) = hc A x r * hc W x 2 + back 2 (hc A x) r * hc W x 0 := by
  pointwise [k6_pay16, k6_pay13, k6_pay15, k6_pay9]
  rw [pay7_at, pay14_at]

theorem pay21_at (r : Fin 2048) (x : Fin 128) :
    k6_pay21 (F := Ideal) (k6_pay9 W) (k6_pay11 B) (k6_pay16 A W) k6_pay17 (k6_pay18 A) (ix2 r x) = pa A W B r x := by
  pointwise [k6_pay21, k6_pay20, k6_pay9, k6_pay11]
  rw [pay16_at, pay19_at]
  rfl

theorem pay22_at (r : Fin 2048) (x : Fin 128) :
    k6_pay22 (F := Ideal) (k6_pay9 W) (k6_pay11 B) (k6_pay16 A W) k6_pay17 (k6_pay18 A) (ix2 r x) = Ideal.exp (-pa A W B r x) := by
  pointwise [k6_pay22]
  rw [pay21_at, zero_sub]

theorem pay23_at (r : Fin 2048) (x : Fin 128) :
    k6_pay23 (F := Ideal) (k6_pay9 W) (k6_pay11 B) (k6_pay16 A W) k6_pay17 (k6_pay18 A) (ix2 r x) = 1 + Ideal.exp (-pa A W B r x) := by
  pointwise [k6_pay23]
  rw [pay22_at]

theorem pay24_at (r : Fin 2048) (x : Fin 128) :
    k6_pay24 (F := Ideal) (k6_pay9 W) (k6_pay11 B) (k6_pay16 A W) k6_pay17 (k6_pay18 A) (ix2 r x) = sigm (pa A W B r x) := by
  pointwise [k6_pay24]
  rw [pay23_at]
  rfl

theorem pay25_at (r : Fin 2048) (x : Fin 128) :
    k6_pay25 (F := Ideal) (k6_pay9 W) (k6_pay11 B) (k6_pay16 A W) k6_pay17 (k6_pay18 A) (ix2 r x)
      = Ideal.div 1 ((1 + Ideal.exp (-pa A W B r x)) * (1 + Ideal.exp (-pa A W B r x))) := by
  pointwise [k6_pay25]
  rw [pay23_at]

theorem pay26_at (r : Fin 2048) (x : Fin 128) :
    k6_pay26 (F := Ideal) (k6_pay9 W) (k6_pay11 B) (k6_pay16 A W) k6_pay17 (k6_pay18 A) (ix2 r x) = silu (pa A W B r x) := by
  pointwise [k6_pay26]
  rw [pay21_at, pay24_at]
  rfl

/-- The gradient of the gate's column: `Y` is the gated column, `D` the activations' cotangent. -/
theorem pay41_at (Y : Vec Ideal S2048x128 .f32) (r : Fin 2048) (x : Fin 128) :
    k6_pay41 (F := Ideal) (k6_pay22 (k6_pay9 W) (k6_pay11 B) (k6_pay16 A W) k6_pay17 (k6_pay18 A))
      (k6_pay39 (k6_pay24 (k6_pay9 W) (k6_pay11 B) (k6_pay16 A W) k6_pay17 (k6_pay18 A)) Y D)
      (k6_pay40 (k6_pay21 (k6_pay9 W) (k6_pay11 B) (k6_pay16 A W) k6_pay17 (k6_pay18 A))
        (k6_pay25 (k6_pay9 W) (k6_pay11 B) (k6_pay16 A W) k6_pay17 (k6_pay18 A)) Y D)
      (Scalar.ofBits .f32 0x3F800000#32) (ix2 r x) = dsilu (pa A W B r x) (D (ix2 r x) * Y (ix2 r x)) := by
  rw [← dsilu_eq]
  pointwise [k6_pay41, k6_pay39, k6_pay40, k6_pay35]
  rw [pay21_at, pay22_at, pay24_at, pay25_at]

/-! ## What the body stores of a column's gradient `g`, however it was found -/

theorem pay34_at (S : Vec Ideal S2048x128 .f32) (r : Fin 2048) (x : Fin 128) :
    k6_pay34 (F := Ideal) S D (ix2 r x) = S (ix2 r x) * D (ix2 r x) := by
  pointwise [k6_pay34]

theorem pay36_at (S : Vec Ideal S2048x128 .f32) (g : Fin 2048 → Fin 128 → EReal)
    (h : ∀ r x, k6_pay34 (F := Ideal) S D (ix2 r x) = g r x) (x : Fin 128) :
    k6_pay36 (F := Ideal) S D (ix2 0 x) = ∑ r, g r x := by
  pointwise [k6_pay36]
  exact Finset.sum_congr rfl fun r _ => h r x

theorem pay37_at (S : Vec Ideal S2048x128 .f32) (g : Fin 2048 → Fin 128 → EReal)
    (h : ∀ r x, k6_pay34 (F := Ideal) S D (ix2 r x) = g r x) (r : Fin 2048) (x : Fin 128) :
    k6_pay37 (F := Ideal) S (k6_pay27 w) (k6_pay29 w) (k6_pay31 w) D (ix2 r x) = convT (cl w x) (g · x) r := by
  pointwise [k6_pay37, k6_pay27, k6_pay29, k6_pay31]
  simp only [h]
  have h1 := sel_ahead (fun s => g s x * w (ix2 1 x)) r 1 (by omega) (by omega)
  have h2 := sel_ahead (fun s => g s x * w (ix2 0 x)) r 2 (by omega) (by omega)
  simp only [Nat.reduceSub] at h1 h2
  rw [h1, h2]
  rfl

theorem pay38_at (S : Vec Ideal S2048x128 .f32) (g : Fin 2048 → Fin 128 → EReal)
    (h : ∀ r x, k6_pay34 (F := Ideal) S D (ix2 r x) = g r x) (k : Fin 3) (x : Fin 128) :
    k6_pay38 (F := Ideal) X S (k6_pay28 X) (k6_pay30 X) D (ix2 k x) = tap (cl X x) (g · x) k := by
  pointwise [k6_pay38]
  simp only [h, pay28_at, pay30_at]
  fin_cases k <;> simp [tap, back_zero, mx]

variable (e u v : Vec Ideal S2048x128 .f32) (o : Elt Ideal .f32) (g : Fin 2048 → Fin 128 → EReal)
  (h : ∀ r x, k6_pay41 (F := Ideal) e u v o (ix2 r x) = g r x)

include h in
theorem pay42_at (x : Fin 128) : k6_pay42 (F := Ideal) e u v o (ix2 0 x) = ∑ r, g r x := by
  pointwise [k6_pay42]
  exact Finset.sum_congr rfl fun r _ => h r x

include h in
theorem pay45_at (r : Fin 2048) (x : Fin 128) :
    k6_pay45 (F := Ideal) (k6_pay13 W) (k6_pay15 W) (k6_pay20 (k6_pay9 W)) e u v o (ix2 r x) = convT (hc W x) (g · x) r := by
  pointwise [k6_pay45, k6_pay13, k6_pay15, k6_pay20, k6_pay9]
  simp only [h]
  have h1 := sel_ahead (fun s => g s x * hc W x 1) r 1 (by omega) (by omega)
  have h2 := sel_ahead (fun s => g s x * hc W x 0) r 2 (by omega) (by omega)
  simp only [Nat.reduceSub] at h1 h2
  rw [h1, h2]
  rfl

include h in
theorem pay3_at (k : Fin 3) (x : Fin 128) :
    k6_pay3 (F := Ideal) (k6_pay43 (k6_pay14 A) (k6_pay19 k6_pay17 (k6_pay18 A)) e u v o)
      (k6_pay44 (k6_pay7 A) e u v o) (ix4 0 0 k x) = tap (hc A x) (g · x) k := by
  pointwise [k6_pay3, k6_pay43, k6_pay44]
  simp only [h, pay7_at, pay14_at, pay19_at]
  fin_cases k <;> simp [tap, back_zero]

/-! ## The forward body -/

theorem k2_pay2_at (r : Fin 2048) (x : Fin 128) : k2_pay2 (F := Ideal) A (ix2 r x) = hc A x r := by
  pointwise [k2_pay2]

theorem back_mul (n : Nat) (x : Fin 2048 → EReal) (k : EReal) (r : Fin 2048) : back n (fun s => x s * k) r = back n x r * k := by
  unfold back
  split <;> simp

theorem gated_at (A' : Vec Ideal S1x1x2048x128 .f32) (W' : Vec Ideal S1x1x3x128 .f32) (B' : Vec Ideal S1x1x1x128 .f32)
    (r : Fin 2048) (x : Fin 128) :
    k2_pay1 (F := Ideal) (k2_pay3 A') (k2_pay4 W) (k2_pay5 W') (k2_pay6 B) (k2_pay7 B') (k2_pay8 A W) k2_pay9 (k2_pay10 A)
      (ix2 r x) = silu (pa A W B r x) * pa A' W' B' r x := by
  pointwise [k2_pay1, k2_pay3, k2_pay4, k2_pay5, k2_pay6, k2_pay7, k2_pay8, k2_pay9, k2_pay10]
  simp only [k2_pay2_at]
  have h1 := fun (A : Vec Ideal S1x1x2048x128 .f32) (k : EReal) => sel_back (fun s => hc A x s * k) r 1 (by omega)
  have h2 := fun (A : Vec Ideal S1x1x2048x128 .f32) (k : EReal) => sel_back (fun s => hc A x s * k) r 2 (by omega)
  simp only [back_mul] at h1 h2
  rw [h1, h2, h1, h2, zero_sub]
  rfl

end Cert.Proof.Ffn

end
-- ==== Proof.FfnGateArrays.lean ====
/- The feed-forward block's gate after its runs, forward and backward: each result array as a matrix. -/
module

public import proofs.«01_k».proof.Proof.FfnGate

@[expose] public section

set_option maxRecDepth 16384

noncomputable section

namespace Cert.Proof.Ffn

open Cert.FfnIdeal Cert.FfnIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The column of half `s` that a block of 128 columns, number `n` of 44 in its half, holds at `x`. -/
def col (n : Nat) (hn : n < 44) (s : Fin 2) (x : Fin 128) : Fin 11264 := join4 s ⟨n / 11, by omega⟩ ⟨128 * (n % 11) + x.val, by omega⟩

/-- That column's place in its half. -/
def colh (n : Nat) (hn : n < 44) (x : Fin 128) : Fin 5632 := ⟨128 * n + x.val, by omega⟩

theorem col_lo (n : Nat) (hn : n < 44) (x : Fin 128) : col n hn 0 x = lo (colh n hn x) :=
  Fin.ext (by simp only [col, colh, join4, lo, Fin.coe_ofNat_eq_mod]; omega)

theorem col_hi (n : Nat) (hn : n < 44) (x : Fin 128) : col n hn 1 x = hi (colh n hn x) :=
  Fin.ext (by simp only [col, colh, join4, hi, Fin.coe_ofNat_eq_mod]; omega)

/-! ## Forward -/

theorem idx2 : ∀ t : Fin cfg2.N, win2_0.index t = ![0, t.val / 11, 0, t.val % 11] ∧ win2_1.index t = ![0, t.val / 11, 0, t.val % 11]
    ∧ win2_2.index t = ![0, t.val / 11, 0, t.val % 11] ∧ win2_3.index t = ![0, t.val] ∧ t.val < 44 :=
  (by decide +kernel : ∀ t : Fin grid2.N, _)

/-- The activations. -/
def act2 : Fin 2048 → Fin 5632 → EReal :=
  gated (flat4 (n := 2048) (V c main_v3)) (flat4 (n := 3) (V c main_v4)) (flat4 (n := 1) (V c main_v5) 0)

/-- Column `x` of half `s` of point `t`'s block. -/
abbrev col2 (t : Fin cfg2.N) : Fin 2 → Fin 128 → Fin 11264 := col t.val (idx2 t).2.2.2.2

/-! ## The halves of a block -/

/-- Column `x` of half `s` of a block. -/
abbrev hf {n : Nat} (A : (⟨4, ![2, 1, n, 128]⟩ : Shape).Idx → EReal) (s : Fin 2) (x : Fin 128) : Fin n → EReal :=
  fun r => A (ix4 s 0 r x)

/-- The convolved and shifted column of a half. -/
def pf (X : Vec Ideal S2x1x2048x128 .f32) (W : Vec Ideal S2x1x3x128 .f32) (B : Vec Ideal S2x1x1x128 .f32) (s : Fin 2)
    (r : Fin 2048) (x : Fin 128) : EReal := conv (hf W s x) (hf X s x) r + hf B s x 0

section Halves

variable (X : Vec Ideal S2x1x2048x128 .f32) (W : Vec Ideal S2x1x3x128 .f32) (B : Vec Ideal S2x1x1x128 .f32) (x : Fin 128)

theorem ld_x0 : hc (View.ld X r6_0) x = hf X 0 x := by funext r; unfold hc; pointwise []
theorem ld_x1 : hc (View.ld X r6_1) x = hf X 1 x := by funext r; unfold hc; pointwise []
theorem ld_w0 : hc (View.ld W r6_2) x = hf W 0 x := by funext r; unfold hc; pointwise []
theorem ld_w1 : hc (View.ld W r6_3) x = hf W 1 x := by funext r; unfold hc; pointwise []
theorem ld_b0 : hc (View.ld B r6_4) x = hf B 0 x := by
  funext r
  obtain rfl : r = 0 := Subsingleton.elim _ _
  unfold hc
  pointwise []
theorem ld_b1 : hc (View.ld B r6_5) x = hf B 1 x := by
  funext r
  obtain rfl : r = 0 := Subsingleton.elim _ _
  unfold hc
  pointwise []

theorem pa_0 (r : Fin 2048) : pa (View.ld X r6_0) (View.ld W r6_2) (View.ld B r6_4) r x = pf X W B 0 r x := by
  unfold pa pf
  rw [ld_x0, ld_w0, ld_b0]

theorem pa_1 (r : Fin 2048) : pa (View.ld X r6_1) (View.ld W r6_3) (View.ld B r6_5) r x = pf X W B 1 r x := by
  unfold pa pf
  rw [ld_x1, ld_w1, ld_b1]

theorem gated_blk (r : Fin 2048) :
    k2_pay1 (F := Ideal) (k2_pay3 (View.ld X r2_1)) (k2_pay4 (View.ld W r2_2)) (k2_pay5 (View.ld W r2_3)) (k2_pay6 (View.ld B r2_4))
      (k2_pay7 (View.ld B r2_5)) (k2_pay8 (View.ld X r2_0) (View.ld W r2_2)) k2_pay9 (k2_pay10 (View.ld X r2_0)) (ix2 r x)
      = silu (pf X W B 0 r x) * pf X W B 1 r x := by
  rw [← pa_0, ← pa_1]
  exact gated_at _ _ _ _ _ _ r x

/-- An index of an output block by its two coordinates. -/
theorem idx_whole (i : (⟨2, ![2048, 128]⟩ : Shape).Idx) : i = ix2 (i 0) (i 1) := by
  funext a
  fin_cases a <;> rfl

theorem emb_act (r : Fin 2048) : r2_6.emb (ix2 r x) = ix2 r x := by blk_ext []

/-- What the forward body leaves in its output block. -/
def ga : S2048x128.Idx → Elt Ideal .bf16 := fun i => silu (pf X W B 0 (i 0) (i 1)) * pf X W B 1 (i 0) (i 1)

theorem ga_at (r : Fin 2048) :
    k2_pay1 (F := Ideal) (k2_pay3 (View.ld X r2_1)) (k2_pay4 (View.ld W r2_2)) (k2_pay5 (View.ld W r2_3)) (k2_pay6 (View.ld B r2_4))
      (k2_pay7 (View.ld B r2_5)) (k2_pay8 (View.ld X r2_0) (View.ld W r2_2)) k2_pay9 (k2_pay10 (View.ld X r2_0)) (ix2 r x)
      = ga X W B (ix2 r x) := gated_blk X W B x r

theorem out_act : out2_3 X W B = ga X W B := by
  funext y
  unfold out2_3
  refine View.canon_apply_of_pieces (ga X W B) _ (fun p hp i => ?_) y (cover2_3 _ y)
  simp only [List.mem_cons, List.not_mem_nil, or_false] at hp
  subst hp
  rw [idx_whole i]
  exact (ga_at X W B (i 1) (i 0)).trans (congrArg (ga X W B) (emb_act (i 1) (i 0)).symm)

theorem cl_pay8 (A : Vec Ideal S1x1x2048x128 .f32) : cl (k6_pay8 (F := Ideal) A) x = hc A x := by
  funext r
  unfold cl mx hc
  pointwise [k6_pay8]

theorem cl_pay9 (A : Vec Ideal S1x1x3x128 .f32) : cl (k6_pay9 (F := Ideal) A) x = hc A x := by
  funext r
  unfold cl mx hc
  pointwise [k6_pay9]

theorem cl_pay10 (A : Vec Ideal S1x1x3x128 .f32) : cl (k6_pay10 (F := Ideal) A) x = hc A x := by
  funext r
  unfold cl mx hc
  pointwise [k6_pay10]

theorem pay12_at (A : Vec Ideal S1x1x1x128 .f32) : k6_pay12 (F := Ideal) A (ix2 0 x) = hc A x 0 := by
  unfold hc
  pointwise [k6_pay12]

end Halves

theorem blk2_x (t : Fin cfg2.N) (s : Fin 2) (x : Fin 128) :
    hf (iblk2 V c 0 t) s x = fun r => flat4 (n := 2048) (V c main_v3) r (col2 t s x) := by
  funext r
  unfold hf flat4 col2 col
  rw [half_join4, quar_join4, lane_join4]
  blk_ext [iblk2, idx2 t]

theorem blk2_w (t : Fin cfg2.N) (s : Fin 2) (x : Fin 128) :
    hf (iblk2 V c 1 t) s x = fun r => flat4 (n := 3) (V c main_v4) r (col2 t s x) := by
  funext r
  unfold hf flat4 col2 col
  rw [half_join4, quar_join4, lane_join4]
  blk_ext [iblk2, idx2 t]

theorem blk2_b (t : Fin cfg2.N) (s : Fin 2) (x : Fin 128) :
    hf (iblk2 V c 2 t) s x = fun r => flat4 (n := 1) (V c main_v5) r (col2 t s x) := by
  funext r
  unfold hf flat4 col2 col
  rw [half_join4, quar_join4, lane_join4]
  blk_ext [iblk2, idx2 t]

theorem lt2 (t : Fin cfg2.N) : t.val < 44 := (idx2 t).2.2.2.2

theorem blk2_act (t : Fin cfg2.N) (r : Fin 2048) (x : Fin 128) :
    ga (iblk2 V c 0 t) (iblk2 V c 1 t) (iblk2 V c 2 t) (ix2 r x) = act2 V c r (colh t.val (lt2 t) x) := by
  show silu (pf (iblk2 V c 0 t) (iblk2 V c 1 t) (iblk2 V c 2 t) 0 r x) * pf (iblk2 V c 0 t) (iblk2 V c 1 t) (iblk2 V c 2 t) 1 r x = _
  unfold pf
  rw [blk2_x, blk2_x, blk2_w, blk2_w, blk2_b, blk2_b]
  simp only [col2, col_lo, col_hi]
  rfl

theorem ar2_at {n k : Nat} (f : Fin n → Fin k → EReal) (r : Fin n) (x : Fin k) : ar2 f (ix2 r x) = f r x := rfl

theorem act_array : (dat2 V c).arrAt 3 cfg2.N = ar2 (act2 V c) := by
  refine (dat2 V c).arrAt_eq_of_covers 3 _ (by decide +kernel) fun t _ y => ?_
  blk_simp
  rw [after2_3]
  have he : ((cfg2.win 3).blk t).view.emb y = ix2 (y 0) (colh t.val (lt2 t) (y 1)) := by
    unfold colh
    blk_ext [idx2 t]
  have hp := congrFun (out_act (iblk2 V c 0 t) (iblk2 V c 1 t) (iblk2 V c 2 t)) y
  refine hp.trans ((congrArg (ga (iblk2 V c 0 t) (iblk2 V c 1 t) (iblk2 V c 2 t)) (idx_whole y)).trans ?_)
  refine (blk2_act V c t (y 0) (y 1)).trans ?_
  exact (ar2_at (act2 V c) (y 0) (colh t.val (lt2 t) (y 1))).symm.trans (congrArg (ar2 (act2 V c)) he.symm)

/-! ## Backward: what the body leaves in its three output blocks -/

section Body

variable (X : Vec Ideal S2x1x2048x128 .f32) (W : Vec Ideal S2x1x3x128 .f32) (B : Vec Ideal S2x1x1x128 .f32)
  (D : Vec Ideal S2048x128 .bf16)

/-- The gradient of the convolved column `x` of half `s`. -/
def gr (s : Fin 2) (r : Fin 2048) (x : Fin 128) : EReal :=
  if s = 0 then dsilu (pf X W B 0 r x) (D (ix2 r x) * pf X W B 1 r x) else silu (pf X W B 0 r x) * D (ix2 r x)

theorem pay55_at (r : Fin 2048) (x : Fin 128) : k6_pay55 (F := Ideal) X W B D (ix2 r x) = pf X W B 1 r x := by
  unfold k6_pay55 k6_pay46 k6_pay48
  rw [pay32_at, ← pa_1]
  rw [cl_pay8, cl_pay10, pay12_at]
  rfl

theorem pay56_at (r : Fin 2048) (x : Fin 128) : k6_pay56 (F := Ideal) X W B D (ix2 r x) = D (ix2 r x) := by
  pointwise [k6_pay56, k6_pay33]

theorem gr_1 (r : Fin 2048) (x : Fin 128) :
    k6_pay34 (F := Ideal) (k6_pay54 X W B D) (k6_pay56 X W B D) (ix2 r x) = gr X W B D 1 r x := by
  rw [pay34_at, pay56_at]
  unfold k6_pay54 k6_pay47 k6_pay49 k6_pay50 k6_pay51 k6_pay52
  rw [pay26_at, pa_0]
  rfl

theorem gr_0 (r : Fin 2048) (x : Fin 128) :
    k6_pay41 (F := Ideal) (k6_pay53 X W B D) (k6_pay57 X W B D) (k6_pay58 X W B D) (Scalar.ofBits .f32 0x3F800000#32) (ix2 r x)
      = gr X W B D 0 r x := by
  have hp := pay41_at (View.ld X r6_0) (View.ld W r6_2) (View.ld B r6_4) (k6_pay56 X W B D) (k6_pay55 X W B D) r x
  rw [pay55_at, pay56_at, pa_0] at hp
  exact hp

/-- The gradient of the columns before the convolution, of their taps, and of their biases. -/
def gx : S2x1x2048x128.Idx → Elt Ideal .bf16 := fun i => convT (hf W (i 0) (i 3)) (gr X W B D (i 0) · (i 3)) (i 2)
def gw : S2x1x3x128.Idx → Elt Ideal .f32 := fun i => tap (hf X (i 0) (i 3)) (gr X W B D (i 0) · (i 3)) (i 2)
def gb : S2x1x1x128.Idx → Elt Ideal .f32 := fun i => ∑ r, gr X W B D (i 0) r (i 3)

theorem pay2_at (T : Vec Ideal S2048x128 .f32) (r : Fin 2048) (x : Fin 128) : k6_pay2 (F := Ideal) T (ix4 0 0 r x) = T (ix2 r x) := by
  pointwise [k6_pay2]

theorem pay1_at (T : Vec Ideal S2048x128 .f32) (r : Fin 2048) (x : Fin 128) : k6_pay1 (F := Ideal) T (ix4 0 0 r x) = T (ix2 r x) := by
  pointwise [k6_pay1]

theorem pay4_at (T : Vec Ideal S3x128 .f32) (k : Fin 3) (x : Fin 128) : k6_pay4 (F := Ideal) T (ix4 0 0 k x) = T (ix2 k x) := by
  pointwise [k6_pay4]

theorem pay5_at (T : Vec Ideal S1x128 .f32) (x : Fin 128) : k6_pay5 (F := Ideal) T (ix4 0 0 0 x) = T (ix2 0 x) := by
  pointwise [k6_pay5]

theorem pay6_at (T : Vec Ideal S1x128 .f32) (x : Fin 128) : k6_pay6 (F := Ideal) T (ix4 0 0 0 x) = T (ix2 0 x) := by
  pointwise [k6_pay6]

theorem gx_1 (r : Fin 2048) (x : Fin 128) :
    k6_pay2 (F := Ideal) (k6_pay37 (k6_pay54 X W B D) (k6_pay27 (k6_pay48 X W B D)) (k6_pay29 (k6_pay48 X W B D))
      (k6_pay31 (k6_pay48 X W B D)) (k6_pay56 X W B D)) (ix4 0 0 r x) = gx X W B D (ix4 1 0 r x) := by
  rw [pay2_at, pay37_at _ _ _ _ (gr_1 X W B D)]
  unfold k6_pay48
  rw [cl_pay10, ld_w1]
  rfl

theorem gx_0 (r : Fin 2048) (x : Fin 128) :
    k6_pay1 (F := Ideal) (k6_pay45 (k6_pay13 (View.ld W r6_2)) (k6_pay15 (View.ld W r6_2)) (k6_pay20 (k6_pay47 X W B D))
      (k6_pay53 X W B D) (k6_pay57 X W B D) (k6_pay58 X W B D) (Scalar.ofBits .f32 0x3F800000#32)) (ix4 0 0 r x)
      = gx X W B D (ix4 0 0 r x) := by
  rw [pay1_at]
  unfold k6_pay47
  rw [pay45_at _ _ _ _ _ _ (gr_0 X W B D), ld_w0]
  rfl

theorem gw_1 (k : Fin 3) (x : Fin 128) :
    k6_pay4 (F := Ideal) (k6_pay38 (k6_pay46 X W B D) (k6_pay54 X W B D) (k6_pay28 (k6_pay46 X W B D))
      (k6_pay30 (k6_pay46 X W B D)) (k6_pay56 X W B D)) (ix4 0 0 k x) = gw X W B D (ix4 1 0 k x) := by
  rw [pay4_at, pay38_at _ _ _ _ (gr_1 X W B D)]
  unfold k6_pay46
  rw [cl_pay8, ld_x1]
  rfl

theorem gw_0 (k : Fin 3) (x : Fin 128) :
    k6_pay3 (F := Ideal) (k6_pay43 (k6_pay14 (View.ld X r6_0)) (k6_pay19 (k6_pay51 X W B D) (k6_pay52 X W B D))
      (k6_pay53 X W B D) (k6_pay57 X W B D) (k6_pay58 X W B D) (Scalar.ofBits .f32 0x3F800000#32))
      (k6_pay44 (k6_pay7 (View.ld X r6_0)) (k6_pay53 X W B D) (k6_pay57 X W B D) (k6_pay58 X W B D)
        (Scalar.ofBits .f32 0x3F800000#32)) (ix4 0 0 k x) = gw X W B D (ix4 0 0 k x) := by
  unfold k6_pay51 k6_pay52
  rw [pay3_at _ _ _ _ _ _ (gr_0 X W B D), ld_x0]
  rfl

theorem gb_1 (x : Fin 128) :
    k6_pay6 (F := Ideal) (k6_pay36 (k6_pay54 X W B D) (k6_pay56 X W B D)) (ix4 0 0 0 x) = gb X W B D (ix4 1 0 0 x) := by
  rw [pay6_at, pay36_at _ _ _ (gr_1 X W B D)]
  rfl

theorem gb_0 (x : Fin 128) :
    k6_pay5 (F := Ideal) (k6_pay42 (k6_pay53 X W B D) (k6_pay57 X W B D) (k6_pay58 X W B D) (Scalar.ofBits .f32 0x3F800000#32))
      (ix4 0 0 0 x) = gb X W B D (ix4 0 0 0 x) := by
  rw [pay5_at, pay42_at _ _ _ _ _ (gr_0 X W B D)]
  rfl

/-- An index of one half of a block, and where the half's index lies in the block. -/
theorem idx_half {n : Nat} (i : (⟨4, ![1, 1, n, 128]⟩ : Shape).Idx) : i = ix4 0 0 (i 2) (i 3) := by
  funext a
  fin_cases a <;> [exact Subsingleton.elim (α := Fin 1) _ _; exact Subsingleton.elim (α := Fin 1) _ _; rfl; rfl]

theorem emb_0 (r : Fin 2048) (x : Fin 128) : r6_0.emb (ix4 0 0 r x) = ix4 0 0 r x := by blk_ext []
theorem emb_1 (r : Fin 2048) (x : Fin 128) : r6_1.emb (ix4 0 0 r x) = ix4 1 0 r x := by blk_ext []
theorem emb_2 (r : Fin 3) (x : Fin 128) : r6_2.emb (ix4 0 0 r x) = ix4 0 0 r x := by blk_ext []
theorem emb_3 (r : Fin 3) (x : Fin 128) : r6_3.emb (ix4 0 0 r x) = ix4 1 0 r x := by blk_ext []
theorem emb_4 (x : Fin 128) : r6_4.emb (ix4 0 0 0 x) = ix4 0 0 0 x := by blk_ext []
theorem emb_5 (x : Fin 128) : r6_5.emb (ix4 0 0 0 x) = ix4 1 0 0 x := by blk_ext []

theorem out_gx : out6_4 X W B D = gx X W B D := by
  funext y
  unfold out6_4
  refine View.canon_apply_of_pieces (gx X W B D) _ (fun p hp i => ?_) y (cover6_4 _ _ y)
  simp only [List.mem_cons, List.not_mem_nil, or_false] at hp
  rcases hp with rfl | rfl
  · rw [idx_half i]
    exact (gx_1 X W B D (i 2) (i 3)).trans (congrArg (gx X W B D) (emb_1 (i 2) (i 3)).symm)
  · rw [idx_half i]
    exact (gx_0 X W B D (i 2) (i 3)).trans (congrArg (gx X W B D) (emb_0 (i 2) (i 3)).symm)

theorem out_gw : out6_5 X W B D = gw X W B D := by
  funext y
  unfold out6_5
  refine View.canon_apply_of_pieces (gw X W B D) _ (fun p hp i => ?_) y (cover6_5 _ _ y)
  simp only [List.mem_cons, List.not_mem_nil, or_false] at hp
  rcases hp with rfl | rfl
  · rw [idx_half i]
    exact (gw_1 X W B D (i 2) (i 3)).trans (congrArg (gw X W B D) (emb_3 (i 2) (i 3)).symm)
  · rw [idx_half i]
    exact (gw_0 X W B D (i 2) (i 3)).trans (congrArg (gw X W B D) (emb_2 (i 2) (i 3)).symm)

theorem out_gb : out6_6 X W B D = gb X W B D := by
  funext y
  unfold out6_6
  refine View.canon_apply_of_pieces (gb X W B D) _ (fun p hp i => ?_) y (cover6_6 _ _ y)
  simp only [List.mem_cons, List.not_mem_nil, or_false] at hp
  rcases hp with rfl | rfl
  · have hi : i = ix4 0 0 0 (i 3) := (idx_half i).trans (congrArg (fun r => ix4 0 0 r (i 3)) (Subsingleton.elim (α := Fin 1) _ _))
    rw [hi]
    exact (gb_1 X W B D (i 3)).trans (congrArg (gb X W B D) (emb_5 (i 3)).symm)
  · have hi : i = ix4 0 0 0 (i 3) := (idx_half i).trans (congrArg (fun r => ix4 0 0 r (i 3)) (Subsingleton.elim (α := Fin 1) _ _))
    rw [hi]
    exact (gb_0 X W B D (i 3)).trans (congrArg (gb X W B D) (emb_4 (i 3)).symm)

end Body

/-! ## Backward: the arrays -/

theorem idx6 : ∀ t : Fin cfg6.N, win6_0.index t = ![0, t.val / 11, 0, t.val % 11] ∧ win6_1.index t = ![0, t.val / 11, 0, t.val % 11]
    ∧ win6_2.index t = ![0, t.val / 11, 0, t.val % 11] ∧ win6_3.index t = ![0, t.val]
    ∧ win6_4.index t = ![0, t.val / 11, 0, t.val % 11] ∧ win6_5.index t = ![0, t.val / 11, 0, t.val % 11]
    ∧ win6_6.index t = ![0, t.val / 11, 0, t.val % 11] ∧ t.val < 44 :=
  (by decide +kernel : ∀ t : Fin grid6.N, _)

theorem lt6 (t : Fin cfg6.N) : t.val < 44 := (idx6 t).2.2.2.2.2.2.2

/-- Column `x` of half `s` of point `t`'s block. -/
abbrev col6 (t : Fin cfg6.N) : Fin 2 → Fin 128 → Fin 11264 := col t.val (lt6 t)

/-- The gradient of every convolved column, and what follows from it. -/
def dcv6 : Fin 2048 → Fin 11264 → EReal :=
  dconvd (flat4 (n := 2048) (V c main_v3)) (flat4 (n := 3) (V c main_v4)) (flat4 (n := 1) (V c main_v5) 0)
    (mx (n := 2048) (k := 5632) (V c main_v10))
def dpre6 (r : Fin 2048) (f : Fin 11264) : EReal := convT (flat4 (n := 3) (V c main_v4) · f) (dcv6 V c · f) r
def dcw6 (k : Fin 3) (f : Fin 11264) : EReal := tap (flat4 (n := 2048) (V c main_v3) · f) (dcv6 V c · f) k
def dbias6 (_ : Fin 1) (f : Fin 11264) : EReal := ∑ r, dcv6 V c r f

theorem blk6_x (t : Fin cfg6.N) (s : Fin 2) (x : Fin 128) :
    hf (iblk6 V c 0 t) s x = fun r => flat4 (n := 2048) (V c main_v3) r (col6 t s x) := by
  funext r
  unfold hf flat4 col6 col
  rw [half_join4, quar_join4, lane_join4]
  blk_ext [iblk6, idx6 t]

theorem blk6_w (t : Fin cfg6.N) (s : Fin 2) (x : Fin 128) :
    hf (iblk6 V c 1 t) s x = fun r => flat4 (n := 3) (V c main_v4) r (col6 t s x) := by
  funext r
  unfold hf flat4 col6 col
  rw [half_join4, quar_join4, lane_join4]
  blk_ext [iblk6, idx6 t]

theorem blk6_b (t : Fin cfg6.N) (s : Fin 2) (x : Fin 128) :
    hf (iblk6 V c 2 t) s x = fun r => flat4 (n := 1) (V c main_v5) r (col6 t s x) := by
  funext r
  unfold hf flat4 col6 col
  rw [half_join4, quar_join4, lane_join4]
  blk_ext [iblk6, idx6 t]

theorem blk6_d (t : Fin cfg6.N) (r : Fin 2048) (x : Fin 128) :
    iblk6 V c 3 t (ix2 r x) = mx (n := 2048) (k := 5632) (V c main_v10) r (colh t.val (lt6 t) x) := by
  unfold mx colh
  blk_ext [iblk6, idx6 t]

theorem blk6_gr (t : Fin cfg6.N) (s : Fin 2) (r : Fin 2048) (x : Fin 128) :
    gr (iblk6 V c 0 t) (iblk6 V c 1 t) (iblk6 V c 2 t) (iblk6 V c 3 t) s r x = dcv6 V c r (col6 t s x) := by
  unfold gr pf dcv6
  rw [blk6_x, blk6_x, blk6_w, blk6_w, blk6_b, blk6_b, blk6_d]
  simp only [col6]
  fin_cases s
  · simp only [Fin.zero_eta, Fin.isValue, if_true, col_lo, col_hi, dconvd_lo]
    rfl
  · simp only [Fin.mk_one, Fin.isValue, one_ne_zero, if_false, col_lo, col_hi, dconvd_hi]
    rfl

theorem blk6_gx (t : Fin cfg6.N) (s : Fin 2) (r : Fin 2048) (x : Fin 128) :
    gx (iblk6 V c 0 t) (iblk6 V c 1 t) (iblk6 V c 2 t) (iblk6 V c 3 t) (ix4 s 0 r x) = dpre6 V c r (col6 t s x) := by
  have h := funext fun q => blk6_gr V c t s q x
  show convT (hf (iblk6 V c 1 t) s x) (gr (iblk6 V c 0 t) (iblk6 V c 1 t) (iblk6 V c 2 t) (iblk6 V c 3 t) s · x) r = _
  rw [h, blk6_w]
  rfl

theorem blk6_gw (t : Fin cfg6.N) (s : Fin 2) (k : Fin 3) (x : Fin 128) :
    gw (iblk6 V c 0 t) (iblk6 V c 1 t) (iblk6 V c 2 t) (iblk6 V c 3 t) (ix4 s 0 k x) = dcw6 V c k (col6 t s x) := by
  have h := funext fun q => blk6_gr V c t s q x
  show tap (hf (iblk6 V c 0 t) s x) (gr (iblk6 V c 0 t) (iblk6 V c 1 t) (iblk6 V c 2 t) (iblk6 V c 3 t) s · x) k = _
  rw [h, blk6_x]
  rfl

theorem blk6_gb (t : Fin cfg6.N) (s : Fin 2) (x : Fin 128) :
    gb (iblk6 V c 0 t) (iblk6 V c 1 t) (iblk6 V c 2 t) (iblk6 V c 3 t) (ix4 s 0 0 x) = dbias6 V c 0 (col6 t s x) :=
  Finset.sum_congr rfl fun q _ => blk6_gr V c t s q x

/-- A matrix cut into halves and quarters, at a column of point `t`'s block. -/
theorem ar4_col {n : Nat} (p : Fin n → Fin 11264 → EReal) (m : Nat) (hm : m < 44) (s : Fin 2) (r : Fin n) (x : Fin 128) :
    ar4 p (ix4 s ⟨m / 11, by omega⟩ r ⟨128 * (m % 11) + x.val, by omega⟩) = p r (col m hm s x) := rfl

theorem dpre_array : (dat6 V c).arrAt 4 cfg6.N = ar4 (dpre6 V c) := by
  refine (dat6 V c).arrAt_eq_of_covers 4 _ (by decide +kernel) fun t _ y => ?_
  blk_simp
  rw [after6_4]
  have he : ((cfg6.win 4).blk t).view.emb y
      = ix4 (y 0) ⟨t.val / 11, by have := lt6 t; omega⟩ (y 2) ⟨128 * (t.val % 11) + (y 3).val, by have : (y 3).val < 128 := (y 3).isLt; omega⟩ := by
    blk_ext [idx6 t]
  have hy : y = ix4 (y 0) 0 (y 2) (y 3) := by
    funext a
    fin_cases a <;> [rfl; exact Subsingleton.elim (α := Fin 1) _ _; rfl; rfl]
  have hp := congrFun (out_gx (iblk6 V c 0 t) (iblk6 V c 1 t) (iblk6 V c 2 t) (iblk6 V c 3 t)) y
  refine hp.trans ((congrArg (gx (iblk6 V c 0 t) (iblk6 V c 1 t) (iblk6 V c 2 t) (iblk6 V c 3 t)) hy).trans ?_)
  refine (blk6_gx V c t (y 0) (y 2) (y 3)).trans ?_
  exact (ar4_col (dpre6 V c) t.val (lt6 t) (y 0) (y 2) (y 3)).symm.trans (congrArg (ar4 (dpre6 V c)) he.symm)

theorem dcw_array : (dat6 V c).arrAt 5 cfg6.N = ar4 (dcw6 V c) := by
  refine (dat6 V c).arrAt_eq_of_covers 5 _ (by decide +kernel) fun t _ y => ?_
  blk_simp
  rw [after6_5]
  have he : ((cfg6.win 5).blk t).view.emb y
      = ix4 (y 0) ⟨t.val / 11, by have := lt6 t; omega⟩ (y 2) ⟨128 * (t.val % 11) + (y 3).val, by have : (y 3).val < 128 := (y 3).isLt; omega⟩ := by
    blk_ext [idx6 t]
  have hy : y = ix4 (y 0) 0 (y 2) (y 3) := by
    funext a
    fin_cases a <;> [rfl; exact Subsingleton.elim (α := Fin 1) _ _; rfl; rfl]
  have hp := congrFun (out_gw (iblk6 V c 0 t) (iblk6 V c 1 t) (iblk6 V c 2 t) (iblk6 V c 3 t)) y
  refine hp.trans ((congrArg (gw (iblk6 V c 0 t) (iblk6 V c 1 t) (iblk6 V c 2 t) (iblk6 V c 3 t)) hy).trans ?_)
  refine (blk6_gw V c t (y 0) (y 2) (y 3)).trans ?_
  exact (ar4_col (dcw6 V c) t.val (lt6 t) (y 0) (y 2) (y 3)).symm.trans (congrArg (ar4 (dcw6 V c)) he.symm)

theorem dbias_array : (dat6 V c).arrAt 6 cfg6.N = ar4 (dbias6 V c) := by
  refine (dat6 V c).arrAt_eq_of_covers 6 _ (by decide +kernel) fun t _ y => ?_
  blk_simp
  rw [after6_6]
  have he : ((cfg6.win 6).blk t).view.emb y
      = ix4 (y 0) ⟨t.val / 11, by have := lt6 t; omega⟩ (0 : Fin 1) ⟨128 * (t.val % 11) + (y 3).val, by have : (y 3).val < 128 := (y 3).isLt; omega⟩ := by
    blk_ext [idx6 t]
  have hy : y = ix4 (y 0) 0 0 (y 3) := by
    funext a
    fin_cases a <;> [rfl; exact Subsingleton.elim (α := Fin 1) _ _; exact Subsingleton.elim (α := Fin 1) _ _; rfl]
  have hp := congrFun (out_gb (iblk6 V c 0 t) (iblk6 V c 1 t) (iblk6 V c 2 t) (iblk6 V c 3 t)) y
  refine hp.trans ((congrArg (gb (iblk6 V c 0 t) (iblk6 V c 1 t) (iblk6 V c 2 t) (iblk6 V c 3 t)) hy).trans ?_)
  refine (blk6_gb V c t (y 0) (y 3)).trans ?_
  exact (ar4_col (dbias6 V c) t.val (lt6 t) (y 0) 0 (y 3)).symm.trans (congrArg (ar4 (dbias6 V c)) he.symm)

end Cert.Proof.Ffn

end
-- ==== Proof.FfnValue.lean ====
/- What the feed-forward block's kernels leave in their results, from what the launch gave them. -/
module

public import proofs.«01_k».proof.Proof.FfnProducts
public import proofs.«01_k».proof.Proof.FfnGateArrays

@[expose] public section

set_option maxRecDepth 16384

noncomputable section

namespace Cert.Proof.Ffn

open Cert.FfnIdeal Cert.FfnIdeal.Gen Idealize.ShloMosaic Idealize.ShloMosaic.TcCoe Idealize.SL.Sem
open Idealize.ShloMosaic.StableHlo

/-! ## The host's reshapes -/

theorem quarters (f : Fin 11264) : f.val / 5632 * 4 + f.val / 1408 % 4 = f.val / 1408 := by omega

theorem flat4_cast_x (a : S8x2048x1408.Idx → EReal) (h) : flat4 (n := 2048) (shapeCast S2x4x2048x1408 a h) = flat3 (n := 2048) a := by
  funext r f
  unfold flat4 flat3 grp half quar lane
  pointwise []
  simp only [quarters]

theorem flat4_cast_w (a : S8x3x1408.Idx → EReal) (h) : flat4 (n := 3) (shapeCast S2x4x3x1408 a h) = flat3 (n := 3) a := by
  funext r f
  unfold flat4 flat3 grp half quar lane
  pointwise []
  simp only [quarters]

theorem flat4_cast_b (a : S11264.Idx → EReal) (h) : flat4 (n := 1) (shapeCast S2x4x1x1408 a h) 0 = fun f => a (ix1 f) := by
  funext f
  unfold flat4 half quar lane
  pointwise []
  blk_ext []

theorem flat3_cast_x (a : S2x4x2048x1408.Idx → EReal) (h) : flat3 (n := 2048) (shapeCast S8x2048x1408 a h) = flat4 (n := 2048) a := by
  funext r f
  unfold flat4 flat3 grp half quar lane
  pointwise []
  blk_ext []

theorem cast_w (p : Fin 3 → Fin 11264 → EReal) (h) : shapeCast S8x3x1408 (ar4 p) h = ar3 (n := 3) p := by
  funext i
  have hi : i = ix3 (i 0) (i 1) (i 2) := by funext a; fin_cases a <;> rfl
  rw [hi]
  have h0 : (i 0).val < 8 := (i 0).isLt
  unfold ar4 ar3 join4 join
  pointwise []
  exact congrArg (p (i 1)) (Fin.ext (by simp only; omega))

theorem cast_b (p : Fin 1 → Fin 11264 → EReal) (h) : shapeCast S11264 (ar4 p) h = fun i => p 0 (i 0) := by
  funext i
  have hi : i = ix1 (i 0) := by funext a; fin_cases a; rfl
  rw [hi]
  have h0 : (i 0).val < 11264 := (i 0).isLt
  unfold ar4 join4
  pointwise []
  exact congrArg (p 0) (Fin.ext (by simp only; omega))

/-- The second weights' rows: eight groups of 704. -/
def rows8 (a : S8x704x2048.Idx → EReal) (j : Fin 5632) (x : Fin 2048) : EReal :=
  a (ix3 ⟨j.val / 704, by omega⟩ ⟨j.val % 704, by omega⟩ x)

theorem mx_cast_wd (a : S8x704x2048.Idx → EReal) (h) : mx (n := 5632) (k := 2048) (shapeCast S5632x2048 a h) = rows8 a := by
  funext j x
  unfold mx rows8
  pointwise []

theorem mx_cast_gain (a : S2048.Idx → EReal) (h) : mx (n := 1) (k := 2048) (shapeCast S1x2048 a h) 0 = fun x => a (ix1 x) := by
  funext x
  unfold mx
  pointwise []

/-! ## The block's arguments, from the arrays -/

/-- The seven arrays as matrices and rows. -/
def ofArrays (h : S2048x2048.Idx → EReal) (wu : S8x2048x1408.Idx → EReal) (cw : S8x3x1408.Idx → EReal) (wd : S8x704x2048.Idx → EReal)
    (gain : S2048.Idx → EReal) (bias : S11264.Idx → EReal) (g : S2048x2048.Idx → EReal) : Args where
  h := mx (n := 2048) (k := 2048) h
  wu := flat3 (n := 2048) wu
  cw := flat3 (n := 3) cw
  wd := rows8 wd
  gain x := gain (ix1 x)
  bias f := bias (ix1 f)
  g := mx (n := 2048) (k := 2048) g

variable (m : (ℓ : Loc nD τ sig) → Buf (Elt Ideal) ℓ) (ρ : Dev nD → PrngReg) (c : Dev nD)

/-- What the launch gave device `c`. -/
def launch : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## One stretch after another -/

theorem at_v0 : mx (n := 1) (k := 2048) (V1 m ρ c main_v0) 0 = (launch m c).gain := by
  have h : W1 m ρ c (Proc.devRef .tc main_v0) = shapeCast S1x2048 (W0 m ρ c (Proc.devRef .tc main_arg4)) shapeCasts_S2048_S1x2048 := by
    after_results
    rfl
  exact (congrArg (fun a => mx (n := 1) (k := 2048) a 0) h).trans (mx_cast_gain _ _)

theorem at_v1 : W2 m ρ c (Proc.devRef .tc main_v1) = ar2 (launch m c).hn := by
  refine (W2_arr m ρ c 2).trans ((norm_array (V1 m ρ) c).trans (congrArg ar2 ?_))
  unfold norm0
  rw [at_v0]
  exact congrArg (fun a => normed (mx (n := 2048) (k := 2048) a) (launch m c).gain) (W1_args m ρ c main_arg0 (by decide))

theorem at_v2 : W3 m ρ c (Proc.devRef .tc main_v2) = ar3 (launch m c).pre := by
  refine (W3_arr m ρ c 2).trans ((up_array (V2 m ρ) c).trans (congrArg ar3 ?_))
  have h0 : mx (n := 2048) (k := 2048) (V2 m ρ c main_v1) = (launch m c).hn := congrArg (mx (n := 2048) (k := 2048)) (at_v1 m ρ c)
  have h1 : flat3 (n := 2048) (V2 m ρ c main_arg1) = (launch m c).wu :=
    congrArg (flat3 (n := 2048)) (W2_args m ρ c main_arg1 (by decide))
  unfold up1
  rw [h0, h1]
  rfl

theorem at_v3 : flat4 (n := 2048) (V4 m ρ c main_v3) = (launch m c).pre := by
  have h : W4 m ρ c (Proc.devRef .tc main_v3)
      = shapeCast S2x4x2048x1408 (W3 m ρ c (Proc.devRef .tc main_v2)) shapeCasts_S8x2048x1408_S2x4x2048x1408 := by
    after_results
    rfl
  refine (congrArg (flat4 (n := 2048)) h).trans ((flat4_cast_x _ _).trans ?_)
  exact (congrArg (flat3 (n := 2048)) (at_v2 m ρ c)).trans (flat3_ar3 _)

theorem at_v4 : flat4 (n := 3) (V4 m ρ c main_v4) = (launch m c).cw := by
  have h : W4 m ρ c (Proc.devRef .tc main_v4)
      = shapeCast S2x4x3x1408 (W3 m ρ c (Proc.devRef .tc main_arg2)) shapeCasts_S8x3x1408_S2x4x3x1408 := by
    after_results
    rfl
  refine (congrArg (flat4 (n := 3)) h).trans ((flat4_cast_w _ _).trans ?_)
  exact congrArg (flat3 (n := 3)) (W3_args m ρ c main_arg2 (by decide))

theorem at_v5 : flat4 (n := 1) (V4 m ρ c main_v5) 0 = (launch m c).bias := by
  have h : W4 m ρ c (Proc.devRef .tc main_v5)
      = shapeCast S2x4x1x1408 (W3 m ρ c (Proc.devRef .tc main_arg5)) shapeCasts_S11264_S2x4x1x1408 := by
    after_results
    rfl
  refine (congrArg (fun a => flat4 (n := 1) a 0) h).trans ((flat4_cast_b _ _).trans ?_)
  exact congrArg (fun (a : S11264.Idx → EReal) f => a (ix1 f)) (W3_args m ρ c main_arg5 (by decide))

theorem at_v6 : W5 m ρ c (Proc.devRef .tc main_v6) = ar2 (launch m c).act := by
  refine (W5_arr m ρ c 3).trans ((act_array (V4 m ρ) c).trans (congrArg ar2 ?_))
  unfold act2
  rw [at_v3, at_v4, at_v5]
  rfl

theorem at_v7 : mx (n := 5632) (k := 2048) (V6 m ρ c main_v7) = (launch m c).wd := by
  have h : W6 m ρ c (Proc.devRef .tc main_v7)
      = shapeCast S5632x2048 (W5 m ρ c (Proc.devRef .tc main_arg3)) shapeCasts_S8x704x2048_S5632x2048 := by
    after_results
    rfl
  refine (congrArg (mx (n := 5632) (k := 2048)) h).trans ((mx_cast_wd _ _).trans ?_)
  exact congrArg rows8 (W5_args m ρ c main_arg3 (by decide))

/-- The activations, where the second product takes them and where its weights' gradient does. -/
theorem at6_v6 : W6 m ρ c (Proc.devRef .tc main_v6) = ar2 (launch m c).act :=
  (W6_of m ρ c main_v6 (by decide)).trans (at_v6 m ρ c)
theorem at9_v6 : W9 m ρ c (Proc.devRef .tc main_v6) = ar2 (launch m c).act :=
  (W9_of m ρ c main_v6 (by decide +kernel)).trans ((W8_of m ρ c main_v6 (by decide)).trans
    ((W7_of m ρ c main_v6 (by decide +kernel)).trans (at6_v6 m ρ c)))

theorem at_v8 : W7 m ρ c (Proc.devRef .tc main_v8) = ar2 (launch m c).out := by
  refine (W7_arr m ρ c 3).trans ((down_array (V6 m ρ) c).trans (congrArg ar2 ?_))
  have h0 : mx (n := 2048) (k := 5632) (V6 m ρ c main_v6) = (launch m c).act := congrArg (mx (n := 2048) (k := 5632)) (at6_v6 m ρ c)
  have h2 : mx (n := 2048) (k := 2048) (V6 m ρ c main_arg0) = (launch m c).h :=
    congrArg (mx (n := 2048) (k := 2048)) (W6_args m ρ c main_arg0 (by decide))
  unfold down3
  rw [h0, h2, at_v7]
  rfl

theorem at_v9 : mx (n := 2048) (k := 2048) (V8 m ρ c main_v9) = (launch m c).g := by
  have h : W8 m ρ c (Proc.devRef .tc main_v9) = (W7 m ρ c (Proc.devRef .tc main_arg6) : S2048x2048.Idx → EReal) := by
    after_results
    rfl
  exact (congrArg (mx (n := 2048) (k := 2048)) h).trans
    (congrArg (mx (n := 2048) (k := 2048)) (W7_args m ρ c main_arg6 (by decide)))

theorem at8_v7 : mx (n := 5632) (k := 2048) (V8 m ρ c main_v7) = (launch m c).wd :=
  (congrArg (mx (n := 5632) (k := 2048)) ((W8_of m ρ c main_v7 (by decide)).trans (W7_of m ρ c main_v7 (by decide +kernel)))).trans
    (at_v7 m ρ c)

theorem at_v10 : W9 m ρ c (Proc.devRef .tc main_v10) = ar2 (launch m c).dact := by
  refine (W9_arr m ρ c 2).trans ((dact_array (V8 m ρ) c).trans (congrArg ar2 ?_))
  unfold dact4
  rw [at_v9, at8_v7]
  rfl

theorem at9_v9 : mx (n := 2048) (k := 2048) (V9 m ρ c main_v9) = (launch m c).g :=
  (congrArg (mx (n := 2048) (k := 2048)) (W9_of m ρ c main_v9 (by decide +kernel))).trans (at_v9 m ρ c)

theorem at_v11 : W10 m ρ c (Proc.devRef .tc main_v11) = ar2 (launch m c).dwd := by
  refine (W10_arr m ρ c 2).trans ((dwd_array (V9 m ρ) c).trans (congrArg ar2 ?_))
  have h0 : mx (n := 2048) (k := 5632) (V9 m ρ c main_v6) = (launch m c).act := congrArg (mx (n := 2048) (k := 5632)) (at9_v6 m ρ c)
  unfold dwd5
  rw [h0, at9_v9]
  rfl

/-- From the gate's entry forward to its entry backward a buffer that only kernels read keeps its contents. -/
theorem kept (r : Ref sig .tc) (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false)
    (h5 : ∀ w : Fin cfg5.W, Pipeline.arrRef spec5 w = r → (cfg5.win w).isOut = false) (h : r ∉ hostOps3_W) (h' : r ∉ hostOps4_W) :
    W10 m ρ c (Proc.devRef .tc r) = W4 m ρ c (Proc.devRef .tc r) :=
  (W10_of m ρ c r h5).trans ((W9_of m ρ c r h4).trans ((W8_of m ρ c r h').trans ((W7_of m ρ c r h3).trans
    ((W6_of m ρ c r h).trans (W5_of m ρ c r h2)))))

theorem at10_v3 : flat4 (n := 2048) (V10 m ρ c main_v3) = (launch m c).pre :=
  (congrArg (flat4 (n := 2048)) (kept m ρ c main_v3 (by decide +kernel) (by decide +kernel) (by decide +kernel) (by decide +kernel)
    (by decide) (by decide))).trans (at_v3 m ρ c)
theorem at10_v4 : flat4 (n := 3) (V10 m ρ c main_v4) = (launch m c).cw :=
  (congrArg (flat4 (n := 3)) (kept m ρ c main_v4 (by decide +kernel) (by decide +kernel) (by decide +kernel) (by decide +kernel)
    (by decide) (by decide))).trans (at_v4 m ρ c)
theorem at10_v5 : flat4 (n := 1) (V10 m ρ c main_v5) 0 = (launch m c).bias :=
  (congrArg (fun a => flat4 (n := 1) a 0) (kept m ρ c main_v5 (by decide +kernel) (by decide +kernel) (by decide +kernel)
    (by decide +kernel) (by decide) (by decide))).trans (at_v5 m ρ c)

theorem at_dcv : dcv6 (V10 m ρ) c = (launch m c).dcv := by
  have h : mx (n := 2048) (k := 5632) (V10 m ρ c main_v10) = (launch m c).dact :=
    congrArg (mx (n := 2048) (k := 5632)) ((W10_of m ρ c main_v10 (by decide +kernel)).trans (at_v10 m ρ c))
  unfold dcv6
  rw [at10_v3, at10_v4, at10_v5, h]
  rfl

theorem at_v12_0 : W11 m ρ c (Proc.devRef .tc main_v12_0) = ar4 (launch m c).dpre := by
  refine (W11_arr m ρ c 4).trans ((dpre_array (V10 m ρ) c).trans (congrArg ar4 ?_))
  funext r f
  unfold dpre6
  rw [at_dcv, at10_v4]
  rfl

theorem at_v12_1 : W11 m ρ c (Proc.devRef .tc main_v12_1) = ar4 (launch m c).dcw := by
  refine (W11_arr m ρ c 5).trans ((dcw_array (V10 m ρ) c).trans (congrArg ar4 ?_))
  funext k f
  unfold dcw6
  rw [at_dcv, at10_v3]
  rfl

theorem at_v12_2 : W11 m ρ c (Proc.devRef .tc main_v12_2) = ar4 (fun _ : Fin 1 => (launch m c).dbias) := by
  refine (W11_arr m ρ c 6).trans ((dbias_array (V10 m ρ) c).trans (congrArg ar4 ?_))
  funext k f
  unfold dbias6
  rw [at_dcv]
  rfl

theorem at_v13 : flat3 (n := 2048) (V12 m ρ c main_v13) = (launch m c).dpre := by
  have h : W12 m ρ c (Proc.devRef .tc main_v13)
      = shapeCast S8x2048x1408 (W11 m ρ c (Proc.devRef .tc main_v12_0)) shapeCasts_S2x4x2048x1408_S8x2048x1408 := by
    after_results
    rfl
  refine (congrArg (flat3 (n := 2048)) h).trans ((flat3_cast_x _ _).trans ?_)
  exact (congrArg (flat4 (n := 2048)) (at_v12_0 m ρ c)).trans (flat4_ar4 _)

theorem at12_v1 : W12 m ρ c (Proc.devRef .tc main_v1) = ar2 (launch m c).hn :=
  (W12_of m ρ c main_v1 (by decide)).trans ((W11_of m ρ c main_v1 (by decide +kernel)).trans
    ((kept m ρ c main_v1 (by decide +kernel) (by decide +kernel) (by decide +kernel) (by decide +kernel) (by decide) (by decide)).trans
      ((W4_of m ρ c main_v1 (by decide)).trans ((W3_of m ρ c main_v1 (by decide +kernel)).trans (at_v1 m ρ c)))))

theorem at_v14 : W13 m ρ c (Proc.devRef .tc main_v14) = ar3 (launch m c).dwu := by
  refine (W13_arr m ρ c 2).trans ((dwu_array (V12 m ρ) c).trans (congrArg ar3 ?_))
  have h0 : mx (n := 2048) (k := 2048) (V12 m ρ c main_v1) = (launch m c).hn := congrArg (mx (n := 2048) (k := 2048)) (at12_v1 m ρ c)
  unfold dwu7
  rw [h0, at_v13]
  rfl

/-! ## The results -/

/-- A result of a kernel that nothing after it writes keeps its contents to the end. -/
theorem end_v8 : W14 m ρ c (Proc.devRef .tc main_v8) = ar2 (launch m c).out :=
  (W14_of m ρ c main_v8 (by decide)).trans ((W13_of m ρ c main_v8 (by decide +kernel)).trans ((W12_of m ρ c main_v8 (by decide)).trans
    ((W11_of m ρ c main_v8 (by decide +kernel)).trans ((W10_of m ρ c main_v8 (by decide +kernel)).trans
      ((W9_of m ρ c main_v8 (by decide +kernel)).trans ((W8_of m ρ c main_v8 (by decide)).trans (at_v8 m ρ c)))))))

theorem end_v11 : W14 m ρ c (Proc.devRef .tc main_v11) = ar2 (launch m c).dwd :=
  (W14_of m ρ c main_v11 (by decide)).trans ((W13_of m ρ c main_v11 (by decide +kernel)).trans
    ((W12_of m ρ c main_v11 (by decide)).trans ((W11_of m ρ c main_v11 (by decide +kernel)).trans (at_v11 m ρ c))))

theorem end_v14 : W14 m ρ c (Proc.devRef .tc main_v14) = ar3 (launch m c).dwu :=
  (W14_of m ρ c main_v14 (by decide)).trans (at_v14 m ρ c)

theorem end_v15 : W14 m ρ c (Proc.devRef .tc main_v15) = ar3 (launch m c).dcw := by
  have h : W14 m ρ c (Proc.devRef .tc main_v15)
      = shapeCast S8x3x1408 (W13 m ρ c (Proc.devRef .tc main_v12_1)) shapeCasts_S2x4x3x1408_S8x3x1408 := by
    after_results
    rfl
  have e : W13 m ρ c (Proc.devRef .tc main_v12_1) = ar4 (launch m c).dcw :=
    (W13_of m ρ c main_v12_1 (by decide +kernel)).trans ((W12_of m ρ c main_v12_1 (by decide)).trans (at_v12_1 m ρ c))
  exact h.trans ((congrArg (fun a => shapeCast S8x3x1408 a shapeCasts_S2x4x3x1408_S8x3x1408) e).trans (cast_w _ _))

theorem end_v16 : W14 m ρ c (Proc.devRef .tc main_v16) = fun i => (launch m c).dbias (i 0) := by
  have h : W14 m ρ c (Proc.devRef .tc main_v16)
      = shapeCast S11264 (W13 m ρ c (Proc.devRef .tc main_v12_2)) shapeCasts_S2x4x1x1408_S11264 := by
    after_results
    rfl
  have e : W13 m ρ c (Proc.devRef .tc main_v12_2) = ar4 (fun _ : Fin 1 => (launch m c).dbias) :=
    (W13_of m ρ c main_v12_2 (by decide +kernel)).trans ((W12_of m ρ c main_v12_2 (by decide)).trans (at_v12_2 m ρ c))
  exact h.trans ((congrArg (fun a => shapeCast S11264 a shapeCasts_S2x4x1x1408_S11264) e).trans
    (cast_b (fun _ : Fin 1 => (launch m c).dbias) shapeCasts_S2x4x1x1408_S11264))

end Cert.Proof.Ffn

end
-- ==== Proof.Products.lean ====
/- Products of matrices with one or the other of the factors turned over. -/
module

public import proofs.«01_k».proof.Proof.FfnShapes
public import Idealize.ShloMosaic.Lib.KernelVsHost

@[expose] public section

set_option maxRecDepth 16384

noncomputable section

namespace Cert.Proof.Ffn

open Idealize.ShloMosaic

variable {n k l : Nat}

/-- Rows of one matrix against rows of another: entry `(r, x)` is the product of row `r` of the first and row `x` of the second. -/
def rowsByRows (a : Fin n → Fin l → EReal) (b : Fin k → Fin l → EReal) : Fin n → Fin k → EReal :=
  fun r x => ∑ f : Fin l, a r f * b x f

/-- Columns of one matrix against columns of another. -/
def colsByCols (a : Fin l → Fin n → EReal) (b : Fin l → Fin k → EReal) : Fin n → Fin k → EReal :=
  fun r x => ∑ f : Fin l, a f r * b f x

/-- An index of two axes is its two coordinates. -/
theorem ix2_eta (i : (⟨2, ![n, k]⟩ : Shape).Idx) : i = ix2 (i 0) (i 1) := by funext a; fin_cases a <;> rfl

/-- Arrays of two axes that agree at every pair of coordinates are equal. -/
theorem eq_ar2 (a : (⟨2, ![n, k]⟩ : Shape).Idx → EReal) (f : Fin n → Fin k → EReal) (h : ∀ r x, a (ix2 r x) = f r x) : a = ar2 f :=
  funext fun i => (congrArg a (ix2_eta i)).trans (h (i 0) (i 1))

/-- A matrix of `n` rows padded to `N` with `p` rows before it. -/
theorem pad_rows {n N p q w : Nat} {u : Shape} (y : (⟨2, ![n, w]⟩ : Shape).Idx → EReal) (z : u.Idx → EReal)
    (h : (⟨2, ![n, w]⟩ : Shape).Pads ![p, 0] ![q, 0] ![0, 0] ⟨2, ![N, w]⟩) (hu : 0 < u.numel) (hz : ∀ i, z i = 0)
    (s : Fin N) (f : Fin w) : pad ⟨2, ![N, w]⟩ ![p, 0] ![q, 0] ![0, 0] y z h hu (ix2 s f) =
      if hin : p ≤ s.val ∧ s.val - p < n then y (ix2 ⟨s.val - p, hin.2⟩ f) else 0 := by
  by_cases hin : p ≤ s.val ∧ s.val - p < n
  · rw [dif_pos hin]
    refine pad_apply_of_inside _ _ _ y z h hu _ (ix2 ⟨s.val - p, hin.2⟩ f) fun a => ?_
    match a with
    | ⟨0, _⟩ => show s.val = p + (s.val - p) * (0 + 1); omega
    | ⟨1, _⟩ => show f.val = 0 + f.val * (0 + 1); omega
  · rw [dif_neg hin]
    refine (pad_apply_of_not_inside _ _ _ y z h hu _ (0 : Fin 2) fun ha => hin ?_).trans (hz _)
    have h1 : p ≤ s.val := ha.1
    have h2 : (s.val - p) / (0 + 1) < n := ha.2.2
    rw [Nat.zero_add, Nat.div_one] at h2
    exact ⟨h1, h2⟩

end Cert.Proof.Ffn

end
-- ==== Proof.FfnRefRead.lean ====
/- The feed-forward block's reference gradient: its results, read at an index. -/
module

public import proofs.«01_k».proof.Proof.Gen.FfnRefIdeal.Read
public import proofs.«01_k».proof.Proof.FfnValue
public import proofs.«01_k».proof.Proof.Products

@[expose] public section

set_option maxRecDepth 16384

noncomputable section

namespace Cert.Proof.Ffn.Ref

open Cert.FfnRefIdeal Cert.FfnRefIdeal.Gen Cert.FfnRefIdeal.Read Idealize.ShloMosaic

variable (x0 : Vec Ideal S2048x2048 .f32) (x1 : Vec Ideal S8x2048x1408 .bf16) (x2 : Vec Ideal S8x3x1408 .f32)
  (x3 : Vec Ideal S8x704x2048 .bf16) (x4 : Vec Ideal S2048 .f32) (x5 : Vec Ideal S11264 .f32) (x6 : Vec Ideal S2048x2048 .f32)

/-! ## The arguments and the products -/

theorem v2_at (j : Fin 5632) (x : Fin 2048) : val_main_v2 (F := Ideal) x3 (ix2 j x) = rows8 x3 j x := by
  unfold rows8
  pointwise [val_main_v2, val_main_v1]
  blk_ext []

theorem v17_at (x : Fin 2048) (f : Fin 11264) : val_main_v17 (F := Ideal) x1 (ix2 x f) = flat3 (n := 2048) x1 x f := by
  unfold flat3 grp lane
  pointwise [val_main_v17, val_main_v16, val_main_v0]
  blk_ext []

theorem v20_at (k : Fin 3) (f : Fin 11264) : val_main_v20 (F := Ideal) x2 (ix2 k f) = flat3 (n := 3) x2 k f := by
  unfold flat3 grp lane
  pointwise [val_main_v20, val_main_v19]
  blk_ext []

theorem v15_at (r x : Fin 2048) : val_main_v15 (F := Ideal) x0 x4 (ix2 r x) = normed (mx (n := 2048) x0) (fun y => x4 (ix1 y)) r x := by
  unfold normed mx
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]

theorem v18_at (r : Fin 2048) (f : Fin 11264) :
    val_main_v18 (F := Ideal) x0 x1 x4 (ix2 r f) = (ofArrays x0 x1 x2 x3 x4 x5 x6).pre r f := by
  pointwise [val_main_v18]
  simp only [v15_at, v17_at]
  rfl

/-! ## The convolution and the gate -/

/-- Two rows of zeros, then the projected columns. -/
theorem v22_at (s : Fin 2050) (f : Fin 11264) : val_main_v22 (F := Ideal) x0 x1 x4 (ix2 s f) =
    if h : 2 ≤ s.val then (ofArrays x0 x1 x2 x3 x4 x5 x6).pre ⟨s.val - 2, by omega⟩ f else 0 := by
  by_cases h : 2 ≤ s.val
  · rw [dif_pos h]
    refine Eq.trans ?_ (v18_at x0 x1 x2 x3 x4 x5 x6 ⟨s.val - 2, by omega⟩ f)
    pointwise [val_main_v22]
    rw [dif_neg (by omega)]
  · rw [dif_neg h]
    pointwise [val_main_v22, val_main_v21, val_main_cst_2]
    rw [dif_pos (by omega)]

theorem v24_at (r : Fin 2048) (f : Fin 11264) : val_main_v24 (F := Ideal) x0 x1 x4 (ix2 r f) = back 2 ((ofArrays x0 x1 x2 x3 x4 x5 x6).pre · f) r := by
  have h : val_main_v24 (F := Ideal) x0 x1 x4 (ix2 r f) = val_main_v22 (F := Ideal) x0 x1 x4 (ix2 ⟨r.val, by omega⟩ f) := by
    pointwise [val_main_v24]
    blk_ext []
  exact h.trans (v22_at x0 x1 x2 x3 x4 x5 x6 _ f)

theorem v30_at (r : Fin 2048) (f : Fin 11264) : val_main_v30 (F := Ideal) x0 x1 x4 (ix2 r f) = back 1 ((ofArrays x0 x1 x2 x3 x4 x5 x6).pre · f) r := by
  have h : val_main_v30 (F := Ideal) x0 x1 x4 (ix2 r f) = val_main_v22 (F := Ideal) x0 x1 x4 (ix2 ⟨1 + r.val, by omega⟩ f) := by
    pointwise [val_main_v30]
    blk_ext []
  refine h.trans ((v22_at x0 x1 x2 x3 x4 x5 x6 _ f).trans ?_)
  by_cases h1 : 1 ≤ r.val
  · rw [dif_pos (by simp only; omega), back, if_pos h1]
    exact congrArg ((ofArrays x0 x1 x2 x3 x4 x5 x6).pre · f) (Fin.ext (by simp only; omega))
  · rw [dif_neg (by simp only; omega), back, if_neg h1]

theorem v35_at (r : Fin 2048) (f : Fin 11264) : val_main_v35 (F := Ideal) x0 x1 x4 (ix2 r f) = (ofArrays x0 x1 x2 x3 x4 x5 x6).pre r f := by
  have h : val_main_v35 (F := Ideal) x0 x1 x4 (ix2 r f) = val_main_v22 (F := Ideal) x0 x1 x4 (ix2 ⟨2 + r.val, by omega⟩ f) := by
    pointwise [val_main_v35]
    blk_ext []
  refine h.trans ((v22_at x0 x1 x2 x3 x4 x5 x6 _ f).trans ?_)
  rw [dif_pos (by simp only; omega)]
  exact congrArg ((ofArrays x0 x1 x2 x3 x4 x5 x6).pre · f) (Fin.ext (by simp only; omega))

theorem w0_at (r : Fin 2048) (f : Fin 11264) : val_main_v26 (F := Ideal) x2 (ix2 r f) = (ofArrays x0 x1 x2 x3 x4 x5 x6).cw 0 f := by
  refine Eq.trans ?_ (v20_at x2 0 f)
  pointwise [val_main_v26, val_main_v25]
  blk_ext []

theorem w1_at (r : Fin 2048) (f : Fin 11264) : val_main_v32 (F := Ideal) x2 (ix2 r f) = (ofArrays x0 x1 x2 x3 x4 x5 x6).cw 1 f := by
  refine Eq.trans ?_ (v20_at x2 1 f)
  pointwise [val_main_v32, val_main_v31]
  blk_ext []

theorem w2_at (r : Fin 2048) (f : Fin 11264) : val_main_v37 (F := Ideal) x2 (ix2 r f) = (ofArrays x0 x1 x2 x3 x4 x5 x6).cw 2 f := by
  refine Eq.trans ?_ (v20_at x2 2 f)
  pointwise [val_main_v37, val_main_v36]
  blk_ext []

theorem v42_at (r : Fin 2048) (f : Fin 11264) : val_main_v42 (F := Ideal) x0 x1 x2 x4 x5 (ix2 r f) =
    conv ((ofArrays x0 x1 x2 x3 x4 x5 x6).cw · f) ((ofArrays x0 x1 x2 x3 x4 x5 x6).pre · f) r + (ofArrays x0 x1 x2 x3 x4 x5 x6).bias f := by
  pointwise [val_main_v42, val_main_v41, val_main_v40, val_main_v39, val_main_v38, val_main_v34, val_main_v33, val_main_v29,
    val_main_v28, val_main_v27, val_main_cst_3, val_main_cst_4]
  simp only [v24_at x0 x1 x2 x3 x4 x5 x6, v30_at x0 x1 x2 x3 x4 x5 x6, v35_at x0 x1 x2 x3 x4 x5 x6, w0_at x0 x1 x2 x3 x4 x5 x6,
    w1_at x0 x1 x2 x3 x4 x5 x6, w2_at x0 x1 x2 x3 x4 x5 x6, zero_add]
  rw [conv, add_assoc ((ofArrays x0 x1 x2 x3 x4 x5 x6).pre r f * (ofArrays x0 x1 x2 x3 x4 x5 x6).cw 2 f), add_comm ((ofArrays x0 x1 x2 x3 x4 x5 x6).pre r f * (ofArrays x0 x1 x2 x3 x4 x5 x6).cw 2 f)]
  rfl

/-- The gate's column and the gated column. -/
def glo (A : Args) (r : Fin 2048) (j : Fin 5632) : EReal := conv (A.cw · (lo j)) (A.pre · (lo j)) r + A.bias (lo j)
def ghi (A : Args) (r : Fin 2048) (j : Fin 5632) : EReal := conv (A.cw · (hi j)) (A.pre · (hi j)) r + A.bias (hi j)

theorem v43_at (r : Fin 2048) (j : Fin 5632) : val_main_v43 (F := Ideal) x0 x1 x2 x4 x5 (ix2 r j) = glo (ofArrays x0 x1 x2 x3 x4 x5 x6) r j := by
  refine Eq.trans ?_ (v42_at x0 x1 x2 x3 x4 x5 x6 r (lo j))
  unfold lo
  pointwise [val_main_v43]
  blk_ext []

theorem v44_at (r : Fin 2048) (j : Fin 5632) : val_main_v44 (F := Ideal) x0 x1 x2 x4 x5 (ix2 r j) = ghi (ofArrays x0 x1 x2 x3 x4 x5 x6) r j := by
  refine Eq.trans ?_ (v42_at x0 x1 x2 x3 x4 x5 x6 r (hi j))
  unfold hi
  pointwise [val_main_v44]
  blk_ext []

theorem v452_at (r : Fin 2048) (j : Fin 5632) : val_main_v45_2 (F := Ideal) x0 x1 x2 x4 x5 (ix2 r j) = sigm (glo (ofArrays x0 x1 x2 x3 x4 x5 x6) r j) := by
  pointwise [val_main_v45_2, val_main_call0_v4, val_main_call0_v3, val_main_call0_v2, val_main_call0_v1, val_main_call0_v0,
    val_main_call0_cst, val_main_call0_cst_0]
  rw [v43_at x0 x1 x2 x3 x4 x5 x6]
  simp only [sigm]

theorem v450_at (r : Fin 2048) (j : Fin 5632) : val_main_v45_0 (F := Ideal) x0 x1 x2 x4 x5 (ix2 r j) = silu (glo (ofArrays x0 x1 x2 x3 x4 x5 x6) r j) := by
  pointwise [val_main_v45_0]
  rw [v43_at x0 x1 x2 x3 x4 x5 x6, v452_at x0 x1 x2 x3 x4 x5 x6]
  rfl

theorem v451_at (r : Fin 2048) (j : Fin 5632) : val_main_v45_1 (F := Ideal) x0 x1 x2 x4 x5 (ix2 r j) =
    sigm (glo (ofArrays x0 x1 x2 x3 x4 x5 x6) r j) * (1 - sigm (glo (ofArrays x0 x1 x2 x3 x4 x5 x6) r j)) := by
  pointwise [val_main_v45_1, val_main_call0_v7, val_main_call0_v6, val_main_call0_cst_1]
  rw [v452_at x0 x1 x2 x3 x4 x5 x6]

theorem v46_at (r : Fin 2048) (j : Fin 5632) : val_main_v46 (F := Ideal) x0 x1 x2 x4 x5 (ix2 r j) = (ofArrays x0 x1 x2 x3 x4 x5 x6).act r j := by
  pointwise [val_main_v46]
  rw [v450_at x0 x1 x2 x3 x4 x5 x6, v44_at x0 x1 x2 x3 x4 x5 x6]
  rfl

/-- The block's result. -/
theorem v48_at (r x : Fin 2048) : val_main_v48 (F := Ideal) x0 x1 x2 x3 x4 x5 (ix2 r x) = (ofArrays x0 x1 x2 x3 x4 x5 x6).out r x := by
  pointwise [val_main_v48, val_main_v47]
  simp only [v46_at x0 x1 x2 x3 x4 x5 x6, v2_at]
  exact add_comm _ _

/-! ## The gradients -/

/-- The second weights' gradient. -/
theorem v93_at (j : Fin 5632) (x : Fin 2048) : val_main_v93 (F := Ideal) x0 x1 x2 x4 x5 x6 (ix2 j x) = (ofArrays x0 x1 x2 x3 x4 x5 x6).dwd j x := by
  pointwise [val_main_v93, val_main_v50, val_main_v49]
  simp only [v46_at x0 x1 x2 x3 x4 x5 x6]
  exact Finset.sum_congr rfl fun r _ => mul_comm _ _

theorem v51_at (r : Fin 2048) (j : Fin 5632) : val_main_v51 (F := Ideal) x3 x6 (ix2 r j) = (ofArrays x0 x1 x2 x3 x4 x5 x6).dact r j := by
  pointwise [val_main_v51]
  simp only [v2_at]
  rfl

theorem v54_at (r : Fin 2048) (j : Fin 5632) : val_main_v54 (F := Ideal) x0 x1 x2 x3 x4 x5 x6 (ix2 r j) = (ofArrays x0 x1 x2 x3 x4 x5 x6).dcv r (lo j) := by
  refine Eq.trans ?_ (dconvd_lo _ _ _ _ r j).symm
  pointwise [val_main_v54, val_main_call1_v2, val_main_call1_v1, val_main_call1_v0, val_main_v53]
  rw [v43_at x0 x1 x2 x3 x4 x5 x6, v451_at x0 x1 x2 x3 x4 x5 x6, v452_at x0 x1 x2 x3 x4 x5 x6, v44_at x0 x1 x2 x3 x4 x5 x6,
    v51_at x0 x1 x2 x3 x4 x5 x6]
  exact add_comm _ _

theorem v52_at (r : Fin 2048) (j : Fin 5632) : val_main_v52 (F := Ideal) x0 x1 x2 x3 x4 x5 x6 (ix2 r j) = (ofArrays x0 x1 x2 x3 x4 x5 x6).dcv r (hi j) := by
  refine Eq.trans ?_ (dconvd_hi _ _ _ _ r j).symm
  pointwise [val_main_v52]
  rw [v450_at x0 x1 x2 x3 x4 x5 x6, v51_at x0 x1 x2 x3 x4 x5 x6]
  rfl

theorem v55_at (r : Fin 2048) (f : Fin 11264) : val_main_v55 (F := Ideal) x0 x1 x2 x3 x4 x5 x6 (ix2 r f) = (ofArrays x0 x1 x2 x3 x4 x5 x6).dcv r f := by
  by_cases h : f.val < 5632
  · refine Eq.trans ?_ (v54_at x0 x1 x2 x3 x4 x5 x6 r ⟨f.val, h⟩)
    pointwise [val_main_v55]
    rw [dif_pos h]
  · have hf : hi ⟨f.val - 5632, by omega⟩ = f := Fin.ext (by simp only [hi]; omega)
    refine Eq.trans ?_ ((v52_at x0 x1 x2 x3 x4 x5 x6 r ⟨f.val - 5632, by omega⟩).trans (congrArg ((ofArrays x0 x1 x2 x3 x4 x5 x6).dcv r) hf))
    pointwise [val_main_v55]
    rw [dif_neg h]

/-- The biases' gradient. -/
theorem v58_at (f : Fin 11264) : val_main_v58 (F := Ideal) x0 x1 x2 x3 x4 x5 x6 (ix1 f) = (ofArrays x0 x1 x2 x3 x4 x5 x6).dbias f := by
  have h : val_main_v56 (F := Ideal) x0 x1 x2 x3 x4 x5 x6 (ix1 f) = (ofArrays x0 x1 x2 x3 x4 x5 x6).dbias f := by
    pointwise [val_main_v56, val_main_cst_5]
    simp only [v55_at x0 x1 x2 x3 x4 x5 x6]
    first | rfl | exact zero_add _
  refine Eq.trans ?_ h
  pointwise [val_main_v58, val_main_v57, val_main_cst_6]
  simp only [Finset.univ_unique, Finset.sum_singleton, zero_add]
  blk_ext []

theorem t2_at (f : Fin 11264) : val_main_v61 (F := Ideal) x0 x1 x2 x3 x4 x5 x6 (ix2 0 f) = (ofArrays x0 x1 x2 x3 x4 x5 x6).dcw 2 f := by
  pointwise [val_main_v61, val_main_v60, val_main_v59, val_main_cst_7]
  simp only [v35_at x0 x1 x2 x3 x4 x5 x6, v55_at x0 x1 x2 x3 x4 x5 x6]
  unfold Args.dcw tap
  rw [show 2 - (2 : Fin 3).val = 0 from rfl, back_zero]

theorem t1_at (f : Fin 11264) : val_main_v68 (F := Ideal) x0 x1 x2 x3 x4 x5 x6 (ix2 0 f) = (ofArrays x0 x1 x2 x3 x4 x5 x6).dcw 1 f := by
  pointwise [val_main_v68, val_main_v67, val_main_v66, val_main_cst_10]
  simp only [v30_at x0 x1 x2 x3 x4 x5 x6, v55_at x0 x1 x2 x3 x4 x5 x6]
  rfl

theorem t0_at (f : Fin 11264) : val_main_v77 (F := Ideal) x0 x1 x2 x3 x4 x5 x6 (ix2 0 f) = (ofArrays x0 x1 x2 x3 x4 x5 x6).dcw 0 f := by
  pointwise [val_main_v77, val_main_v76, val_main_v75, val_main_cst_13]
  simp only [v24_at x0 x1 x2 x3 x4 x5 x6, v55_at x0 x1 x2 x3 x4 x5 x6]
  rfl

theorem v81_at (k : Fin 3) (f : Fin 11264) : val_main_v81 (F := Ideal) x0 x1 x2 x3 x4 x5 x6 (ix2 k f) = (ofArrays x0 x1 x2 x3 x4 x5 x6).dcw k f := by
  have e2 := pad_rows (val_main_v61 (F := Ideal) x0 x1 x2 x3 x4 x5 x6) (val_main_cst_8 (F := Ideal))
    pads_S1x11264_S3x11264_200_000 h_S_ (fun _ => Ideal.ofBits_zero_f32) k f
  have e1 := pad_rows (val_main_v68 (F := Ideal) x0 x1 x2 x3 x4 x5 x6) (val_main_cst_11 (F := Ideal))
    pads_S1x11264_S3x11264_110_000 h_S_ (fun _ => Ideal.ofBits_zero_f32) k f
  have e0 := pad_rows (val_main_v77 (F := Ideal) x0 x1 x2 x3 x4 x5 x6) (val_main_cst_14 (F := Ideal))
    pads_S1x11264_S3x11264_020_000 h_S_ (fun _ => Ideal.ofBits_zero_f32) k f
  refine (congrArg₂ (· + ·) (congrArg₂ (· + ·) e2 e1) e0).trans ?_
  match k with
  | 0 =>
    rw [dif_neg (by decide), dif_neg (by decide), dif_pos (by decide), zero_add, zero_add]
    exact t0_at x0 x1 x2 x3 x4 x5 x6 f
  | 1 =>
    rw [dif_neg (by decide), dif_pos (by decide), dif_neg (by decide), zero_add, add_zero]
    exact t1_at x0 x1 x2 x3 x4 x5 x6 f
  | 2 =>
    rw [dif_pos (by decide), dif_neg (by decide), dif_neg (by decide), add_zero, add_zero]
    exact t2_at x0 x1 x2 x3 x4 x5 x6 f

/-- The taps' gradient. -/
theorem v87_at (g : Fin 8) (k : Fin 3) (l : Fin 1408) :
    val_main_v87 (F := Ideal) x0 x1 x2 x3 x4 x5 x6 (ix3 g k l) = (ofArrays x0 x1 x2 x3 x4 x5 x6).dcw k (join g l) := by
  refine Eq.trans ?_ (v81_at x0 x1 x2 x3 x4 x5 x6 k (join g l))
  unfold join
  pointwise [val_main_v87, val_main_v86]
  blk_ext []

theorem p2_at (r : Fin 2048) (f : Fin 11264) : val_main_v63 (F := Ideal) x0 x1 x2 x3 x4 x5 x6 (ix2 r f) = (ofArrays x0 x1 x2 x3 x4 x5 x6).dcv r f * (ofArrays x0 x1 x2 x3 x4 x5 x6).cw 2 f := by
  pointwise [val_main_v63]
  rw [v55_at x0 x1 x2 x3 x4 x5 x6]
  exact congrArg ((ofArrays x0 x1 x2 x3 x4 x5 x6).dcv r f * ·) (w2_at x0 x1 x2 x3 x4 x5 x6 r f)

theorem p1_at (r : Fin 2048) (f : Fin 11264) : val_main_v70 (F := Ideal) x0 x1 x2 x3 x4 x5 x6 (ix2 r f) = (ofArrays x0 x1 x2 x3 x4 x5 x6).dcv r f * (ofArrays x0 x1 x2 x3 x4 x5 x6).cw 1 f := by
  pointwise [val_main_v70]
  rw [v55_at x0 x1 x2 x3 x4 x5 x6]
  exact congrArg ((ofArrays x0 x1 x2 x3 x4 x5 x6).dcv r f * ·) (w1_at x0 x1 x2 x3 x4 x5 x6 r f)

theorem p0_at (r : Fin 2048) (f : Fin 11264) : val_main_v79 (F := Ideal) x0 x1 x2 x3 x4 x5 x6 (ix2 r f) = (ofArrays x0 x1 x2 x3 x4 x5 x6).dcv r f * (ofArrays x0 x1 x2 x3 x4 x5 x6).cw 0 f := by
  pointwise [val_main_v79]
  rw [v55_at x0 x1 x2 x3 x4 x5 x6]
  exact congrArg ((ofArrays x0 x1 x2 x3 x4 x5 x6).dcv r f * ·) (w0_at x0 x1 x2 x3 x4 x5 x6 r f)

theorem v83_at (r : Fin 2048) (f : Fin 11264) :
    val_main_v83 (F := Ideal) x0 x1 x2 x3 x4 x5 x6 (ix2 ⟨2 + r.val, by omega⟩ f) = (ofArrays x0 x1 x2 x3 x4 x5 x6).dpre r f := by
  have e2 := pad_rows (val_main_v63 (F := Ideal) x0 x1 x2 x3 x4 x5 x6) (val_main_cst_9 (F := Ideal))
    pads_S2048x11264_S2050x11264_200_000 h_S_ (fun _ => Ideal.ofBits_zero_f32) ⟨2 + r.val, by omega⟩ f
  have e1 := pad_rows (val_main_v70 (F := Ideal) x0 x1 x2 x3 x4 x5 x6) (val_main_cst_12 (F := Ideal))
    pads_S2048x11264_S2050x11264_110_000 h_S_ (fun _ => Ideal.ofBits_zero_f32) ⟨2 + r.val, by omega⟩ f
  have e0 := pad_rows (val_main_v79 (F := Ideal) x0 x1 x2 x3 x4 x5 x6) (val_main_cst_15 (F := Ideal))
    pads_S2048x11264_S2050x11264_020_000 h_S_ (fun _ => Ideal.ofBits_zero_f32) ⟨2 + r.val, by omega⟩ f
  refine (congrArg₂ (· + ·) (congrArg₂ (· + ·) e2 e1) e0).trans ?_
  simp only [p2_at x0 x1 x2 x3 x4 x5 x6, p1_at x0 x1 x2 x3 x4 x5 x6, p0_at x0 x1 x2 x3 x4 x5 x6]
  rw [add_assoc, add_comm]
  refine congrArg₂ (· + ·) (congrArg₂ (· + ·) ?_ ?_) ?_
  · unfold ahead
    by_cases h : r.val + 1 < 2048
    · rw [dif_pos (by omega), dif_pos h]
      exact congrArg (fun s => (ofArrays x0 x1 x2 x3 x4 x5 x6).dcv s f * (ofArrays x0 x1 x2 x3 x4 x5 x6).cw 1 f) (Fin.ext (by simp only; omega))
    · rw [dif_neg (by omega), dif_neg h]
  · unfold ahead
    by_cases h : r.val + 2 < 2048
    · rw [dif_pos (by omega), dif_pos h]
      exact congrArg (fun s => (ofArrays x0 x1 x2 x3 x4 x5 x6).dcv s f * (ofArrays x0 x1 x2 x3 x4 x5 x6).cw 0 f) (Fin.ext (by simp only; omega))
    · rw [dif_neg (by omega), dif_neg h]
  · rw [dif_pos (by omega)]
    exact congrArg (fun s => (ofArrays x0 x1 x2 x3 x4 x5 x6).dcv s f * (ofArrays x0 x1 x2 x3 x4 x5 x6).cw 2 f) (Fin.ext (by simp only; omega))

theorem v85_at (r : Fin 2048) (f : Fin 11264) : val_main_v85 (F := Ideal) x0 x1 x2 x3 x4 x5 x6 (ix2 r f) = (ofArrays x0 x1 x2 x3 x4 x5 x6).dpre r f := by
  refine Eq.trans ?_ (v83_at x0 x1 x2 x3 x4 x5 x6 r f)
  pointwise [val_main_v85]
  blk_ext []

theorem v88_at (f : Fin 11264) (x : Fin 2048) : val_main_v88 (F := Ideal) x0 x1 x2 x3 x4 x5 x6 (ix2 f x) = (ofArrays x0 x1 x2 x3 x4 x5 x6).dwu x f := by
  pointwise [val_main_v88]
  simp only [v85_at x0 x1 x2 x3 x4 x5 x6, v15_at]
  exact Finset.sum_congr rfl fun r _ => mul_comm _ _

/-- The first weights' gradient. -/
theorem v92_at (g : Fin 8) (x : Fin 2048) (l : Fin 1408) :
    val_main_v92 (F := Ideal) x0 x1 x2 x3 x4 x5 x6 (ix3 g x l) = (ofArrays x0 x1 x2 x3 x4 x5 x6).dwu x (join g l) := by
  refine Eq.trans ?_ (v88_at x0 x1 x2 x3 x4 x5 x6 (join g l) x)
  unfold join
  pointwise [val_main_v92, val_main_v91, val_main_v90, val_main_v89]
  blk_ext []

end Cert.Proof.Ffn.Ref

end
-- ==== Proof.FfnClaim.lean ====
/- The feed-forward block's kernels against the reference block and its gradients. -/
module

public import proofs.«01_k».proof.Defs
public import proofs.«01_k».proof.Proof.Gen.FfnRefIdeal.Run
public import proofs.«01_k».proof.Proof.FfnRun
public import proofs.«01_k».proof.Proof.FfnRefRead
public import Idealize.ShloMosaic.Lib.Quiescent

@[expose] public section

set_option maxRecDepth 16384

noncomputable section

namespace Cert.Proof.Ffn

open Idealize.ShloMosaic Idealize.ShloMosaic.TcCoe Idealize.SL.Sem

section Reference

open Cert.FfnRefIdeal Cert.FfnRefIdeal.Gen Cert.FfnRefIdeal.Read

variable (x0 : Vec Ideal S2048x2048 .f32) (x1 : Vec Ideal S8x2048x1408 .bf16) (x2 : Vec Ideal S8x3x1408 .f32)
  (x3 : Vec Ideal S8x704x2048 .bf16) (x4 : Vec Ideal S2048 .f32) (x5 : Vec Ideal S11264 .f32) (x6 : Vec Ideal S2048x2048 .f32)

theorem ref_out : val_main_v48 (F := Ideal) x0 x1 x2 x3 x4 x5 = ar2 (ofArrays x0 x1 x2 x3 x4 x5 x6).out := by
  funext i
  have hi : i = ix2 (i 0) (i 1) := by funext a; fin_cases a <;> rfl
  exact (congrArg _ hi).trans (Ref.v48_at x0 x1 x2 x3 x4 x5 x6 (i 0) (i 1))

theorem ref_dwu : val_main_v92 (F := Ideal) x0 x1 x2 x3 x4 x5 x6 = ar3 (ofArrays x0 x1 x2 x3 x4 x5 x6).dwu := by
  funext i
  have hi : i = ix3 (i 0) (i 1) (i 2) := by funext a; fin_cases a <;> rfl
  exact (congrArg _ hi).trans (Ref.v92_at x0 x1 x2 x3 x4 x5 x6 (i 0) (i 1) (i 2))

theorem ref_dcw : val_main_v87 (F := Ideal) x0 x1 x2 x3 x4 x5 x6 = ar3 (ofArrays x0 x1 x2 x3 x4 x5 x6).dcw := by
  funext i
  have hi : i = ix3 (i 0) (i 1) (i 2) := by funext a; fin_cases a <;> rfl
  exact (congrArg _ hi).trans (Ref.v87_at x0 x1 x2 x3 x4 x5 x6 (i 0) (i 1) (i 2))

theorem ref_dwd : val_main_v93 (F := Ideal) x0 x1 x2 x4 x5 x6 = ar2 (ofArrays x0 x1 x2 x3 x4 x5 x6).dwd := by
  funext i
  have hi : i = ix2 (i 0) (i 1) := by funext a; fin_cases a <;> rfl
  exact (congrArg _ hi).trans (Ref.v93_at x0 x1 x2 x3 x4 x5 x6 (i 0) (i 1))

theorem ref_dbias : val_main_v58 (F := Ideal) x0 x1 x2 x3 x4 x5 x6 = fun i => (ofArrays x0 x1 x2 x3 x4 x5 x6).dbias (i 0) := by
  funext i
  have hi : i = ix1 (i 0) := by funext a; fin_cases a; rfl
  exact (congrArg _ hi).trans (Ref.v58_at x0 x1 x2 x3 x4 x5 x6 (i 0))

end Reference

/-- The reference, a program of host operations alone, keeps its arguments; it has no semaphore. -/
theorem refFrame : quiescent_FfnRefIdeal (hFfnRefIdeal := Cert.FfnRefIdeal.Gen.facts) := fun m g _ =>
  (θ_run _ _ _).mono (fun r h => ⟨fun c => (h c).2.2.2.2.2, sem_eq_zero_of_no_sems (by decide) r.2⟩)
    (Cert.FfnRefIdeal.Value.run m g)

theorem algebraic : algebraic_FfnIdeal_FfnRefIdeal (hFfnIdeal := Cert.FfnIdeal.Gen.facts)
    (hFfnRefIdeal := Cert.FfnRefIdeal.Gen.facts) := by
  intro m g m' g' _ hagree
  refine ⟨fun c => ar2 (launch m c).out, fun c => ar3 (launch m c).dwu, fun c => ar3 (launch m c).dcw,
    fun c => ar2 (launch m c).dwd, fun c i => (launch m c).dbias (i 0), (θ_run _ _ _).mono (fun r h c => ?_) (run m g),
    (θ_run _ _ _).mono (fun r h c => ?_) (Cert.FfnRefIdeal.Value.run m' g')⟩
  · have hb := h c
    exact ⟨(hb _ (Cert.FfnIdeal.Gen.mem_uc Cert.FfnIdeal.main_v8 (by decide))).trans (end_v8 m g c),
      (hb _ (Cert.FfnIdeal.Gen.mem_uc Cert.FfnIdeal.main_v14 (by decide))).trans (end_v14 m g c),
      (hb _ (Cert.FfnIdeal.Gen.mem_uc Cert.FfnIdeal.main_v15 (by decide))).trans (end_v15 m g c),
      (hb _ (Cert.FfnIdeal.Gen.mem_uc Cert.FfnIdeal.main_v11 (by decide))).trans (end_v11 m g c),
      (hb _ (Cert.FfnIdeal.Gen.mem_uc Cert.FfnIdeal.main_v16 (by decide))).trans (end_v16 m g c),
      (hb _ (Cert.FfnIdeal.Gen.mem_uc Cert.FfnIdeal.main_arg0 (by decide))).trans (Cert.FfnIdeal.Gen.W14_main_arg0 m g c),
      (hb _ (Cert.FfnIdeal.Gen.mem_uc Cert.FfnIdeal.main_arg1 (by decide))).trans (Cert.FfnIdeal.Gen.W14_main_arg1 m g c),
      (hb _ (Cert.FfnIdeal.Gen.mem_uc Cert.FfnIdeal.main_arg2 (by decide))).trans (Cert.FfnIdeal.Gen.W14_main_arg2 m g c),
      (hb _ (Cert.FfnIdeal.Gen.mem_uc Cert.FfnIdeal.main_arg3 (by decide))).trans (Cert.FfnIdeal.Gen.W14_main_arg3 m g c),
      (hb _ (Cert.FfnIdeal.Gen.mem_uc Cert.FfnIdeal.main_arg4 (by decide))).trans (Cert.FfnIdeal.Gen.W14_main_arg4 m g c),
      (hb _ (Cert.FfnIdeal.Gen.mem_uc Cert.FfnIdeal.main_arg5 (by decide))).trans (Cert.FfnIdeal.Gen.W14_main_arg5 m g c),
      (hb _ (Cert.FfnIdeal.Gen.mem_uc Cert.FfnIdeal.main_arg6 (by decide))).trans (Cert.FfnIdeal.Gen.W14_main_arg6 m g c)⟩
  · obtain ⟨h0, h1, h2, h3, h4, h'⟩ := h c
    obtain ⟨e0, e1, e2, e3, e4, e5, e6⟩ := hagree c
    have hl : ofArrays (m' ((c : Thread Cert.FfnRefIdeal.nD Cert.FfnRefIdeal.τ).loc Cert.FfnRefIdeal.main_arg0))
        (m' ((c : Thread Cert.FfnRefIdeal.nD Cert.FfnRefIdeal.τ).loc Cert.FfnRefIdeal.main_arg1))
        (m' ((c : Thread Cert.FfnRefIdeal.nD Cert.FfnRefIdeal.τ).loc Cert.FfnRefIdeal.main_arg2))
        (m' ((c : Thread Cert.FfnRefIdeal.nD Cert.FfnRefIdeal.τ).loc Cert.FfnRefIdeal.main_arg3))
        (m' ((c : Thread Cert.FfnRefIdeal.nD Cert.FfnRefIdeal.τ).loc Cert.FfnRefIdeal.main_arg4))
        (m' ((c : Thread Cert.FfnRefIdeal.nD Cert.FfnRefIdeal.τ).loc Cert.FfnRefIdeal.main_arg5))
        (m' ((c : Thread Cert.FfnRefIdeal.nD Cert.FfnRefIdeal.τ).loc Cert.FfnRefIdeal.main_arg6)) = launch m c := by
      rw [launch, e0, e1, e2, e3, e4, e5, e6]
    refine ⟨?_, ?_, ?_, ?_, ?_, h'⟩
    · exact h0.trans ((Cert.FfnRefIdeal.Read.val_main_v48_eq _).trans ((ref_out _ _ _ _ _ _ _).trans (congrArg (fun A : Args => ar2 A.out) hl)))
    · exact h1.trans ((Cert.FfnRefIdeal.Read.val_main_v92_eq _).trans ((ref_dwu _ _ _ _ _ _ _).trans (congrArg (fun A : Args => ar3 A.dwu) hl)))
    · exact h2.trans ((Cert.FfnRefIdeal.Read.val_main_v87_eq _).trans ((ref_dcw _ _ _ _ _ _ _).trans (congrArg (fun A : Args => ar3 A.dcw) hl)))
    · exact h3.trans ((Cert.FfnRefIdeal.Read.val_main_v93_eq _).trans ((ref_dwd _ _ _ _ _ _ _).trans (congrArg (fun A : Args => ar2 A.dwd) hl)))
    · exact h4.trans ((Cert.FfnRefIdeal.Read.val_main_v58_eq _).trans ((ref_dbias _ _ _ _ _ _ _).trans
        (congrArg (fun (A : Args) (i : Cert.FfnRefIdeal.S11264.Idx) => A.dbias (i 0)) hl)))

end Cert.Proof.Ffn

end
-- ==== Proof.DaValue.lean ====
/- The gradient of the feed-forward block's normed rows: what the kernel that adds up the groups leaves in its array. -/
module

public import proofs.«01_k».proof.Proof.Gen.DaIdeal.Value
public import proofs.«01_k».proof.Proof.Products

@[expose] public section

set_option maxRecDepth 16384

noncomputable section

namespace Cert.Proof.Da

open Cert.DaIdeal Cert.DaIdeal.Gen Cert.Proof.Ffn Idealize.ShloMosaic Idealize.ShloMosaic.TcCoe Idealize.SL.Sem
open Idealize.ShloMosaic.Pipeline (Dat)

variable (m : (ℓ : Loc nD τ sig) → Buf (Elt Ideal) ℓ) (c : Dev nD)

theorem first_at (a : Vec Ideal S1x2048x1408 .bf16) (b : Vec Ideal S1x512x1408 .bf16) (j : S2048x512.Idx) :
    k0_pay2 (F := Ideal) a b j = 0 + ∑ k : Fin 1408, a (ix3 0 (j 0) k) * b (ix3 0 (j 1) k) := by
  rw [zero_add]
  pointwise [k0_pay2, k0_pay1]

theorem step_at (a : Vec Ideal S1x2048x1408 .bf16) (b : Vec Ideal S1x512x1408 .bf16) (s : Vec Ideal S2048x512 .f32)
    (j : S2048x512.Idx) :
    k0_pay3 (F := Ideal) a b s j = s j + ∑ k : Fin 1408, a (ix3 0 (j 0) k) * b (ix3 0 (j 1) k) := by
  pointwise [k0_pay3, k0_pay1]

/-- The group and the block of columns of each point. -/
theorem idx : ∀ t : Fin cfg0.N, win0_0.index t = ![t.val % 8, 0, 0] ∧ win0_1.index t = ![t.val % 8, t.val / 8, 0]
    ∧ win0_2.index t = ![0, t.val / 8] := (by decide +kernel : ∀ t : Fin grid0.N, _)

/-- The column of the result that a column of a point's block is. -/
def col (t : Fin cfg0.N) (x : Fin 512) : Fin 2048 :=
  ⟨512 * (t.val / 8) + x.val, by have h := lt_of_lt_of_eq t.isLt N_0; omega⟩

/-- What the accumulator holds at the last group: the sum over the groups. -/
theorem sum_at (t : Fin cfg0.N) (ht : t.val % 8 = 7) (j : S2048x512.Idx) :
    (outsAt0 m c t.val t.isLt).2 j = ∑ s : Fin 8, ∑ k : Fin 1408,
      (show FVec Ideal S1x2048x1408 .bf16 from iblk m c 0 ⟨8 * (t.val / 8) + s.val, Pipeline.run_point_lt_of_flush t ht s⟩) (ix3 0 (j 0) k)
      * (show FVec Ideal S1x512x1408 .bf16 from iblk m c 1 ⟨8 * (t.val / 8) + s.val, Pipeline.run_point_lt_of_flush t ht s⟩) (ix3 0 (j 1) k) := by
  rw [Pipeline.eq_sum_fin_of_reset_step_apply_of_flush (fun n h => (outsAt0 m c n h).2) 8 (fun _ => (0 : EReal))
    (fun p j => ∑ k : Fin 1408, (show FVec Ideal S1x2048x1408 .bf16 from iblk m c 0 p) (ix3 0 (j 0) k)
      * (show FVec Ideal S1x512x1408 .bf16 from iblk m c 1 p) (ix3 0 (j 1) k))
    (fun t h j => by rw [outsAt0_A m c t h (by omega) (by omega)]; frame_out; exact first_at _ _ _)
    (fun t h j => by
      by_cases h7 : t.val % 8 = 7
      · rw [outsAt0_C m c t h (by omega) h7]; frame_out; exact (step_at _ _ _ _).trans (congrArg (· + _) (congrFun (Memref.IsWhole.read_unread _ _) _))
      · rw [outsAt0_B m c t h (by omega) h7]; frame_out; exact (step_at _ _ _ _).trans (congrArg (· + _) (congrFun (Memref.IsWhole.read_unread _ _) _)))
    t ht j, zero_add]

/-- At the last group the output block is the accumulator. -/
theorem out_eq (t : Fin cfg0.N) (ht : t.val % 8 = 7) (j : S2048x512.Idx) :
    (outsAt0 m c t.val t.isLt).1 j = (outsAt0 m c t.val t.isLt).2 j := by
  rw [outsAt0_C m c t (by omega) (by omega) ht]
  frame_out
  rfl

abbrev argD : Vec Ideal S8x2048x1408 .bf16 := m ((c : Thread nD τ).loc main_arg0)
abbrev argW : Vec Ideal S8x2048x1408 .bf16 := m ((c : Thread nD τ).loc main_arg1)

theorem final : (dats m 0 c).arrAt 2 cfg0.N
    = ar2 (rowsByRows (flat3 (n := 2048) (argD m c)) (flat3 (n := 2048) (argW m c))) := by
  refine (dats m 0 c).arrAt_eq_of_covers 2 _ (by decide +kernel) fun t hf y => ?_
  blk_simp
  have ht := (flush0_2 t).mp hf
  have he : ((cfg0.win 2).blk t).view.emb y = ix2 (y 0) (col t (y 1)) := by
    unfold col; blk_ext [idx t]
  rw [after0_2]
  refine (out_eq m c t ht y).trans ((sum_at m c t ht y).trans (Eq.trans ?_ (congrArg (ar2 _) he.symm)))
  show _ = ∑ f : Fin 11264, flat3 (n := 2048) (argD m c) (y 0) f * flat3 (n := 2048) (argW m c) (col t (y 1)) f
  refine Fin.sum_mul_add_congr fun s k hl => ?_
  have e0 : flat3 (n := 2048) (argD m c) (y 0) ⟨s * 1408 + k, hl⟩ = argD m c (ix3 s (y 0) k) := by
    unfold flat3; blk_ext [grp, lane]
  have e1 : flat3 (n := 2048) (argW m c) (col t (y 1)) ⟨s * 1408 + k, hl⟩
      = argW m c (ix3 s (col t (y 1)) k) := by
    unfold flat3; blk_ext [grp, lane]
  refine Eq.trans ?_ (congrArg₂ (· * ·) e0.symm e1.symm)
  congr 1 <;> (try unfold col) <;> blk_ext [iblk, V, idx ⟨_, Pipeline.run_point_lt_of_flush t ht s⟩]

end Cert.Proof.Da

end
-- ==== Proof.DaClaim.lean ====
/- The gradient of the feed-forward block's normed rows: the kernel's against the reference's. -/
module

public import proofs.«01_k».proof.Defs
public import proofs.«01_k».proof.Proof.Gen.DaRefIdeal.Run
public import proofs.«01_k».proof.Proof.Gen.DaRefIdeal.Read
public import proofs.«01_k».proof.Proof.DaValue
public import Idealize.ShloMosaic.Lib.Quiescent

@[expose] public section

set_option maxRecDepth 16384

noncomputable section

namespace Cert.Proof.Da

open Cert.Proof.Ffn Idealize.ShloMosaic Idealize.ShloMosaic.TcCoe Idealize.SL.Sem
open Cert.DaRefIdeal (S8x2048x1408 S2048x2048)
open Cert.DaRefIdeal.Read

theorem dpre_at (x0 : Vec Ideal S8x2048x1408 .bf16) (r : Fin 2048) (f : Fin 11264) :
    val_main_v7 (F := Ideal) x0 (ix2 r f) = flat3 (n := 2048) x0 r f := by
  unfold flat3 grp lane
  pointwise [val_main_v7, val_main_v6, val_main_v5]
  blk_ext []

theorem weight_at (x1 : Vec Ideal S8x2048x1408 .bf16) (x : Fin 2048) (f : Fin 11264) :
    val_main_v3 (F := Ideal) x1 (ix2 x f) = flat3 (n := 2048) x1 x f := by
  unfold flat3 grp lane
  pointwise [val_main_v3, val_main_v2, val_main_v1]
  blk_ext []

theorem ref_at (x0 x1 : Vec Ideal S8x2048x1408 .bf16) (r x : Fin 2048) :
    val_main_v9 (F := Ideal) x0 x1 (ix2 r x) = rowsByRows (flat3 (n := 2048) x0) (flat3 (n := 2048) x1) r x := by
  pointwise [val_main_v9, val_main_v8]
  simp only [dpre_at, weight_at]
  rfl

theorem ref_eq (x0 x1 : Vec Ideal S8x2048x1408 .bf16) :
    val_main_v9 (F := Ideal) x0 x1 = ar2 (rowsByRows (flat3 (n := 2048) x0) (flat3 (n := 2048) x1)) :=
  eq_ar2 _ _ (ref_at x0 x1)

theorem refFrame : quiescent_DaRefIdeal (hDaRefIdeal := Cert.DaRefIdeal.Gen.facts) := fun m g _ =>
  (θ_run _ _ _).mono (fun r h => ⟨fun c => (h c).2, sem_eq_zero_of_no_sems (by decide) r.2⟩)
    (Cert.DaRefIdeal.Value.run m g)

theorem algebraic : algebraic_DaIdeal_DaRefIdeal (hDaIdeal := Cert.DaIdeal.Gen.facts)
    (hDaRefIdeal := Cert.DaRefIdeal.Gen.facts) := by
  intro m g m' g' _ hagree
  refine ⟨fun c => ar2 (rowsByRows (flat3 (n := 2048) (argD m c)) (flat3 (n := 2048) (argW m c))),
    (θ_run _ _ _).mono (fun r h c => ?_) (Cert.DaIdeal.Value.run_blocks m g),
    (θ_run _ _ _).mono (fun r h c => ?_) (Cert.DaRefIdeal.Value.run m' g')⟩
  · obtain ⟨h0, h'⟩ := h c
    exact ⟨h0.trans (final m c), h'⟩
  · obtain ⟨h0, h'⟩ := h c
    obtain ⟨e0, e1⟩ := hagree c
    refine ⟨h0.trans ?_, h'⟩
    rw [Cert.DaRefIdeal.Read.val_main_v9_eq, ref_eq, e0, e1]

end Cert.Proof.Da

end
-- ==== Proof.DwRun.lean ====
/- The mixing layer's weight gradient run one after another: what every buffer holds at the end. -/
module

public import proofs.«01_k».proof.Proof.Gen.DwIdeal.Frame

@[expose] public section

set_option maxRecDepth 16384

noncomputable section

namespace Cert.Proof.Dw

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W6`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Proof.Dw

end
-- ==== Proof.DwProducts.lean ====
/- The weight gradient of the mixing layer's input projection: the array that each of the three products leaves. -/
module

public import proofs.«01_k».proof.Proof.Gen.DwIdeal.Frame
public import proofs.«01_k».proof.Proof.Products

@[expose] public section

set_option maxRecDepth 16384

noncomputable section

namespace Cert.Proof.Dw

open Cert.DwIdeal Cert.DwIdeal.Gen Cert.Proof.Ffn Idealize.ShloMosaic Idealize.ShloMosaic.TcCoe Idealize.SL.Sem
open Idealize.ShloMosaic.Pipeline (Dat)

/-! ## Three matrices side by side -/

section Wide

variable {n : Nat} (a : Fin n → Fin 3072 → EReal) (b : Fin n → Fin 1024 → EReal) (d : Fin n → Fin 848 → EReal)

/-- Matrices of 3072, 1024 and 848 columns side by side. -/
def wide : Fin n → Fin 4944 → EReal := fun r x =>
  if h : x.val < 3072 then a r ⟨x.val, h⟩
  else if h' : x.val < 4096 then b r ⟨x.val - 3072, by omega⟩ else d r ⟨x.val - 4096, by omega⟩

theorem wide_first (r : Fin n) (x : Fin 4944) (h : x.val < 3072) : wide a b d r x = a r ⟨x.val, h⟩ := by
  unfold wide
  rw [dif_pos h]

theorem wide_second (r : Fin n) (x : Fin 4944) (h : ¬x.val < 3072) (h' : x.val < 4096) :
    wide a b d r x = b r ⟨x.val - 3072, by omega⟩ := by
  unfold wide
  rw [dif_neg h, dif_pos h']

theorem wide_third (r : Fin n) (x : Fin 4944) (h' : ¬x.val < 4096) : wide a b d r x = d r ⟨x.val - 4096, by omega⟩ := by
  unfold wide
  rw [dif_neg (by omega), dif_neg h']

end Wide

variable (V : (c : Dev nD) → (b : Ref sig .tc) → Buf (Elt Ideal) ((c : Thread nD τ).loc b)) (c : Dev nD)

/-! ## The first two products, written into blocks of the whole gradient -/

theorem idx0 : ∀ t : Fin cfg0.N, win0_0.index t = ![0, 0] ∧ win0_1.index t = ![0, t.val] ∧ win0_2.index t = ![0, t.val] ∧ t.val < 6 :=
  (by decide +kernel : ∀ t : Fin grid0.N, _)
theorem idx1 : ∀ t : Fin cfg1.N, win1_0.index t = ![0, 0] ∧ win1_1.index t = ![0, t.val] ∧ win1_2.index t = ![0, t.val + 6] ∧ t.val < 2 :=
  (by decide +kernel : ∀ t : Fin grid1.N, _)

theorem cols_tile (a : Vec Ideal S2048x2048 .bf16) (b : Vec Ideal S2048x512 .bf16) (y : S2048x512.Idx) :
    k0_pay1 (F := Ideal) a b y = ∑ k : Fin 2048, a (ix2 k (y 0)) * b (ix2 k (y 1)) := by
  pointwise [k0_pay1]

/-- Column `x` of block `q` of the gradient's blocks of 512 columns, the first eight of them. -/
def blockCol (q : Nat) (hq : q < 8) (x : Fin 512) : Fin 4944 := ⟨512 * q + x.val, by omega⟩

theorem first_point (b : Fin 2048 → Fin 1024 → EReal) (d : Fin 2048 → Fin 848 → EReal) (t : Fin cfg0.N) (ht : t.val < 6) (z : S2048x512.Idx) :
    k0_pay1 (F := Ideal) (iblk0 V c 0 t) (iblk0 V c 1 t) z
      = ar2 (colsByCols (mx (n := 2048) (k := 2048) (V c main_arg0)) (wide (mx (n := 2048) (k := 3072) (V c main_v2)) b d))
        (ix2 (z 0) (blockCol t.val (by omega) (z 1))) := by
  refine (cols_tile _ _ z).trans ?_
  show _ = ∑ k : Fin 2048, mx (n := 2048) (k := 2048) (V c main_arg0) k (z 0)
    * wide (mx (n := 2048) (k := 3072) (V c main_v2)) b d k (blockCol t.val (by omega) (z 1))
  have hz : (z 1).val < 512 := (z 1).isLt
  refine Fin.sum_fin_congr fun k => ?_
  rw [wide_first _ _ _ _ _ (by unfold blockCol; simp only; omega)]
  unfold mx blockCol
  congr 1 <;> blk_ext [iblk0, idx0 t]

/-- The first product fills the blocks below column 3072 and leaves the rest as it was. -/
theorem first_array (b : Fin 2048 → Fin 1024 → EReal) (d : Fin 2048 → Fin 848 → EReal) : (dat0 V c).arrAt 2 cfg0.N
    = fun i => if (i 1 : Nat) / 512 < 6 then
        ar2 (colsByCols (mx (n := 2048) (k := 2048) (V c main_arg0)) (wide (mx (n := 2048) (k := 3072) (V c main_v2)) b d)) i
      else V c main_v6 i := by
  refine (dat0 V c).arrAt_eq_of_coversWhere 2 _ (fun β => β (1 : Fin _) < 6) (by decide +kernel) (fun t _ y => ?_) (fun j => Iff.rfl)
  blk_simp
  rw [after0_2]
  have ht := (idx0 t).2.2.2
  have he : ((cfg0.win 2).blk t).view.emb y = ix2 ((cfg0.win 2).xinj (grid0.coords t) y 0)
      (blockCol t.val (by omega) ((cfg0.win 2).xinj (grid0.coords t) y 1)) := by
    unfold blockCol
    blk_ext [idx0 t]
  unfold outsAt0
  frame_out
  exact (first_point V c b d t ht _).trans (congrArg (ar2 _) he.symm)

theorem second_point (a : Fin 2048 → Fin 3072 → EReal) (d : Fin 2048 → Fin 848 → EReal) (t : Fin cfg1.N) (ht : t.val < 2) (z : S2048x512.Idx) :
    k1_pay1 (F := Ideal) (iblk1 V c 0 t) (iblk1 V c 1 t) z
      = ar2 (colsByCols (mx (n := 2048) (k := 2048) (V c main_arg0)) (wide a (mx (n := 2048) (k := 1024) (V c main_v3)) d))
        (ix2 (z 0) (blockCol (t.val + 6) (by omega) (z 1))) := by
  refine (cols_tile _ _ z).trans ?_
  show _ = ∑ k : Fin 2048, mx (n := 2048) (k := 2048) (V c main_arg0) k (z 0)
    * wide a (mx (n := 2048) (k := 1024) (V c main_v3)) d k (blockCol (t.val + 6) (by omega) (z 1))
  have hz : (z 1).val < 512 := (z 1).isLt
  refine Fin.sum_fin_congr fun k => ?_
  rw [wide_second _ _ _ _ _ (by unfold blockCol; simp only; omega) (by unfold blockCol; simp only; omega)]
  unfold mx blockCol
  congr 1 <;> blk_ext [iblk1, idx1 t]

/-- The second product fills the blocks between columns 3072 and 4096 and leaves the rest as it was. -/
theorem second_array (a : Fin 2048 → Fin 3072 → EReal) (d : Fin 2048 → Fin 848 → EReal) : (dat1 V c).arrAt 2 cfg1.N
    = fun i => if 6 ≤ (i 1 : Nat) / 512 ∧ (i 1 : Nat) / 512 < 8 then
        ar2 (colsByCols (mx (n := 2048) (k := 2048) (V c main_arg0)) (wide a (mx (n := 2048) (k := 1024) (V c main_v3)) d)) i
      else V c main_v7 i := by
  refine (dat1 V c).arrAt_eq_of_coversWhere 2 _ (fun β => 6 ≤ β (1 : Fin _) ∧ β (1 : Fin _) < 8) (by decide +kernel) (fun t _ y => ?_)
    (fun j => Iff.rfl)
  blk_simp
  rw [after1_2]
  have ht := (idx1 t).2.2.2
  have he : ((cfg1.win 2).blk t).view.emb y = ix2 ((cfg1.win 2).xinj (grid1.coords t) y 0)
      (blockCol (t.val + 6) (by omega) ((cfg1.win 2).xinj (grid1.coords t) y 1)) := by
    unfold blockCol
    blk_ext [idx1 t]
  unfold outsAt1
  frame_out
  exact (second_point V c a d t ht _).trans (congrArg (ar2 _) he.symm)

/-! ## The third product -/

/-- Row `x` of the half `q` of 2048 rows. -/
def halfRow (q : Nat) (hq : q < 2) (x : Fin 1024) : Fin 2048 := ⟨1024 * q + x.val, by omega⟩

theorem idx2 : ∀ t : Fin cfg2.N, win2_0.index t = ![0, t.val] ∧ win2_1.index t = ![0, 0] ∧ win2_2.index t = ![t.val, 0] ∧ t.val < 2 :=
  (by decide +kernel : ∀ t : Fin grid2.N, _)

theorem rest_tile (a : Vec Ideal S2048x1024 .bf16) (b : Vec Ideal S2048x896 .bf16) (y : S1024x896.Idx) :
    k2_pay1 (F := Ideal) a b y = ∑ k : Fin 2048, a (ix2 k (y 0)) * b (ix2 k (y 1)) := by
  pointwise [k2_pay1]

theorem third_array : (dat2 V c).arrAt 2 cfg2.N
    = ar2 (colsByCols (mx (n := 2048) (k := 2048) (V c main_arg0)) (mx (n := 2048) (k := 896) (V c main_v4))) := by
  refine (dat2 V c).arrAt_eq_of_covers 2 _ (by decide +kernel) fun t _ y => ?_
  blk_simp
  rw [after2_2]
  have he : ((cfg2.win 2).blk t).view.emb y = ix2 (halfRow t.val (idx2 t).2.2.2 (y 0)) (y 1) := by
    unfold halfRow
    blk_ext [idx2 t]
  frame_out
  refine (rest_tile _ _ y).trans (Eq.trans ?_ (congrArg (ar2 _) he.symm))
  show _ = ∑ k : Fin 2048, mx (n := 2048) (k := 2048) (V c main_arg0) k (halfRow t.val (idx2 t).2.2.2 (y 0))
    * mx (n := 2048) (k := 896) (V c main_v4) k (y 1)
  refine Fin.sum_fin_congr fun k => ?_
  unfold mx halfRow
  congr 1 <;> blk_ext [iblk2, idx2 t]

end Cert.Proof.Dw

end
-- ==== Proof.DwValue.lean ====
/- What the weight gradient of the mixing layer's input projection leaves in its result, from what the launch gave it. -/
module

public import proofs.«01_k».proof.Proof.DwProducts

@[expose] public section

set_option maxRecDepth 16384

noncomputable section

namespace Cert.Proof.Dw

open Cert.DwIdeal Cert.DwIdeal.Gen Cert.Proof.Ffn Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The arguments as matrices: the projection's rows, and the cotangents of its three parts. -/
abbrev argM0 : Fin 2048 → Fin 2048 → EReal := mx (n := 2048) (k := 2048) (m ((c : Thread nD τ).loc main_arg0))
abbrev argM1 : Fin 2048 → Fin 3072 → EReal := mx (n := 2048) (k := 3072) (m ((c : Thread nD τ).loc main_arg1))
abbrev argM2 : Fin 2048 → Fin 1024 → EReal := mx (n := 2048) (k := 1024) (m ((c : Thread nD τ).loc main_arg2))
abbrev argM3 : Fin 2048 → Fin 848 → EReal := mx (n := 2048) (k := 848) (m ((c : Thread nD τ).loc main_arg3))

/-- The gradient of the weights: columns of the rows against columns of the three cotangents side by side. -/
def grad : Fin 2048 → Fin 4944 → EReal := colsByCols (argM0 m c) (wide (argM1 m c) (argM2 m c) (argM3 m c))

theorem at_v2 : W1 m ρ c main_v2 = m ((c : Thread nD τ).loc main_arg1) := by
  refine Eq.trans (b := W0 m ρ c main_arg1) ?_ (W0_args m ρ c main_arg1 (by decide))
  after_results
  rfl

theorem at_v3 : W1 m ρ c main_v3 = m ((c : Thread nD τ).loc main_arg2) := by
  refine Eq.trans (b := W0 m ρ c main_arg2) ?_ (W0_args m ρ c main_arg2 (by decide))
  after_results
  rfl

/-- The third cotangent, zeros after its 848 columns. -/
theorem at_v4 (r : Fin 2048) (x : Fin 848) : mx (n := 2048) (k := 896) (W1 m ρ c main_v4) r ⟨x.val, by omega⟩ = argM3 m c r x := by
  have h : W1 m ρ c (Proc.devRef .tc main_v4)
      = truncf (F := Ideal) .bf16 (concatenate S2048x896 1
        [⟨S2048x848, (W0 m ρ c (Proc.devRef .tc main_arg3) : Vec Ideal S2048x848 .f32)⟩,
          ⟨S2048x48, broadcastInDim S2048x48 ![] bcast_S_S2048x48 (constant (F := Ideal) S_ .f32 0x00000000#32)⟩]
        concatenates_S2048x848_S2048x48_S2048x896_d1) bitsLt_bf16_f32 := by
    after_results
  refine (congrArg (fun a => mx (n := 2048) (k := 896) a r ⟨x.val, by omega⟩) h).trans ?_
  unfold argM3 mx
  pointwise []

theorem at_v6 (i : S2048x4944.Idx) (hi : (i 1 : Nat) / 512 < 6) : W2 m ρ c main_v6 i = ar2 (grad m c) i := by
  have h := (W2_arr m ρ c 2).trans (first_array (V1 m ρ) c (argM2 m c) (argM3 m c))
  refine (congrFun h i).trans ((if_pos hi).trans ?_)
  exact congrArg₂ (fun a b => ar2 (colsByCols (mx (n := 2048) (k := 2048) a) (wide (mx (n := 2048) (k := 3072) b) (argM2 m c) (argM3 m c))) i)
    (W1_args m ρ c main_arg0 (by decide)) (at_v2 m ρ c)

theorem in_v7 : W3 m ρ c main_v7 = W2 m ρ c main_v6 := by
  after_results
  rfl

/-- The first two products together fill the blocks below column 4096. -/
theorem at_v7 (i : S2048x4944.Idx) (hi : (i 1 : Nat) < 4096) : W5 m ρ c main_v7 i = ar2 (grad m c) i := by
  rw [W5_of m ρ c main_v7 (by decide +kernel)]
  refine (congrFun ((W4_arr m ρ c 2).trans (second_array (V3 m ρ) c (argM1 m c) (argM3 m c))) i).trans ?_
  by_cases h : 6 ≤ (i 1 : Nat) / 512 ∧ (i 1 : Nat) / 512 < 8
  · refine (if_pos h).trans ?_
    exact congrArg₂ (fun a b => ar2 (colsByCols (mx (n := 2048) (k := 2048) a) (wide (argM1 m c) (mx (n := 2048) (k := 1024) b) (argM3 m c))) i)
      (W3_args m ρ c main_arg0 (by decide))
      ((W3_of m ρ c main_v3 (by decide)).trans ((W2_of m ρ c main_v3 (by decide +kernel)).trans (at_v3 m ρ c)))
  · refine (if_neg h).trans ((congrFun (in_v7 m ρ c) i).trans (at_v6 m ρ c i (by omega)))

theorem at_v8 : W5 m ρ c main_v8 = ar2 (colsByCols (argM0 m c) (mx (n := 2048) (k := 896) (W1 m ρ c main_v4))) := by
  refine (W5_arr m ρ c 2).trans ((third_array (V4 m ρ) c).trans ?_)
  exact congrArg₂ (fun a b => ar2 (colsByCols (mx (n := 2048) (k := 2048) a) (mx (n := 2048) (k := 896) b)))
    (W4_args m ρ c main_arg0 (by decide))
    ((W4_of m ρ c main_v4 (by decide +kernel)).trans ((W3_of m ρ c main_v4 (by decide)).trans (W2_of m ρ c main_v4 (by decide +kernel))))

/-- Columns written over the last 848 of a matrix. -/
theorem update_at (a : (⟨2, ![2048, 4944]⟩ : Shape).Idx → EReal) (u : (⟨2, ![2048, 848]⟩ : Shape).Idx → EReal)
    (h : (⟨2, ![2048, 4944]⟩ : Shape).Slices (fun _ => 0) ⟨2, ![2048, 848]⟩) (r : Fin 2048) (x : Fin 4944) :
    Host.dynamicUpdateSlice a u ![0, 4096] h (ix2 r x)
      = if hx : x.val < 4096 then a (ix2 r x) else u (ix2 r ⟨x.val - 4096, by omega⟩) := by
  have c0 : Host.clampedStart ⟨2, ![2048, 4944]⟩ ⟨2, ![2048, 848]⟩ h.1 ![0, 4096] 0 = 0 :=
    Host.clampedStart_of_le h.1 _ 0 0 rfl (Nat.le_refl 2048)
  have c1 : Host.clampedStart ⟨2, ![2048, 4944]⟩ ⟨2, ![2048, 848]⟩ h.1 ![0, 4096] 1 = 4096 :=
    Host.clampedStart_of_le h.1 _ 1 4096 rfl (Nat.le_refl 4944)
  refine (Host.dynamicUpdateSlice_apply a u ![0, 4096] h (ix2 r x)).trans ?_
  by_cases hx : x.val < 4096
  · rw [dif_pos hx]
    refine dif_neg fun hin => ?_
    have h1 := (hin 1).1
    rw [c1] at h1
    exact absurd hx (Nat.not_lt.mpr h1)
  · rw [dif_neg hx]
    refine (dif_pos fun a => ?_).trans (congrArg u ?_)
    · match a with
      | 0 => rw [c0]; exact ⟨Nat.zero_le _, lt_of_lt_of_eq r.isLt (Nat.zero_add 2048).symm⟩
      | 1 => rw [c1]; exact ⟨Nat.not_lt.mp hx, x.isLt⟩
    · funext a
      match a with
      | 0 => exact Fin.ext (congrArg (r.val - ·) c0)
      | 1 => exact Fin.ext (congrArg (x.val - ·) c1)

/-- The third product's first 848 columns go over the last 848 columns of the gradient. -/
theorem end_v10 : W6 m ρ c main_v10 = ar2 (grad m c) := by
  have h : W6 m ρ c (Proc.devRef .tc main_v10)
      = Host.dynamicUpdateSlice (W5 m ρ c (Proc.devRef .tc main_v7) : Vec Ideal S2048x4944 .bf16)
        (extractStridedSlice S2048x848 ![0, 0] (W5 m ρ c (Proc.devRef .tc main_v8) : Vec Ideal S2048x896 .bf16) slices_S2048x896_S2048x848_0_0)
        ![0, 4096] updateFits_S2048x4944_S2048x848 := by
    after_results
    refine congrArg (fun s => Host.dynamicUpdateSlice _ _ s updateFits_S2048x4944_S2048x848) (funext fun k => ?_)
    fin_cases k <;> rfl
  refine h.trans (eq_ar2 _ _ fun r x => ?_)
  refine (update_at _ _ _ r x).trans ?_
  by_cases hx : x.val < 4096
  · exact (dif_pos hx).trans (at_v7 m ρ c (ix2 r x) hx)
  · refine (dif_neg hx).trans ?_
    refine Eq.trans (b := W5 m ρ c main_v8 (ix2 (n0 := 2048) (n1 := 896) r ⟨x.val - 4096, by omega⟩)) ?_ ?_
    · pointwise []
      blk_ext []
    · refine (congrFun (at_v8 m ρ c) (ix2 (n0 := 2048) (n1 := 896) r ⟨x.val - 4096, by omega⟩)).trans ?_
      show (∑ k : Fin 2048, argM0 m c k r * mx (n := 2048) (k := 896) (W1 m ρ c main_v4) k ⟨x.val - 4096, by omega⟩)
        = ∑ k : Fin 2048, argM0 m c k r * wide (argM1 m c) (argM2 m c) (argM3 m c) k x
      refine Fin.sum_fin_congr fun k => congrArg (argM0 m c k r * ·) ?_
      exact (at_v4 m ρ c k ⟨x.val - 4096, by omega⟩).trans (wide_third _ _ _ k x hx).symm

end Cert.Proof.Dw

end
-- ==== Proof.DwClaim.lean ====
/- The weight gradient of the mixing layer's input projection: the kernels' result against the reference's. -/
module

public import proofs.«01_k».proof.Defs
public import proofs.«01_k».proof.Proof.Gen.DwRefIdeal.Run
public import proofs.«01_k».proof.Proof.Gen.DwRefIdeal.Read
public import proofs.«01_k».proof.Proof.DwRun
public import proofs.«01_k».proof.Proof.DwValue
public import Idealize.ShloMosaic.Lib.Quiescent

@[expose] public section

set_option maxRecDepth 16384

noncomputable section

namespace Cert.Proof.Dw

open Cert.Proof.Ffn Idealize.ShloMosaic Idealize.ShloMosaic.TcCoe Idealize.SL.Sem
open Cert.DwRefIdeal (S2048x2048 S2048x3072 S2048x1024 S2048x848)
open Cert.DwRefIdeal.Read

section Reference

variable (u : Vec Ideal S2048x2048 .bf16) (a : Vec Ideal S2048x3072 .f32) (b : Vec Ideal S2048x1024 .f32) (d : Vec Ideal S2048x848 .f32)

/-- The three cotangents side by side. -/
theorem wide_at (r : Fin 2048) (x : Fin 4944) : val_main_v3 (F := Ideal) a b d (ix2 r x)
    = wide (mx (n := 2048) (k := 3072) a) (mx (n := 2048) (k := 1024) b) (mx (n := 2048) (k := 848) d) r x := by
  unfold wide mx
  pointwise [val_main_v3]
  by_cases h : x.val < 3072
  · rw [dif_pos h, dif_pos h]
    blk_ext []
  · rw [dif_neg h, dif_neg h]
    by_cases h' : x.val < 4096
    · rw [dif_pos (by omega), dif_pos h']
      blk_ext []
    · rw [dif_neg (by omega), dif_neg h']
      blk_ext []

/-- The reference's transpose turns its product with the factors swapped into the product of columns. -/
theorem ref_v6 : val_main_v6 (F := Ideal) u a b d = ar2 (colsByCols (mx (n := 2048) (k := 2048) u)
    (wide (mx (n := 2048) (k := 3072) a) (mx (n := 2048) (k := 1024) b) (mx (n := 2048) (k := 848) d))) := by
  refine eq_ar2 _ _ fun r x => ?_
  unfold colsByCols
  pointwise [val_main_v6, val_main_v5, val_main_v4, val_main_v1]
  simp only [wide_at]
  exact Fin.sum_fin_congr fun f => mul_comm _ _

end Reference

/-- The reference, a program of host operations alone, keeps its arguments; it has no semaphore. -/
theorem refFrame : quiescent_DwRefIdeal (hDwRefIdeal := Cert.DwRefIdeal.Gen.facts) := fun m g _ =>
  (θ_run _ _ _).mono (fun r h => ⟨fun c => (h c).2, sem_eq_zero_of_no_sems (by decide) r.2⟩)
    (Cert.DwRefIdeal.Value.run m g)

theorem algebraic : algebraic_DwIdeal_DwRefIdeal (hDwIdeal := Cert.DwIdeal.Gen.facts)
    (hDwRefIdeal := Cert.DwRefIdeal.Gen.facts) := by
  intro m g m' g' _ hagree
  refine ⟨fun c => ar2 (grad m c), (θ_run _ _ _).mono (fun r h c => ?_) (run m g),
    (θ_run _ _ _).mono (fun r h c => ?_) (Cert.DwRefIdeal.Value.run m' g')⟩
  · have hb := h c
    exact ⟨(hb _ (Cert.DwIdeal.Gen.mem_uc Cert.DwIdeal.main_v10 (by decide))).trans (end_v10 m g c),
      (hb _ (Cert.DwIdeal.Gen.mem_uc Cert.DwIdeal.main_arg0 (by decide))).trans (Cert.DwIdeal.Gen.W6_main_arg0 m g c),
      (hb _ (Cert.DwIdeal.Gen.mem_uc Cert.DwIdeal.main_arg1 (by decide))).trans (Cert.DwIdeal.Gen.W6_main_arg1 m g c),
      (hb _ (Cert.DwIdeal.Gen.mem_uc Cert.DwIdeal.main_arg2 (by decide))).trans (Cert.DwIdeal.Gen.W6_main_arg2 m g c),
      (hb _ (Cert.DwIdeal.Gen.mem_uc Cert.DwIdeal.main_arg3 (by decide))).trans (Cert.DwIdeal.Gen.W6_main_arg3 m g c)⟩
  · obtain ⟨h0, h'⟩ := h c
    obtain ⟨e0, e1, e2, e3⟩ := hagree c
    refine ⟨h0.trans ?_, h'⟩
    rw [Cert.DwRefIdeal.Read.val_main_v6_eq, ref_v6, e0, e1, e2, e3]
    rfl

end Cert.Proof.Dw

end
-- ==== Proof.OutRun.lean ====
/- The mixing layer's output projection run one after another: what every buffer holds at the end. -/
module

public import proofs.«01_k».proof.Proof.Gen.OutIdeal.Frame

@[expose] public section

set_option maxRecDepth 16384

noncomputable section

namespace Cert.Proof.Out

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W10`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.Proof.Out

end
-- ==== Proof.OutProducts.lean ====
/- The mixing layer's output projection: the array that each of the six products leaves. -/
module

public import proofs.«01_k».proof.Proof.Gen.OutIdeal.Frame
public import proofs.«01_k».proof.Proof.Products

@[expose] public section

set_option maxRecDepth 16384

noncomputable section

namespace Cert.Proof.Out

open Cert.OutIdeal Cert.OutIdeal.Gen Cert.Proof.Ffn Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- Column `x` of the quarter `q` of 2048 columns. -/
def quarter (q : Nat) (hq : q < 4) (x : Fin 512) : Fin 2048 := ⟨512 * q + x.val, by omega⟩
/-- Column `x` of the half `q` of 1024 columns. -/
def halfOf1024 (q : Nat) (hq : q < 2) (x : Fin 512) : Fin 1024 := ⟨512 * q + x.val, by omega⟩
/-- Column `x` of the half `q` of 2048 columns. -/
def halfOf2048 (q : Nat) (hq : q < 2) (x : Fin 1024) : Fin 2048 := ⟨1024 * q + x.val, by omega⟩

/-! ## The two products of the output, each added to what came before -/

theorem idx0 : ∀ t : Fin cfg0.N, win0_0.index t = ![0, 0] ∧ win0_1.index t = ![0, t.val] ∧ win0_2.index t = ![0, t.val]
    ∧ win0_3.index t = ![0, t.val] ∧ t.val < 4 :=
  (by decide +kernel : ∀ t : Fin grid0.N, _)
theorem idx1 : ∀ t : Fin cfg1.N, win1_0.index t = ![0, 0] ∧ win1_1.index t = ![0, t.val] ∧ win1_2.index t = ![0, t.val]
    ∧ win1_3.index t = ![0, t.val] ∧ t.val < 4 :=
  (by decide +kernel : ∀ t : Fin grid1.N, _)

theorem out_tile (a : Vec Ideal S2048x1024 .bf16) (b : Vec Ideal S1024x512 .bf16) (d : Vec Ideal S2048x512 .f32) (y : S2048x512.Idx) :
    k0_pay1 (F := Ideal) a b d y = (∑ k : Fin 1024, a (ix2 (y 0) k) * b (ix2 k (y 1))) + d y := by
  pointwise [k0_pay1]

theorem first_array : (dat0 V c).arrAt 3 cfg0.N
    = ar2 fun r x => mul (mx (n := 2048) (k := 1024) (V c main_arg0)) (mx (n := 1024) (k := 2048) (V c main_v1)) r x
      + mx (n := 2048) (k := 2048) (V c main_arg2) r x := by
  refine (dat0 V c).arrAt_eq_of_covers 3 _ (by decide +kernel) fun t _ y => ?_
  blk_simp
  rw [after0_3]
  have he : ((cfg0.win 3).blk t).view.emb y = ix2 (y 0) (quarter t.val (idx0 t).2.2.2.2 (y 1)) := by
    unfold quarter
    blk_ext [idx0 t]
  frame_out
  refine (out_tile _ _ _ y).trans (Eq.trans ?_ (congrArg (ar2 _) he.symm))
  show _ = (∑ k : Fin 1024, mx (n := 2048) (k := 1024) (V c main_arg0) (y 0) k
    * mx (n := 1024) (k := 2048) (V c main_v1) k (quarter t.val (idx0 t).2.2.2.2 (y 1)))
    + mx (n := 2048) (k := 2048) (V c main_arg2) (y 0) (quarter t.val (idx0 t).2.2.2.2 (y 1))
  refine congrArg₂ (· + ·) (Fin.sum_fin_congr fun k => ?_) ?_
  · unfold mx quarter
    congr 1 <;> blk_ext [iblk0, idx0 t]
  · unfold mx quarter
    blk_ext [iblk0, idx0 t]

/-- The second product reads what it adds to in one more cast of the same shape. -/
theorem add_tile (a : Vec Ideal S2048x1024 .bf16) (b : Vec Ideal S1024x512 .bf16) (d : Vec Ideal S2048x512 .f32) (y : S2048x512.Idx) :
    k1_pay1 (F := Ideal) a b d y = (∑ k : Fin 1024, a (ix2 (y 0) k) * b (ix2 k (y 1))) + d y := by
  pointwise [k1_pay1]

theorem second_array : (dat1 V c).arrAt 3 cfg1.N
    = ar2 fun r x => mul (mx (n := 2048) (k := 1024) (V c main_arg1)) (mx (n := 1024) (k := 2048) (V c main_v0)) r x
      + mx (n := 2048) (k := 2048) (V c main_v2) r x := by
  refine (dat1 V c).arrAt_eq_of_covers 3 _ (by decide +kernel) fun t _ y => ?_
  blk_simp
  rw [after1_3]
  have he : ((cfg1.win 3).blk t).view.emb y = ix2 (y 0) (quarter t.val (idx1 t).2.2.2.2 (y 1)) := by
    unfold quarter
    blk_ext [idx1 t]
  frame_out
  refine (add_tile _ _ _ y).trans (Eq.trans ?_ (congrArg (ar2 _) he.symm))
  show _ = (∑ k : Fin 1024, mx (n := 2048) (k := 1024) (V c main_arg1) (y 0) k
    * mx (n := 1024) (k := 2048) (V c main_v0) k (quarter t.val (idx1 t).2.2.2.2 (y 1)))
    + mx (n := 2048) (k := 2048) (V c main_v2) (y 0) (quarter t.val (idx1 t).2.2.2.2 (y 1))
  refine congrArg₂ (· + ·) (Fin.sum_fin_congr fun k => ?_) ?_
  · unfold mx quarter
    congr 1 <;> blk_ext [iblk1, idx1 t]
  · unfold mx quarter
    blk_ext [iblk1, idx1 t]

/-! ## The gradients of the rows -/

theorem idx2 : ∀ t : Fin cfg2.N, win2_0.index t = ![0, 0] ∧ win2_1.index t = ![t.val, 0] ∧ win2_2.index t = ![0, t.val] ∧ t.val < 2 :=
  (by decide +kernel : ∀ t : Fin grid2.N, _)
theorem idx4 : ∀ t : Fin cfg4.N, win4_0.index t = ![0, 0] ∧ win4_1.index t = ![t.val, 0] ∧ win4_2.index t = ![0, t.val] ∧ t.val < 2 :=
  (by decide +kernel : ∀ t : Fin grid4.N, _)

theorem rows_tile (a : Vec Ideal S2048x2048 .bf16) (b : Vec Ideal S512x2048 .bf16) (y : S2048x512.Idx) :
    k2_pay1 (F := Ideal) a b y = ∑ k : Fin 2048, a (ix2 (y 0) k) * b (ix2 (y 1) k) := by
  pointwise [k2_pay1]

theorem dmla_array : (dat2 V c).arrAt 2 cfg2.N
    = ar2 (rowsByRows (mx (n := 2048) (k := 2048) (V c main_v4)) (mx (n := 1024) (k := 2048) (V c main_v0))) := by
  refine (dat2 V c).arrAt_eq_of_covers 2 _ (by decide +kernel) fun t _ y => ?_
  blk_simp
  rw [after2_2]
  have he : ((cfg2.win 2).blk t).view.emb y = ix2 (y 0) (halfOf1024 t.val (idx2 t).2.2.2 (y 1)) := by
    unfold halfOf1024
    blk_ext [idx2 t]
  frame_out
  refine (rows_tile _ _ y).trans (Eq.trans ?_ (congrArg (ar2 _) he.symm))
  show _ = ∑ k : Fin 2048, mx (n := 2048) (k := 2048) (V c main_v4) (y 0) k
    * mx (n := 1024) (k := 2048) (V c main_v0) (halfOf1024 t.val (idx2 t).2.2.2 (y 1)) k
  refine Fin.sum_fin_congr fun k => ?_
  unfold mx halfOf1024
  congr 1 <;> blk_ext [iblk2, idx2 t]

theorem ddn_array : (dat4 V c).arrAt 2 cfg4.N
    = ar2 (rowsByRows (mx (n := 2048) (k := 2048) (V c main_v7)) (mx (n := 1024) (k := 2048) (V c main_v1))) := by
  refine (dat4 V c).arrAt_eq_of_covers 2 _ (by decide +kernel) fun t _ y => ?_
  blk_simp
  rw [after4_2]
  have he : ((cfg4.win 2).blk t).view.emb y = ix2 (y 0) (halfOf1024 t.val (idx4 t).2.2.2 (y 1)) := by
    unfold halfOf1024
    blk_ext [idx4 t]
  frame_out
  refine (rows_tile _ _ y).trans (Eq.trans ?_ (congrArg (ar2 _) he.symm))
  show _ = ∑ k : Fin 2048, mx (n := 2048) (k := 2048) (V c main_v7) (y 0) k
    * mx (n := 1024) (k := 2048) (V c main_v1) (halfOf1024 t.val (idx4 t).2.2.2 (y 1)) k
  refine Fin.sum_fin_congr fun k => ?_
  unfold mx halfOf1024
  congr 1 <;> blk_ext [iblk4, idx4 t]

/-! ## The gradients of the weights' two halves -/

theorem idx3 : ∀ t : Fin cfg3.N, win3_0.index t = ![0, 0] ∧ win3_1.index t = ![0, t.val] ∧ win3_2.index t = ![0, t.val] ∧ t.val < 2 :=
  (by decide +kernel : ∀ t : Fin grid3.N, _)
theorem idx5 : ∀ t : Fin cfg5.N, win5_0.index t = ![0, 0] ∧ win5_1.index t = ![0, t.val] ∧ win5_2.index t = ![0, t.val] ∧ t.val < 2 :=
  (by decide +kernel : ∀ t : Fin grid5.N, _)

theorem cols_tile (a b : Vec Ideal S2048x1024 .bf16) (y : S1024x1024.Idx) :
    k3_pay1 (F := Ideal) a b y = ∑ k : Fin 2048, a (ix2 k (y 0)) * b (ix2 k (y 1)) := by
  pointwise [k3_pay1]

theorem wmla_array : (dat3 V c).arrAt 2 cfg3.N
    = ar2 (colsByCols (mx (n := 2048) (k := 1024) (V c main_arg1)) (mx (n := 2048) (k := 2048) (V c main_v4))) := by
  refine (dat3 V c).arrAt_eq_of_covers 2 _ (by decide +kernel) fun t _ y => ?_
  blk_simp
  rw [after3_2]
  have he : ((cfg3.win 2).blk t).view.emb y = ix2 (y 0) (halfOf2048 t.val (idx3 t).2.2.2 (y 1)) := by
    unfold halfOf2048
    blk_ext [idx3 t]
  frame_out
  refine (cols_tile _ _ y).trans (Eq.trans ?_ (congrArg (ar2 _) he.symm))
  show _ = ∑ k : Fin 2048, mx (n := 2048) (k := 1024) (V c main_arg1) k (y 0)
    * mx (n := 2048) (k := 2048) (V c main_v4) k (halfOf2048 t.val (idx3 t).2.2.2 (y 1))
  refine Fin.sum_fin_congr fun k => ?_
  unfold mx halfOf2048
  congr 1 <;> blk_ext [iblk3, idx3 t]

theorem wdn_array : (dat5 V c).arrAt 2 cfg5.N
    = ar2 (colsByCols (mx (n := 2048) (k := 1024) (V c main_arg0)) (mx (n := 2048) (k := 2048) (V c main_v7))) := by
  refine (dat5 V c).arrAt_eq_of_covers 2 _ (by decide +kernel) fun t _ y => ?_
  blk_simp
  rw [after5_2]
  have he : ((cfg5.win 2).blk t).view.emb y = ix2 (y 0) (halfOf2048 t.val (idx5 t).2.2.2 (y 1)) := by
    unfold halfOf2048
    blk_ext [idx5 t]
  frame_out
  refine (cols_tile _ _ y).trans (Eq.trans ?_ (congrArg (ar2 _) he.symm))
  show _ = ∑ k : Fin 2048, mx (n := 2048) (k := 1024) (V c main_arg0) k (y 0)
    * mx (n := 2048) (k := 2048) (V c main_v7) k (halfOf2048 t.val (idx5 t).2.2.2 (y 1))
  refine Fin.sum_fin_congr fun k => ?_
  unfold mx halfOf2048
  congr 1 <;> blk_ext [iblk5, idx5 t]

end Cert.Proof.Out

end
-- ==== Proof.OutValue.lean ====
/- What the mixing layer's output projection leaves in its results, from what the launch gave it. -/
module

public import proofs.«01_k».proof.Proof.OutProducts

@[expose] public section

set_option maxRecDepth 16384

noncomputable section

namespace Cert.Proof.Out

open Cert.OutIdeal Cert.OutIdeal.Gen Cert.Proof.Ffn Idealize.ShloMosaic Idealize.ShloMosaic.TcCoe Idealize.SL.Sem
open Idealize.ShloMosaic.StableHlo

/-! ## Halves of a matrix -/

section Halves

variable {n : Nat}

/-- The first 1024 rows. -/
def top (w : Fin 2048 → Fin n → EReal) : Fin 1024 → Fin n → EReal := fun k => w ⟨k.val, by omega⟩
/-- The last 1024 rows. -/
def bottom (w : Fin 2048 → Fin n → EReal) : Fin 1024 → Fin n → EReal := fun k => w ⟨1024 + k.val, by omega⟩
/-- Two matrices of 1024 columns side by side. -/
def beside (a b : Fin n → Fin 1024 → EReal) : Fin n → Fin 2048 → EReal := fun r k =>
  if h : k.val < 1024 then a r ⟨k.val, h⟩ else b r ⟨k.val - 1024, by omega⟩

theorem beside_lt (a b : Fin n → Fin 1024 → EReal) (r : Fin n) (k : Fin 1024) : beside a b r ⟨k.val, by omega⟩ = a r k := by
  unfold beside
  rw [dif_pos k.isLt]

theorem beside_ge (a b : Fin n → Fin 1024 → EReal) (r : Fin n) (k : Fin 1024) : beside a b r ⟨1024 + k.val, by omega⟩ = b r k := by
  unfold beside
  rw [dif_neg (by simp only; omega)]
  exact congrArg (b r) (Fin.ext (Nat.add_sub_cancel_left ..))

/-- A product with two matrices side by side is the sum of the products with the two. -/
theorem mul_beside (a b : Fin n → Fin 1024 → EReal) {l : Nat} (w : Fin 2048 → Fin l → EReal) (r : Fin n) (x : Fin l) :
    mul (beside a b) w r x = mul a (top w) r x + mul b (bottom w) r x := by
  unfold mul
  refine (Fin.sum_univ_two_halves 1024 1024 rfl _).trans (congrArg₂ (· + ·) ?_ ?_)
  · exact Fin.sum_fin_congr fun k => congrArg (· * _) (beside_lt a b r k)
  · exact Fin.sum_fin_congr fun k => congrArg (· * _) (beside_ge a b r k)

end Halves

/-! ## One stretch after another -/

variable (m : (ℓ : Loc nD τ sig) → Buf (Elt Ideal) ℓ) (ρ : Dev nD → PrngReg) (c : Dev nD)

/-- The arguments as matrices: the two branches' rows, the residual, the weights, the cotangent. -/
abbrev argM0 : Fin 2048 → Fin 1024 → EReal := mx (n := 2048) (k := 1024) (m ((c : Thread nD τ).loc main_arg0))
abbrev argM1 : Fin 2048 → Fin 1024 → EReal := mx (n := 2048) (k := 1024) (m ((c : Thread nD τ).loc main_arg1))
abbrev argM2 : Fin 2048 → Fin 2048 → EReal := mx (n := 2048) (k := 2048) (m ((c : Thread nD τ).loc main_arg2))
abbrev argM3 : Fin 2048 → Fin 2048 → EReal := mx (n := 2048) (k := 2048) (m ((c : Thread nD τ).loc main_arg3))
abbrev argM4 : Fin 2048 → Fin 2048 → EReal := mx (n := 2048) (k := 2048) (m ((c : Thread nD τ).loc main_arg4))

theorem at_v0 : mx (n := 1024) (k := 2048) (W1 m ρ c main_v0) = bottom (argM3 m c) := by
  have h : W1 m ρ c (Proc.devRef .tc main_v0)
      = extractStridedSlice S1024x2048 ![1024, 0] (W0 m ρ c (Proc.devRef .tc main_arg3)) slices_S2048x2048_S1024x2048_1024_0 := by
    after_results
  refine (congrArg (mx (n := 1024) (k := 2048)) h).trans (funext fun k => funext fun x => ?_)
  unfold bottom argM3 mx
  pointwise []
  blk_ext []

theorem at_v1 : mx (n := 1024) (k := 2048) (W1 m ρ c main_v1) = top (argM3 m c) := by
  have h : W1 m ρ c (Proc.devRef .tc main_v1)
      = extractStridedSlice S1024x2048 ![0, 0] (W0 m ρ c (Proc.devRef .tc main_arg3)) slices_S2048x2048_S1024x2048_0_0 := by
    after_results
  refine (congrArg (mx (n := 1024) (k := 2048)) h).trans (funext fun k => funext fun x => ?_)
  unfold top argM3 mx
  pointwise []
  blk_ext []

theorem at_v2 : W2 m ρ c main_v2 = ar2 fun r x => mul (argM0 m c) (top (argM3 m c)) r x + argM2 m c r x := by
  refine (W2_arr m ρ c 3).trans ((first_array (V1 m ρ) c).trans (congrArg ar2 (funext fun r => funext fun x => ?_)))
  exact congrArg₂ (· + ·)
    (congrArg₂ (fun a b => mul (mx (n := 2048) (k := 1024) a) b r x) (W1_args m ρ c main_arg0 (by decide)) (at_v1 m ρ c))
    (congrArg (fun a => mx (n := 2048) (k := 2048) a r x) (W1_args m ρ c main_arg2 (by decide)))

theorem end_v3 : W10 m ρ c main_v3
    = ar2 fun r x => mul (argM1 m c) (bottom (argM3 m c)) r x + (mul (argM0 m c) (top (argM3 m c)) r x + argM2 m c r x) := by
  rw [W10_of m ρ c main_v3 (by decide), W9_of m ρ c main_v3 (by decide +kernel), W8_of m ρ c main_v3 (by decide +kernel),
    W7_of m ρ c main_v3 (by decide), W6_of m ρ c main_v3 (by decide +kernel), W5_of m ρ c main_v3 (by decide +kernel),
    W4_of m ρ c main_v3 (by decide)]
  refine (W3_arr m ρ c 3).trans ((second_array (V2 m ρ) c).trans (congrArg ar2 (funext fun r => funext fun x => ?_)))
  exact congrArg₂ (· + ·)
    (congrArg₂ (fun a b => mul (mx (n := 2048) (k := 1024) a) b r x) (W2_args m ρ c main_arg1 (by decide))
      ((congrArg (mx (n := 1024) (k := 2048)) (W2_of m ρ c main_v0 (by decide +kernel))).trans (at_v0 m ρ c)))
    (congrArg (fun a => mx (n := 2048) (k := 2048) a r x) (at_v2 m ρ c))

/-- The cotangent, as the host narrows it for the second branch's gradients. -/
theorem at_v4 : W4 m ρ c main_v4 = m ((c : Thread nD τ).loc main_arg4) := by
  refine Eq.trans (b := W3 m ρ c main_arg4) ?_ (W3_args m ρ c main_arg4 (by decide))
  after_results
  rfl

theorem end_v5 : W10 m ρ c main_v5 = ar2 (rowsByRows (argM4 m c) (bottom (argM3 m c))) := by
  rw [W10_of m ρ c main_v5 (by decide), W9_of m ρ c main_v5 (by decide +kernel), W8_of m ρ c main_v5 (by decide +kernel),
    W7_of m ρ c main_v5 (by decide), W6_of m ρ c main_v5 (by decide +kernel)]
  refine (W5_arr m ρ c 2).trans ((dmla_array (V4 m ρ) c).trans ?_)
  refine congrArg₂ (fun a b => ar2 (rowsByRows (mx (n := 2048) (k := 2048) a) b)) (at_v4 m ρ c) (Eq.trans ?_ (at_v0 m ρ c))
  refine congrArg (mx (n := 1024) (k := 2048)) ?_
  exact (W4_of m ρ c main_v0 (by decide)).trans ((W3_of m ρ c main_v0 (by decide +kernel)).trans (W2_of m ρ c main_v0 (by decide +kernel)))

theorem at_v6 : W6 m ρ c main_v6 = ar2 (colsByCols (argM1 m c) (argM4 m c)) := by
  refine (W6_arr m ρ c 2).trans ((wmla_array (V5 m ρ) c).trans ?_)
  exact congrArg₂ (fun a b => ar2 (colsByCols (mx (n := 2048) (k := 1024) a) (mx (n := 2048) (k := 2048) b)))
    (W5_args m ρ c main_arg1 (by decide)) ((W5_of m ρ c main_v4 (by decide +kernel)).trans (at_v4 m ρ c))

/-- The cotangent, as the host narrows it for the first branch's gradients. -/
theorem at_v7 : W7 m ρ c main_v7 = m ((c : Thread nD τ).loc main_arg4) := by
  refine Eq.trans (b := W6 m ρ c main_arg4) ?_ (W6_args m ρ c main_arg4 (by decide))
  after_results
  rfl

theorem end_v8 : W10 m ρ c main_v8 = ar2 (rowsByRows (argM4 m c) (top (argM3 m c))) := by
  rw [W10_of m ρ c main_v8 (by decide), W9_of m ρ c main_v8 (by decide +kernel)]
  refine (W8_arr m ρ c 2).trans ((ddn_array (V7 m ρ) c).trans ?_)
  refine congrArg₂ (fun a b => ar2 (rowsByRows (mx (n := 2048) (k := 2048) a) b)) (at_v7 m ρ c) (Eq.trans ?_ (at_v1 m ρ c))
  refine congrArg (mx (n := 1024) (k := 2048)) ?_
  exact (W7_of m ρ c main_v1 (by decide)).trans ((W6_of m ρ c main_v1 (by decide +kernel)).trans
    ((W5_of m ρ c main_v1 (by decide +kernel)).trans ((W4_of m ρ c main_v1 (by decide)).trans
      ((W3_of m ρ c main_v1 (by decide +kernel)).trans (W2_of m ρ c main_v1 (by decide +kernel))))))

theorem at_v9 : W9 m ρ c main_v9 = ar2 (colsByCols (argM0 m c) (argM4 m c)) := by
  refine (W9_arr m ρ c 2).trans ((wdn_array (V8 m ρ) c).trans ?_)
  exact congrArg₂ (fun a b => ar2 (colsByCols (mx (n := 2048) (k := 1024) a) (mx (n := 2048) (k := 2048) b)))
    (W8_args m ρ c main_arg0 (by decide)) ((W8_of m ρ c main_v7 (by decide +kernel)).trans (at_v7 m ρ c))

/-- The gradient of the weights: the two halves, each padded with zeros to all the rows, added. -/
theorem end_v12 : W10 m ρ c main_v12 = ar2 (colsByCols (beside (argM0 m c) (argM1 m c)) (argM4 m c)) := by
  have h : W10 m ρ c (Proc.devRef .tc main_v12) = addf (F := Ideal) (φ := .bf16)
      (pad S2048x2048 ![0, 0] ![1024, 0] ![0, 0] (W9 m ρ c (Proc.devRef .tc main_v9) : Vec Ideal S1024x2048 .bf16) (constant (F := Ideal) S_ .bf16 0x0000#16) pads_S1024x2048_S2048x2048_010240_000 h_S_)
      (pad S2048x2048 ![1024, 0] ![0, 0] ![0, 0] (W9 m ρ c (Proc.devRef .tc main_v6) : Vec Ideal S1024x2048 .bf16) (constant (F := Ideal) S_ .bf16 0x0000#16) pads_S1024x2048_S2048x2048_102400_000 h_S_) := by
    after_results
  have h6 : W9 m ρ c main_v6 = ar2 (colsByCols (argM1 m c) (argM4 m c)) :=
    (W9_of m ρ c main_v6 (by decide +kernel)).trans ((W8_of m ρ c main_v6 (by decide +kernel)).trans
      ((W7_of m ρ c main_v6 (by decide)).trans (at_v6 m ρ c)))
  refine h.trans (eq_ar2 _ _ fun r x => ?_)
  have e0 := pad_rows (W9 m ρ c (Proc.devRef .tc main_v9)) (constant (F := Ideal) S_ .bf16 0x0000#16)
    pads_S1024x2048_S2048x2048_010240_000 h_S_ (fun _ => Ideal.ofBits_zero_bf16) r x
  have e1 := pad_rows (W9 m ρ c (Proc.devRef .tc main_v6)) (constant (F := Ideal) S_ .bf16 0x0000#16)
    pads_S1024x2048_S2048x2048_102400_000 h_S_ (fun _ => Ideal.ofBits_zero_bf16) r x
  refine (congrArg₂ (· + ·) e0 e1).trans ?_
  unfold colsByCols
  by_cases hr : r.val < 1024
  · rw [dif_pos (by omega), dif_neg (by omega), add_zero]
    refine (congrFun (at_v9 m ρ c) _).trans (Fin.sum_fin_congr fun k => congrArg (· * _) ?_)
    exact (beside_lt (argM0 m c) (argM1 m c) k ⟨r.val, hr⟩).symm
  · rw [dif_neg (by omega), dif_pos (by omega), zero_add]
    refine (congrFun h6 _).trans (Fin.sum_fin_congr fun k => congrArg (· * _) ?_)
    unfold beside
    rw [dif_neg hr]
    rfl

end Cert.Proof.Out

end
-- ==== Proof.OutClaim.lean ====
/- The mixing layer's output projection, forward and backward: the kernels' results against the reference's. -/
module

public import proofs.«01_k».proof.Defs
public import proofs.«01_k».proof.Proof.Gen.OutRefIdeal.Run
public import proofs.«01_k».proof.Proof.Gen.OutRefIdeal.Read
public import proofs.«01_k».proof.Proof.OutRun
public import proofs.«01_k».proof.Proof.OutValue
public import Idealize.ShloMosaic.Lib.Quiescent

@[expose] public section

set_option maxRecDepth 16384

noncomputable section

namespace Cert.Proof.Out

open Cert.Proof.Ffn Idealize.ShloMosaic Idealize.ShloMosaic.TcCoe Idealize.SL.Sem
open Cert.OutRefIdeal (S2048x1024 S2048x2048)
open Cert.OutRefIdeal.Read

section Reference

variable (a b : Vec Ideal S2048x1024 .bf16) (h : Vec Ideal S2048x2048 .f32) (w : Vec Ideal S2048x2048 .bf16) (g : Vec Ideal S2048x2048 .f32)

/-- The two branches' rows side by side. -/
theorem both_at (r k : Fin 2048) :
    val_main_v3 (F := Ideal) a b (ix2 r k) = beside (mx (n := 2048) (k := 1024) a) (mx (n := 2048) (k := 1024) b) r k := by
  unfold beside mx
  by_cases hk : k.val < 1024
  · rw [dif_pos hk]
    pointwise [val_main_v3, val_main_v0]
    rw [dif_pos hk]
    blk_ext []
  · rw [dif_neg hk]
    pointwise [val_main_v3, val_main_v1]
    rw [dif_neg hk]
    blk_ext []

theorem product_at (r x : Fin 2048) : val_main_v4 (F := Ideal) a b w (ix2 r x)
    = mul (beside (mx (n := 2048) (k := 1024) a) (mx (n := 2048) (k := 1024) b)) (mx (n := 2048) (k := 2048) w) r x := by
  unfold mul
  pointwise [val_main_v4, val_main_v2]
  simp only [both_at]
  rfl

/-- The reference's one product and the residual are the kernel's two products, each added to what came before. -/
theorem ref_v5 : val_main_v5 (F := Ideal) a b h w
    = ar2 fun r x => mul (mx (n := 2048) (k := 1024) b) (bottom (mx (n := 2048) (k := 2048) w)) r x
      + (mul (mx (n := 2048) (k := 1024) a) (top (mx (n := 2048) (k := 2048) w)) r x + mx (n := 2048) (k := 2048) h r x) := by
  refine eq_ar2 _ _ fun r x => (congrArg (h (ix2 r x) + ·) ((product_at a b w r x).trans (mul_beside _ _ _ r x))).trans ?_
  rw [← add_assoc, add_comm]
  exact congrArg₂ (· + ·) rfl (add_comm _ _)

theorem rows_at (r x : Fin 2048) :
    val_main_v8 (F := Ideal) w g (ix2 r x) = rowsByRows (mx (n := 2048) (k := 2048) g) (mx (n := 2048) (k := 2048) w) r x := by
  unfold rowsByRows mx
  pointwise [val_main_v8, val_main_v2]

theorem ref_v11 : val_main_v11 (F := Ideal) w g
    = ar2 (rowsByRows (mx (n := 2048) (k := 2048) g) (top (mx (n := 2048) (k := 2048) w))) := by
  refine eq_ar2 _ _ fun r x => Eq.trans ?_ (rows_at w g r ⟨x.val, by omega⟩)
  pointwise [val_main_v11, val_main_v9]
  blk_ext []

theorem ref_v12 : val_main_v12 (F := Ideal) w g
    = ar2 (rowsByRows (mx (n := 2048) (k := 2048) g) (bottom (mx (n := 2048) (k := 2048) w))) := by
  refine eq_ar2 _ _ fun r x => Eq.trans ?_ (rows_at w g r ⟨1024 + x.val, by omega⟩)
  pointwise [val_main_v12, val_main_v10]
  blk_ext []

/-- The reference's transpose turns its product with the factors swapped into the product of columns. -/
theorem ref_v13 : val_main_v13 (F := Ideal) a b g
    = ar2 (colsByCols (beside (mx (n := 2048) (k := 1024) a) (mx (n := 2048) (k := 1024) b)) (mx (n := 2048) (k := 2048) g)) := by
  refine eq_ar2 _ _ fun r x => ?_
  unfold colsByCols
  pointwise [val_main_v13, val_main_v7, val_main_v6]
  simp only [both_at]
  exact Fin.sum_fin_congr fun f => mul_comm _ _

end Reference

/-- The reference, a program of host operations alone, keeps its arguments; it has no semaphore. -/
theorem refFrame : quiescent_OutRefIdeal (hOutRefIdeal := Cert.OutRefIdeal.Gen.facts) := fun m g _ =>
  (θ_run _ _ _).mono (fun r h => ⟨fun c => (h c).2.2.2.2, sem_eq_zero_of_no_sems (by decide) r.2⟩)
    (Cert.OutRefIdeal.Value.run m g)

theorem algebraic : algebraic_OutIdeal_OutRefIdeal (hOutIdeal := Cert.OutIdeal.Gen.facts)
    (hOutRefIdeal := Cert.OutRefIdeal.Gen.facts) := by
  intro m g m' g' _ hagree
  refine ⟨fun c => ar2 fun r x => mul (argM1 m c) (bottom (argM3 m c)) r x + (mul (argM0 m c) (top (argM3 m c)) r x + argM2 m c r x),
    fun c => ar2 (rowsByRows (argM4 m c) (top (argM3 m c))), fun c => ar2 (rowsByRows (argM4 m c) (bottom (argM3 m c))),
    fun c => ar2 (colsByCols (beside (argM0 m c) (argM1 m c)) (argM4 m c)),
    (θ_run _ _ _).mono (fun r h c => ?_) (run m g), (θ_run _ _ _).mono (fun r h c => ?_) (Cert.OutRefIdeal.Value.run m' g')⟩
  · have hb := h c
    exact ⟨(hb _ (Cert.OutIdeal.Gen.mem_uc Cert.OutIdeal.main_v3 (by decide))).trans (end_v3 m g c),
      (hb _ (Cert.OutIdeal.Gen.mem_uc Cert.OutIdeal.main_v8 (by decide))).trans (end_v8 m g c),
      (hb _ (Cert.OutIdeal.Gen.mem_uc Cert.OutIdeal.main_v5 (by decide))).trans (end_v5 m g c),
      (hb _ (Cert.OutIdeal.Gen.mem_uc Cert.OutIdeal.main_v12 (by decide))).trans (end_v12 m g c),
      (hb _ (Cert.OutIdeal.Gen.mem_uc Cert.OutIdeal.main_arg0 (by decide))).trans (Cert.OutIdeal.Gen.W10_main_arg0 m g c),
      (hb _ (Cert.OutIdeal.Gen.mem_uc Cert.OutIdeal.main_arg1 (by decide))).trans (Cert.OutIdeal.Gen.W10_main_arg1 m g c),
      (hb _ (Cert.OutIdeal.Gen.mem_uc Cert.OutIdeal.main_arg2 (by decide))).trans (Cert.OutIdeal.Gen.W10_main_arg2 m g c),
      (hb _ (Cert.OutIdeal.Gen.mem_uc Cert.OutIdeal.main_arg3 (by decide))).trans (Cert.OutIdeal.Gen.W10_main_arg3 m g c),
      (hb _ (Cert.OutIdeal.Gen.mem_uc Cert.OutIdeal.main_arg4 (by decide))).trans (Cert.OutIdeal.Gen.W10_main_arg4 m g c)⟩
  · obtain ⟨h0, h1, h2, h3, h'⟩ := h c
    obtain ⟨e0, e1, e2, e3, e4⟩ := hagree c
    refine ⟨h0.trans ?_, h1.trans ?_, h2.trans ?_, h3.trans ?_, h'⟩
    · rw [Cert.OutRefIdeal.Read.val_main_v5_eq, ref_v5, e0, e1, e2, e3]
    · rw [Cert.OutRefIdeal.Read.val_main_v11_eq, ref_v11, e3, e4]
    · rw [Cert.OutRefIdeal.Read.val_main_v12_eq, ref_v12, e3, e4]
    · rw [Cert.OutRefIdeal.Read.val_main_v13_eq, ref_v13, e0, e1, e4]

end Cert.Proof.Out

end
-- ==== Proof.LinRun.lean ====
/- The cross-attention's projections run one after another: what every buffer holds at the end. -/
module

public import proofs.«01_k».proof.Proof.Gen.LinIdeal.Frame

@[expose] public section

set_option maxRecDepth 16384

noncomputable section

namespace Cert.Proof.Lin

open Cert.LinIdeal Cert.LinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.Lin

end
-- ==== Proof.LinProducts.lean ====
/- The cross-attention's projections: the array that each of the six products leaves. -/
module

public import proofs.«01_k».proof.Proof.Gen.LinIdeal.Frame
public import proofs.«01_k».proof.Proof.Products

@[expose] public section

set_option maxRecDepth 16384

noncomputable section

namespace Cert.Proof.Lin

open Cert.LinIdeal Cert.LinIdeal.Gen Cert.Proof.Ffn Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- Column `x` of the quarter `q` of 2048 columns. -/
def quarter (q : Nat) (hq : q < 4) (x : Fin 512) : Fin 2048 := ⟨512 * q + x.val, by omega⟩
/-- Place `x` of the half `q` of 2048. -/
def halves (q : Nat) (hq : q < 2) (x : Fin 1024) : Fin 2048 := ⟨1024 * q + x.val, by omega⟩

/-! ## The queries -/

theorem idx0 : ∀ t : Fin cfg0.N, win0_0.index t = ![0, 0] ∧ win0_1.index t = ![0, t.val] ∧ win0_2.index t = ![0, t.val] ∧ t.val < 4 :=
  (by decide +kernel : ∀ t : Fin grid0.N, _)

theorem q_tile (a : Vec Ideal S2048x2048 .bf16) (b : Vec Ideal S2048x512 .bf16) (y : S2048x512.Idx) :
    k0_pay1 (F := Ideal) a b y = ∑ k : Fin 2048, a (ix2 (y 0) k) * b (ix2 k (y 1)) := by
  pointwise [k0_pay1]

theorem q_array : (dat0 V c).arrAt 2 cfg0.N
    = ar2 (mul (mx (n := 2048) (k := 2048) (V c main_arg0)) (mx (n := 2048) (k := 2048) (V c main_arg1))) := by
  refine (dat0 V c).arrAt_eq_of_covers 2 _ (by decide +kernel) fun t _ y => ?_
  blk_simp
  rw [after0_2]
  have he : ((cfg0.win 2).blk t).view.emb y = ix2 (y 0) (quarter t.val (idx0 t).2.2.2 (y 1)) := by
    unfold quarter
    blk_ext [idx0 t]
  frame_out
  refine (q_tile _ _ y).trans (Eq.trans ?_ (congrArg (ar2 _) he.symm))
  show _ = ∑ k : Fin 2048, mx (n := 2048) (k := 2048) (V c main_arg0) (y 0) k
    * mx (n := 2048) (k := 2048) (V c main_arg1) k (quarter t.val (idx0 t).2.2.2 (y 1))
  refine Fin.sum_fin_congr fun k => ?_
  unfold mx quarter
  congr 1 <;> blk_ext [iblk0, idx0 t]

/-! ## The output, the residual added -/

theorem idx1 : ∀ t : Fin cfg1.N, win1_0.index t = ![t.val / 2, 0] ∧ win1_1.index t = ![0, t.val % 2]
    ∧ win1_2.index t = ![t.val / 2, t.val % 2] ∧ win1_3.index t = ![t.val / 2, t.val % 2] ∧ t.val / 2 < 2 ∧ t.val % 2 < 2 :=
  (by decide +kernel : ∀ t : Fin grid1.N, _)

theorem o_tile (a : Vec Ideal S1024x2048 .bf16) (b : Vec Ideal S2048x1024 .bf16) (d : Vec Ideal S1024x1024 .f32) (y : S1024x1024.Idx) :
    k1_pay1 (F := Ideal) a b d y = (∑ k : Fin 2048, a (ix2 (y 0) k) * b (ix2 k (y 1))) + d y := by
  pointwise [k1_pay1]

theorem o_array : (dat1 V c).arrAt 3 cfg1.N
    = ar2 fun r x => mul (mx (n := 2048) (k := 2048) (V c main_arg3)) (mx (n := 2048) (k := 2048) (V c main_arg4)) r x
      + mx (n := 2048) (k := 2048) (V c main_arg5) r x := by
  refine (dat1 V c).arrAt_eq_of_covers 3 _ (by decide +kernel) fun t _ y => ?_
  blk_simp
  rw [after1_3]
  have he : ((cfg1.win 3).blk t).view.emb y = ix2 (halves (t.val / 2) (idx1 t).2.2.2.2.1 (y 0)) (halves (t.val % 2) (idx1 t).2.2.2.2.2 (y 1)) := by
    unfold halves
    blk_ext [idx1 t]
  frame_out
  refine (o_tile _ _ _ y).trans (Eq.trans ?_ (congrArg (ar2 _) he.symm))
  show _ = (∑ k : Fin 2048, mx (n := 2048) (k := 2048) (V c main_arg3) (halves (t.val / 2) (idx1 t).2.2.2.2.1 (y 0)) k
    * mx (n := 2048) (k := 2048) (V c main_arg4) k (halves (t.val % 2) (idx1 t).2.2.2.2.2 (y 1)))
    + mx (n := 2048) (k := 2048) (V c main_arg5) (halves (t.val / 2) (idx1 t).2.2.2.2.1 (y 0)) (halves (t.val % 2) (idx1 t).2.2.2.2.2 (y 1))
  refine congrArg₂ (· + ·) (Fin.sum_fin_congr fun k => ?_) ?_
  · unfold mx halves
    congr 1 <;> blk_ext [iblk1, idx1 t]
  · unfold mx halves
    blk_ext [iblk1, idx1 t]

/-! ## The gradients of the rows -/

theorem idx2 : ∀ t : Fin cfg2.N, win2_0.index t = ![0, 0] ∧ win2_1.index t = ![t.val, 0] ∧ win2_2.index t = ![0, t.val] ∧ t.val < 4 :=
  (by decide +kernel : ∀ t : Fin grid2.N, _)
theorem idx4 : ∀ t : Fin cfg4.N, win4_0.index t = ![0, 0] ∧ win4_1.index t = ![t.val, 0] ∧ win4_2.index t = ![0, t.val] ∧ t.val < 4 :=
  (by decide +kernel : ∀ t : Fin grid4.N, _)

theorem rows_tile (a : Vec Ideal S2048x2048 .bf16) (b : Vec Ideal S512x2048 .bf16) (y : S2048x512.Idx) :
    k2_pay1 (F := Ideal) a b y = ∑ k : Fin 2048, a (ix2 (y 0) k) * b (ix2 (y 1) k) := by
  pointwise [k2_pay1]

theorem dhn_array : (dat2 V c).arrAt 2 cfg2.N
    = ar2 (rowsByRows (mx (n := 2048) (k := 2048) (V c main_v2)) (mx (n := 2048) (k := 2048) (V c main_arg1))) := by
  refine (dat2 V c).arrAt_eq_of_covers 2 _ (by decide +kernel) fun t _ y => ?_
  blk_simp
  rw [after2_2]
  have he : ((cfg2.win 2).blk t).view.emb y = ix2 (y 0) (quarter t.val (idx2 t).2.2.2 (y 1)) := by
    unfold quarter
    blk_ext [idx2 t]
  frame_out
  refine (rows_tile _ _ y).trans (Eq.trans ?_ (congrArg (ar2 _) he.symm))
  show _ = ∑ k : Fin 2048, mx (n := 2048) (k := 2048) (V c main_v2) (y 0) k
    * mx (n := 2048) (k := 2048) (V c main_arg1) (quarter t.val (idx2 t).2.2.2 (y 1)) k
  refine Fin.sum_fin_congr fun k => ?_
  unfold mx quarter
  congr 1 <;> blk_ext [iblk2, idx2 t]

theorem dxo_array : (dat4 V c).arrAt 2 cfg4.N
    = ar2 (rowsByRows (mx (n := 2048) (k := 2048) (V c main_v5)) (mx (n := 2048) (k := 2048) (V c main_arg4))) := by
  refine (dat4 V c).arrAt_eq_of_covers 2 _ (by decide +kernel) fun t _ y => ?_
  blk_simp
  rw [after4_2]
  have he : ((cfg4.win 2).blk t).view.emb y = ix2 (y 0) (quarter t.val (idx4 t).2.2.2 (y 1)) := by
    unfold quarter
    blk_ext [idx4 t]
  frame_out
  refine (rows_tile _ _ y).trans (Eq.trans ?_ (congrArg (ar2 _) he.symm))
  show _ = ∑ k : Fin 2048, mx (n := 2048) (k := 2048) (V c main_v5) (y 0) k
    * mx (n := 2048) (k := 2048) (V c main_arg4) (quarter t.val (idx4 t).2.2.2 (y 1)) k
  refine Fin.sum_fin_congr fun k => ?_
  unfold mx quarter
  congr 1 <;> blk_ext [iblk4, idx4 t]

/-! ## The gradients of the weights -/

theorem idx3 : ∀ t : Fin cfg3.N, win3_0.index t = ![0, 0] ∧ win3_1.index t = ![0, t.val] ∧ win3_2.index t = ![0, t.val] ∧ t.val < 4 :=
  (by decide +kernel : ∀ t : Fin grid3.N, _)
theorem idx5 : ∀ t : Fin cfg5.N, win5_0.index t = ![0, 0] ∧ win5_1.index t = ![0, t.val] ∧ win5_2.index t = ![0, t.val] ∧ t.val < 4 :=
  (by decide +kernel : ∀ t : Fin grid5.N, _)

theorem cols_tile (a : Vec Ideal S2048x2048 .bf16) (b : Vec Ideal S2048x512 .bf16) (y : S2048x512.Idx) :
    k3_pay1 (F := Ideal) a b y = ∑ k : Fin 2048, a (ix2 k (y 0)) * b (ix2 k (y 1)) := by
  pointwise [k3_pay1]

theorem dwq_array : (dat3 V c).arrAt 2 cfg3.N
    = ar2 (colsByCols (mx (n := 2048) (k := 2048) (V c main_arg0)) (mx (n := 2048) (k := 2048) (V c main_v2))) := by
  refine (dat3 V c).arrAt_eq_of_covers 2 _ (by decide +kernel) fun t _ y => ?_
  blk_simp
  rw [after3_2]
  have he : ((cfg3.win 2).blk t).view.emb y = ix2 (y 0) (quarter t.val (idx3 t).2.2.2 (y 1)) := by
    unfold quarter
    blk_ext [idx3 t]
  frame_out
  refine (cols_tile _ _ y).trans (Eq.trans ?_ (congrArg (ar2 _) he.symm))
  show _ = ∑ k : Fin 2048, mx (n := 2048) (k := 2048) (V c main_arg0) k (y 0)
    * mx (n := 2048) (k := 2048) (V c main_v2) k (quarter t.val (idx3 t).2.2.2 (y 1))
  refine Fin.sum_fin_congr fun k => ?_
  unfold mx quarter
  congr 1 <;> blk_ext [iblk3, idx3 t]

theorem dwo_array : (dat5 V c).arrAt 2 cfg5.N
    = ar2 (colsByCols (mx (n := 2048) (k := 2048) (V c main_arg3)) (mx (n := 2048) (k := 2048) (V c main_v5))) := by
  refine (dat5 V c).arrAt_eq_of_covers 2 _ (by decide +kernel) fun t _ y => ?_
  blk_simp
  rw [after5_2]
  have he : ((cfg5.win 2).blk t).view.emb y = ix2 (y 0) (quarter t.val (idx5 t).2.2.2 (y 1)) := by
    unfold quarter
    blk_ext [idx5 t]
  frame_out
  refine (cols_tile _ _ y).trans (Eq.trans ?_ (congrArg (ar2 _) he.symm))
  show _ = ∑ k : Fin 2048, mx (n := 2048) (k := 2048) (V c main_arg3) k (y 0)
    * mx (n := 2048) (k := 2048) (V c main_v5) k (quarter t.val (idx5 t).2.2.2 (y 1))
  refine Fin.sum_fin_congr fun k => ?_
  unfold mx quarter
  congr 1 <;> blk_ext [iblk5, idx5 t]

end Cert.Proof.Lin

end
-- ==== Proof.LinValue.lean ====
/- What the cross-attention's projections leave in their results, from what the launch gave them. -/
module

public import proofs.«01_k».proof.Proof.LinProducts

@[expose] public section

set_option maxRecDepth 16384

noncomputable section

namespace Cert.Proof.Lin

open Cert.LinIdeal Cert.LinIdeal.Gen Cert.Proof.Ffn Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The arguments as matrices: normed rows, query weights, queries' cotangent; attention's rows, output weights, residual, cotangent. -/
abbrev argM0 : Fin 2048 → Fin 2048 → EReal := mx (n := 2048) (k := 2048) (m ((c : Thread nD τ).loc main_arg0))
abbrev argM1 : Fin 2048 → Fin 2048 → EReal := mx (n := 2048) (k := 2048) (m ((c : Thread nD τ).loc main_arg1))
abbrev argM2 : Fin 2048 → Fin 2048 → EReal := mx (n := 2048) (k := 2048) (m ((c : Thread nD τ).loc main_arg2))
abbrev argM3 : Fin 2048 → Fin 2048 → EReal := mx (n := 2048) (k := 2048) (m ((c : Thread nD τ).loc main_arg3))
abbrev argM4 : Fin 2048 → Fin 2048 → EReal := mx (n := 2048) (k := 2048) (m ((c : Thread nD τ).loc main_arg4))
abbrev argM5 : Fin 2048 → Fin 2048 → EReal := mx (n := 2048) (k := 2048) (m ((c : Thread nD τ).loc main_arg5))
abbrev argM6 : Fin 2048 → Fin 2048 → EReal := mx (n := 2048) (k := 2048) (m ((c : Thread nD τ).loc main_arg6))

theorem end_v0 : W8 m ρ c main_v0 = ar2 (mul (argM0 m c) (argM1 m c)) := by
  rw [W8_of m ρ c main_v0 (by decide +kernel), W7_of m ρ c main_v0 (by decide +kernel), W6_of m ρ c main_v0 (by decide),
    W5_of m ρ c main_v0 (by decide +kernel), W4_of m ρ c main_v0 (by decide +kernel), W3_of m ρ c main_v0 (by decide),
    W2_of m ρ c main_v0 (by decide +kernel)]
  exact (W1_arr m ρ c 2).trans (q_array _ c)

theorem end_v1 : W8 m ρ c main_v1 = ar2 fun r x => mul (argM3 m c) (argM4 m c) r x + argM5 m c r x := by
  rw [W8_of m ρ c main_v1 (by decide +kernel), W7_of m ρ c main_v1 (by decide +kernel), W6_of m ρ c main_v1 (by decide),
    W5_of m ρ c main_v1 (by decide +kernel), W4_of m ρ c main_v1 (by decide +kernel), W3_of m ρ c main_v1 (by decide)]
  refine (W2_arr m ρ c 3).trans ((o_array (V1 m ρ) c).trans (congrArg ar2 (funext fun r => funext fun x => ?_)))
  exact congrArg₂ (· + ·)
    (congrArg₂ (fun a b => mul (mx (n := 2048) (k := 2048) a) (mx (n := 2048) (k := 2048) b) r x)
      (W1_args m ρ c main_arg3 (by decide)) (W1_args m ρ c main_arg4 (by decide)))
    (congrArg (fun a => mx (n := 2048) (k := 2048) a r x) (W1_args m ρ c main_arg5 (by decide)))

/-- The cotangent of the queries, as the host narrows it. -/
theorem at_v2 : W3 m ρ c main_v2 = m ((c : Thread nD τ).loc main_arg2) := by
  refine Eq.trans (b := W2 m ρ c main_arg2) ?_ (W2_args m ρ c main_arg2 (by decide))
  after_results
  rfl

theorem end_v3 : W8 m ρ c main_v3 = ar2 (rowsByRows (argM2 m c) (argM1 m c)) := by
  rw [W8_of m ρ c main_v3 (by decide +kernel), W7_of m ρ c main_v3 (by decide +kernel), W6_of m ρ c main_v3 (by decide),
    W5_of m ρ c main_v3 (by decide +kernel)]
  refine (W4_arr m ρ c 2).trans ((dhn_array (V3 m ρ) c).trans ?_)
  exact congrArg₂ (fun a b => ar2 (rowsByRows (mx (n := 2048) (k := 2048) a) (mx (n := 2048) (k := 2048) b)))
    (at_v2 m ρ c) (W3_args m ρ c main_arg1 (by decide))

theorem end_v4 : W8 m ρ c main_v4 = ar2 (colsByCols (argM0 m c) (argM2 m c)) := by
  rw [W8_of m ρ c main_v4 (by decide +kernel), W7_of m ρ c main_v4 (by decide +kernel), W6_of m ρ c main_v4 (by decide)]
  refine (W5_arr m ρ c 2).trans ((dwq_array (V4 m ρ) c).trans ?_)
  exact congrArg₂ (fun a b => ar2 (colsByCols (mx (n := 2048) (k := 2048) a) (mx (n := 2048) (k := 2048) b)))
    (W4_args m ρ c main_arg0 (by decide)) ((W4_of m ρ c main_v2 (by decide +kernel)).trans (at_v2 m ρ c))

/-- The cotangent of the output, as the host narrows it. -/
theorem at_v5 : W6 m ρ c main_v5 = m ((c : Thread nD τ).loc main_arg6) := by
  refine Eq.trans (b := W5 m ρ c main_arg6) ?_ (W5_args m ρ c main_arg6 (by decide))
  after_results
  rfl

theorem end_v6 : W8 m ρ c main_v6 = ar2 (rowsByRows (argM6 m c) (argM4 m c)) := by
  rw [W8_of m ρ c main_v6 (by decide +kernel)]
  refine (W7_arr m ρ c 2).trans ((dxo_array (V6 m ρ) c).trans ?_)
  exact congrArg₂ (fun a b => ar2 (rowsByRows (mx (n := 2048) (k := 2048) a) (mx (n := 2048) (k := 2048) b)))
    (at_v5 m ρ c) (W6_args m ρ c main_arg4 (by decide))

theorem end_v7 : W8 m ρ c main_v7 = ar2 (colsByCols (argM3 m c) (argM6 m c)) := by
  refine (W8_arr m ρ c 2).trans ((dwo_array (V7 m ρ) c).trans ?_)
  exact congrArg₂ (fun a b => ar2 (colsByCols (mx (n := 2048) (k := 2048) a) (mx (n := 2048) (k := 2048) b)))
    (W7_args m ρ c main_arg3 (by decide)) ((W7_of m ρ c main_v5 (by decide +kernel)).trans (at_v5 m ρ c))

end Cert.Proof.Lin

end
-- ==== Proof.LinClaim.lean ====
/- The cross-attention's query and output projections, forward and backward: the kernels' results against the reference's. -/
module

public import proofs.«01_k».proof.Defs
public import proofs.«01_k».proof.Proof.Gen.LinRefIdeal.Run
public import proofs.«01_k».proof.Proof.Gen.LinRefIdeal.Read
public import proofs.«01_k».proof.Proof.LinRun
public import proofs.«01_k».proof.Proof.LinValue
public import Idealize.ShloMosaic.Lib.Quiescent

@[expose] public section

set_option maxRecDepth 16384

noncomputable section

namespace Cert.Proof.Lin

open Cert.Proof.Ffn Idealize.ShloMosaic Idealize.ShloMosaic.TcCoe Idealize.SL.Sem
open Cert.LinRefIdeal (S2048x2048)
open Cert.LinRefIdeal.Read

section Reference

variable (a w : Vec Ideal S2048x2048 .bf16) (g : Vec Ideal S2048x2048 .f32)

theorem product_at (r x : Fin 2048) : val_main_v4 (F := Ideal) a w (ix2 r x) = mul (mx (n := 2048) (k := 2048) a) (mx (n := 2048) (k := 2048) w) r x := by
  unfold mul mx
  pointwise [val_main_v4, val_main_v0, val_main_v1]

theorem rows_at (r x : Fin 2048) :
    val_main_v9 (F := Ideal) w g (ix2 r x) = rowsByRows (mx (n := 2048) (k := 2048) g) (mx (n := 2048) (k := 2048) w) r x := by
  unfold rowsByRows mx
  pointwise [val_main_v9, val_main_v1]

/-- The reference's transpose turns its product with the factors swapped into the product of columns. -/
theorem cols_at (r x : Fin 2048) :
    val_main_v8 (F := Ideal) a g (ix2 r x) = colsByCols (mx (n := 2048) (k := 2048) a) (mx (n := 2048) (k := 2048) g) r x := by
  unfold colsByCols mx
  pointwise [val_main_v8, val_main_v7, val_main_v0]
  exact Fin.sum_fin_congr fun f => mul_comm _ _

theorem ref_v4 : val_main_v4 (F := Ideal) a w = ar2 (mul (mx (n := 2048) (k := 2048) a) (mx (n := 2048) (k := 2048) w)) :=
  eq_ar2 _ _ (product_at a w)

theorem ref_v10 : val_main_v10 (F := Ideal) w g = ar2 (rowsByRows (mx (n := 2048) (k := 2048) g) (mx (n := 2048) (k := 2048) w)) :=
  eq_ar2 _ _ (rows_at w g)

theorem ref_v11 : val_main_v11 (F := Ideal) a g = ar2 (colsByCols (mx (n := 2048) (k := 2048) a) (mx (n := 2048) (k := 2048) g)) :=
  eq_ar2 _ _ (cols_at a g)

/-- The reference adds the residual before the product, the kernel after it. -/
theorem ref_v6 : val_main_v6 (F := Ideal) a w g
    = ar2 fun r x => mul (mx (n := 2048) (k := 2048) a) (mx (n := 2048) (k := 2048) w) r x + mx (n := 2048) (k := 2048) g r x :=
  eq_ar2 _ _ fun r x => (congrArg (g (ix2 r x) + ·) (product_at a w r x)).trans (add_comm _ _)

theorem ref_v15 : val_main_v15 (F := Ideal) w g = ar2 (rowsByRows (mx (n := 2048) (k := 2048) g) (mx (n := 2048) (k := 2048) w)) :=
  eq_ar2 _ _ (rows_at w g)

theorem ref_v16 : val_main_v16 (F := Ideal) a g = ar2 (colsByCols (mx (n := 2048) (k := 2048) a) (mx (n := 2048) (k := 2048) g)) :=
  eq_ar2 _ _ (cols_at a g)

end Reference

/-- The reference, a program of host operations alone, keeps its arguments; it has no semaphore. -/
theorem refFrame : quiescent_LinRefIdeal (hLinRefIdeal := Cert.LinRefIdeal.Gen.facts) := fun m g _ =>
  (θ_run _ _ _).mono (fun r h => ⟨fun c => (h c).2.2.2.2.2.2, sem_eq_zero_of_no_sems (by decide) r.2⟩)
    (Cert.LinRefIdeal.Value.run m g)

theorem algebraic : algebraic_LinIdeal_LinRefIdeal (hLinIdeal := Cert.LinIdeal.Gen.facts)
    (hLinRefIdeal := Cert.LinRefIdeal.Gen.facts) := by
  intro m g m' g' _ hagree
  refine ⟨fun c => ar2 (mul (argM0 m c) (argM1 m c)), fun c => ar2 (rowsByRows (argM2 m c) (argM1 m c)),
    fun c => ar2 (colsByCols (argM0 m c) (argM2 m c)), fun c => ar2 fun r x => mul (argM3 m c) (argM4 m c) r x + argM5 m c r x,
    fun c => ar2 (rowsByRows (argM6 m c) (argM4 m c)), fun c => ar2 (colsByCols (argM3 m c) (argM6 m c)),
    (θ_run _ _ _).mono (fun r h c => ?_) (run m g), (θ_run _ _ _).mono (fun r h c => ?_) (Cert.LinRefIdeal.Value.run m' g')⟩
  · have hb := h c
    exact ⟨(hb _ (Cert.LinIdeal.Gen.mem_uc Cert.LinIdeal.main_v0 (by decide))).trans (end_v0 m g c),
      (hb _ (Cert.LinIdeal.Gen.mem_uc Cert.LinIdeal.main_v3 (by decide))).trans (end_v3 m g c),
      (hb _ (Cert.LinIdeal.Gen.mem_uc Cert.LinIdeal.main_v4 (by decide))).trans (end_v4 m g c),
      (hb _ (Cert.LinIdeal.Gen.mem_uc Cert.LinIdeal.main_v1 (by decide))).trans (end_v1 m g c),
      (hb _ (Cert.LinIdeal.Gen.mem_uc Cert.LinIdeal.main_v6 (by decide))).trans (end_v6 m g c),
      (hb _ (Cert.LinIdeal.Gen.mem_uc Cert.LinIdeal.main_v7 (by decide))).trans (end_v7 m g c),
      (hb _ (Cert.LinIdeal.Gen.mem_uc Cert.LinIdeal.main_arg0 (by decide))).trans (Cert.LinIdeal.Gen.W8_main_arg0 m g c),
      (hb _ (Cert.LinIdeal.Gen.mem_uc Cert.LinIdeal.main_arg1 (by decide))).trans (Cert.LinIdeal.Gen.W8_main_arg1 m g c),
      (hb _ (Cert.LinIdeal.Gen.mem_uc Cert.LinIdeal.main_arg2 (by decide))).trans (Cert.LinIdeal.Gen.W8_main_arg2 m g c),
      (hb _ (Cert.LinIdeal.Gen.mem_uc Cert.LinIdeal.main_arg3 (by decide))).trans (Cert.LinIdeal.Gen.W8_main_arg3 m g c),
      (hb _ (Cert.LinIdeal.Gen.mem_uc Cert.LinIdeal.main_arg4 (by decide))).trans (Cert.LinIdeal.Gen.W8_main_arg4 m g c),
      (hb _ (Cert.LinIdeal.Gen.mem_uc Cert.LinIdeal.main_arg5 (by decide))).trans (Cert.LinIdeal.Gen.W8_main_arg5 m g c),
      (hb _ (Cert.LinIdeal.Gen.mem_uc Cert.LinIdeal.main_arg6 (by decide))).trans (Cert.LinIdeal.Gen.W8_main_arg6 m g c)⟩
  · obtain ⟨h0, h1, h2, h3, h4, h5, h'⟩ := h c
    obtain ⟨e0, e1, e2, e3, e4, e5, e6⟩ := hagree c
    refine ⟨h0.trans ?_, h1.trans ?_, h2.trans ?_, h3.trans ?_, h4.trans ?_, h5.trans ?_, h'⟩
    · rw [Cert.LinRefIdeal.Read.val_main_v4_eq, ref_v4, e0, e1]
    · rw [Cert.LinRefIdeal.Read.val_main_v10_eq, ref_v10, e1, e2]
    · rw [Cert.LinRefIdeal.Read.val_main_v11_eq, ref_v11, e0, e2]
    · rw [Cert.LinRefIdeal.Read.val_main_v6_eq, ref_v6, e3, e4, e5]
    · rw [Cert.LinRefIdeal.Read.val_main_v15_eq, ref_v15, e4, e6]
    · rw [Cert.LinRefIdeal.Read.val_main_v16_eq, ref_v16, e3, e6]

end Cert.Proof.Lin

end
-- ==== Proof.Adam.lean ====
/- The optimiser's step at one entry of a weight: the devices' gradients added up, the two moments, the weight's change. -/
module

public import proofs.«01_k».proof.Proof.Products

@[expose] public section

noncomputable section

namespace Cert.Proof.Adam

open Idealize.ShloMosaic

/-- The new first moment from the gradient `g` and the old moment `m`. -/
def first (g m : EReal) : EReal := Ideal.ofBits .f32 0x3F666666#32 * m + Ideal.ofBits .f32 0x3DCCCCCD#32 * g

/-- The new second moment from the gradient `g` and the old moment `v`. -/
def second (g v : EReal) : EReal := Ideal.ofBits .f32 0x3F7FBE77#32 * v + Ideal.ofBits .f32 0x3A83126F#32 * (g * g)

/-- The weight's change: the step against the corrected first moment over the root of the corrected second, and against
    the weight itself. -/
def change (g w m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- Eight gradients added up one after another are their sum. -/
theorem eight (p : Fin 8 → EReal) : p 0 + p 1 + p 2 + p 3 + p 4 + p 5 + p 6 + p 7 = ∑ d, p d :=
  (Fin.sum_univ_eight p).symm

/-- The sum of the eight devices' gradients of an entry of a block of `r` rows and `c` columns. -/
def total {r c : ℕ} (x : Vec Ideal ⟨4, ![1, 8, r, c]⟩ .f32) (y : Shape.Idx ⟨3, ![1, r, c]⟩) : EReal :=
  ∑ d : Fin 8, x (ix4 0 d (y 1) (y 2))

theorem total_eq {r c : ℕ} (x : Vec Ideal ⟨4, ![1, 8, r, c]⟩ .f32) (y : Shape.Idx ⟨3, ![1, r, c]⟩) :
    total x y = x (ix4 0 0 (y 1) (y 2)) + x (ix4 0 1 (y 1) (y 2)) + x (ix4 0 2 (y 1) (y 2)) + x (ix4 0 3 (y 1) (y 2))
      + x (ix4 0 4 (y 1) (y 2)) + x (ix4 0 5 (y 1) (y 2)) + x (ix4 0 6 (y 1) (y 2)) + x (ix4 0 7 (y 1) (y 2)) :=
  (eight fun d => x (ix4 0 d (y 1) (y 2))).symm

/-- `a`, `b`, `p` and `q` are the optimiser's results for one entry: the gradient, the weight's change, the new moments. -/
structure Step (g w m v a b p q : EReal) : Prop where
  grad : a = g
  change : b = Adam.change g w m v
  first : p = Adam.first g m
  second : q = Adam.second g v

/-- Two answers of the step for the same entry are the same. -/
theorem Step.same {g w m v a b p q a' b' p' q' : EReal} (h : Step g w m v a b p q) (h' : Step g w m v a' b' p' q') :
    a = a' ∧ b = b' ∧ p = p' ∧ q = q' :=
  ⟨h.grad.trans h'.grad.symm, h.change.trans h'.change.symm, h.first.trans h'.first.symm, h.second.trans h'.second.symm⟩

/-! ## A matrix of four layers, a layer at a time -/

section Layers

variable {r c : ℕ}

/-- The eight devices' gradients of a layer, added up, at the place of an entry of the four layers. -/
def sumOf (g : Vec Ideal ⟨3, ![8, r, c]⟩ .bf16) : Vec Ideal ⟨3, ![4, r, c]⟩ .f32 := fun i => ∑ d : Fin 8, g (ix3 d (i 1) (i 2))

/-- The eight devices' gradients of an entry of a block of `r` rows and `c` columns, added up. -/
def totals (x : Vec Ideal ⟨3, ![8, r, c]⟩ .bf16) (y : Shape.Idx ⟨3, ![1, r, c]⟩) : EReal := ∑ d : Fin 8, x (ix3 d (y 1) (y 2))

/-- Layer `l` of `a`, the other layers of `z`. -/
def put (l : ℕ) (a z : Vec Ideal ⟨3, ![4, r, c]⟩ .f32) : Vec Ideal ⟨3, ![4, r, c]⟩ .f32 := fun i => if (i 0).val / 1 = l then a i else z i

theorem put_in {l : Fin 4} {k : ℕ} (h : l.val = k) (a z : Vec Ideal ⟨3, ![4, r, c]⟩ .f32) {x : Fin r} {y : Fin c} :
    put k a z (ix3 l x y) = a (ix3 l x y) := if_pos ((Nat.div_one _).trans h)
theorem put_out {l : Fin 4} {k : ℕ} (h : l.val ≠ k) (a z : Vec Ideal ⟨3, ![4, r, c]⟩ .f32) {x : Fin r} {y : Fin c} :
    put k a z (ix3 l x y) = z (ix3 l x y) := if_neg fun e => h ((Nat.div_one _).symm.trans e)

/-- The weight's change, entry by entry. -/
def changeOf (g w m v : Vec Ideal ⟨3, ![4, r, c]⟩ .f32) : Vec Ideal ⟨3, ![4, r, c]⟩ .f32 := fun i => change (g i) (w i) (m i) (v i)
/-- The new first moment, entry by entry. -/
def firstOf (g m : Vec Ideal ⟨3, ![4, r, c]⟩ .f32) : Vec Ideal ⟨3, ![4, r, c]⟩ .f32 := fun i => first (g i) (m i)
/-- The new second moment, entry by entry. -/
def secondOf (g v : Vec Ideal ⟨3, ![4, r, c]⟩ .f32) : Vec Ideal ⟨3, ![4, r, c]⟩ .f32 := fun i => second (g i) (v i)

/-- A call on layer `l` turns the four arrays `z` into `a`: the step's results in layer `l`, the other layers as they were. -/
structure Layer (l : ℕ) (g : Vec Ideal ⟨3, ![8, r, c]⟩ .bf16) (w m v z0 z1 z2 z3 a0 a1 a2 a3 : Vec Ideal ⟨3, ![4, r, c]⟩ .f32) : Prop where
  grad : a0 = put l (sumOf g) z0
  change : a1 = put l (changeOf (sumOf g) w m v) z1
  first : a2 = put l (firstOf (sumOf g) m) z2
  second : a3 = put l (secondOf (sumOf g) v) z3

/-- The same with each array under another name. -/
theorem Layer.of {l : ℕ} {g g' : Vec Ideal ⟨3, ![8, r, c]⟩ .bf16}
    {w m v z0 z1 z2 z3 a0 a1 a2 a3 w' m' v' y0 y1 y2 y3 b0 b1 b2 b3 : Vec Ideal ⟨3, ![4, r, c]⟩ .f32}
    (h : Layer l g w m v z0 z1 z2 z3 a0 a1 a2 a3) (hg : g = g') (hw : w = w') (hm : m = m') (hv : v = v') (hz0 : z0 = y0) (hz1 : z1 = y1)
    (hz2 : z2 = y2) (hz3 : z3 = y3) (ha0 : b0 = a0) (ha1 : b1 = a1) (ha2 : b2 = a2) (ha3 : b3 = a3) :
    Layer l g' w' m' v' y0 y1 y2 y3 b0 b1 b2 b3 := by
  subst hg hw hm hv hz0 hz1 hz2 hz3 ha0 ha1 ha2 ha3
  exact h

/-- Arrays that agree with `a` layer by layer, put together from the last layer to the first, are `a`. -/
theorem stacked (a b0 b1 b2 b3 z : Vec Ideal ⟨3, ![4, r, c]⟩ .f32) (h0 : ∀ x y, b0 (ix3 0 x y) = a (ix3 0 x y))
    (h1 : ∀ x y, b1 (ix3 1 x y) = a (ix3 1 x y)) (h2 : ∀ x y, b2 (ix3 2 x y) = a (ix3 2 x y)) (h3 : ∀ x y, b3 (ix3 3 x y) = a (ix3 3 x y)) :
    put 0 b0 (put 1 b1 (put 2 b2 (put 3 b3 z))) = a := by
  funext i
  obtain ⟨l, x, y, rfl⟩ : ∃ (l : Fin 4) (x : Fin r) (y : Fin c), i = ix3 l x y :=
    ⟨i 0, i 1, i 2, funext fun k => by match k with | 0 => rfl | 1 => rfl | 2 => rfl⟩
  match l with
  | 0 => exact (put_in (l := 0) rfl _ _).trans (h0 x y)
  | 1 => exact (put_out (k := 0) (by decide) _ _).trans ((put_in (l := 1) rfl _ _).trans (h1 x y))
  | 2 => exact (put_out (k := 0) (by decide) _ _).trans ((put_out (k := 1) (by decide) _ _).trans ((put_in (l := 2) rfl _ _).trans (h2 x y)))
  | 3 => exact (put_out (k := 0) (by decide) _ _).trans ((put_out (k := 1) (by decide) _ _).trans
      ((put_out (k := 2) (by decide) _ _).trans ((put_in (l := 3) rfl _ _).trans (h3 x y))))

/-- Four calls, from the last layer to the first, leave the step's results for the gradients `G` of all layers. -/
theorem layers {g0 g1 g2 g3 : Vec Ideal ⟨3, ![8, r, c]⟩ .bf16}
    {w m v z0 z1 z2 z3 a0 a1 a2 a3 b0 b1 b2 b3 d0 d1 d2 d3 e0 e1 e2 e3 G : Vec Ideal ⟨3, ![4, r, c]⟩ .f32}
    (l3 : Layer 3 g3 w m v z0 z1 z2 z3 a0 a1 a2 a3) (l2 : Layer 2 g2 w m v a0 a1 a2 a3 b0 b1 b2 b3)
    (l1 : Layer 1 g1 w m v b0 b1 b2 b3 d0 d1 d2 d3) (l0 : Layer 0 g0 w m v d0 d1 d2 d3 e0 e1 e2 e3)
    (h0 : ∀ x y, sumOf g0 (ix3 0 x y) = G (ix3 0 x y)) (h1 : ∀ x y, sumOf g1 (ix3 1 x y) = G (ix3 1 x y))
    (h2 : ∀ x y, sumOf g2 (ix3 2 x y) = G (ix3 2 x y)) (h3 : ∀ x y, sumOf g3 (ix3 3 x y) = G (ix3 3 x y)) :
    e0 = G ∧ e1 = changeOf G w m v ∧ e2 = firstOf G m ∧ e3 = secondOf G v := by
  refine ⟨?_, ?_, ?_, ?_⟩
  · rw [l0.grad, l1.grad, l2.grad, l3.grad]
    exact stacked _ _ _ _ _ _ h0 h1 h2 h3
  · rw [l0.change, l1.change, l2.change, l3.change]
    exact stacked _ _ _ _ _ _ (fun x y => congrArg (fun s => Adam.change s _ _ _) (h0 x y)) (fun x y => congrArg (fun s => Adam.change s _ _ _) (h1 x y))
      (fun x y => congrArg (fun s => Adam.change s _ _ _) (h2 x y)) (fun x y => congrArg (fun s => Adam.change s _ _ _) (h3 x y))
  · rw [l0.first, l1.first, l2.first, l3.first]
    exact stacked _ _ _ _ _ _ (fun x y => congrArg (fun s => Adam.first s _) (h0 x y)) (fun x y => congrArg (fun s => Adam.first s _) (h1 x y))
      (fun x y => congrArg (fun s => Adam.first s _) (h2 x y)) (fun x y => congrArg (fun s => Adam.first s _) (h3 x y))
  · rw [l0.second, l1.second, l2.second, l3.second]
    exact stacked _ _ _ _ _ _ (fun x y => congrArg (fun s => Adam.second s _) (h0 x y)) (fun x y => congrArg (fun s => Adam.second s _) (h1 x y))
      (fun x y => congrArg (fun s => Adam.second s _) (h2 x y)) (fun x y => congrArg (fun s => Adam.second s _) (h3 x y))

end Layers

end Cert.Proof.Adam

end
-- ==== Proof.NormsClaim.lean ====
/- The optimiser's step of a weight of four rows of 2048 entries: the kernel's results against the reference's. -/
module

public import proofs.«01_k».proof.Defs
public import proofs.«01_k».proof.Proof.Gen.NormsIdeal.Frame
public import proofs.«01_k».proof.Proof.Gen.NormsRefIdeal.Run
public import proofs.«01_k».proof.Proof.Gen.NormsRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.Norms

open Cert.NormsIdeal Cert.NormsIdeal.Gen Cert.NormsRefIdeal.Read Idealize.ShloMosaic Idealize.ShloMosaic.TcCoe Idealize.SL.Sem

/-! ## What one block's stores hold -/

section Tile

variable (x0 : Vec Ideal S1x8x4x2048 .f32) (x1 x2 x3 : Vec Ideal S1x4x2048 .f32) (y : S1x4x2048.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x2048 .f32) (w m v : Vec Ideal S4x2048 .f32)

abbrev grads : Vec Ideal S1x8x4x2048 .f32 := shapeCast S1x8x4x2048 g shapeCasts_S8x4x2048_S1x8x4x2048
abbrev flat (a : Vec Ideal S4x2048 .f32) : Vec Ideal S1x4x2048 .f32 := shapeCast S1x4x2048 a shapeCasts_S4x2048_S1x4x2048

theorem ref_total (y : S1x4x2048.Idx) : Adam.total (grads g) y = val_main_v25 (F := Ideal) g y := by
  unfold Adam.total
  pointwise [val_main_v25, val_main_v0, val_main_cst]

/-- The reference's results at an entry. -/
theorem ref (y : S1x4x2048.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x2048 .f32 := m ((c : Thread nD τ).loc main_arg0)
abbrev argW : Vec Ideal S4x2048 .f32 := m ((c : Thread nD τ).loc main_arg1)
abbrev argM : Vec Ideal S4x2048 .f32 := m ((c : Thread nD τ).loc main_arg2)
abbrev argV : Vec Ideal S4x2048 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x2048.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_NormsRefIdeal (hNormsRefIdeal := Cert.NormsRefIdeal.Gen.facts) := fun m g _ =>
  (θ_run _ _ _).mono (fun r h => ⟨fun c => (h c).2.2.2.2, sem_eq_zero_of_no_sems (by decide) r.2⟩)
    (Cert.NormsRefIdeal.Value.run m g)

theorem algebraic : algebraic_NormsIdeal_NormsRefIdeal (hNormsIdeal := Cert.NormsIdeal.Gen.facts)
    (hNormsRefIdeal := Cert.NormsRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.NormsRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.Norms

end
-- ==== Proof.HeadsClaim.lean ====
/- The optimiser's step of a weight of four rows of eight entries: the kernel's results against the reference's. -/
module

public import proofs.«01_k».proof.Defs
public import proofs.«01_k».proof.Proof.Gen.HeadsIdeal.Frame
public import proofs.«01_k».proof.Proof.Gen.HeadsRefIdeal.Run
public import proofs.«01_k».proof.Proof.Gen.HeadsRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.Heads

open Cert.HeadsIdeal Cert.HeadsIdeal.Gen Cert.HeadsRefIdeal.Read Idealize.ShloMosaic Idealize.ShloMosaic.TcCoe Idealize.SL.Sem

/-! ## What one block's stores hold -/

section Tile

variable (x0 : Vec Ideal S1x8x4x8 .f32) (x1 x2 x3 : Vec Ideal S1x4x8 .f32) (y : S1x4x8.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x8 .f32) (w m v : Vec Ideal S4x8 .f32)

abbrev grads : Vec Ideal S1x8x4x8 .f32 := shapeCast S1x8x4x8 g shapeCasts_S8x4x8_S1x8x4x8
abbrev flat (a : Vec Ideal S4x8 .f32) : Vec Ideal S1x4x8 .f32 := shapeCast S1x4x8 a shapeCasts_S4x8_S1x4x8

theorem ref_total (y : S1x4x8.Idx) : Adam.total (grads g) y = val_main_v25 (F := Ideal) g y := by
  unfold Adam.total
  pointwise [val_main_v25, val_main_v0, val_main_cst]

/-- The reference's results at an entry. -/
theorem ref (y : S1x4x8.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x8 .f32 := m ((c : Thread nD τ).loc main_arg0)
abbrev argW : Vec Ideal S4x8 .f32 := m ((c : Thread nD τ).loc main_arg1)
abbrev argM : Vec Ideal S4x8 .f32 := m ((c : Thread nD τ).loc main_arg2)
abbrev argV : Vec Ideal S4x8 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x8.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_HeadsRefIdeal (hHeadsRefIdeal := Cert.HeadsRefIdeal.Gen.facts) := fun m g _ =>
  (θ_run _ _ _).mono (fun r h => ⟨fun c => (h c).2.2.2.2, sem_eq_zero_of_no_sems (by decide) r.2⟩)
    (Cert.HeadsRefIdeal.Value.run m g)

theorem algebraic : algebraic_HeadsIdeal_HeadsRefIdeal (hHeadsIdeal := Cert.HeadsIdeal.Gen.facts)
    (hHeadsRefIdeal := Cert.HeadsRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.HeadsRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.Heads

end
-- ==== Proof.HeadNormClaim.lean ====
/- The optimiser's step of a weight of four rows of 128 entries: the kernel's results against the reference's. -/
module

public import proofs.«01_k».proof.Defs
public import proofs.«01_k».proof.Proof.Gen.HeadNormIdeal.Frame
public import proofs.«01_k».proof.Proof.Gen.HeadNormRefIdeal.Run
public import proofs.«01_k».proof.Proof.Gen.HeadNormRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.HeadNorm

open Cert.HeadNormIdeal Cert.HeadNormIdeal.Gen Cert.HeadNormRefIdeal.Read Idealize.ShloMosaic Idealize.ShloMosaic.TcCoe Idealize.SL.Sem

/-! ## What one block's stores hold -/

section Tile

variable (x0 : Vec Ideal S1x8x4x128 .f32) (x1 x2 x3 : Vec Ideal S1x4x128 .f32) (y : S1x4x128.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x128 .f32) (w m v : Vec Ideal S4x128 .f32)

abbrev grads : Vec Ideal S1x8x4x128 .f32 := shapeCast S1x8x4x128 g shapeCasts_S8x4x128_S1x8x4x128
abbrev flat (a : Vec Ideal S4x128 .f32) : Vec Ideal S1x4x128 .f32 := shapeCast S1x4x128 a shapeCasts_S4x128_S1x4x128

theorem ref_total (y : S1x4x128.Idx) : Adam.total (grads g) y = val_main_v25 (F := Ideal) g y := by
  unfold Adam.total
  pointwise [val_main_v25, val_main_v0, val_main_cst]

/-- The reference's results at an entry. -/
theorem ref (y : S1x4x128.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x128 .f32 := m ((c : Thread nD τ).loc main_arg0)
abbrev argW : Vec Ideal S4x128 .f32 := m ((c : Thread nD τ).loc main_arg1)
abbrev argM : Vec Ideal S4x128 .f32 := m ((c : Thread nD τ).loc main_arg2)
abbrev argV : Vec Ideal S4x128 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x128.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_HeadNormRefIdeal (hHeadNormRefIdeal := Cert.HeadNormRefIdeal.Gen.facts) := fun m g _ =>
  (θ_run _ _ _).mono (fun r h => ⟨fun c => (h c).2.2.2.2, sem_eq_zero_of_no_sems (by decide) r.2⟩)
    (Cert.HeadNormRefIdeal.Value.run m g)

theorem algebraic : algebraic_HeadNormIdeal_HeadNormRefIdeal (hHeadNormIdeal := Cert.HeadNormIdeal.Gen.facts)
    (hHeadNormRefIdeal := Cert.HeadNormRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.HeadNormRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.HeadNorm

end
-- ==== Proof.QNormClaim.lean ====
/- The optimiser's step of a weight of four rows of 512 entries: the kernel's results against the reference's. -/
module

public import proofs.«01_k».proof.Defs
public import proofs.«01_k».proof.Proof.Gen.QNormIdeal.Frame
public import proofs.«01_k».proof.Proof.Gen.QNormRefIdeal.Run
public import proofs.«01_k».proof.Proof.Gen.QNormRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.QNorm

open Cert.QNormIdeal Cert.QNormIdeal.Gen Cert.QNormRefIdeal.Read Idealize.ShloMosaic Idealize.ShloMosaic.TcCoe Idealize.SL.Sem

/-! ## What one block's stores hold -/

section Tile

variable (x0 : Vec Ideal S1x8x4x512 .f32) (x1 x2 x3 : Vec Ideal S1x4x512 .f32) (y : S1x4x512.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x512 .f32) (w m v : Vec Ideal S4x512 .f32)

abbrev grads : Vec Ideal S1x8x4x512 .f32 := shapeCast S1x8x4x512 g shapeCasts_S8x4x512_S1x8x4x512
abbrev flat (a : Vec Ideal S4x512 .f32) : Vec Ideal S1x4x512 .f32 := shapeCast S1x4x512 a shapeCasts_S4x512_S1x4x512

theorem ref_total (y : S1x4x512.Idx) : Adam.total (grads g) y = val_main_v25 (F := Ideal) g y := by
  unfold Adam.total
  pointwise [val_main_v25, val_main_v0, val_main_cst]

/-- The reference's results at an entry. -/
theorem ref (y : S1x4x512.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x512 .f32 := m ((c : Thread nD τ).loc main_arg0)
abbrev argW : Vec Ideal S4x512 .f32 := m ((c : Thread nD τ).loc main_arg1)
abbrev argM : Vec Ideal S4x512 .f32 := m ((c : Thread nD τ).loc main_arg2)
abbrev argV : Vec Ideal S4x512 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x512.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_QNormRefIdeal (hQNormRefIdeal := Cert.QNormRefIdeal.Gen.facts) := fun m g _ =>
  (θ_run _ _ _).mono (fun r h => ⟨fun c => (h c).2.2.2.2, sem_eq_zero_of_no_sems (by decide) r.2⟩)
    (Cert.QNormRefIdeal.Value.run m g)

theorem algebraic : algebraic_QNormIdeal_QNormRefIdeal (hQNormIdeal := Cert.QNormIdeal.Gen.facts)
    (hQNormRefIdeal := Cert.QNormRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.QNormRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.QNorm

end
-- ==== Proof.KvNormClaim.lean ====
/- The optimiser's step of a weight of four rows of 256 entries: the kernel's results against the reference's. -/
module

public import proofs.«01_k».proof.Defs
public import proofs.«01_k».proof.Proof.Gen.KvNormIdeal.Frame
public import proofs.«01_k».proof.Proof.Gen.KvNormRefIdeal.Run
public import proofs.«01_k».proof.Proof.Gen.KvNormRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.KvNorm

open Cert.KvNormIdeal Cert.KvNormIdeal.Gen Cert.KvNormRefIdeal.Read Idealize.ShloMosaic Idealize.ShloMosaic.TcCoe Idealize.SL.Sem

/-! ## What one block's stores hold -/

section Tile

variable (x0 : Vec Ideal S1x8x4x256 .f32) (x1 x2 x3 : Vec Ideal S1x4x256 .f32) (y : S1x4x256.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x256 .f32) (w m v : Vec Ideal S4x256 .f32)

abbrev grads : Vec Ideal S1x8x4x256 .f32 := shapeCast S1x8x4x256 g shapeCasts_S8x4x256_S1x8x4x256
abbrev flat (a : Vec Ideal S4x256 .f32) : Vec Ideal S1x4x256 .f32 := shapeCast S1x4x256 a shapeCasts_S4x256_S1x4x256

theorem ref_total (y : S1x4x256.Idx) : Adam.total (grads g) y = val_main_v25 (F := Ideal) g y := by
  unfold Adam.total
  pointwise [val_main_v25, val_main_v0, val_main_cst]

/-- The reference's results at an entry. -/
theorem ref (y : S1x4x256.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x256 .f32 := m ((c : Thread nD τ).loc main_arg0)
abbrev argW : Vec Ideal S4x256 .f32 := m ((c : Thread nD τ).loc main_arg1)
abbrev argM : Vec Ideal S4x256 .f32 := m ((c : Thread nD τ).loc main_arg2)
abbrev argV : Vec Ideal S4x256 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x256.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_KvNormRefIdeal (hKvNormRefIdeal := Cert.KvNormRefIdeal.Gen.facts) := fun m g _ =>
  (θ_run _ _ _).mono (fun r h => ⟨fun c => (h c).2.2.2.2, sem_eq_zero_of_no_sems (by decide) r.2⟩)
    (Cert.KvNormRefIdeal.Value.run m g)

theorem algebraic : algebraic_KvNormIdeal_KvNormRefIdeal (hKvNormIdeal := Cert.KvNormIdeal.Gen.facts)
    (hKvNormRefIdeal := Cert.KvNormRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.KvNormRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.KvNorm

end
-- ==== Proof.EndNormClaim.lean ====
/- The optimiser's step of a weight of 2048 entries: the kernel's results against the reference's. -/
module

public import proofs.«01_k».proof.Defs
public import proofs.«01_k».proof.Proof.Gen.EndNormIdeal.Frame
public import proofs.«01_k».proof.Proof.Gen.EndNormRefIdeal.Run
public import proofs.«01_k».proof.Proof.Gen.EndNormRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.EndNorm

open Cert.EndNormIdeal Cert.EndNormIdeal.Gen Cert.EndNormRefIdeal.Read Idealize.ShloMosaic Idealize.ShloMosaic.TcCoe Idealize.SL.Sem

/-! ## What one block's stores hold -/

section Tile

variable (x0 : Vec Ideal S1x8x1x2048 .f32) (x1 x2 x3 : Vec Ideal S1x1x2048 .f32) (y : S1x1x2048.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 0 (y 2)) = Adam.total x0 y := by
  rw [Adam.total_eq, show y 1 = (0 : Fin 1) from Subsingleton.elim (α := Fin 1) _ _]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x2048 .f32) (w m v : Vec Ideal S2048 .f32)

abbrev grads : Vec Ideal S1x8x1x2048 .f32 := shapeCast S1x8x1x2048 g shapeCasts_S8x2048_S1x8x1x2048
abbrev flat (a : Vec Ideal S2048 .f32) : Vec Ideal S1x1x2048 .f32 := shapeCast S1x1x2048 a shapeCasts_S2048_S1x1x2048

theorem ref_total (y : S1x1x2048.Idx) : Adam.total (grads g) y = val_main_v25 (F := Ideal) g y := by
  unfold Adam.total
  pointwise [val_main_v25, val_main_v0, val_main_cst]

/-- The reference's results at an entry. -/
theorem ref (y : S1x1x2048.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x2048 .f32 := m ((c : Thread nD τ).loc main_arg0)
abbrev argW : Vec Ideal S2048 .f32 := m ((c : Thread nD τ).loc main_arg1)
abbrev argM : Vec Ideal S2048 .f32 := m ((c : Thread nD τ).loc main_arg2)
abbrev argV : Vec Ideal S2048 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x1x2048.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_EndNormRefIdeal (hEndNormRefIdeal := Cert.EndNormRefIdeal.Gen.facts) := fun m g _ =>
  (θ_run _ _ _).mono (fun r h => ⟨fun c => (h c).2.2.2.2, sem_eq_zero_of_no_sems (by decide) r.2⟩)
    (Cert.EndNormRefIdeal.Value.run m g)

theorem algebraic : algebraic_EndNormIdeal_EndNormRefIdeal (hEndNormIdeal := Cert.EndNormIdeal.Gen.facts)
    (hEndNormRefIdeal := Cert.EndNormRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.EndNormRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.EndNorm

end
-- ==== Proof.BiasClaim.lean ====
/- The optimiser's step of a weight of four rows of 11264 entries: the kernel's results against the reference's. -/
module

public import proofs.«01_k».proof.Defs
public import proofs.«01_k».proof.Proof.Gen.BiasIdeal.Frame
public import proofs.«01_k».proof.Proof.Gen.BiasRefIdeal.Run
public import proofs.«01_k».proof.Proof.Gen.BiasRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.Bias

open Cert.BiasIdeal Cert.BiasIdeal.Gen Cert.BiasRefIdeal.Read Idealize.ShloMosaic Idealize.ShloMosaic.TcCoe Idealize.SL.Sem

/-! ## What one block's stores hold -/

section Tile

variable (x0 : Vec Ideal S1x8x4x11264 .f32) (x1 x2 x3 : Vec Ideal S1x4x11264 .f32) (y : S1x4x11264.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x11264 .f32) (w m v : Vec Ideal S4x11264 .f32)

abbrev grads : Vec Ideal S1x8x4x11264 .f32 := shapeCast S1x8x4x11264 g shapeCasts_S8x4x11264_S1x8x4x11264
abbrev flat (a : Vec Ideal S4x11264 .f32) : Vec Ideal S1x4x11264 .f32 := shapeCast S1x4x11264 a shapeCasts_S4x11264_S1x4x11264

theorem ref_total (y : S1x4x11264.Idx) : Adam.total (grads g) y = val_main_v25 (F := Ideal) g y := by
  unfold Adam.total
  pointwise [val_main_v25, val_main_v0, val_main_cst]

/-- The reference's results at an entry. -/
theorem ref (y : S1x4x11264.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x11264 .f32 := m ((c : Thread nD τ).loc main_arg0)
abbrev argW : Vec Ideal S4x11264 .f32 := m ((c : Thread nD τ).loc main_arg1)
abbrev argM : Vec Ideal S4x11264 .f32 := m ((c : Thread nD τ).loc main_arg2)
abbrev argV : Vec Ideal S4x11264 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x4x11264.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_BiasRefIdeal (hBiasRefIdeal := Cert.BiasRefIdeal.Gen.facts) := fun m g _ =>
  (θ_run _ _ _).mono (fun r h => ⟨fun c => (h c).2.2.2.2, sem_eq_zero_of_no_sems (by decide) r.2⟩)
    (Cert.BiasRefIdeal.Value.run m g)

theorem algebraic : algebraic_BiasIdeal_BiasRefIdeal (hBiasIdeal := Cert.BiasIdeal.Gen.facts)
    (hBiasRefIdeal := Cert.BiasRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.BiasRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.Bias

end
-- ==== Proof.ConvClaim.lean ====
/- The optimiser's step of the recurrence's convolution taps: the kernel's results against the reference's. -/
module

public import proofs.«01_k».proof.Defs
public import proofs.«01_k».proof.Proof.Gen.ConvIdeal.Frame
public import proofs.«01_k».proof.Proof.Gen.ConvRefIdeal.Run
public import proofs.«01_k».proof.Proof.Gen.ConvRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.Conv

open Cert.ConvIdeal Cert.ConvIdeal.Gen Cert.ConvRefIdeal.Read Idealize.ShloMosaic Idealize.ShloMosaic.TcCoe Idealize.SL.Sem

/-! ## What one block's stores hold -/

section Tile

variable (x0 : Vec Ideal S1x8x16x384 .f32) (x1 x2 x3 : Vec Ideal S1x16x384 .f32) (y : S1x16x384.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x4x384 .f32) (w m v : Vec Ideal S4x4x384 .f32)

abbrev grads : Vec Ideal S1x8x16x384 .f32 := shapeCast S1x8x16x384 g shapeCasts_S8x4x4x384_S1x8x16x384
abbrev flat (a : Vec Ideal S4x4x384 .f32) : Vec Ideal S1x16x384 .f32 := shapeCast S1x16x384 a shapeCasts_S4x4x384_S1x16x384

theorem ref_total (y : S1x16x384.Idx) : Adam.total (grads g) y = val_main_v25 (F := Ideal) g y := by
  unfold Adam.total
  pointwise [val_main_v25, val_main_v0, val_main_cst]

/-- The reference's results at an entry. -/
theorem ref (y : S1x16x384.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x4x384 .f32 := m ((c : Thread nD τ).loc main_arg0)
abbrev argW : Vec Ideal S4x4x384 .f32 := m ((c : Thread nD τ).loc main_arg1)
abbrev argM : Vec Ideal S4x4x384 .f32 := m ((c : Thread nD τ).loc main_arg2)
abbrev argV : Vec Ideal S4x4x384 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x16x384.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_ConvRefIdeal (hConvRefIdeal := Cert.ConvRefIdeal.Gen.facts) := fun m g _ =>
  (θ_run _ _ _).mono (fun r h => ⟨fun c => (h c).2.2.2.2, sem_eq_zero_of_no_sems (by decide) r.2⟩)
    (Cert.ConvRefIdeal.Value.run m g)

theorem algebraic : algebraic_ConvIdeal_ConvRefIdeal (hConvIdeal := Cert.ConvIdeal.Gen.facts)
    (hConvRefIdeal := Cert.ConvRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.ConvRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.Conv

end
-- ==== Proof.FfnConvClaim.lean ====
/- The optimiser's step of the feed-forward block's convolution taps: the kernel's results against the reference's. -/
module

public import proofs.«01_k».proof.Defs
public import proofs.«01_k».proof.Proof.Gen.FfnConvIdeal.Frame
public import proofs.«01_k».proof.Proof.Gen.FfnConvRefIdeal.Run
public import proofs.«01_k».proof.Proof.Gen.FfnConvRefIdeal.Read
public import proofs.«01_k».proof.Proof.Adam
public import Idealize.ShloMosaic.Lib.Pipeline.Value
public import Idealize.ShloMosaic.Lib.Quiescent

@[expose] public section

set_option maxRecDepth 16384

noncomputable section

namespace Cert.Proof.FfnConv

open Cert.FfnConvIdeal Cert.FfnConvIdeal.Gen Cert.FfnConvRefIdeal.Read Idealize.ShloMosaic Idealize.ShloMosaic.TcCoe Idealize.SL.Sem

/-! ## What one block's stores hold -/

section Tile

variable (x0 : Vec Ideal S1x8x12x1408 .f32) (x1 x2 x3 : Vec Ideal S1x12x1408 .f32) (y : S1x12x1408.Idx)

/-- The eight gradients of an entry, added up one after another, are their sum. -/
theorem tile_total : k0_pay13 (F := Ideal) (k0_pay3 (View.ld x0 r0_0)) (k0_pay4 (View.ld x0 r0_1)) (k0_pay5 (View.ld x0 r0_2))
    (k0_pay6 (View.ld x0 r0_3)) (k0_pay7 (View.ld x0 r0_4)) (k0_pay8 (View.ld x0 r0_5)) (k0_pay9 (View.ld x0 r0_6))
    (k0_pay10 (View.ld x0 r0_7)) (ix2 (y 1) (y 2)) = Adam.total x0 y := by
  rw [Adam.total_eq]
  pointwise [k0_pay13, k0_pay3, k0_pay4, k0_pay5, k0_pay6, k0_pay7, k0_pay8, k0_pay9, k0_pay10]

theorem tile : Adam.Step (Adam.total x0 y) (x1 y) (x2 y) (x3 y) (out0_4 (F := Ideal) x0 x1 x2 x3 y)
    (out0_5 (F := Ideal) x0 x1 x2 x3 y) (out0_6 (F := Ideal) x0 x1 x2 x3 y) (out0_7 (F := Ideal) x0 x1 x2 x3 y) := by
  rw [← tile_total]
  refine ⟨?_, ?_, ?_, ?_⟩
  · unfold_out out0_4
    frame_out
    pointwise [k0_pay16]
  · unfold_out out0_5
    frame_out
    pointwise [k0_pay17, k0_pay15, k0_pay14, k0_pay11, k0_pay12, Adam.change, Adam.first, Adam.second]
  · unfold_out out0_6
    frame_out
    pointwise [k0_pay1, k0_pay14, k0_pay12, Adam.first]
  · unfold_out out0_7
    frame_out
    pointwise [k0_pay2, k0_pay15, Adam.second]

end Tile

/-! ## The call on the arguments as the host hands them over -/

section Call

variable (g : Vec Ideal S8x4x3x1408 .f32) (w m v : Vec Ideal S4x3x1408 .f32)

abbrev grads : Vec Ideal S1x8x12x1408 .f32 := shapeCast S1x8x12x1408 g shapeCasts_S8x4x3x1408_S1x8x12x1408
abbrev flat (a : Vec Ideal S4x3x1408 .f32) : Vec Ideal S1x12x1408 .f32 := shapeCast S1x12x1408 a shapeCasts_S4x3x1408_S1x12x1408

theorem ref_total (y : S1x12x1408.Idx) : Adam.total (grads g) y = val_main_v25 (F := Ideal) g y := by
  unfold Adam.total
  pointwise [val_main_v25, val_main_v0, val_main_cst]

/-- The reference's results at an entry. -/
theorem ref (y : S1x12x1408.Idx) : Adam.Step (Adam.total (grads g) y) (flat w y) (flat m y) (flat v y) (val_main_v25 (F := Ideal) g y)
    (val_main_v26 (F := Ideal) g w m v y) (val_main_v27 (F := Ideal) g m y) (val_main_v28 (F := Ideal) g v y) := by
  rw [ref_total]
  exact ⟨rfl, rfl, rfl, rfl⟩

end Call

/-! ## The arrays after the run -/

section Run

variable (m : (ℓ : Loc nD τ sig) → Buf (Elt Ideal) ℓ) (c : Dev nD)

abbrev argG : Vec Ideal S8x4x3x1408 .f32 := m ((c : Thread nD τ).loc main_arg0)
abbrev argW : Vec Ideal S4x3x1408 .f32 := m ((c : Thread nD τ).loc main_arg1)
abbrev argM : Vec Ideal S4x3x1408 .f32 := m ((c : Thread nD τ).loc main_arg2)
abbrev argV : Vec Ideal S4x3x1408 .f32 := m ((c : Thread nD τ).loc main_arg3)

theorem idx : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The call's operands are the arguments, reshaped. -/
theorem operands : V m c main_v0 = grads (argG m c) ∧ V m c main_v1 = flat (argW m c) ∧ V m c main_v2 = flat (argM m c)
    ∧ V m c main_v3 = flat (argV m c) := by
  refine ⟨?_, ?_, ?_, ?_⟩ <;> unfold V <;> after_results <;> rfl

/-- Every operand is one whole block. -/
theorem blocks (t : Fin cfg0.N) : iblk m c 0 t = grads (argG m c) ∧ iblk m c 1 t = flat (argW m c)
    ∧ iblk m c 2 t = flat (argM m c) ∧ iblk m c 3 t = flat (argV m c) := by
  obtain ⟨h0, h1, h2, h3⟩ := operands m c
  rw [← h0, ← h1, ← h2, ← h3]
  refine ⟨funext fun y => congrArg (V m c main_v0) (?_ : ((cfg0.win 0).blk t).view.emb y = y),
    funext fun y => congrArg (V m c main_v1) (?_ : ((cfg0.win 1).blk t).view.emb y = y),
    funext fun y => congrArg (V m c main_v2) (?_ : ((cfg0.win 2).blk t).view.emb y = y),
    funext fun y => congrArg (V m c main_v3) (?_ : ((cfg0.win 3).blk t).view.emb y = y)⟩ <;> blk_ext [idx t]

/-- Every result is one whole block. -/
theorem places (t : Fin cfg0.N) (y : S1x12x1408.Idx) : ((cfg0.win 4).blk t).view.emb y = y ∧ ((cfg0.win 5).blk t).view.emb y = y
    ∧ ((cfg0.win 6).blk t).view.emb y = y ∧ ((cfg0.win 7).blk t).view.emb y = y := by
  refine ⟨?_, ?_, ?_, ?_⟩ <;> blk_ext [idx t]

/-- The four results' arrays after the run. -/
theorem finals : (dats m 0 c).arrAt 4 cfg0.N = val_main_v25 (F := Ideal) (argG m c)
    ∧ (dats m 0 c).arrAt 5 cfg0.N = val_main_v26 (F := Ideal) (argG m c) (argW m c) (argM m c) (argV m c)
    ∧ (dats m 0 c).arrAt 6 cfg0.N = val_main_v27 (F := Ideal) (argG m c) (argM m c)
    ∧ (dats m 0 c).arrAt 7 cfg0.N = val_main_v28 (F := Ideal) (argG m c) (argV m c) := by
  have key := fun y => (tile (grads (argG m c)) (flat (argW m c)) (flat (argM m c)) (flat (argV m c)) y).same
    (ref (argG m c) (argW m c) (argM m c) (argV m c) y)
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp <;>
    obtain ⟨b0, b1, b2, b3⟩ := blocks m c t <;> obtain ⟨p4, p5, p6, p7⟩ := places t y
  · rw [after0_4, b0, b1, b2, b3]; exact (key y).1.trans (congrArg _ p4.symm)
  · rw [after0_5, b0, b1, b2, b3]; exact (key y).2.1.trans (congrArg _ p5.symm)
  · rw [after0_6, b0, b1, b2, b3]; exact (key y).2.2.1.trans (congrArg _ p6.symm)
  · rw [after0_7, b0, b1, b2, b3]; exact (key y).2.2.2.trans (congrArg _ p7.symm)

end Run

/-! ## The claims -/

theorem refFrame : quiescent_FfnConvRefIdeal (hFfnConvRefIdeal := Cert.FfnConvRefIdeal.Gen.facts) := fun m g _ =>
  (θ_run _ _ _).mono (fun r h => ⟨fun c => (h c).2.2.2.2, sem_eq_zero_of_no_sems (by decide) r.2⟩)
    (Cert.FfnConvRefIdeal.Value.run m g)

theorem algebraic : algebraic_FfnConvIdeal_FfnConvRefIdeal (hFfnConvIdeal := Cert.FfnConvIdeal.Gen.facts)
    (hFfnConvRefIdeal := Cert.FfnConvRefIdeal.Gen.facts) := by
  intro m g m' g' _ hagree
  refine ⟨fun c => val_main_v25 (F := Ideal) (argG m c),
    fun c => val_main_v26 (F := Ideal) (argG m c) (argW m c) (argM m c) (argV m c),
    fun c => val_main_v27 (F := Ideal) (argG m c) (argM m c),
    fun c => val_main_v28 (F := Ideal) (argG m c) (argV m c), (θ_run _ _ _).mono (fun r h c => ?_) (run_main m g),
    (θ_run _ _ _).mono (fun r h c => ?_) (Cert.FfnConvRefIdeal.Value.run m' g')⟩
  · have hb := (h c).2
    obtain ⟨f4, f5, f6, f7⟩ := finals m c
    exact ⟨((h c).1 4).trans f4, ((h c).1 5).trans f5, ((h c).1 6).trans f6, ((h c).1 7).trans f7,
      (hb main_arg0 (Pipeline.mem_restRefs_of main_arg0 (by decide) (by decide))).trans (V_main_arg0 m c),
      (hb main_arg1 (Pipeline.mem_restRefs_of main_arg1 (by decide) (by decide))).trans (V_main_arg1 m c),
      (hb main_arg2 (Pipeline.mem_restRefs_of main_arg2 (by decide) (by decide))).trans (V_main_arg2 m c),
      (hb main_arg3 (Pipeline.mem_restRefs_of main_arg3 (by decide) (by decide))).trans (V_main_arg3 m c)⟩
  · obtain ⟨h0, h1, h2, h3, h'⟩ := h c
    obtain ⟨e0, e1, e2, e3⟩ := hagree c
    refine ⟨h0.trans ?_, h1.trans ?_, h2.trans ?_, h3.trans ?_, h'⟩
    · rw [val_main_v25_eq, e0]
    · rw [val_main_v26_eq, e0, e1, e2, e3]
    · rw [val_main_v27_eq, e0, e2]
    · rw [val_main_v28_eq, e0, e3]

end Cert.Proof.FfnConv

end
-- ==== Proof.SquareRun.lean ====
/- The optimiser's step of a matrix, layer after layer, run one after another: what every buffer holds at the end. -/
module

public import proofs.«01_k».proof.Proof.Gen.SquareIdeal.Frame

@[expose] public section

set_option maxRecDepth 16384

noncomputable section

namespace Cert.Proof.Square

open Cert.SquareIdeal Cert.SquareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.Square

end
-- ==== Proof.SquareValue.lean ====
/- The optimiser's step of a matrix, layer after layer: what the four calls leave in the results. -/
module

public import proofs.«01_k».proof.Proof.Gen.SquareIdeal.Frame
public import proofs.«01_k».proof.Proof.Adam
public import Idealize.ShloMosaic.Lib.Pipeline.Value

@[expose] public section

set_option maxRecDepth 16384

noncomputable section

namespace Cert.Proof.Square

open Cert.SquareIdeal Cert.SquareIdeal.Gen Idealize.ShloMosaic Idealize.ShloMosaic.TcCoe Idealize.SL.Sem
open Idealize.ShloMosaic.StableHlo

/-! ## What one block's stores hold -/

section Tile

variable (x0 : Vec Ideal S8x128x2048 .bf16) (x1 x2 x3 : Vec Ideal S1x128x2048 .f32) (y : S1x128x2048.Idx)

abbrev s3 := k0_pay3 (F := Ideal) (View.ld x0 (Rect.unit ![3, 0, 0] ![1, 128, 2048] inb_S8x128x2048_S1x128x2048_3_0_0))
abbrev s4 := k0_pay4 (F := Ideal) (View.ld x0 (Rect.unit ![4, 0, 0] ![1, 128, 2048] inb_S8x128x2048_S1x128x2048_4_0_0))
abbrev s5 := k0_pay5 (F := Ideal) (View.ld x0 (Rect.unit ![5, 0, 0] ![1, 128, 2048] inb_S8x128x2048_S1x128x2048_5_0_0))
abbrev s6 := k0_pay6 (F := Ideal) (View.ld x0 (Rect.unit ![6, 0, 0] ![1, 128, 2048] inb_S8x128x2048_S1x128x2048_6_0_0))
abbrev s7 := k0_pay7 (F := Ideal) (View.ld x0 (Rect.unit ![7, 0, 0] ![1, 128, 2048] inb_S8x128x2048_S1x128x2048_7_0_0))
abbrev s01 := k0_pay11 (F := Ideal) (View.ld x0 (Rect.unit ![0, 0, 0] ![1, 128, 2048] inb_S8x128x2048_S1x128x2048_0_0_0)) (View.ld x0 (Rect.unit ![1, 0, 0] ![1, 128, 2048] inb_S8x128x2048_S1x128x2048_1_0_0))
abbrev s2 := k0_pay12 (F := Ideal) (View.ld x0 (Rect.unit ![2, 0, 0] ![1, 128, 2048] inb_S8x128x2048_S1x128x2048_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x128x2048.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x128x2048.Idx) : iblk0 V c 1 t y = V c main_arg4 (((cfg0.win 4).blk t).view.emb y) := by
  refine congrArg (V c main_arg4) ?_
  blk_ext [idx0 t]

theorem firsts0 (t : Fin cfg0.N) (y : S1x128x2048.Idx) : iblk0 V c 2 t y = V c main_arg5 (((cfg0.win 4).blk t).view.emb y) := by
  refine congrArg (V c main_arg5) ?_
  blk_ext [idx0 t]

theorem seconds0 (t : Fin cfg0.N) (y : S1x128x2048.Idx) : iblk0 V c 3 t y = V c main_arg6 (((cfg0.win 4).blk t).view.emb y) := by
  refine congrArg (V c main_arg6) ?_
  blk_ext [idx0 t]

theorem point0 (t : Fin cfg0.N) (y : S1x128x2048.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x128x2048.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x128x2048.Idx) : iblk1 V c 1 t y = V c main_arg4 (((cfg1.win 4).blk t).view.emb y) := by
  refine congrArg (V c main_arg4) ?_
  blk_ext [idx1 t]

theorem firsts1 (t : Fin cfg1.N) (y : S1x128x2048.Idx) : iblk1 V c 2 t y = V c main_arg5 (((cfg1.win 4).blk t).view.emb y) := by
  refine congrArg (V c main_arg5) ?_
  blk_ext [idx1 t]

theorem seconds1 (t : Fin cfg1.N) (y : S1x128x2048.Idx) : iblk1 V c 3 t y = V c main_arg6 (((cfg1.win 4).blk t).view.emb y) := by
  refine congrArg (V c main_arg6) ?_
  blk_ext [idx1 t]

theorem point1 (t : Fin cfg1.N) (y : S1x128x2048.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x128x2048.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x128x2048.Idx) : iblk2 V c 1 t y = V c main_arg4 (((cfg2.win 4).blk t).view.emb y) := by
  refine congrArg (V c main_arg4) ?_
  blk_ext [idx2 t]

theorem firsts2 (t : Fin cfg2.N) (y : S1x128x2048.Idx) : iblk2 V c 2 t y = V c main_arg5 (((cfg2.win 4).blk t).view.emb y) := by
  refine congrArg (V c main_arg5) ?_
  blk_ext [idx2 t]

theorem seconds2 (t : Fin cfg2.N) (y : S1x128x2048.Idx) : iblk2 V c 3 t y = V c main_arg6 (((cfg2.win 4).blk t).view.emb y) := by
  refine congrArg (V c main_arg6) ?_
  blk_ext [idx2 t]

theorem point2 (t : Fin cfg2.N) (y : S1x128x2048.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x128x2048.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x128x2048.Idx) : iblk3 V c 1 t y = V c main_arg4 (((cfg3.win 4).blk t).view.emb y) := by
  refine congrArg (V c main_arg4) ?_
  blk_ext [idx3 t]

theorem firsts3 (t : Fin cfg3.N) (y : S1x128x2048.Idx) : iblk3 V c 2 t y = V c main_arg5 (((cfg3.win 4).blk t).view.emb y) := by
  refine congrArg (V c main_arg5) ?_
  blk_ext [idx3 t]

theorem seconds3 (t : Fin cfg3.N) (y : S1x128x2048.Idx) : iblk3 V c 3 t y = V c main_arg6 (((cfg3.win 4).blk t).view.emb y) := by
  refine congrArg (V c main_arg6) ?_
  blk_ext [idx3 t]

theorem point3 (t : Fin cfg3.N) (y : S1x128x2048.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x256x2048 .bf16 := m ((c : Thread nD τ).loc main_arg0)
abbrev parts1 : Vec Ideal S8x256x2048 .bf16 := m ((c : Thread nD τ).loc main_arg1)
abbrev parts2 : Vec Ideal S8x256x2048 .bf16 := m ((c : Thread nD τ).loc main_arg2)
abbrev parts3 : Vec Ideal S8x256x2048 .bf16 := m ((c : Thread nD τ).loc main_arg3)
abbrev argW : Vec Ideal S4x256x2048 .f32 := m ((c : Thread nD τ).loc main_arg4)
abbrev argM : Vec Ideal S4x256x2048 .f32 := m ((c : Thread nD τ).loc main_arg5)
abbrev argV : Vec Ideal S4x256x2048 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.Square

end
-- ==== Proof.SquareClaim.lean ====
/- The optimiser's step of a matrix, layer after layer: the kernels' results against the reference's. -/
module

public import proofs.«01_k».proof.Defs
public import proofs.«01_k».proof.Proof.Gen.SquareRefIdeal.Run
public import proofs.«01_k».proof.Proof.Gen.SquareRefIdeal.Read
public import proofs.«01_k».proof.Proof.SquareRun
public import proofs.«01_k».proof.Proof.SquareValue
public import Idealize.ShloMosaic.Lib.Quiescent

@[expose] public section

set_option maxRecDepth 16384

noncomputable section

namespace Cert.Proof.Square

open Idealize.ShloMosaic Idealize.ShloMosaic.TcCoe Idealize.SL.Sem
open Cert.SquareRefIdeal (S8x256x2048 S4x256x2048)
open Cert.SquareRefIdeal.Read

section Reference

variable (g0 g1 g2 g3 : Vec Ideal S8x256x2048 .bf16) (w m v : Vec Ideal S4x256x2048 .f32)

/-- The reference's gradients of the four layers. -/
abbrev grads : Vec Ideal S4x256x2048 .f32 := val_main_v12 (F := Ideal) g0 g1 g2 g3

theorem ref_sums (x : Fin 256) (y : Fin 2048) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.SquareIdeal Cert.SquareIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_SquareRefIdeal (hSquareRefIdeal := Cert.SquareRefIdeal.Gen.facts) := fun m g _ =>
  (θ_run _ _ _).mono (fun r h => ⟨fun c => (h c).2.2.2.2, sem_eq_zero_of_no_sems (by decide) r.2⟩)
    (Cert.SquareRefIdeal.Value.run m g)

theorem algebraic : algebraic_SquareIdeal_SquareRefIdeal (hSquareIdeal := Cert.SquareIdeal.Gen.facts)
    (hSquareRefIdeal := Cert.SquareRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.SquareRefIdeal.Value.run m' g')⟩
  · have hb := h c
    obtain ⟨e0, e1, e2, e3⟩ := ends m g c
    exact ⟨(hb _ (Cert.SquareIdeal.Gen.mem_uc Cert.SquareIdeal.main_v7_0 (by decide))).trans e0,
      (hb _ (Cert.SquareIdeal.Gen.mem_uc Cert.SquareIdeal.main_v7_1 (by decide))).trans e1,
      (hb _ (Cert.SquareIdeal.Gen.mem_uc Cert.SquareIdeal.main_v7_2 (by decide))).trans e2,
      (hb _ (Cert.SquareIdeal.Gen.mem_uc Cert.SquareIdeal.main_v7_3 (by decide))).trans e3,
      (hb _ (Cert.SquareIdeal.Gen.mem_uc Cert.SquareIdeal.main_arg0 (by decide))).trans (Cert.SquareIdeal.Gen.W8_main_arg0 m g c),
      (hb _ (Cert.SquareIdeal.Gen.mem_uc Cert.SquareIdeal.main_arg1 (by decide))).trans (Cert.SquareIdeal.Gen.W8_main_arg1 m g c),
      (hb _ (Cert.SquareIdeal.Gen.mem_uc Cert.SquareIdeal.main_arg2 (by decide))).trans (Cert.SquareIdeal.Gen.W8_main_arg2 m g c),
      (hb _ (Cert.SquareIdeal.Gen.mem_uc Cert.SquareIdeal.main_arg3 (by decide))).trans (Cert.SquareIdeal.Gen.W8_main_arg3 m g c),
      (hb _ (Cert.SquareIdeal.Gen.mem_uc Cert.SquareIdeal.main_arg4 (by decide))).trans (Cert.SquareIdeal.Gen.W8_main_arg4 m g c),
      (hb _ (Cert.SquareIdeal.Gen.mem_uc Cert.SquareIdeal.main_arg5 (by decide))).trans (Cert.SquareIdeal.Gen.W8_main_arg5 m g c),
      (hb _ (Cert.SquareIdeal.Gen.mem_uc Cert.SquareIdeal.main_arg6 (by decide))).trans (Cert.SquareIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.Square

end
-- ==== Proof.WInRun.lean ====
/- The optimiser's step of the input projection's weights, layer after layer, run one after another: what every buffer holds at the end. -/
module

public import proofs.«01_k».proof.Proof.Gen.WInIdeal.Frame

@[expose] public section

set_option maxRecDepth 16384

noncomputable section

namespace Cert.Proof.WIn

open Cert.WInIdeal Cert.WInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.WIn

end
-- ==== Proof.WInValue.lean ====
/- The optimiser's step of the input projection's weights, layer after layer: what the four calls leave in the results. -/
module

public import proofs.«01_k».proof.Proof.Gen.WInIdeal.Frame
public import proofs.«01_k».proof.Proof.Adam
public import Idealize.ShloMosaic.Lib.Pipeline.Value

@[expose] public section

set_option maxRecDepth 16384

noncomputable section

namespace Cert.Proof.WIn

open Cert.WInIdeal Cert.WInIdeal.Gen Idealize.ShloMosaic Idealize.ShloMosaic.TcCoe Idealize.SL.Sem
open Idealize.ShloMosaic.StableHlo

/-! ## What one block's stores hold -/

section Tile

variable (x0 : Vec Ideal S8x256x618 .bf16) (x1 x2 x3 : Vec Ideal S1x256x618 .f32) (y : S1x256x618.Idx)

abbrev s3 := k0_pay3 (F := Ideal) (View.ld x0 (Rect.unit ![3, 0, 0] ![1, 256, 618] inb_S8x256x618_S1x256x618_3_0_0))
abbrev s4 := k0_pay4 (F := Ideal) (View.ld x0 (Rect.unit ![4, 0, 0] ![1, 256, 618] inb_S8x256x618_S1x256x618_4_0_0))
abbrev s5 := k0_pay5 (F := Ideal) (View.ld x0 (Rect.unit ![5, 0, 0] ![1, 256, 618] inb_S8x256x618_S1x256x618_5_0_0))
abbrev s6 := k0_pay6 (F := Ideal) (View.ld x0 (Rect.unit ![6, 0, 0] ![1, 256, 618] inb_S8x256x618_S1x256x618_6_0_0))
abbrev s7 := k0_pay7 (F := Ideal) (View.ld x0 (Rect.unit ![7, 0, 0] ![1, 256, 618] inb_S8x256x618_S1x256x618_7_0_0))
abbrev s01 := k0_pay11 (F := Ideal) (View.ld x0 (Rect.unit ![0, 0, 0] ![1, 256, 618] inb_S8x256x618_S1x256x618_0_0_0)) (View.ld x0 (Rect.unit ![1, 0, 0] ![1, 256, 618] inb_S8x256x618_S1x256x618_1_0_0))
abbrev s2 := k0_pay12 (F := Ideal) (View.ld x0 (Rect.unit ![2, 0, 0] ![1, 256, 618] inb_S8x256x618_S1x256x618_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x256x618.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x256x618.Idx) : iblk0 V c 1 t y = V c main_arg4 (((cfg0.win 4).blk t).view.emb y) := by
  refine congrArg (V c main_arg4) ?_
  blk_ext [idx0 t]

theorem firsts0 (t : Fin cfg0.N) (y : S1x256x618.Idx) : iblk0 V c 2 t y = V c main_arg5 (((cfg0.win 4).blk t).view.emb y) := by
  refine congrArg (V c main_arg5) ?_
  blk_ext [idx0 t]

theorem seconds0 (t : Fin cfg0.N) (y : S1x256x618.Idx) : iblk0 V c 3 t y = V c main_arg6 (((cfg0.win 4).blk t).view.emb y) := by
  refine congrArg (V c main_arg6) ?_
  blk_ext [idx0 t]

theorem point0 (t : Fin cfg0.N) (y : S1x256x618.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x256x618.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x256x618.Idx) : iblk1 V c 1 t y = V c main_arg4 (((cfg1.win 4).blk t).view.emb y) := by
  refine congrArg (V c main_arg4) ?_
  blk_ext [idx1 t]

theorem firsts1 (t : Fin cfg1.N) (y : S1x256x618.Idx) : iblk1 V c 2 t y = V c main_arg5 (((cfg1.win 4).blk t).view.emb y) := by
  refine congrArg (V c main_arg5) ?_
  blk_ext [idx1 t]

theorem seconds1 (t : Fin cfg1.N) (y : S1x256x618.Idx) : iblk1 V c 3 t y = V c main_arg6 (((cfg1.win 4).blk t).view.emb y) := by
  refine congrArg (V c main_arg6) ?_
  blk_ext [idx1 t]

theorem point1 (t : Fin cfg1.N) (y : S1x256x618.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x256x618.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x256x618.Idx) : iblk2 V c 1 t y = V c main_arg4 (((cfg2.win 4).blk t).view.emb y) := by
  refine congrArg (V c main_arg4) ?_
  blk_ext [idx2 t]

theorem firsts2 (t : Fin cfg2.N) (y : S1x256x618.Idx) : iblk2 V c 2 t y = V c main_arg5 (((cfg2.win 4).blk t).view.emb y) := by
  refine congrArg (V c main_arg5) ?_
  blk_ext [idx2 t]

theorem seconds2 (t : Fin cfg2.N) (y : S1x256x618.Idx) : iblk2 V c 3 t y = V c main_arg6 (((cfg2.win 4).blk t).view.emb y) := by
  refine congrArg (V c main_arg6) ?_
  blk_ext [idx2 t]

theorem point2 (t : Fin cfg2.N) (y : S1x256x618.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x256x618.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x256x618.Idx) : iblk3 V c 1 t y = V c main_arg4 (((cfg3.win 4).blk t).view.emb y) := by
  refine congrArg (V c main_arg4) ?_
  blk_ext [idx3 t]

theorem firsts3 (t : Fin cfg3.N) (y : S1x256x618.Idx) : iblk3 V c 2 t y = V c main_arg5 (((cfg3.win 4).blk t).view.emb y) := by
  refine congrArg (V c main_arg5) ?_
  blk_ext [idx3 t]

theorem seconds3 (t : Fin cfg3.N) (y : S1x256x618.Idx) : iblk3 V c 3 t y = V c main_arg6 (((cfg3.win 4).blk t).view.emb y) := by
  refine congrArg (V c main_arg6) ?_
  blk_ext [idx3 t]

theorem point3 (t : Fin cfg3.N) (y : S1x256x618.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x2048x618 .bf16 := m ((c : Thread nD τ).loc main_arg0)
abbrev parts1 : Vec Ideal S8x2048x618 .bf16 := m ((c : Thread nD τ).loc main_arg1)
abbrev parts2 : Vec Ideal S8x2048x618 .bf16 := m ((c : Thread nD τ).loc main_arg2)
abbrev parts3 : Vec Ideal S8x2048x618 .bf16 := m ((c : Thread nD τ).loc main_arg3)
abbrev argW : Vec Ideal S4x2048x618 .f32 := m ((c : Thread nD τ).loc main_arg4)
abbrev argM : Vec Ideal S4x2048x618 .f32 := m ((c : Thread nD τ).loc main_arg5)
abbrev argV : Vec Ideal S4x2048x618 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.WIn

end
-- ==== Proof.WInClaim.lean ====
/- The optimiser's step of the input projection's weights, layer after layer: the kernels' results against the reference's. -/
module

public import proofs.«01_k».proof.Defs
public import proofs.«01_k».proof.Proof.Gen.WInRefIdeal.Run
public import proofs.«01_k».proof.Proof.Gen.WInRefIdeal.Read
public import proofs.«01_k».proof.Proof.WInRun
public import proofs.«01_k».proof.Proof.WInValue
public import Idealize.ShloMosaic.Lib.Quiescent

@[expose] public section

set_option maxRecDepth 16384

noncomputable section

namespace Cert.Proof.WIn

open Idealize.ShloMosaic Idealize.ShloMosaic.TcCoe Idealize.SL.Sem
open Cert.WInRefIdeal (S8x2048x618 S4x2048x618)
open Cert.WInRefIdeal.Read

section Reference

variable (g0 g1 g2 g3 : Vec Ideal S8x2048x618 .bf16) (w m v : Vec Ideal S4x2048x618 .f32)

/-- The reference's gradients of the four layers. -/
abbrev grads : Vec Ideal S4x2048x618 .f32 := val_main_v12 (F := Ideal) g0 g1 g2 g3

theorem ref_sums (x : Fin 2048) (y : Fin 618) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.WInIdeal Cert.WInIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_WInRefIdeal (hWInRefIdeal := Cert.WInRefIdeal.Gen.facts) := fun m g _ =>
  (θ_run _ _ _).mono (fun r h => ⟨fun c => (h c).2.2.2.2, sem_eq_zero_of_no_sems (by decide) r.2⟩)
    (Cert.WInRefIdeal.Value.run m g)

theorem algebraic : algebraic_WInIdeal_WInRefIdeal (hWInIdeal := Cert.WInIdeal.Gen.facts)
    (hWInRefIdeal := Cert.WInRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.WInRefIdeal.Value.run m' g')⟩
  · have hb := h c
    obtain ⟨e0, e1, e2, e3⟩ := ends m g c
    exact ⟨(hb _ (Cert.WInIdeal.Gen.mem_uc Cert.WInIdeal.main_v7_0 (by decide))).trans e0,
      (hb _ (Cert.WInIdeal.Gen.mem_uc Cert.WInIdeal.main_v7_1 (by decide))).trans e1,
      (hb _ (Cert.WInIdeal.Gen.mem_uc Cert.WInIdeal.main_v7_2 (by decide))).trans e2,
      (hb _ (Cert.WInIdeal.Gen.mem_uc Cert.WInIdeal.main_v7_3 (by decide))).trans e3,
      (hb _ (Cert.WInIdeal.Gen.mem_uc Cert.WInIdeal.main_arg0 (by decide))).trans (Cert.WInIdeal.Gen.W8_main_arg0 m g c),
      (hb _ (Cert.WInIdeal.Gen.mem_uc Cert.WInIdeal.main_arg1 (by decide))).trans (Cert.WInIdeal.Gen.W8_main_arg1 m g c),
      (hb _ (Cert.WInIdeal.Gen.mem_uc Cert.WInIdeal.main_arg2 (by decide))).trans (Cert.WInIdeal.Gen.W8_main_arg2 m g c),
      (hb _ (Cert.WInIdeal.Gen.mem_uc Cert.WInIdeal.main_arg3 (by decide))).trans (Cert.WInIdeal.Gen.W8_main_arg3 m g c),
      (hb _ (Cert.WInIdeal.Gen.mem_uc Cert.WInIdeal.main_arg4 (by decide))).trans (Cert.WInIdeal.Gen.W8_main_arg4 m g c),
      (hb _ (Cert.WInIdeal.Gen.mem_uc Cert.WInIdeal.main_arg5 (by decide))).trans (Cert.WInIdeal.Gen.W8_main_arg5 m g c),
      (hb _ (Cert.WInIdeal.Gen.mem_uc Cert.WInIdeal.main_arg6 (by decide))).trans (Cert.WInIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.WIn

end
-- ==== Proof.QUpRun.lean ====
/- The optimiser's step of the queries' up projection's weights, layer after layer, run one after another: what every buffer holds at the end. -/
module

public import proofs.«01_k».proof.Proof.Gen.QUpIdeal.Frame

@[expose] public section

set_option maxRecDepth 16384

noncomputable section

namespace Cert.Proof.QUp

open Cert.QUpIdeal Cert.QUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.QUp

end
-- ==== Proof.QUpValue.lean ====
/- The optimiser's step of the queries' up projection's weights, layer after layer: what the four calls leave in the results. -/
module

public import proofs.«01_k».proof.Proof.Gen.QUpIdeal.Frame
public import proofs.«01_k».proof.Proof.Adam
public import Idealize.ShloMosaic.Lib.Pipeline.Value

@[expose] public section

set_option maxRecDepth 16384

noncomputable section

namespace Cert.Proof.QUp

open Cert.QUpIdeal Cert.QUpIdeal.Gen Idealize.ShloMosaic Idealize.ShloMosaic.TcCoe Idealize.SL.Sem
open Idealize.ShloMosaic.StableHlo

/-! ## What one block's stores hold -/

section Tile

variable (x0 : Vec Ideal S8x512x192 .bf16) (x1 x2 x3 : Vec Ideal S1x512x192 .f32) (y : S1x512x192.Idx)

abbrev s3 := k0_pay3 (F := Ideal) (View.ld x0 (Rect.unit ![3, 0, 0] ![1, 512, 192] inb_S8x512x192_S1x512x192_3_0_0))
abbrev s4 := k0_pay4 (F := Ideal) (View.ld x0 (Rect.unit ![4, 0, 0] ![1, 512, 192] inb_S8x512x192_S1x512x192_4_0_0))
abbrev s5 := k0_pay5 (F := Ideal) (View.ld x0 (Rect.unit ![5, 0, 0] ![1, 512, 192] inb_S8x512x192_S1x512x192_5_0_0))
abbrev s6 := k0_pay6 (F := Ideal) (View.ld x0 (Rect.unit ![6, 0, 0] ![1, 512, 192] inb_S8x512x192_S1x512x192_6_0_0))
abbrev s7 := k0_pay7 (F := Ideal) (View.ld x0 (Rect.unit ![7, 0, 0] ![1, 512, 192] inb_S8x512x192_S1x512x192_7_0_0))
abbrev s01 := k0_pay11 (F := Ideal) (View.ld x0 (Rect.unit ![0, 0, 0] ![1, 512, 192] inb_S8x512x192_S1x512x192_0_0_0)) (View.ld x0 (Rect.unit ![1, 0, 0] ![1, 512, 192] inb_S8x512x192_S1x512x192_1_0_0))
abbrev s2 := k0_pay12 (F := Ideal) (View.ld x0 (Rect.unit ![2, 0, 0] ![1, 512, 192] inb_S8x512x192_S1x512x192_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x512x192.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x512x192.Idx) : iblk0 V c 1 t y = V c main_arg4 (((cfg0.win 4).blk t).view.emb y) := by
  refine congrArg (V c main_arg4) ?_
  blk_ext [idx0 t]

theorem firsts0 (t : Fin cfg0.N) (y : S1x512x192.Idx) : iblk0 V c 2 t y = V c main_arg5 (((cfg0.win 4).blk t).view.emb y) := by
  refine congrArg (V c main_arg5) ?_
  blk_ext [idx0 t]

theorem seconds0 (t : Fin cfg0.N) (y : S1x512x192.Idx) : iblk0 V c 3 t y = V c main_arg6 (((cfg0.win 4).blk t).view.emb y) := by
  refine congrArg (V c main_arg6) ?_
  blk_ext [idx0 t]

theorem point0 (t : Fin cfg0.N) (y : S1x512x192.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x512x192.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x512x192.Idx) : iblk1 V c 1 t y = V c main_arg4 (((cfg1.win 4).blk t).view.emb y) := by
  refine congrArg (V c main_arg4) ?_
  blk_ext [idx1 t]

theorem firsts1 (t : Fin cfg1.N) (y : S1x512x192.Idx) : iblk1 V c 2 t y = V c main_arg5 (((cfg1.win 4).blk t).view.emb y) := by
  refine congrArg (V c main_arg5) ?_
  blk_ext [idx1 t]

theorem seconds1 (t : Fin cfg1.N) (y : S1x512x192.Idx) : iblk1 V c 3 t y = V c main_arg6 (((cfg1.win 4).blk t).view.emb y) := by
  refine congrArg (V c main_arg6) ?_
  blk_ext [idx1 t]

theorem point1 (t : Fin cfg1.N) (y : S1x512x192.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x512x192.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x512x192.Idx) : iblk2 V c 1 t y = V c main_arg4 (((cfg2.win 4).blk t).view.emb y) := by
  refine congrArg (V c main_arg4) ?_
  blk_ext [idx2 t]

theorem firsts2 (t : Fin cfg2.N) (y : S1x512x192.Idx) : iblk2 V c 2 t y = V c main_arg5 (((cfg2.win 4).blk t).view.emb y) := by
  refine congrArg (V c main_arg5) ?_
  blk_ext [idx2 t]

theorem seconds2 (t : Fin cfg2.N) (y : S1x512x192.Idx) : iblk2 V c 3 t y = V c main_arg6 (((cfg2.win 4).blk t).view.emb y) := by
  refine congrArg (V c main_arg6) ?_
  blk_ext [idx2 t]

theorem point2 (t : Fin cfg2.N) (y : S1x512x192.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x512x192.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x512x192.Idx) : iblk3 V c 1 t y = V c main_arg4 (((cfg3.win 4).blk t).view.emb y) := by
  refine congrArg (V c main_arg4) ?_
  blk_ext [idx3 t]

theorem firsts3 (t : Fin cfg3.N) (y : S1x512x192.Idx) : iblk3 V c 2 t y = V c main_arg5 (((cfg3.win 4).blk t).view.emb y) := by
  refine congrArg (V c main_arg5) ?_
  blk_ext [idx3 t]

theorem seconds3 (t : Fin cfg3.N) (y : S1x512x192.Idx) : iblk3 V c 3 t y = V c main_arg6 (((cfg3.win 4).blk t).view.emb y) := by
  refine congrArg (V c main_arg6) ?_
  blk_ext [idx3 t]

theorem point3 (t : Fin cfg3.N) (y : S1x512x192.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x512x192 .bf16 := m ((c : Thread nD τ).loc main_arg0)
abbrev parts1 : Vec Ideal S8x512x192 .bf16 := m ((c : Thread nD τ).loc main_arg1)
abbrev parts2 : Vec Ideal S8x512x192 .bf16 := m ((c : Thread nD τ).loc main_arg2)
abbrev parts3 : Vec Ideal S8x512x192 .bf16 := m ((c : Thread nD τ).loc main_arg3)
abbrev argW : Vec Ideal S4x512x192 .f32 := m ((c : Thread nD τ).loc main_arg4)
abbrev argM : Vec Ideal S4x512x192 .f32 := m ((c : Thread nD τ).loc main_arg5)
abbrev argV : Vec Ideal S4x512x192 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.QUp

end
-- ==== Proof.QUpClaim.lean ====
/- The optimiser's step of the queries' up projection's weights, layer after layer: the kernels' results against the reference's. -/
module

public import proofs.«01_k».proof.Defs
public import proofs.«01_k».proof.Proof.Gen.QUpRefIdeal.Run
public import proofs.«01_k».proof.Proof.Gen.QUpRefIdeal.Read
public import proofs.«01_k».proof.Proof.QUpRun
public import proofs.«01_k».proof.Proof.QUpValue
public import Idealize.ShloMosaic.Lib.Quiescent

@[expose] public section

set_option maxRecDepth 16384

noncomputable section

namespace Cert.Proof.QUp

open Idealize.ShloMosaic Idealize.ShloMosaic.TcCoe Idealize.SL.Sem
open Cert.QUpRefIdeal (S8x512x192 S4x512x192)
open Cert.QUpRefIdeal.Read

section Reference

variable (g0 g1 g2 g3 : Vec Ideal S8x512x192 .bf16) (w m v : Vec Ideal S4x512x192 .f32)

/-- The reference's gradients of the four layers. -/
abbrev grads : Vec Ideal S4x512x192 .f32 := val_main_v12 (F := Ideal) g0 g1 g2 g3

theorem ref_sums (x : Fin 512) (y : Fin 192) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.QUpIdeal Cert.QUpIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_QUpRefIdeal (hQUpRefIdeal := Cert.QUpRefIdeal.Gen.facts) := fun m g _ =>
  (θ_run _ _ _).mono (fun r h => ⟨fun c => (h c).2.2.2.2, sem_eq_zero_of_no_sems (by decide) r.2⟩)
    (Cert.QUpRefIdeal.Value.run m g)

theorem algebraic : algebraic_QUpIdeal_QUpRefIdeal (hQUpIdeal := Cert.QUpIdeal.Gen.facts)
    (hQUpRefIdeal := Cert.QUpRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.QUpRefIdeal.Value.run m' g')⟩
  · have hb := h c
    obtain ⟨e0, e1, e2, e3⟩ := ends m g c
    exact ⟨(hb _ (Cert.QUpIdeal.Gen.mem_uc Cert.QUpIdeal.main_v7_0 (by decide))).trans e0,
      (hb _ (Cert.QUpIdeal.Gen.mem_uc Cert.QUpIdeal.main_v7_1 (by decide))).trans e1,
      (hb _ (Cert.QUpIdeal.Gen.mem_uc Cert.QUpIdeal.main_v7_2 (by decide))).trans e2,
      (hb _ (Cert.QUpIdeal.Gen.mem_uc Cert.QUpIdeal.main_v7_3 (by decide))).trans e3,
      (hb _ (Cert.QUpIdeal.Gen.mem_uc Cert.QUpIdeal.main_arg0 (by decide))).trans (Cert.QUpIdeal.Gen.W8_main_arg0 m g c),
      (hb _ (Cert.QUpIdeal.Gen.mem_uc Cert.QUpIdeal.main_arg1 (by decide))).trans (Cert.QUpIdeal.Gen.W8_main_arg1 m g c),
      (hb _ (Cert.QUpIdeal.Gen.mem_uc Cert.QUpIdeal.main_arg2 (by decide))).trans (Cert.QUpIdeal.Gen.W8_main_arg2 m g c),
      (hb _ (Cert.QUpIdeal.Gen.mem_uc Cert.QUpIdeal.main_arg3 (by decide))).trans (Cert.QUpIdeal.Gen.W8_main_arg3 m g c),
      (hb _ (Cert.QUpIdeal.Gen.mem_uc Cert.QUpIdeal.main_arg4 (by decide))).trans (Cert.QUpIdeal.Gen.W8_main_arg4 m g c),
      (hb _ (Cert.QUpIdeal.Gen.mem_uc Cert.QUpIdeal.main_arg5 (by decide))).trans (Cert.QUpIdeal.Gen.W8_main_arg5 m g c),
      (hb _ (Cert.QUpIdeal.Gen.mem_uc Cert.QUpIdeal.main_arg6 (by decide))).trans (Cert.QUpIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.QUp

end
-- ==== Proof.KvUpRun.lean ====
/- The optimiser's step of the up projection's weights of keys and values, layer after layer, run one after another: what every buffer holds at the end. -/
module

public import proofs.«01_k».proof.Proof.Gen.KvUpIdeal.Frame

@[expose] public section

set_option maxRecDepth 16384

noncomputable section

namespace Cert.Proof.KvUp

open Cert.KvUpIdeal Cert.KvUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.KvUp

end
-- ==== Proof.KvUpValue.lean ====
/- The optimiser's step of the up projection's weights of keys and values, layer after layer: what the four calls leave in the results. -/
module

public import proofs.«01_k».proof.Proof.Gen.KvUpIdeal.Frame
public import proofs.«01_k».proof.Proof.Adam
public import Idealize.ShloMosaic.Lib.Pipeline.Value

@[expose] public section

set_option maxRecDepth 16384

noncomputable section

namespace Cert.Proof.KvUp

open Cert.KvUpIdeal Cert.KvUpIdeal.Gen Idealize.ShloMosaic Idealize.ShloMosaic.TcCoe Idealize.SL.Sem
open Idealize.ShloMosaic.StableHlo

/-! ## What one block's stores hold -/

section Tile

variable (x0 : Vec Ideal S8x256x256 .bf16) (x1 x2 x3 : Vec Ideal S1x256x256 .f32) (y : S1x256x256.Idx)

abbrev s3 := k0_pay3 (F := Ideal) (View.ld x0 (Rect.unit ![3, 0, 0] ![1, 256, 256] inb_S8x256x256_S1x256x256_3_0_0))
abbrev s4 := k0_pay4 (F := Ideal) (View.ld x0 (Rect.unit ![4, 0, 0] ![1, 256, 256] inb_S8x256x256_S1x256x256_4_0_0))
abbrev s5 := k0_pay5 (F := Ideal) (View.ld x0 (Rect.unit ![5, 0, 0] ![1, 256, 256] inb_S8x256x256_S1x256x256_5_0_0))
abbrev s6 := k0_pay6 (F := Ideal) (View.ld x0 (Rect.unit ![6, 0, 0] ![1, 256, 256] inb_S8x256x256_S1x256x256_6_0_0))
abbrev s7 := k0_pay7 (F := Ideal) (View.ld x0 (Rect.unit ![7, 0, 0] ![1, 256, 256] inb_S8x256x256_S1x256x256_7_0_0))
abbrev s01 := k0_pay11 (F := Ideal) (View.ld x0 (Rect.unit ![0, 0, 0] ![1, 256, 256] inb_S8x256x256_S1x256x256_0_0_0)) (View.ld x0 (Rect.unit ![1, 0, 0] ![1, 256, 256] inb_S8x256x256_S1x256x256_1_0_0))
abbrev s2 := k0_pay12 (F := Ideal) (View.ld x0 (Rect.unit ![2, 0, 0] ![1, 256, 256] inb_S8x256x256_S1x256x256_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x256x256.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x256x256.Idx) : iblk0 V c 1 t y = V c main_arg4 (((cfg0.win 4).blk t).view.emb y) := by
  refine congrArg (V c main_arg4) ?_
  blk_ext [idx0 t]

theorem firsts0 (t : Fin cfg0.N) (y : S1x256x256.Idx) : iblk0 V c 2 t y = V c main_arg5 (((cfg0.win 4).blk t).view.emb y) := by
  refine congrArg (V c main_arg5) ?_
  blk_ext [idx0 t]

theorem seconds0 (t : Fin cfg0.N) (y : S1x256x256.Idx) : iblk0 V c 3 t y = V c main_arg6 (((cfg0.win 4).blk t).view.emb y) := by
  refine congrArg (V c main_arg6) ?_
  blk_ext [idx0 t]

theorem point0 (t : Fin cfg0.N) (y : S1x256x256.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x256x256.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x256x256.Idx) : iblk1 V c 1 t y = V c main_arg4 (((cfg1.win 4).blk t).view.emb y) := by
  refine congrArg (V c main_arg4) ?_
  blk_ext [idx1 t]

theorem firsts1 (t : Fin cfg1.N) (y : S1x256x256.Idx) : iblk1 V c 2 t y = V c main_arg5 (((cfg1.win 4).blk t).view.emb y) := by
  refine congrArg (V c main_arg5) ?_
  blk_ext [idx1 t]

theorem seconds1 (t : Fin cfg1.N) (y : S1x256x256.Idx) : iblk1 V c 3 t y = V c main_arg6 (((cfg1.win 4).blk t).view.emb y) := by
  refine congrArg (V c main_arg6) ?_
  blk_ext [idx1 t]

theorem point1 (t : Fin cfg1.N) (y : S1x256x256.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x256x256.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x256x256.Idx) : iblk2 V c 1 t y = V c main_arg4 (((cfg2.win 4).blk t).view.emb y) := by
  refine congrArg (V c main_arg4) ?_
  blk_ext [idx2 t]

theorem firsts2 (t : Fin cfg2.N) (y : S1x256x256.Idx) : iblk2 V c 2 t y = V c main_arg5 (((cfg2.win 4).blk t).view.emb y) := by
  refine congrArg (V c main_arg5) ?_
  blk_ext [idx2 t]

theorem seconds2 (t : Fin cfg2.N) (y : S1x256x256.Idx) : iblk2 V c 3 t y = V c main_arg6 (((cfg2.win 4).blk t).view.emb y) := by
  refine congrArg (V c main_arg6) ?_
  blk_ext [idx2 t]

theorem point2 (t : Fin cfg2.N) (y : S1x256x256.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x256x256.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x256x256.Idx) : iblk3 V c 1 t y = V c main_arg4 (((cfg3.win 4).blk t).view.emb y) := by
  refine congrArg (V c main_arg4) ?_
  blk_ext [idx3 t]

theorem firsts3 (t : Fin cfg3.N) (y : S1x256x256.Idx) : iblk3 V c 2 t y = V c main_arg5 (((cfg3.win 4).blk t).view.emb y) := by
  refine congrArg (V c main_arg5) ?_
  blk_ext [idx3 t]

theorem seconds3 (t : Fin cfg3.N) (y : S1x256x256.Idx) : iblk3 V c 3 t y = V c main_arg6 (((cfg3.win 4).blk t).view.emb y) := by
  refine congrArg (V c main_arg6) ?_
  blk_ext [idx3 t]

theorem point3 (t : Fin cfg3.N) (y : S1x256x256.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x256x256 .bf16 := m ((c : Thread nD τ).loc main_arg0)
abbrev parts1 : Vec Ideal S8x256x256 .bf16 := m ((c : Thread nD τ).loc main_arg1)
abbrev parts2 : Vec Ideal S8x256x256 .bf16 := m ((c : Thread nD τ).loc main_arg2)
abbrev parts3 : Vec Ideal S8x256x256 .bf16 := m ((c : Thread nD τ).loc main_arg3)
abbrev argW : Vec Ideal S4x256x256 .f32 := m ((c : Thread nD τ).loc main_arg4)
abbrev argM : Vec Ideal S4x256x256 .f32 := m ((c : Thread nD τ).loc main_arg5)
abbrev argV : Vec Ideal S4x256x256 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.KvUp

end
-- ==== Proof.KvUpClaim.lean ====
/- The optimiser's step of the up projection's weights of keys and values, layer after layer: the kernels' results against the reference's. -/
module

public import proofs.«01_k».proof.Defs
public import proofs.«01_k».proof.Proof.Gen.KvUpRefIdeal.Run
public import proofs.«01_k».proof.Proof.Gen.KvUpRefIdeal.Read
public import proofs.«01_k».proof.Proof.KvUpRun
public import proofs.«01_k».proof.Proof.KvUpValue
public import Idealize.ShloMosaic.Lib.Quiescent

@[expose] public section

set_option maxRecDepth 16384

noncomputable section

namespace Cert.Proof.KvUp

open Idealize.ShloMosaic Idealize.ShloMosaic.TcCoe Idealize.SL.Sem
open Cert.KvUpRefIdeal (S8x256x256 S4x256x256)
open Cert.KvUpRefIdeal.Read

section Reference

variable (g0 g1 g2 g3 : Vec Ideal S8x256x256 .bf16) (w m v : Vec Ideal S4x256x256 .f32)

/-- The reference's gradients of the four layers. -/
abbrev grads : Vec Ideal S4x256x256 .f32 := val_main_v12 (F := Ideal) g0 g1 g2 g3

theorem ref_sums (x : Fin 256) (y : Fin 256) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.KvUpIdeal Cert.KvUpIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_KvUpRefIdeal (hKvUpRefIdeal := Cert.KvUpRefIdeal.Gen.facts) := fun m g _ =>
  (θ_run _ _ _).mono (fun r h => ⟨fun c => (h c).2.2.2.2, sem_eq_zero_of_no_sems (by decide) r.2⟩)
    (Cert.KvUpRefIdeal.Value.run m g)

theorem algebraic : algebraic_KvUpIdeal_KvUpRefIdeal (hKvUpIdeal := Cert.KvUpIdeal.Gen.facts)
    (hKvUpRefIdeal := Cert.KvUpRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.KvUpRefIdeal.Value.run m' g')⟩
  · have hb := h c
    obtain ⟨e0, e1, e2, e3⟩ := ends m g c
    exact ⟨(hb _ (Cert.KvUpIdeal.Gen.mem_uc Cert.KvUpIdeal.main_v7_0 (by decide))).trans e0,
      (hb _ (Cert.KvUpIdeal.Gen.mem_uc Cert.KvUpIdeal.main_v7_1 (by decide))).trans e1,
      (hb _ (Cert.KvUpIdeal.Gen.mem_uc Cert.KvUpIdeal.main_v7_2 (by decide))).trans e2,
      (hb _ (Cert.KvUpIdeal.Gen.mem_uc Cert.KvUpIdeal.main_v7_3 (by decide))).trans e3,
      (hb _ (Cert.KvUpIdeal.Gen.mem_uc Cert.KvUpIdeal.main_arg0 (by decide))).trans (Cert.KvUpIdeal.Gen.W8_main_arg0 m g c),
      (hb _ (Cert.KvUpIdeal.Gen.mem_uc Cert.KvUpIdeal.main_arg1 (by decide))).trans (Cert.KvUpIdeal.Gen.W8_main_arg1 m g c),
      (hb _ (Cert.KvUpIdeal.Gen.mem_uc Cert.KvUpIdeal.main_arg2 (by decide))).trans (Cert.KvUpIdeal.Gen.W8_main_arg2 m g c),
      (hb _ (Cert.KvUpIdeal.Gen.mem_uc Cert.KvUpIdeal.main_arg3 (by decide))).trans (Cert.KvUpIdeal.Gen.W8_main_arg3 m g c),
      (hb _ (Cert.KvUpIdeal.Gen.mem_uc Cert.KvUpIdeal.main_arg4 (by decide))).trans (Cert.KvUpIdeal.Gen.W8_main_arg4 m g c),
      (hb _ (Cert.KvUpIdeal.Gen.mem_uc Cert.KvUpIdeal.main_arg5 (by decide))).trans (Cert.KvUpIdeal.Gen.W8_main_arg5 m g c),
      (hb _ (Cert.KvUpIdeal.Gen.mem_uc Cert.KvUpIdeal.main_arg6 (by decide))).trans (Cert.KvUpIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.KvUp

end
-- ==== Proof.FfnUpRun.lean ====
/- The optimiser's step of the feed-forward up weights, layer after layer, run one after another: what every buffer holds at the end. -/
module

public import proofs.«01_k».proof.Proof.Gen.FfnUpIdeal.Frame

@[expose] public section

set_option maxRecDepth 16384

noncomputable section

namespace Cert.Proof.FfnUp

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.FfnUp

end
-- ==== Proof.FfnUpValue.lean ====
/- The optimiser's step of the feed-forward up weights, layer after layer: what the four calls leave in the results. -/
module

public import proofs.«01_k».proof.Proof.Gen.FfnUpIdeal.Frame
public import proofs.«01_k».proof.Proof.Adam
public import Idealize.ShloMosaic.Lib.Pipeline.Value

@[expose] public section

set_option maxRecDepth 16384

noncomputable section

namespace Cert.Proof.FfnUp

open Cert.FfnUpIdeal Cert.FfnUpIdeal.Gen Idealize.ShloMosaic Idealize.ShloMosaic.TcCoe Idealize.SL.Sem
open Idealize.ShloMosaic.StableHlo

/-! ## What one block's stores hold -/

section Tile

variable (x0 : Vec Ideal S8x128x1408 .bf16) (x1 x2 x3 : Vec Ideal S1x128x1408 .f32) (y : S1x128x1408.Idx)

abbrev s3 := k0_pay3 (F := Ideal) (View.ld x0 (Rect.unit ![3, 0, 0] ![1, 128, 1408] inb_S8x128x1408_S1x128x1408_3_0_0))
abbrev s4 := k0_pay4 (F := Ideal) (View.ld x0 (Rect.unit ![4, 0, 0] ![1, 128, 1408] inb_S8x128x1408_S1x128x1408_4_0_0))
abbrev s5 := k0_pay5 (F := Ideal) (View.ld x0 (Rect.unit ![5, 0, 0] ![1, 128, 1408] inb_S8x128x1408_S1x128x1408_5_0_0))
abbrev s6 := k0_pay6 (F := Ideal) (View.ld x0 (Rect.unit ![6, 0, 0] ![1, 128, 1408] inb_S8x128x1408_S1x128x1408_6_0_0))
abbrev s7 := k0_pay7 (F := Ideal) (View.ld x0 (Rect.unit ![7, 0, 0] ![1, 128, 1408] inb_S8x128x1408_S1x128x1408_7_0_0))
abbrev s01 := k0_pay11 (F := Ideal) (View.ld x0 (Rect.unit ![0, 0, 0] ![1, 128, 1408] inb_S8x128x1408_S1x128x1408_0_0_0)) (View.ld x0 (Rect.unit ![1, 0, 0] ![1, 128, 1408] inb_S8x128x1408_S1x128x1408_1_0_0))
abbrev s2 := k0_pay12 (F := Ideal) (View.ld x0 (Rect.unit ![2, 0, 0] ![1, 128, 1408] inb_S8x128x1408_S1x128x1408_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x128x1408.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x128x1408.Idx) : iblk0 V c 1 t y = V c main_arg4 (((cfg0.win 4).blk t).view.emb y) := by
  refine congrArg (V c main_arg4) ?_
  blk_ext [idx0 t]

theorem firsts0 (t : Fin cfg0.N) (y : S1x128x1408.Idx) : iblk0 V c 2 t y = V c main_arg5 (((cfg0.win 4).blk t).view.emb y) := by
  refine congrArg (V c main_arg5) ?_
  blk_ext [idx0 t]

theorem seconds0 (t : Fin cfg0.N) (y : S1x128x1408.Idx) : iblk0 V c 3 t y = V c main_arg6 (((cfg0.win 4).blk t).view.emb y) := by
  refine congrArg (V c main_arg6) ?_
  blk_ext [idx0 t]

theorem point0 (t : Fin cfg0.N) (y : S1x128x1408.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x128x1408.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x128x1408.Idx) : iblk1 V c 1 t y = V c main_arg4 (((cfg1.win 4).blk t).view.emb y) := by
  refine congrArg (V c main_arg4) ?_
  blk_ext [idx1 t]

theorem firsts1 (t : Fin cfg1.N) (y : S1x128x1408.Idx) : iblk1 V c 2 t y = V c main_arg5 (((cfg1.win 4).blk t).view.emb y) := by
  refine congrArg (V c main_arg5) ?_
  blk_ext [idx1 t]

theorem seconds1 (t : Fin cfg1.N) (y : S1x128x1408.Idx) : iblk1 V c 3 t y = V c main_arg6 (((cfg1.win 4).blk t).view.emb y) := by
  refine congrArg (V c main_arg6) ?_
  blk_ext [idx1 t]

theorem point1 (t : Fin cfg1.N) (y : S1x128x1408.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x128x1408.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x128x1408.Idx) : iblk2 V c 1 t y = V c main_arg4 (((cfg2.win 4).blk t).view.emb y) := by
  refine congrArg (V c main_arg4) ?_
  blk_ext [idx2 t]

theorem firsts2 (t : Fin cfg2.N) (y : S1x128x1408.Idx) : iblk2 V c 2 t y = V c main_arg5 (((cfg2.win 4).blk t).view.emb y) := by
  refine congrArg (V c main_arg5) ?_
  blk_ext [idx2 t]

theorem seconds2 (t : Fin cfg2.N) (y : S1x128x1408.Idx) : iblk2 V c 3 t y = V c main_arg6 (((cfg2.win 4).blk t).view.emb y) := by
  refine congrArg (V c main_arg6) ?_
  blk_ext [idx2 t]

theorem point2 (t : Fin cfg2.N) (y : S1x128x1408.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x128x1408.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x128x1408.Idx) : iblk3 V c 1 t y = V c main_arg4 (((cfg3.win 4).blk t).view.emb y) := by
  refine congrArg (V c main_arg4) ?_
  blk_ext [idx3 t]

theorem firsts3 (t : Fin cfg3.N) (y : S1x128x1408.Idx) : iblk3 V c 2 t y = V c main_arg5 (((cfg3.win 4).blk t).view.emb y) := by
  refine congrArg (V c main_arg5) ?_
  blk_ext [idx3 t]

theorem seconds3 (t : Fin cfg3.N) (y : S1x128x1408.Idx) : iblk3 V c 3 t y = V c main_arg6 (((cfg3.win 4).blk t).view.emb y) := by
  refine congrArg (V c main_arg6) ?_
  blk_ext [idx3 t]

theorem point3 (t : Fin cfg3.N) (y : S1x128x1408.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x2048x1408 .bf16 := m ((c : Thread nD τ).loc main_arg0)
abbrev parts1 : Vec Ideal S8x2048x1408 .bf16 := m ((c : Thread nD τ).loc main_arg1)
abbrev parts2 : Vec Ideal S8x2048x1408 .bf16 := m ((c : Thread nD τ).loc main_arg2)
abbrev parts3 : Vec Ideal S8x2048x1408 .bf16 := m ((c : Thread nD τ).loc main_arg3)
abbrev argW : Vec Ideal S4x2048x1408 .f32 := m ((c : Thread nD τ).loc main_arg4)
abbrev argM : Vec Ideal S4x2048x1408 .f32 := m ((c : Thread nD τ).loc main_arg5)
abbrev argV : Vec Ideal S4x2048x1408 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.FfnUp

end
-- ==== Proof.FfnUpClaim.lean ====
/- The optimiser's step of the feed-forward up weights, layer after layer: the kernels' results against the reference's. -/
module

public import proofs.«01_k».proof.Defs
public import proofs.«01_k».proof.Proof.Gen.FfnUpRefIdeal.Run
public import proofs.«01_k».proof.Proof.Gen.FfnUpRefIdeal.Read
public import proofs.«01_k».proof.Proof.FfnUpRun
public import proofs.«01_k».proof.Proof.FfnUpValue
public import Idealize.ShloMosaic.Lib.Quiescent

@[expose] public section

set_option maxRecDepth 16384

noncomputable section

namespace Cert.Proof.FfnUp

open Idealize.ShloMosaic Idealize.ShloMosaic.TcCoe Idealize.SL.Sem
open Cert.FfnUpRefIdeal (S8x2048x1408 S4x2048x1408)
open Cert.FfnUpRefIdeal.Read

section Reference

variable (g0 g1 g2 g3 : Vec Ideal S8x2048x1408 .bf16) (w m v : Vec Ideal S4x2048x1408 .f32)

/-- The reference's gradients of the four layers. -/
abbrev grads : Vec Ideal S4x2048x1408 .f32 := val_main_v12 (F := Ideal) g0 g1 g2 g3

theorem ref_sums (x : Fin 2048) (y : Fin 1408) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.FfnUpIdeal Cert.FfnUpIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_FfnUpRefIdeal (hFfnUpRefIdeal := Cert.FfnUpRefIdeal.Gen.facts) := fun m g _ =>
  (θ_run _ _ _).mono (fun r h => ⟨fun c => (h c).2.2.2.2, sem_eq_zero_of_no_sems (by decide) r.2⟩)
    (Cert.FfnUpRefIdeal.Value.run m g)

theorem algebraic : algebraic_FfnUpIdeal_FfnUpRefIdeal (hFfnUpIdeal := Cert.FfnUpIdeal.Gen.facts)
    (hFfnUpRefIdeal := Cert.FfnUpRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.FfnUpRefIdeal.Value.run m' g')⟩
  · have hb := h c
    obtain ⟨e0, e1, e2, e3⟩ := ends m g c
    exact ⟨(hb _ (Cert.FfnUpIdeal.Gen.mem_uc Cert.FfnUpIdeal.main_v7_0 (by decide))).trans e0,
      (hb _ (Cert.FfnUpIdeal.Gen.mem_uc Cert.FfnUpIdeal.main_v7_1 (by decide))).trans e1,
      (hb _ (Cert.FfnUpIdeal.Gen.mem_uc Cert.FfnUpIdeal.main_v7_2 (by decide))).trans e2,
      (hb _ (Cert.FfnUpIdeal.Gen.mem_uc Cert.FfnUpIdeal.main_v7_3 (by decide))).trans e3,
      (hb _ (Cert.FfnUpIdeal.Gen.mem_uc Cert.FfnUpIdeal.main_arg0 (by decide))).trans (Cert.FfnUpIdeal.Gen.W8_main_arg0 m g c),
      (hb _ (Cert.FfnUpIdeal.Gen.mem_uc Cert.FfnUpIdeal.main_arg1 (by decide))).trans (Cert.FfnUpIdeal.Gen.W8_main_arg1 m g c),
      (hb _ (Cert.FfnUpIdeal.Gen.mem_uc Cert.FfnUpIdeal.main_arg2 (by decide))).trans (Cert.FfnUpIdeal.Gen.W8_main_arg2 m g c),
      (hb _ (Cert.FfnUpIdeal.Gen.mem_uc Cert.FfnUpIdeal.main_arg3 (by decide))).trans (Cert.FfnUpIdeal.Gen.W8_main_arg3 m g c),
      (hb _ (Cert.FfnUpIdeal.Gen.mem_uc Cert.FfnUpIdeal.main_arg4 (by decide))).trans (Cert.FfnUpIdeal.Gen.W8_main_arg4 m g c),
      (hb _ (Cert.FfnUpIdeal.Gen.mem_uc Cert.FfnUpIdeal.main_arg5 (by decide))).trans (Cert.FfnUpIdeal.Gen.W8_main_arg5 m g c),
      (hb _ (Cert.FfnUpIdeal.Gen.mem_uc Cert.FfnUpIdeal.main_arg6 (by decide))).trans (Cert.FfnUpIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.FfnUp

end
-- ==== Proof.FfnDownRun.lean ====
/- The optimiser's step of the feed-forward down weights, layer after layer, run one after another: what every buffer holds at the end. -/
module

public import proofs.«01_k».proof.Proof.Gen.FfnDownIdeal.Frame

@[expose] public section

set_option maxRecDepth 16384

noncomputable section

namespace Cert.Proof.FfnDown

open Cert.FfnDownIdeal Cert.FfnDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends with the contents of the last boundary, `W8`: each stretch of host operations and each kernel in
    turn, from the launch. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof.FfnDown

end
-- ==== Proof.FfnDownValue.lean ====
/- The optimiser's step of the feed-forward down weights, layer after layer: what the four calls leave in the results. -/
module

public import proofs.«01_k».proof.Proof.Gen.FfnDownIdeal.Frame
public import proofs.«01_k».proof.Proof.Adam
public import Idealize.ShloMosaic.Lib.Pipeline.Value

@[expose] public section

set_option maxRecDepth 16384

noncomputable section

namespace Cert.Proof.FfnDown

open Cert.FfnDownIdeal Cert.FfnDownIdeal.Gen Idealize.ShloMosaic Idealize.ShloMosaic.TcCoe Idealize.SL.Sem
open Idealize.ShloMosaic.StableHlo

/-! ## What one block's stores hold -/

section Tile

variable (x0 : Vec Ideal S8x64x2048 .bf16) (x1 x2 x3 : Vec Ideal S1x64x2048 .f32) (y : S1x64x2048.Idx)

abbrev s3 := k0_pay3 (F := Ideal) (View.ld x0 (Rect.unit ![3, 0, 0] ![1, 64, 2048] inb_S8x64x2048_S1x64x2048_3_0_0))
abbrev s4 := k0_pay4 (F := Ideal) (View.ld x0 (Rect.unit ![4, 0, 0] ![1, 64, 2048] inb_S8x64x2048_S1x64x2048_4_0_0))
abbrev s5 := k0_pay5 (F := Ideal) (View.ld x0 (Rect.unit ![5, 0, 0] ![1, 64, 2048] inb_S8x64x2048_S1x64x2048_5_0_0))
abbrev s6 := k0_pay6 (F := Ideal) (View.ld x0 (Rect.unit ![6, 0, 0] ![1, 64, 2048] inb_S8x64x2048_S1x64x2048_6_0_0))
abbrev s7 := k0_pay7 (F := Ideal) (View.ld x0 (Rect.unit ![7, 0, 0] ![1, 64, 2048] inb_S8x64x2048_S1x64x2048_7_0_0))
abbrev s01 := k0_pay11 (F := Ideal) (View.ld x0 (Rect.unit ![0, 0, 0] ![1, 64, 2048] inb_S8x64x2048_S1x64x2048_0_0_0)) (View.ld x0 (Rect.unit ![1, 0, 0] ![1, 64, 2048] inb_S8x64x2048_S1x64x2048_1_0_0))
abbrev s2 := k0_pay12 (F := Ideal) (View.ld x0 (Rect.unit ![2, 0, 0] ![1, 64, 2048] inb_S8x64x2048_S1x64x2048_2_0_0))

/-- The eight gradients of an entry, added up one after another, are their sum. -/
theorem tile_total : k0_pay13 (s3 x0) (s4 x0) (s5 x0) (s6 x0) (s7 x0) (s01 x0) (s2 x0) (ix2 (y 1) (y 2))
    = Adam.totals x0 y := by
  refine Eq.trans ?_ (Adam.eight fun d => x0 (ix3 d (y 1) (y 2)))
  pointwise [k0_pay13, k0_pay12, k0_pay11, k0_pay3, k0_pay4, k0_pay5, k0_pay6, k0_pay7]

theorem tile : Adam.Step (Adam.totals x0 y) (x1 y) (x2 y) (x3 y)
    (k0_pay16 (s3 x0) (s4 x0) (s5 x0) (s6 x0) (s7 x0) (s01 x0) (s2 x0) y)
    (k0_pay17 (s3 x0) (s4 x0) (s5 x0) (s6 x0) (s7 x0) (k0_pay8 x1) (k0_pay9 x2) (k0_pay10 x3) (s01 x0) (s2 x0) y)
    (k0_pay1 (k0_pay14 (s3 x0) (s4 x0) (s5 x0) (s6 x0) (s7 x0) (k0_pay9 x2) (s01 x0) (s2 x0)) y)
    (k0_pay2 (k0_pay15 (s3 x0) (s4 x0) (s5 x0) (s6 x0) (s7 x0) (k0_pay10 x3) (s01 x0) (s2 x0)) y) := by
  rw [← tile_total]
  refine ⟨?_, ?_, ?_, ?_⟩
  · pointwise [k0_pay16]
  · pointwise [k0_pay17, k0_pay15, k0_pay14, k0_pay8, k0_pay9, k0_pay10, Adam.change, Adam.first, Adam.second]
  · pointwise [k0_pay1, k0_pay14, k0_pay9, Adam.first]
  · pointwise [k0_pay2, k0_pay15, k0_pay10, Adam.second]

end Tile

/-! ## The four calls' arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![3, t.val, 0] ∧ win0_2.index t = ![3, t.val, 0]
    ∧ win0_3.index t = ![3, t.val, 0] ∧ win0_4.index t = ![3, t.val, 0] ∧ win0_5.index t = ![3, t.val, 0] ∧ win0_6.index t = ![3, t.val, 0]
    ∧ win0_7.index t = ![3, t.val, 0] := (by decide +kernel : ∀ t : Fin grid0.N, _)

/-- The operands' blocks at the place the results' blocks go to. -/
theorem sums0 (t : Fin cfg0.N) (y : S1x64x2048.Idx) :
    Adam.totals (iblk0 V c 0 t) y = Adam.sumOf (V c main_arg3) (((cfg0.win 4).blk t).view.emb y) := by
  unfold Adam.totals Adam.sumOf
  refine Fin.sum_fin_congr fun d => congrArg (V c main_arg3) ?_
  blk_ext [idx0 t]

theorem weights0 (t : Fin cfg0.N) (y : S1x64x2048.Idx) : iblk0 V c 1 t y = V c main_arg4 (((cfg0.win 4).blk t).view.emb y) := by
  refine congrArg (V c main_arg4) ?_
  blk_ext [idx0 t]

theorem firsts0 (t : Fin cfg0.N) (y : S1x64x2048.Idx) : iblk0 V c 2 t y = V c main_arg5 (((cfg0.win 4).blk t).view.emb y) := by
  refine congrArg (V c main_arg5) ?_
  blk_ext [idx0 t]

theorem seconds0 (t : Fin cfg0.N) (y : S1x64x2048.Idx) : iblk0 V c 3 t y = V c main_arg6 (((cfg0.win 4).blk t).view.emb y) := by
  refine congrArg (V c main_arg6) ?_
  blk_ext [idx0 t]

theorem point0 (t : Fin cfg0.N) (y : S1x64x2048.Idx) : Adam.Step (Adam.sumOf (V c main_arg3) (((cfg0.win 4).blk t).view.emb y))
    (V c main_arg4 (((cfg0.win 4).blk t).view.emb y)) (V c main_arg5 (((cfg0.win 4).blk t).view.emb y))
    (V c main_arg6 (((cfg0.win 4).blk t).view.emb y)) ((outsAt0 V c t).1 y) ((outsAt0 V c t).2.1 y) ((outsAt0 V c t).2.2.1 y)
    ((outsAt0 V c t).2.2.2 y) := by
  rw [← sums0 V c t y, ← weights0 V c t y, ← firsts0 V c t y, ← seconds0 V c t y]
  have h := tile (iblk0 V c 0 t) (iblk0 V c 1 t) (iblk0 V c 2 t) (iblk0 V c 3 t) y
  unfold outsAt0
  refine ⟨?_, ?_, ?_, ?_⟩ <;> frame_out
  · exact h.grad
  · exact h.change
  · exact h.first
  · exact h.second

theorem array0 : Adam.Layer 3 (V c main_arg3) (V c main_arg4) (V c main_arg5) (V c main_arg6) (V c main_v4_0) (V c main_v4_1)
    (V c main_v4_2) (V c main_v4_3) ((dat0 V c).arrAt 4 cfg0.N) ((dat0 V c).arrAt 5 cfg0.N) ((dat0 V c).arrAt 6 cfg0.N)
    ((dat0 V c).arrAt 7 cfg0.N) := by
  refine ⟨(dat0 V c).arrAt_eq_of_coversWhere 4 _ (fun β => β (0 : Fin _) = 3) (by decide +kernel) (fun t _ y => ?_) (fun j => Iff.rfl),
    (dat0 V c).arrAt_eq_of_coversWhere 5 _ (fun β => β (0 : Fin _) = 3) (by decide +kernel) (fun t _ y => ?_) (fun j => Iff.rfl),
    (dat0 V c).arrAt_eq_of_coversWhere 6 _ (fun β => β (0 : Fin _) = 3) (by decide +kernel) (fun t _ y => ?_) (fun j => Iff.rfl),
    (dat0 V c).arrAt_eq_of_coversWhere 7 _ (fun β => β (0 : Fin _) = 3) (by decide +kernel) (fun t _ y => ?_) (fun j => Iff.rfl)⟩ <;>
    blk_simp
  · rw [after0_4]; exact (point0 V c t y).grad
  · rw [after0_5]; exact (point0 V c t y).change
  · rw [after0_6]; exact (point0 V c t y).first
  · rw [after0_7]; exact (point0 V c t y).second

theorem idx1 : ∀ t : Fin cfg1.N, win1_0.index t = ![0, t.val, 0] ∧ win1_1.index t = ![2, t.val, 0] ∧ win1_2.index t = ![2, t.val, 0]
    ∧ win1_3.index t = ![2, t.val, 0] ∧ win1_4.index t = ![2, t.val, 0] ∧ win1_5.index t = ![2, t.val, 0] ∧ win1_6.index t = ![2, t.val, 0]
    ∧ win1_7.index t = ![2, t.val, 0] := (by decide +kernel : ∀ t : Fin grid1.N, _)

/-- The operands' blocks at the place the results' blocks go to. -/
theorem sums1 (t : Fin cfg1.N) (y : S1x64x2048.Idx) :
    Adam.totals (iblk1 V c 0 t) y = Adam.sumOf (V c main_arg2) (((cfg1.win 4).blk t).view.emb y) := by
  unfold Adam.totals Adam.sumOf
  refine Fin.sum_fin_congr fun d => congrArg (V c main_arg2) ?_
  blk_ext [idx1 t]

theorem weights1 (t : Fin cfg1.N) (y : S1x64x2048.Idx) : iblk1 V c 1 t y = V c main_arg4 (((cfg1.win 4).blk t).view.emb y) := by
  refine congrArg (V c main_arg4) ?_
  blk_ext [idx1 t]

theorem firsts1 (t : Fin cfg1.N) (y : S1x64x2048.Idx) : iblk1 V c 2 t y = V c main_arg5 (((cfg1.win 4).blk t).view.emb y) := by
  refine congrArg (V c main_arg5) ?_
  blk_ext [idx1 t]

theorem seconds1 (t : Fin cfg1.N) (y : S1x64x2048.Idx) : iblk1 V c 3 t y = V c main_arg6 (((cfg1.win 4).blk t).view.emb y) := by
  refine congrArg (V c main_arg6) ?_
  blk_ext [idx1 t]

theorem point1 (t : Fin cfg1.N) (y : S1x64x2048.Idx) : Adam.Step (Adam.sumOf (V c main_arg2) (((cfg1.win 4).blk t).view.emb y))
    (V c main_arg4 (((cfg1.win 4).blk t).view.emb y)) (V c main_arg5 (((cfg1.win 4).blk t).view.emb y))
    (V c main_arg6 (((cfg1.win 4).blk t).view.emb y)) ((outsAt1 V c t).1 y) ((outsAt1 V c t).2.1 y) ((outsAt1 V c t).2.2.1 y)
    ((outsAt1 V c t).2.2.2 y) := by
  rw [← sums1 V c t y, ← weights1 V c t y, ← firsts1 V c t y, ← seconds1 V c t y]
  have h := tile (iblk1 V c 0 t) (iblk1 V c 1 t) (iblk1 V c 2 t) (iblk1 V c 3 t) y
  unfold outsAt1
  refine ⟨?_, ?_, ?_, ?_⟩ <;> frame_out
  · exact h.grad
  · exact h.change
  · exact h.first
  · exact h.second

theorem array1 : Adam.Layer 2 (V c main_arg2) (V c main_arg4) (V c main_arg5) (V c main_arg6) (V c main_v5_0) (V c main_v5_1)
    (V c main_v5_2) (V c main_v5_3) ((dat1 V c).arrAt 4 cfg1.N) ((dat1 V c).arrAt 5 cfg1.N) ((dat1 V c).arrAt 6 cfg1.N)
    ((dat1 V c).arrAt 7 cfg1.N) := by
  refine ⟨(dat1 V c).arrAt_eq_of_coversWhere 4 _ (fun β => β (0 : Fin _) = 2) (by decide +kernel) (fun t _ y => ?_) (fun j => Iff.rfl),
    (dat1 V c).arrAt_eq_of_coversWhere 5 _ (fun β => β (0 : Fin _) = 2) (by decide +kernel) (fun t _ y => ?_) (fun j => Iff.rfl),
    (dat1 V c).arrAt_eq_of_coversWhere 6 _ (fun β => β (0 : Fin _) = 2) (by decide +kernel) (fun t _ y => ?_) (fun j => Iff.rfl),
    (dat1 V c).arrAt_eq_of_coversWhere 7 _ (fun β => β (0 : Fin _) = 2) (by decide +kernel) (fun t _ y => ?_) (fun j => Iff.rfl)⟩ <;>
    blk_simp
  · rw [after1_4]; exact (point1 V c t y).grad
  · rw [after1_5]; exact (point1 V c t y).change
  · rw [after1_6]; exact (point1 V c t y).first
  · rw [after1_7]; exact (point1 V c t y).second

theorem idx2 : ∀ t : Fin cfg2.N, win2_0.index t = ![0, t.val, 0] ∧ win2_1.index t = ![1, t.val, 0] ∧ win2_2.index t = ![1, t.val, 0]
    ∧ win2_3.index t = ![1, t.val, 0] ∧ win2_4.index t = ![1, t.val, 0] ∧ win2_5.index t = ![1, t.val, 0] ∧ win2_6.index t = ![1, t.val, 0]
    ∧ win2_7.index t = ![1, t.val, 0] := (by decide +kernel : ∀ t : Fin grid2.N, _)

/-- The operands' blocks at the place the results' blocks go to. -/
theorem sums2 (t : Fin cfg2.N) (y : S1x64x2048.Idx) :
    Adam.totals (iblk2 V c 0 t) y = Adam.sumOf (V c main_arg1) (((cfg2.win 4).blk t).view.emb y) := by
  unfold Adam.totals Adam.sumOf
  refine Fin.sum_fin_congr fun d => congrArg (V c main_arg1) ?_
  blk_ext [idx2 t]

theorem weights2 (t : Fin cfg2.N) (y : S1x64x2048.Idx) : iblk2 V c 1 t y = V c main_arg4 (((cfg2.win 4).blk t).view.emb y) := by
  refine congrArg (V c main_arg4) ?_
  blk_ext [idx2 t]

theorem firsts2 (t : Fin cfg2.N) (y : S1x64x2048.Idx) : iblk2 V c 2 t y = V c main_arg5 (((cfg2.win 4).blk t).view.emb y) := by
  refine congrArg (V c main_arg5) ?_
  blk_ext [idx2 t]

theorem seconds2 (t : Fin cfg2.N) (y : S1x64x2048.Idx) : iblk2 V c 3 t y = V c main_arg6 (((cfg2.win 4).blk t).view.emb y) := by
  refine congrArg (V c main_arg6) ?_
  blk_ext [idx2 t]

theorem point2 (t : Fin cfg2.N) (y : S1x64x2048.Idx) : Adam.Step (Adam.sumOf (V c main_arg1) (((cfg2.win 4).blk t).view.emb y))
    (V c main_arg4 (((cfg2.win 4).blk t).view.emb y)) (V c main_arg5 (((cfg2.win 4).blk t).view.emb y))
    (V c main_arg6 (((cfg2.win 4).blk t).view.emb y)) ((outsAt2 V c t).1 y) ((outsAt2 V c t).2.1 y) ((outsAt2 V c t).2.2.1 y)
    ((outsAt2 V c t).2.2.2 y) := by
  rw [← sums2 V c t y, ← weights2 V c t y, ← firsts2 V c t y, ← seconds2 V c t y]
  have h := tile (iblk2 V c 0 t) (iblk2 V c 1 t) (iblk2 V c 2 t) (iblk2 V c 3 t) y
  unfold outsAt2
  refine ⟨?_, ?_, ?_, ?_⟩ <;> frame_out
  · exact h.grad
  · exact h.change
  · exact h.first
  · exact h.second

theorem array2 : Adam.Layer 1 (V c main_arg1) (V c main_arg4) (V c main_arg5) (V c main_arg6) (V c main_v6_0) (V c main_v6_1)
    (V c main_v6_2) (V c main_v6_3) ((dat2 V c).arrAt 4 cfg2.N) ((dat2 V c).arrAt 5 cfg2.N) ((dat2 V c).arrAt 6 cfg2.N)
    ((dat2 V c).arrAt 7 cfg2.N) := by
  refine ⟨(dat2 V c).arrAt_eq_of_coversWhere 4 _ (fun β => β (0 : Fin _) = 1) (by decide +kernel) (fun t _ y => ?_) (fun j => Iff.rfl),
    (dat2 V c).arrAt_eq_of_coversWhere 5 _ (fun β => β (0 : Fin _) = 1) (by decide +kernel) (fun t _ y => ?_) (fun j => Iff.rfl),
    (dat2 V c).arrAt_eq_of_coversWhere 6 _ (fun β => β (0 : Fin _) = 1) (by decide +kernel) (fun t _ y => ?_) (fun j => Iff.rfl),
    (dat2 V c).arrAt_eq_of_coversWhere 7 _ (fun β => β (0 : Fin _) = 1) (by decide +kernel) (fun t _ y => ?_) (fun j => Iff.rfl)⟩ <;>
    blk_simp
  · rw [after2_4]; exact (point2 V c t y).grad
  · rw [after2_5]; exact (point2 V c t y).change
  · rw [after2_6]; exact (point2 V c t y).first
  · rw [after2_7]; exact (point2 V c t y).second

theorem idx3 : ∀ t : Fin cfg3.N, win3_0.index t = ![0, t.val, 0] ∧ win3_1.index t = ![0, t.val, 0] ∧ win3_2.index t = ![0, t.val, 0]
    ∧ win3_3.index t = ![0, t.val, 0] ∧ win3_4.index t = ![0, t.val, 0] ∧ win3_5.index t = ![0, t.val, 0] ∧ win3_6.index t = ![0, t.val, 0]
    ∧ win3_7.index t = ![0, t.val, 0] := (by decide +kernel : ∀ t : Fin grid3.N, _)

/-- The operands' blocks at the place the results' blocks go to. -/
theorem sums3 (t : Fin cfg3.N) (y : S1x64x2048.Idx) :
    Adam.totals (iblk3 V c 0 t) y = Adam.sumOf (V c main_arg0) (((cfg3.win 4).blk t).view.emb y) := by
  unfold Adam.totals Adam.sumOf
  refine Fin.sum_fin_congr fun d => congrArg (V c main_arg0) ?_
  blk_ext [idx3 t]

theorem weights3 (t : Fin cfg3.N) (y : S1x64x2048.Idx) : iblk3 V c 1 t y = V c main_arg4 (((cfg3.win 4).blk t).view.emb y) := by
  refine congrArg (V c main_arg4) ?_
  blk_ext [idx3 t]

theorem firsts3 (t : Fin cfg3.N) (y : S1x64x2048.Idx) : iblk3 V c 2 t y = V c main_arg5 (((cfg3.win 4).blk t).view.emb y) := by
  refine congrArg (V c main_arg5) ?_
  blk_ext [idx3 t]

theorem seconds3 (t : Fin cfg3.N) (y : S1x64x2048.Idx) : iblk3 V c 3 t y = V c main_arg6 (((cfg3.win 4).blk t).view.emb y) := by
  refine congrArg (V c main_arg6) ?_
  blk_ext [idx3 t]

theorem point3 (t : Fin cfg3.N) (y : S1x64x2048.Idx) : Adam.Step (Adam.sumOf (V c main_arg0) (((cfg3.win 4).blk t).view.emb y))
    (V c main_arg4 (((cfg3.win 4).blk t).view.emb y)) (V c main_arg5 (((cfg3.win 4).blk t).view.emb y))
    (V c main_arg6 (((cfg3.win 4).blk t).view.emb y)) ((outsAt3 V c t).1 y) ((outsAt3 V c t).2.1 y) ((outsAt3 V c t).2.2.1 y)
    ((outsAt3 V c t).2.2.2 y) := by
  rw [← sums3 V c t y, ← weights3 V c t y, ← firsts3 V c t y, ← seconds3 V c t y]
  have h := tile (iblk3 V c 0 t) (iblk3 V c 1 t) (iblk3 V c 2 t) (iblk3 V c 3 t) y
  unfold outsAt3
  refine ⟨?_, ?_, ?_, ?_⟩ <;> frame_out
  · exact h.grad
  · exact h.change
  · exact h.first
  · exact h.second

theorem array3 : Adam.Layer 0 (V c main_arg0) (V c main_arg4) (V c main_arg5) (V c main_arg6) (V c main_v7_0) (V c main_v7_1)
    (V c main_v7_2) (V c main_v7_3) ((dat3 V c).arrAt 4 cfg3.N) ((dat3 V c).arrAt 5 cfg3.N) ((dat3 V c).arrAt 6 cfg3.N)
    ((dat3 V c).arrAt 7 cfg3.N) := by
  refine ⟨(dat3 V c).arrAt_eq_of_coversWhere 4 _ (fun β => β (0 : Fin _) = 0) (by decide +kernel) (fun t _ y => ?_) (fun j => Iff.rfl),
    (dat3 V c).arrAt_eq_of_coversWhere 5 _ (fun β => β (0 : Fin _) = 0) (by decide +kernel) (fun t _ y => ?_) (fun j => Iff.rfl),
    (dat3 V c).arrAt_eq_of_coversWhere 6 _ (fun β => β (0 : Fin _) = 0) (by decide +kernel) (fun t _ y => ?_) (fun j => Iff.rfl),
    (dat3 V c).arrAt_eq_of_coversWhere 7 _ (fun β => β (0 : Fin _) = 0) (by decide +kernel) (fun t _ y => ?_) (fun j => Iff.rfl)⟩ <;>
    blk_simp
  · rw [after3_4]; exact (point3 V c t y).grad
  · rw [after3_5]; exact (point3 V c t y).change
  · rw [after3_6]; exact (point3 V c t y).first
  · rw [after3_7]; exact (point3 V c t y).second

/-! ## The results at the end -/

section Chain

variable (m : (ℓ : Loc nD τ sig) → Buf (Elt Ideal) ℓ) (ρ : Dev nD → PrngReg)

abbrev parts0 : Vec Ideal S8x704x2048 .bf16 := m ((c : Thread nD τ).loc main_arg0)
abbrev parts1 : Vec Ideal S8x704x2048 .bf16 := m ((c : Thread nD τ).loc main_arg1)
abbrev parts2 : Vec Ideal S8x704x2048 .bf16 := m ((c : Thread nD τ).loc main_arg2)
abbrev parts3 : Vec Ideal S8x704x2048 .bf16 := m ((c : Thread nD τ).loc main_arg3)
abbrev argW : Vec Ideal S4x704x2048 .f32 := m ((c : Thread nD τ).loc main_arg4)
abbrev argM : Vec Ideal S4x704x2048 .f32 := m ((c : Thread nD τ).loc main_arg5)
abbrev argV : Vec Ideal S4x704x2048 .f32 := m ((c : Thread nD τ).loc main_arg6)

theorem carried1_0 : W3 m ρ c main_v5_0 = W2 m ρ c main_v4_0 := by
  after_results
  rfl

theorem carried1_1 : W3 m ρ c main_v5_1 = W2 m ρ c main_v4_1 := by
  after_results
  rfl

theorem carried1_2 : W3 m ρ c main_v5_2 = W2 m ρ c main_v4_2 := by
  after_results
  rfl

theorem carried1_3 : W3 m ρ c main_v5_3 = W2 m ρ c main_v4_3 := by
  after_results
  rfl

theorem carried2_0 : W5 m ρ c main_v6_0 = W4 m ρ c main_v5_0 := by
  after_results
  rfl

theorem carried2_1 : W5 m ρ c main_v6_1 = W4 m ρ c main_v5_1 := by
  after_results
  rfl

theorem carried2_2 : W5 m ρ c main_v6_2 = W4 m ρ c main_v5_2 := by
  after_results
  rfl

theorem carried2_3 : W5 m ρ c main_v6_3 = W4 m ρ c main_v5_3 := by
  after_results
  rfl

theorem carried3_0 : W7 m ρ c main_v7_0 = W6 m ρ c main_v6_0 := by
  after_results
  rfl

theorem carried3_1 : W7 m ρ c main_v7_1 = W6 m ρ c main_v6_1 := by
  after_results
  rfl

theorem carried3_2 : W7 m ρ c main_v7_2 = W6 m ρ c main_v6_2 := by
  after_results
  rfl

theorem carried3_3 : W7 m ρ c main_v7_3 = W6 m ρ c main_v6_3 := by
  after_results
  rfl

theorem layer3 : Adam.Layer 3 (parts3 c m) (argW c m) (argM c m) (argV c m) (W1 m ρ c main_v4_0) (W1 m ρ c main_v4_1) (W1 m ρ c main_v4_2) (W1 m ρ c main_v4_3)
    (W2 m ρ c main_v4_0) (W2 m ρ c main_v4_1) (W2 m ρ c main_v4_2) (W2 m ρ c main_v4_3) :=
  (array0 (V1 m ρ) c).of (W1_args m ρ c main_arg3 (by decide)) (W1_args m ρ c main_arg4 (by decide)) (W1_args m ρ c main_arg5 (by decide))
    (W1_args m ρ c main_arg6 (by decide)) rfl rfl rfl rfl (W2_arr m ρ c 4) (W2_arr m ρ c 5)
    (W2_arr m ρ c 6) (W2_arr m ρ c 7)

theorem layer2 : Adam.Layer 2 (parts2 c m) (argW c m) (argM c m) (argV c m) (W2 m ρ c main_v4_0) (W2 m ρ c main_v4_1) (W2 m ρ c main_v4_2) (W2 m ρ c main_v4_3)
    (W4 m ρ c main_v5_0) (W4 m ρ c main_v5_1) (W4 m ρ c main_v5_2) (W4 m ρ c main_v5_3) :=
  (array1 (V3 m ρ) c).of (W3_args m ρ c main_arg2 (by decide)) (W3_args m ρ c main_arg4 (by decide)) (W3_args m ρ c main_arg5 (by decide))
    (W3_args m ρ c main_arg6 (by decide)) (carried1_0 c m ρ) (carried1_1 c m ρ) (carried1_2 c m ρ) (carried1_3 c m ρ) (W4_arr m ρ c 4) (W4_arr m ρ c 5)
    (W4_arr m ρ c 6) (W4_arr m ρ c 7)

theorem layer1 : Adam.Layer 1 (parts1 c m) (argW c m) (argM c m) (argV c m) (W4 m ρ c main_v5_0) (W4 m ρ c main_v5_1) (W4 m ρ c main_v5_2) (W4 m ρ c main_v5_3)
    (W6 m ρ c main_v6_0) (W6 m ρ c main_v6_1) (W6 m ρ c main_v6_2) (W6 m ρ c main_v6_3) :=
  (array2 (V5 m ρ) c).of (W5_args m ρ c main_arg1 (by decide)) (W5_args m ρ c main_arg4 (by decide)) (W5_args m ρ c main_arg5 (by decide))
    (W5_args m ρ c main_arg6 (by decide)) (carried2_0 c m ρ) (carried2_1 c m ρ) (carried2_2 c m ρ) (carried2_3 c m ρ) (W6_arr m ρ c 4) (W6_arr m ρ c 5)
    (W6_arr m ρ c 6) (W6_arr m ρ c 7)

theorem layer0 : Adam.Layer 0 (parts0 c m) (argW c m) (argM c m) (argV c m) (W6 m ρ c main_v6_0) (W6 m ρ c main_v6_1) (W6 m ρ c main_v6_2) (W6 m ρ c main_v6_3)
    (W8 m ρ c main_v7_0) (W8 m ρ c main_v7_1) (W8 m ρ c main_v7_2) (W8 m ρ c main_v7_3) :=
  (array3 (V7 m ρ) c).of (W7_args m ρ c main_arg0 (by decide)) (W7_args m ρ c main_arg4 (by decide)) (W7_args m ρ c main_arg5 (by decide))
    (W7_args m ρ c main_arg6 (by decide)) (carried3_0 c m ρ) (carried3_1 c m ρ) (carried3_2 c m ρ) (carried3_3 c m ρ) (W8_arr m ρ c 4) (W8_arr m ρ c 5)
    (W8_arr m ρ c 6) (W8_arr m ρ c 7)

end Chain

end Cert.Proof.FfnDown

end
-- ==== Proof.FfnDownClaim.lean ====
/- The optimiser's step of the feed-forward down weights, layer after layer: the kernels' results against the reference's. -/
module

public import proofs.«01_k».proof.Defs
public import proofs.«01_k».proof.Proof.Gen.FfnDownRefIdeal.Run
public import proofs.«01_k».proof.Proof.Gen.FfnDownRefIdeal.Read
public import proofs.«01_k».proof.Proof.FfnDownRun
public import proofs.«01_k».proof.Proof.FfnDownValue
public import Idealize.ShloMosaic.Lib.Quiescent

@[expose] public section

set_option maxRecDepth 16384

noncomputable section

namespace Cert.Proof.FfnDown

open Idealize.ShloMosaic Idealize.ShloMosaic.TcCoe Idealize.SL.Sem
open Cert.FfnDownRefIdeal (S8x704x2048 S4x704x2048)
open Cert.FfnDownRefIdeal.Read

section Reference

variable (g0 g1 g2 g3 : Vec Ideal S8x704x2048 .bf16) (w m v : Vec Ideal S4x704x2048 .f32)

/-- The reference's gradients of the four layers. -/
abbrev grads : Vec Ideal S4x704x2048 .f32 := val_main_v12 (F := Ideal) g0 g1 g2 g3

theorem ref_sums (x : Fin 704) (y : Fin 2048) : Adam.sumOf g0 (ix3 0 x y) = grads g0 g1 g2 g3 (ix3 0 x y)
    ∧ Adam.sumOf g1 (ix3 1 x y) = grads g0 g1 g2 g3 (ix3 1 x y) ∧ Adam.sumOf g2 (ix3 2 x y) = grads g0 g1 g2 g3 (ix3 2 x y)
    ∧ Adam.sumOf g3 (ix3 3 x y) = grads g0 g1 g2 g3 (ix3 3 x y) := by
  unfold Adam.sumOf
  refine ⟨?_, ?_, ?_, ?_⟩
  · pointwise [val_main_v12, val_main_v8, val_main_v1, val_main_v0, val_main_cst]
  · pointwise [val_main_v12, val_main_v9, val_main_v3, val_main_v2, val_main_cst_0]
  · pointwise [val_main_v12, val_main_v10, val_main_v5, val_main_v4, val_main_cst_1]
  · pointwise [val_main_v12, val_main_v11, val_main_v7, val_main_v6, val_main_cst_2]

/-- The reference's results in the step's words. -/
theorem ref : Adam.changeOf (grads g0 g1 g2 g3) w m v = val_main_v36 (F := Ideal) g0 g1 g2 g3 w m v
    ∧ Adam.firstOf (grads g0 g1 g2 g3) m = val_main_v17 (F := Ideal) g0 g1 g2 g3 m
    ∧ Adam.secondOf (grads g0 g1 g2 g3) v = val_main_v23 (F := Ideal) g0 g1 g2 g3 v := ⟨rfl, rfl, rfl⟩

end Reference

section Ends

open Cert.FfnDownIdeal Cert.FfnDownIdeal.Gen

variable (m : (ℓ : Loc nD τ sig) → Buf (Elt Ideal) ℓ) (ρ : Dev nD → PrngReg) (c : Dev nD)

/-- The four results at the end. -/
theorem ends : W8 m ρ c main_v7_0 = grads (parts0 c m) (parts1 c m) (parts2 c m) (parts3 c m)
    ∧ W8 m ρ c main_v7_1 = val_main_v36 (F := Ideal) (parts0 c m) (parts1 c m) (parts2 c m) (parts3 c m) (argW c m) (argM c m) (argV c m)
    ∧ W8 m ρ c main_v7_2 = val_main_v17 (F := Ideal) (parts0 c m) (parts1 c m) (parts2 c m) (parts3 c m) (argM c m)
    ∧ W8 m ρ c main_v7_3 = val_main_v23 (F := Ideal) (parts0 c m) (parts1 c m) (parts2 c m) (parts3 c m) (argV c m) := by
  have hs := ref_sums (parts0 c m) (parts1 c m) (parts2 c m) (parts3 c m)
  obtain ⟨h0, h1, h2, h3⟩ := Adam.layers (layer3 c m ρ) (layer2 c m ρ) (layer1 c m ρ) (layer0 c m ρ) (fun x y => (hs x y).1)
    (fun x y => (hs x y).2.1) (fun x y => (hs x y).2.2.1) (fun x y => (hs x y).2.2.2)
  obtain ⟨r1, r2, r3⟩ := ref (parts0 c m) (parts1 c m) (parts2 c m) (parts3 c m) (argW c m) (argM c m) (argV c m)
  exact ⟨h0, h1.trans r1, h2.trans r2, h3.trans r3⟩

end Ends

/-- The reference, a program of host operations alone, keeps its arguments; it has no semaphore. -/
theorem refFrame : quiescent_FfnDownRefIdeal (hFfnDownRefIdeal := Cert.FfnDownRefIdeal.Gen.facts) := fun m g _ =>
  (θ_run _ _ _).mono (fun r h => ⟨fun c => (h c).2.2.2.2, sem_eq_zero_of_no_sems (by decide) r.2⟩)
    (Cert.FfnDownRefIdeal.Value.run m g)

theorem algebraic : algebraic_FfnDownIdeal_FfnDownRefIdeal (hFfnDownIdeal := Cert.FfnDownIdeal.Gen.facts)
    (hFfnDownRefIdeal := Cert.FfnDownRefIdeal.Gen.facts) := by
  intro m g m' g' _ hagree
  refine ⟨fun c => grads (parts0 c m) (parts1 c m) (parts2 c m) (parts3 c m),
    fun c => val_main_v36 (F := Ideal) (parts0 c m) (parts1 c m) (parts2 c m) (parts3 c m) (argW c m) (argM c m) (argV c m),
    fun c => val_main_v17 (F := Ideal) (parts0 c m) (parts1 c m) (parts2 c m) (parts3 c m) (argM c m),
    fun c => val_main_v23 (F := Ideal) (parts0 c m) (parts1 c m) (parts2 c m) (parts3 c m) (argV c m),
    (θ_run _ _ _).mono (fun r h c => ?_) (run m g), (θ_run _ _ _).mono (fun r h c => ?_) (Cert.FfnDownRefIdeal.Value.run m' g')⟩
  · have hb := h c
    obtain ⟨e0, e1, e2, e3⟩ := ends m g c
    exact ⟨(hb _ (Cert.FfnDownIdeal.Gen.mem_uc Cert.FfnDownIdeal.main_v7_0 (by decide))).trans e0,
      (hb _ (Cert.FfnDownIdeal.Gen.mem_uc Cert.FfnDownIdeal.main_v7_1 (by decide))).trans e1,
      (hb _ (Cert.FfnDownIdeal.Gen.mem_uc Cert.FfnDownIdeal.main_v7_2 (by decide))).trans e2,
      (hb _ (Cert.FfnDownIdeal.Gen.mem_uc Cert.FfnDownIdeal.main_v7_3 (by decide))).trans e3,
      (hb _ (Cert.FfnDownIdeal.Gen.mem_uc Cert.FfnDownIdeal.main_arg0 (by decide))).trans (Cert.FfnDownIdeal.Gen.W8_main_arg0 m g c),
      (hb _ (Cert.FfnDownIdeal.Gen.mem_uc Cert.FfnDownIdeal.main_arg1 (by decide))).trans (Cert.FfnDownIdeal.Gen.W8_main_arg1 m g c),
      (hb _ (Cert.FfnDownIdeal.Gen.mem_uc Cert.FfnDownIdeal.main_arg2 (by decide))).trans (Cert.FfnDownIdeal.Gen.W8_main_arg2 m g c),
      (hb _ (Cert.FfnDownIdeal.Gen.mem_uc Cert.FfnDownIdeal.main_arg3 (by decide))).trans (Cert.FfnDownIdeal.Gen.W8_main_arg3 m g c),
      (hb _ (Cert.FfnDownIdeal.Gen.mem_uc Cert.FfnDownIdeal.main_arg4 (by decide))).trans (Cert.FfnDownIdeal.Gen.W8_main_arg4 m g c),
      (hb _ (Cert.FfnDownIdeal.Gen.mem_uc Cert.FfnDownIdeal.main_arg5 (by decide))).trans (Cert.FfnDownIdeal.Gen.W8_main_arg5 m g c),
      (hb _ (Cert.FfnDownIdeal.Gen.mem_uc Cert.FfnDownIdeal.main_arg6 (by decide))).trans (Cert.FfnDownIdeal.Gen.W8_main_arg6 m g c)⟩
  · obtain ⟨h0, h1, h2, h3, h'⟩ := h c
    obtain ⟨e0, e1, e2, e3, e4, e5, e6⟩ := hagree c
    refine ⟨h0.trans ?_, h1.trans ?_, h2.trans ?_, h3.trans ?_, h'⟩
    · rw [val_main_v12_eq, e0, e1, e2, e3]
    · rw [val_main_v36_eq, e0, e1, e2, e3, e4, e5, e6]
    · rw [val_main_v17_eq, e0, e1, e2, e3, e5]
    · rw [val_main_v23_eq, e0, e1, e2, e3, e6]

end Cert.Proof.FfnDown

end
-- ==== Proof.LossClaim.lean ====
/- The loss of one example: the kernel's rows, added up by the host, against the reference's loss. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.FfnShapes
public import Idealize.ShloMosaic.Lib.Pipeline.Value
public import Idealize.ShloMosaic.Lib.Quiescent

@[expose] public section

set_option maxRecDepth 16384

noncomputable section

namespace Cert.Proof.Loss

open Cert.LossIdeal Cert.LossIdeal.Gen Cert.LossRefIdeal.Read Idealize.ShloMosaic Idealize.ShloMosaic.TcCoe Idealize.SL.Sem
open Cert.Proof.Ffn (mx ar2)

/-! ## A row's loss, and the sum of halves -/

/-- The factor one half. -/
abbrev half : EReal := Ideal.ofBits .f32 0x3F000000#32

theorem half_eq : half = (((1 : ℝ) / 2 : ℝ) : EReal) := by
  simp [half, Ideal.ofBits, Ideal.ieee, -EReal.coe_mul]
  norm_num

/-- A half times a sum is the sum of the halves. -/
theorem half_sum {n : Nat} (f : Fin n → EReal) : ∑ r, half * f r = half * ∑ r, f r := by
  have h0 : (0 : EReal) ≤ half := by rw [half_eq]; exact_mod_cast (by norm_num : (0 : ℝ) ≤ 1 / 2)
  have h1 : half ≠ ⊤ := by rw [half_eq]; exact EReal.coe_ne_top _
  have key : ∀ s : Finset (Fin n), ∑ r ∈ s, half * f r = half * ∑ r ∈ s, f r := fun s => by
    refine s.induction_on ?_ fun a s ha ih => ?_
    · rw [Finset.sum_empty, Finset.sum_empty, mul_zero]
    · rw [Finset.sum_insert ha, Finset.sum_insert ha, ih, EReal.left_distrib_of_nonneg_of_ne_top h0 h1]
  exact key Finset.univ

/-- An entry's error: the row divided by the root of its mean square, times the gain, less the target. -/
def err (h : Fin 2048 → EReal) (gain t : Fin 2048 → EReal) (x : Fin 2048) : EReal :=
  h x * Ideal.rsqrt (Ideal.div (∑ y, h y * h y) (Ideal.ofBits .f32 0x45000000#32) + Ideal.ofBits .f32 0x358637BD#32) * gain x - t x

/-- A row's mean squared error. -/
def rowLoss (h gain t : Fin 2048 → EReal) : EReal :=
  Ideal.div (∑ x, err h gain t x * err h gain t x) (Ideal.ofBits .f32 0x45000000#32)

/-! ## The kernel's rows -/

theorem tile (a b : Vec Ideal S256x2048 .f32) (g : Vec Ideal S1x2048 .f32) (r : Fin 256) :
    k0_pay1 (F := Ideal) a b g (ix2 r 0) = half * rowLoss (mx (n := 256) (k := 2048) a r) (mx (n := 1) (k := 2048) g 0) (mx (n := 256) (k := 2048) b r) := by
  unfold rowLoss err mx
  pointwise [k0_pay1]

section Run

variable (m : (ℓ : Loc nD τ sig) → Buf (Elt Ideal) ℓ) (c : Dev nD)

abbrev argH : Vec Ideal S2048x2048 .f32 := m ((c : Thread nD τ).loc main_arg0)
abbrev argG : Vec Ideal S2048 .f32 := m ((c : Thread nD τ).loc main_arg1)
abbrev argT : Vec Ideal S2048x2048 .f32 := m ((c : Thread nD τ).loc main_arg2)

/-- The mean squared error of row `r` of the arguments. -/
def rows (r : Fin 2048) : EReal :=
  rowLoss (mx (n := 2048) (k := 2048) (argH m c) r) (fun x => argG m c (ix1 x)) (mx (n := 2048) (k := 2048) (argT m c) r)

theorem idx : ∀ t : Fin cfg0.N, win0_0.index t = ![t.val, 0] ∧ win0_1.index t = ![t.val, 0] ∧ win0_2.index t = ![0, 0]
    ∧ win0_3.index t = ![t.val, 0] ∧ t.val < 8 := (by decide +kernel : ∀ t : Fin grid0.N, _)

/-- Row `r` of point `t`'s block. -/
def row (t : Fin cfg0.N) (r : Fin 256) : Fin 2048 := ⟨256 * t.val + r.val, by have := (idx t).2.2.2.2; omega⟩

/-- Half of each row's mean squared error, as a column. -/
def halves : Vec Ideal S2048x1 .f32 := fun i => half * rows m c (i 0)

theorem gain_eq : V m c main_v0 = shapeCast S1x2048 (argG m c) shapeCasts_S2048_S1x2048 := by
  unfold V V0
  simp only [hostOps0, List.flatten_cons, List.flatten_nil, List.append_nil]
  after_results
  rfl

theorem block_h (t : Fin cfg0.N) :
    mx (n := 256) (k := 2048) (iblk m c 0 t) = fun r x => mx (n := 2048) (k := 2048) (V m c main_arg0) (row t r) x := by
  funext r x
  unfold mx row
  blk_ext [iblk, idx t]

theorem block_t (t : Fin cfg0.N) :
    mx (n := 256) (k := 2048) (iblk m c 1 t) = fun r x => mx (n := 2048) (k := 2048) (V m c main_arg2) (row t r) x := by
  funext r x
  unfold mx row
  blk_ext [iblk, idx t]

theorem block_g (t : Fin cfg0.N) : mx (n := 1) (k := 2048) (iblk m c 2 t) 0 = mx (n := 1) (k := 2048) (V m c main_v0) 0 := by
  funext x
  unfold mx
  blk_ext [iblk, idx t]

theorem gain_row : mx (n := 1) (k := 2048) (V m c main_v0) 0 = fun x => argG m c (ix1 x) := by
  rw [gain_eq]
  funext x
  unfold mx
  pointwise

/-- A block of the result: half of its rows' mean squared errors. -/
theorem block_out (t : Fin cfg0.N) (r : Fin 256) :
    k0_pay1 (F := Ideal) (iblk m c 0 t) (iblk m c 1 t) (iblk m c 2 t) (ix2 r 0) = half * rows m c (row t r) := by
  refine (tile _ _ _ r).trans ?_
  rw [block_h, block_t, block_g, gain_row, V_main_arg0, V_main_arg2]
  rfl

theorem place (t : Fin cfg0.N) (y : S256x1.Idx) : ((cfg0.win 3).blk t).view.emb y = ix2 (row t (y 0)) 0 := by
  unfold row
  blk_ext [idx t]

theorem eta (y : S256x1.Idx) : y = ix2 (y 0) 0 := by
  funext a
  fin_cases a
  · rfl
  · exact Subsingleton.elim (α := Fin 1) _ _

theorem after_out (t : Fin cfg0.N) (y : S256x1.Idx) :
    out0_3 (F := Ideal) (iblk m c 0 t) (iblk m c 1 t) (iblk m c 2 t) y = halves m c (ix2 (row t (y 0)) 0) := by
  frame_out
  rw [eta y]
  exact block_out m c t (y 0)

/-- The call's result. -/
theorem column : (dats m 0 c).arrAt 3 cfg0.N = halves m c := by
  refine (dats m 0 c).arrAt_eq_of_covers 3 _ (by decide +kernel) fun t _ y => ?_
  blk_simp
  rw [after0_3]
  exact (after_out m c t y).trans (congrArg (halves m c) (place t y).symm)

/-- The reference's mean of a row. -/
theorem ref_row (r : Fin 2048) : val_main_v17 (F := Ideal) (argH m c) (argG m c) (argT m c) (ix1 r) = rows m c r := by
  unfold rows rowLoss err mx
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]

/-- The reference's loss: half the sum of the rows' means. -/
theorem ref_loss : val_main_v19 (F := Ideal) (argH m c) (argG m c) (argT m c) = fun _ => half * ∑ r, rows m c r := by
  funext i
  rw [val_main_v19_apply, val_main_v18_apply]
  refine congrArg (half * ·) ?_
  refine (congrArg₂ (· + ·) Ideal.ofBits_zero_f32 (sum_idx1 _)).trans ((zero_add _).trans ?_)
  exact Finset.sum_congr rfl fun r _ => ref_row m c r

/-- The host's sum of the column. -/
theorem total : Host.reduceAdd (F := Ideal) (halves m c) (constant S_ .f32 0x00000000#32) reducesTo_S2048x1_S_d0_1 h_S_
    = fun _ => half * ∑ r, rows m c r := by
  funext i
  refine (Ideal.hostReduceAdd_total reducesTo_S2048x1_S_d0_1 (fun b => b.elim0) _ _ i).trans ?_
  refine (congrArg₂ (· + ·) Ideal.ofBits_zero_f32 (sum_idx2 _)).trans ((zero_add _).trans ?_)
  refine (Finset.sum_congr rfl fun r _ => ?_).trans (half_sum (rows m c))
  exact Fintype.sum_unique _

theorem loss : Pipeline.afterTail₀ cfgs (dats m) 0 (V0 m) [hostOps1] c main_v2
    = val_main_v19 (F := Ideal) (argH m c) (argG m c) (argT m c) := by
  rw [ref_loss, ← total, ← column]
  unfold Pipeline.afterTail₀
  after_results
  refine congrArg (fun x => Host.reduceAdd (F := Ideal) x (constant S_ .f32 0x00000000#32) reducesTo_S2048x1_S_d0_1 h_S_) ?_
  refine (StableHlo.nullary_result_ne _ _ _ _ ?_).trans (Pipeline.withArrays_arr spec0 launch0.win.arr_inj c _ _ 3)
  decide

end Run

/-! ## The claims -/

theorem refFrame : quiescent_LossRefIdeal (hLossRefIdeal := Cert.LossRefIdeal.Gen.facts) := fun m g _ =>
  (θ_run _ _ _).mono (fun r h => ⟨fun c => (h c).2, sem_eq_zero_of_no_sems (by decide) r.2⟩)
    (Cert.LossRefIdeal.Value.run m g)

theorem algebraic : algebraic_LossIdeal_LossRefIdeal (hLossIdeal := Cert.LossIdeal.Gen.facts)
    (hLossRefIdeal := Cert.LossRefIdeal.Gen.facts) := by
  intro m g m' g' _ hagree
  refine ⟨fun c => val_main_v19 (F := Ideal) (argH m c) (argG m c) (argT m c), (θ_run _ _ _).mono (fun r h c => ?_) (run_main m g),
    (θ_run _ _ _).mono (fun r h c => ?_) (Cert.LossRefIdeal.Value.run m' g')⟩
  · exact ⟨((h c).2 main_v2 (Pipeline.mem_restRefs_of main_v2 (by decide) (by decide))).trans (loss m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩
  · obtain ⟨h0, h'⟩ := h c
    obtain ⟨e0, e1, e2⟩ := hagree c
    refine ⟨h0.trans ?_, h'⟩
    rw [val_main_v19_eq, e0, e1, e2]

end Cert.Proof.Loss

end
-- ==== Proof.lean ====
module

public import proofs.«01_k».proof.Defs
public import proofs.«01_k».proof.Proof.Gen.Xat
public import proofs.«01_k».proof.Proof.Gen.Xat.Skeleton
public import proofs.«01_k».proof.Proof.Gen.Xat.Launch
public import proofs.«01_k».proof.Proof.Gen.Xat.Points
public import proofs.«01_k».proof.Proof.Gen.Xat.Frame
public import proofs.«01_k».proof.Proof.Gen.XatIdeal
public import proofs.«01_k».proof.Proof.Gen.XatIdeal.Skeleton
public import proofs.«01_k».proof.Proof.Gen.XatIdeal.Launch
public import proofs.«01_k».proof.Proof.Gen.XatIdeal.Points
public import proofs.«01_k».proof.Proof.Gen.XatIdeal.Frame
public import proofs.«01_k».proof.Proof.Gen.XatRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Lin
public import proofs.«01_k».proof.Proof.Gen.Lin.Skeleton
public import proofs.«01_k».proof.Proof.Gen.Lin.Launch
public import proofs.«01_k».proof.Proof.Gen.Lin.Points
public import proofs.«01_k».proof.Proof.Gen.Lin.Frame
public import proofs.«01_k».proof.Proof.Gen.LinIdeal
public import proofs.«01_k».proof.Proof.Gen.LinIdeal.Skeleton
public import proofs.«01_k».proof.Proof.Gen.LinIdeal.Launch
public import proofs.«01_k».proof.Proof.Gen.LinIdeal.Points
public import proofs.«01_k».proof.Proof.Gen.LinIdeal.Frame
public import proofs.«01_k».proof.Proof.Gen.LinRefIdeal
public import proofs.«01_k».proof.Proof.Gen.Pre_xat_finite
public import proofs.«01_k».proof.Proof.Gen.XatIdeal.Value
public import proofs.«01_k».proof.Proof.Gen.XatRefIdeal.Run
public import proofs.«01_k».proof.Proof.Gen.XatRefIdeal.Read
public import proofs.«01_k».proof.Proof.Gen.FfnRefIdeal.Run
public import proofs.«01_k».proof.Proof.Gen.FfnRefIdeal.Read
public import proofs.«01_k».proof.Proof.Gen.Norms
public import proofs.«01_k».proof.Proof.Gen.Norms.Skeleton
public import proofs.«01_k».proof.Proof.Gen.Norms.Launch
public import proofs.«01_k».proof.Proof.Gen.Norms.Points
public import proofs.«01_k».proof.Proof.Gen.Norms.Frame
public import proofs.«01_k».proof.Proof.Gen.NormsIdeal
public import proofs.«01_k».proof.Proof.Gen.NormsIdeal.Skeleton
public import proofs.«01_k».proof.Proof.Gen.NormsIdeal.Launch
public import proofs.«01_k».proof.Proof.Gen.NormsIdeal.Points
public import proofs.«01_k».proof.Proof.Gen.NormsIdeal.Frame
public import proofs.«01_k».proof.Proof.Gen.NormsRefIdeal
public import proofs.«01_k».proof.Proof.Gen.NormsRefIdeal.Run
public import proofs.«01_k».proof.Proof.Gen.NormsRefIdeal.Read
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.HeadNorm
public import proofs.«01_k».proof.Proof.Gen.HeadNorm.Skeleton
public import proofs.«01_k».proof.Proof.Gen.HeadNorm.Launch
public import proofs.«01_k».proof.Proof.Gen.HeadNorm.Points
public import proofs.«01_k».proof.Proof.Gen.HeadNorm.Frame
public import proofs.«01_k».proof.Proof.Gen.HeadNormIdeal
public import proofs.«01_k».proof.Proof.Gen.HeadNormIdeal.Skeleton
public import proofs.«01_k».proof.Proof.Gen.HeadNormIdeal.Launch
public import proofs.«01_k».proof.Proof.Gen.HeadNormIdeal.Points
public import proofs.«01_k».proof.Proof.Gen.HeadNormIdeal.Frame
public import proofs.«01_k».proof.Proof.Gen.HeadNormRefIdeal
public import proofs.«01_k».proof.Proof.Gen.HeadNormRefIdeal.Run
public import proofs.«01_k».proof.Proof.Gen.HeadNormRefIdeal.Read
public import proofs.«01_k».proof.Proof.Gen.QNorm
public import proofs.«01_k».proof.Proof.Gen.QNorm.Skeleton
public import proofs.«01_k».proof.Proof.Gen.QNorm.Launch
public import proofs.«01_k».proof.Proof.Gen.QNorm.Points
public import proofs.«01_k».proof.Proof.Gen.QNorm.Frame
public import proofs.«01_k».proof.Proof.Gen.QNormIdeal
public import proofs.«01_k».proof.Proof.Gen.QNormIdeal.Skeleton
public import proofs.«01_k».proof.Proof.Gen.QNormIdeal.Launch
public import proofs.«01_k».proof.Proof.Gen.QNormIdeal.Points
public import proofs.«01_k».proof.Proof.Gen.QNormIdeal.Frame
public import proofs.«01_k».proof.Proof.Gen.QNormRefIdeal
public import proofs.«01_k».proof.Proof.Gen.QNormRefIdeal.Run
public import proofs.«01_k».proof.Proof.Gen.QNormRefIdeal.Read
public import proofs.«01_k».proof.Proof.Gen.KvNorm
public import proofs.«01_k».proof.Proof.Gen.KvNorm.Skeleton
public import proofs.«01_k».proof.Proof.Gen.KvNorm.Launch
public import proofs.«01_k».proof.Proof.Gen.KvNorm.Points
public import proofs.«01_k».proof.Proof.Gen.KvNorm.Frame
public import proofs.«01_k».proof.Proof.Gen.KvNormIdeal
public import proofs.«01_k».proof.Proof.Gen.KvNormIdeal.Skeleton
public import proofs.«01_k».proof.Proof.Gen.KvNormIdeal.Launch
public import proofs.«01_k».proof.Proof.Gen.KvNormIdeal.Points
public import proofs.«01_k».proof.Proof.Gen.KvNormIdeal.Frame
public import proofs.«01_k».proof.Proof.Gen.KvNormRefIdeal
public import proofs.«01_k».proof.Proof.Gen.KvNormRefIdeal.Run
public import proofs.«01_k».proof.Proof.Gen.KvNormRefIdeal.Read
public import proofs.«01_k».proof.Proof.Gen.EndNorm
public import proofs.«01_k».proof.Proof.Gen.EndNorm.Skeleton
public import proofs.«01_k».proof.Proof.Gen.EndNorm.Launch
public import proofs.«01_k».proof.Proof.Gen.EndNorm.Points
public import proofs.«01_k».proof.Proof.Gen.EndNorm.Frame
public import proofs.«01_k».proof.Proof.Gen.EndNormIdeal
public import proofs.«01_k».proof.Proof.Gen.EndNormIdeal.Skeleton
public import proofs.«01_k».proof.Proof.Gen.EndNormIdeal.Launch
public import proofs.«01_k».proof.Proof.Gen.EndNormIdeal.Points
public import proofs.«01_k».proof.Proof.Gen.EndNormIdeal.Frame
public import proofs.«01_k».proof.Proof.Gen.EndNormRefIdeal
public import proofs.«01_k».proof.Proof.Gen.EndNormRefIdeal.Run
public import proofs.«01_k».proof.Proof.Gen.EndNormRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.FfnConv
public import proofs.«01_k».proof.Proof.Gen.FfnConv.Skeleton
public import proofs.«01_k».proof.Proof.Gen.FfnConv.Launch
public import proofs.«01_k».proof.Proof.Gen.FfnConv.Points
public import proofs.«01_k».proof.Proof.Gen.FfnConv.Frame
public import proofs.«01_k».proof.Proof.Gen.FfnConvIdeal
public import proofs.«01_k».proof.Proof.Gen.FfnConvIdeal.Skeleton
public import proofs.«01_k».proof.Proof.Gen.FfnConvIdeal.Launch
public import proofs.«01_k».proof.Proof.Gen.FfnConvIdeal.Points
public import proofs.«01_k».proof.Proof.Gen.FfnConvIdeal.Frame
public import proofs.«01_k».proof.Proof.Gen.FfnConvRefIdeal
public import proofs.«01_k».proof.Proof.Gen.FfnConvRefIdeal.Run
public import proofs.«01_k».proof.Proof.Gen.FfnConvRefIdeal.Read
public import proofs.«01_k».proof.Proof.Gen.Square
public import proofs.«01_k».proof.Proof.Gen.Square.Skeleton
public import proofs.«01_k».proof.Proof.Gen.Square.Launch
public import proofs.«01_k».proof.Proof.Gen.Square.Points
public import proofs.«01_k».proof.Proof.Gen.Square.Frame
public import proofs.«01_k».proof.Proof.Gen.SquareIdeal
public import proofs.«01_k».proof.Proof.Gen.SquareIdeal.Skeleton
public import proofs.«01_k».proof.Proof.Gen.SquareIdeal.Launch
public import proofs.«01_k».proof.Proof.Gen.SquareIdeal.Points
public import proofs.«01_k».proof.Proof.Gen.SquareIdeal.Frame
public import proofs.«01_k».proof.Proof.Gen.SquareRefIdeal
public import proofs.«01_k».proof.Proof.Gen.SquareRefIdeal.Run
public import proofs.«01_k».proof.Proof.Gen.SquareRefIdeal.Read
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInRefIdeal
public import proofs.«01_k».proof.Proof.Gen.WInRefIdeal.Run
public import proofs.«01_k».proof.Proof.Gen.WInRefIdeal.Read
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.QUpRefIdeal
public import proofs.«01_k».proof.Proof.Gen.QUpRefIdeal.Run
public import proofs.«01_k».proof.Proof.Gen.QUpRefIdeal.Read
public import proofs.«01_k».proof.Proof.Gen.KvUp
public import proofs.«01_k».proof.Proof.Gen.KvUp.Skeleton
public import proofs.«01_k».proof.Proof.Gen.KvUp.Launch
public import proofs.«01_k».proof.Proof.Gen.KvUp.Points
public import proofs.«01_k».proof.Proof.Gen.KvUp.Frame
public import proofs.«01_k».proof.Proof.Gen.KvUpIdeal
public import proofs.«01_k».proof.Proof.Gen.KvUpIdeal.Skeleton
public import proofs.«01_k».proof.Proof.Gen.KvUpIdeal.Launch
public import proofs.«01_k».proof.Proof.Gen.KvUpIdeal.Points
public import proofs.«01_k».proof.Proof.Gen.KvUpIdeal.Frame
public import proofs.«01_k».proof.Proof.Gen.KvUpRefIdeal
public import proofs.«01_k».proof.Proof.Gen.KvUpRefIdeal.Run
public import proofs.«01_k».proof.Proof.Gen.KvUpRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.DaIdeal.Value
public import proofs.«01_k».proof.Proof.Gen.DaRefIdeal.Run
public import proofs.«01_k».proof.Proof.Gen.DaRefIdeal.Read
public import proofs.«01_k».proof.Proof.Gen.DwRefIdeal.Run
public import proofs.«01_k».proof.Proof.Gen.DwRefIdeal.Read
public import proofs.«01_k».proof.Proof.Gen.OutRefIdeal.Run
public import proofs.«01_k».proof.Proof.Gen.OutRefIdeal.Read
public import proofs.«01_k».proof.Proof.Gen.LinRefIdeal.Run
public import proofs.«01_k».proof.Proof.Gen.LinRefIdeal.Read
public import proofs.«01_k».proof.Proof.XatClaim
public import proofs.«01_k».proof.Proof.FfnClaim
public import proofs.«01_k».proof.Proof.DaClaim
public import proofs.«01_k».proof.Proof.DwClaim
public import proofs.«01_k».proof.Proof.OutClaim
public import proofs.«01_k».proof.Proof.LinClaim
public import proofs.«01_k».proof.Proof.NormsClaim
public import proofs.«01_k».proof.Proof.HeadsClaim
public import proofs.«01_k».proof.Proof.HeadNormClaim
public import proofs.«01_k».proof.Proof.QNormClaim
public import proofs.«01_k».proof.Proof.KvNormClaim
public import proofs.«01_k».proof.Proof.EndNormClaim
public import proofs.«01_k».proof.Proof.BiasClaim
public import proofs.«01_k».proof.Proof.ConvClaim
public import proofs.«01_k».proof.Proof.FfnConvClaim
public import proofs.«01_k».proof.Proof.SquareClaim
public import proofs.«01_k».proof.Proof.WInClaim
public import proofs.«01_k».proof.Proof.QUpClaim
public import proofs.«01_k».proof.Proof.KvUpClaim
public import proofs.«01_k».proof.Proof.FfnUpClaim
public import proofs.«01_k».proof.Proof.FfnDownClaim
public import proofs.«01_k».proof.Proof.LossClaim
public import Idealize.ShloMosaic.Adequacy
public import Idealize.ShloMosaic.Init

@[expose] public section

noncomputable section

namespace Cert.Proof

open Idealize.ShloMosaic Idealize.SL.Sem Cert.Xat

theorem claim : Cert.Claim := ⟨Cert.Xat.Gen.facts, Cert.XatIdeal.Gen.facts, Cert.XatRefIdeal.Gen.facts, Cert.Ffn.Gen.facts, Cert.FfnIdeal.Gen.facts, Cert.FfnRefIdeal.Gen.facts, Cert.Da.Gen.facts, Cert.DaIdeal.Gen.facts, Cert.DaRefIdeal.Gen.facts, Cert.Dw.Gen.facts, Cert.DwIdeal.Gen.facts, Cert.DwRefIdeal.Gen.facts, Cert.Out.Gen.facts, Cert.OutIdeal.Gen.facts, Cert.OutRefIdeal.Gen.facts, Cert.Lin.Gen.facts, Cert.LinIdeal.Gen.facts, Cert.LinRefIdeal.Gen.facts, Cert.Norms.Gen.facts, Cert.NormsIdeal.Gen.facts, Cert.NormsRefIdeal.Gen.facts,
  Cert.Heads.Gen.facts, Cert.HeadsIdeal.Gen.facts, Cert.HeadsRefIdeal.Gen.facts,
  Cert.HeadNorm.Gen.facts, Cert.HeadNormIdeal.Gen.facts, Cert.HeadNormRefIdeal.Gen.facts,
  Cert.QNorm.Gen.facts, Cert.QNormIdeal.Gen.facts, Cert.QNormRefIdeal.Gen.facts,
  Cert.KvNorm.Gen.facts, Cert.KvNormIdeal.Gen.facts, Cert.KvNormRefIdeal.Gen.facts,
  Cert.EndNorm.Gen.facts, Cert.EndNormIdeal.Gen.facts, Cert.EndNormRefIdeal.Gen.facts,
  Cert.Bias.Gen.facts, Cert.BiasIdeal.Gen.facts, Cert.BiasRefIdeal.Gen.facts,
  Cert.Conv.Gen.facts, Cert.ConvIdeal.Gen.facts, Cert.ConvRefIdeal.Gen.facts,
  Cert.FfnConv.Gen.facts, Cert.FfnConvIdeal.Gen.facts, Cert.FfnConvRefIdeal.Gen.facts,
  Cert.Square.Gen.facts, Cert.SquareIdeal.Gen.facts, Cert.SquareRefIdeal.Gen.facts,
  Cert.WIn.Gen.facts, Cert.WInIdeal.Gen.facts, Cert.WInRefIdeal.Gen.facts,
  Cert.QUp.Gen.facts, Cert.QUpIdeal.Gen.facts, Cert.QUpRefIdeal.Gen.facts,
  Cert.KvUp.Gen.facts, Cert.KvUpIdeal.Gen.facts, Cert.KvUpRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Loss.Gen.facts, Cert.LossIdeal.Gen.facts, Cert.LossRefIdeal.Gen.facts,
  Cert.Pre_xat_finite.Gen.facts, by
  exact ⟨fun m ρ _ => Cert.Xat.Gen.frame m ρ, fun m ρ _ => Cert.XatIdeal.Gen.frame m ρ, fun m ρ _ => Cert.XatIdeal.Gen.frame m ρ,
  Xat.refFrame, fun m ρ _ => Xat.refFrame m ρ trivial,
  fun m ρ _ => Cert.Ffn.Gen.frame m ρ, fun m ρ _ => Cert.FfnIdeal.Gen.frame m ρ, Ffn.refFrame,
  fun m ρ _ => Cert.Da.Gen.frame m ρ, fun m ρ _ => Cert.DaIdeal.Gen.frame m ρ, Da.refFrame,
  fun m ρ _ => Cert.Dw.Gen.frame m ρ, fun m ρ _ => Cert.DwIdeal.Gen.frame m ρ, Dw.refFrame,
  fun m ρ _ => Cert.Out.Gen.frame m ρ, fun m ρ _ => Cert.OutIdeal.Gen.frame m ρ, Out.refFrame,
  fun m ρ _ => Cert.Lin.Gen.frame m ρ, fun m ρ _ => Cert.LinIdeal.Gen.frame m ρ, Lin.refFrame,
  fun m ρ _ => Cert.Norms.Gen.frame m ρ, fun m ρ _ => Cert.NormsIdeal.Gen.frame m ρ, Norms.refFrame,
  fun m ρ _ => Cert.Heads.Gen.frame m ρ, fun m ρ _ => Cert.HeadsIdeal.Gen.frame m ρ, Heads.refFrame,
  fun m ρ _ => Cert.HeadNorm.Gen.frame m ρ, fun m ρ _ => Cert.HeadNormIdeal.Gen.frame m ρ, HeadNorm.refFrame,
  fun m ρ _ => Cert.QNorm.Gen.frame m ρ, fun m ρ _ => Cert.QNormIdeal.Gen.frame m ρ, QNorm.refFrame,
  fun m ρ _ => Cert.KvNorm.Gen.frame m ρ, fun m ρ _ => Cert.KvNormIdeal.Gen.frame m ρ, KvNorm.refFrame,
  fun m ρ _ => Cert.EndNorm.Gen.frame m ρ, fun m ρ _ => Cert.EndNormIdeal.Gen.frame m ρ, EndNorm.refFrame,
  fun m ρ _ => Cert.Bias.Gen.frame m ρ, fun m ρ _ => Cert.BiasIdeal.Gen.frame m ρ, Bias.refFrame,
  fun m ρ _ => Cert.Conv.Gen.frame m ρ, fun m ρ _ => Cert.ConvIdeal.Gen.frame m ρ, Conv.refFrame,
  fun m ρ _ => Cert.FfnConv.Gen.frame m ρ, fun m ρ _ => Cert.FfnConvIdeal.Gen.frame m ρ, FfnConv.refFrame,
  fun m ρ _ => Cert.Square.Gen.frame m ρ, fun m ρ _ => Cert.SquareIdeal.Gen.frame m ρ, Square.refFrame,
  fun m ρ _ => Cert.WIn.Gen.frame m ρ, fun m ρ _ => Cert.WInIdeal.Gen.frame m ρ, WIn.refFrame,
  fun m ρ _ => Cert.QUp.Gen.frame m ρ, fun m ρ _ => Cert.QUpIdeal.Gen.frame m ρ, QUp.refFrame,
  fun m ρ _ => Cert.KvUp.Gen.frame m ρ, fun m ρ _ => Cert.KvUpIdeal.Gen.frame m ρ, KvUp.refFrame,
  fun m ρ _ => Cert.FfnUp.Gen.frame m ρ, fun m ρ _ => Cert.FfnUpIdeal.Gen.frame m ρ, FfnUp.refFrame,
  fun m ρ _ => Cert.FfnDown.Gen.frame m ρ, fun m ρ _ => Cert.FfnDownIdeal.Gen.frame m ρ, FfnDown.refFrame,
  fun m ρ _ => Cert.Loss.Gen.frame m ρ, fun m ρ _ => Cert.LossIdeal.Gen.frame m ρ, Loss.refFrame,
  trivial, Xat.algebraic, trivial, Ffn.algebraic, trivial, Da.algebraic, trivial, Dw.algebraic, trivial, Out.algebraic, trivial, Lin.algebraic,
  trivial, Norms.algebraic, trivial, Heads.algebraic, trivial, HeadNorm.algebraic, trivial, QNorm.algebraic, trivial, KvNorm.algebraic, trivial, EndNorm.algebraic, trivial, Bias.algebraic, trivial, Conv.algebraic, trivial, FfnConv.algebraic, trivial, Square.algebraic, trivial, WIn.algebraic, trivial, QUp.algebraic, trivial, KvUp.algebraic, trivial, FfnUp.algebraic, trivial, FfnDown.algebraic, trivial, Loss.algebraic⟩⟩

end Cert.Proof

end
